-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DxUp (m : (ℓ : Loc Cert.DxUp.nD Cert.DxUp.τ Cert.DxUp.sig) → Buf (Elt Bits) ℓ) : Prop :=
  True

def Pre_DxUpIdeal (m : (ℓ : Loc Cert.DxUpIdeal.nD Cert.DxUpIdeal.τ Cert.DxUpIdeal.sig) → Buf (Elt Ideal) ℓ) : Prop :=
  True

def Pre_DxUpRefIdeal (m : (ℓ : Loc Cert.DxUpRefIdeal.nD Cert.DxUpRefIdeal.τ Cert.DxUpRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DxDown (m : (ℓ : Loc Cert.DxDown.nD Cert.DxDown.τ Cert.DxDown.sig) → Buf (Elt Bits) ℓ) : Prop :=
  True

def Pre_DxDownIdeal (m : (ℓ : Loc Cert.DxDownIdeal.nD Cert.DxDownIdeal.τ Cert.DxDownIdeal.sig) → Buf (Elt Ideal) ℓ) : Prop :=
  True

def Pre_DxDownRefIdeal (m : (ℓ : Loc Cert.DxDownRefIdeal.nD Cert.DxDownRefIdeal.τ Cert.DxDownRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DxIn (m : (ℓ : Loc Cert.DxIn.nD Cert.DxIn.τ Cert.DxIn.sig) → Buf (Elt Bits) ℓ) : Prop :=
  True

def Pre_DxInIdeal (m : (ℓ : Loc Cert.DxInIdeal.nD Cert.DxInIdeal.τ Cert.DxInIdeal.sig) → Buf (Elt Ideal) ℓ) : Prop :=
  True

def Pre_DxInRefIdeal (m : (ℓ : Loc Cert.DxInRefIdeal.nD Cert.DxInRefIdeal.τ Cert.DxInRefIdeal.sig) → Buf (Elt Ideal) ℓ) : Prop :=
  True

def Pre_DwOutAttn (m : (ℓ : Loc Cert.DwOutAttn.nD Cert.DwOutAttn.τ Cert.DwOutAttn.sig) → Buf (Elt Bits) ℓ) : Prop :=
  True

def Pre_DwOutAttnIdeal (m : (ℓ : Loc Cert.DwOutAttnIdeal.nD Cert.DwOutAttnIdeal.τ Cert.DwOutAttnIdeal.sig) → Buf (Elt Ideal) ℓ) : Prop :=
  True

def Pre_DwOutAttnRefIdeal (m : (ℓ : Loc Cert.DwOutAttnRefIdeal.nD Cert.DwOutAttnRefIdeal.τ Cert.DwOutAttnRefIdeal.sig) → Buf (Elt Ideal) ℓ) : Prop :=
  True

def Pre_DwOutConv (m : (ℓ : Loc Cert.DwOutConv.nD Cert.DwOutConv.τ Cert.DwOutConv.sig) → Buf (Elt Bits) ℓ) : Prop :=
  True

def Pre_DwOutConvIdeal (m : (ℓ : Loc Cert.DwOutConvIdeal.nD Cert.DwOutConvIdeal.τ Cert.DwOutConvIdeal.sig) → Buf (Elt Ideal) ℓ) : Prop :=
  True

def Pre_DwOutConvRefIdeal (m : (ℓ : Loc Cert.DwOutConvRefIdeal.nD Cert.DwOutConvRefIdeal.τ Cert.DwOutConvRefIdeal.sig) → Buf (Elt Ideal) ℓ) : Prop :=
  True

def Pre_DxOut (m : (ℓ : Loc Cert.DxOut.nD Cert.DxOut.τ Cert.DxOut.sig) → Buf (Elt Bits) ℓ) : Prop :=
  True

def Pre_DxOutIdeal (m : (ℓ : Loc Cert.DxOutIdeal.nD Cert.DxOutIdeal.τ Cert.DxOutIdeal.sig) → Buf (Elt Ideal) ℓ) : Prop :=
  True

def Pre_DxOutRefIdeal (m : (ℓ : Loc Cert.DxOutRefIdeal.nD Cert.DxOutRefIdeal.τ Cert.DxOutRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DxUp [hDxUp : Cert.DxUp.Facts] : Prop :=
  ∀ (m : (ℓ : Loc Cert.DxUp.nD Cert.DxUp.τ Cert.DxUp.sig) → Buf (Elt Bits) ℓ) (g : Dev Cert.DxUp.nD → PrngReg), Pre_DxUp m →
    θ_run (Cert.DxUp.defs (F := Bits)) (onTc (τ := Cert.DxUp.τ) (Cert.DxUp.main (F := Bits))) ⟨m, fun _ => 0, g⟩ (fun r => (∀ c : Dev Cert.DxUp.nD,
      r.2.mem ((c.tc : Thread Cert.DxUp.nD Cert.DxUp.τ).loc Cert.DxUp.main_arg0) = m ((c.tc : Thread Cert.DxUp.nD Cert.DxUp.τ).loc Cert.DxUp.main_arg0)
      ∧ r.2.mem ((c.tc : Thread Cert.DxUp.nD Cert.DxUp.τ).loc Cert.DxUp.main_arg1) = m ((c.tc : Thread Cert.DxUp.nD Cert.DxUp.τ).loc Cert.DxUp.main_arg1)
      ∧ r.2.mem ((c.tc : Thread Cert.DxUp.nD Cert.DxUp.τ).loc Cert.DxUp.main_arg2) = m ((c.tc : Thread Cert.DxUp.nD Cert.DxUp.τ).loc Cert.DxUp.main_arg2)
      ∧ r.2.mem ((c.tc : Thread Cert.DxUp.nD Cert.DxUp.τ).loc Cert.DxUp.main_arg3) = m ((c.tc : Thread Cert.DxUp.nD Cert.DxUp.τ).loc Cert.DxUp.main_arg3))
      ∧ r.2.sem = fun _ => 0)

def quiescent_DxUpIdeal [hDxUpIdeal : Cert.DxUpIdeal.Facts] : Prop :=
  ∀ (m : (ℓ : Loc Cert.DxUpIdeal.nD Cert.DxUpIdeal.τ Cert.DxUpIdeal.sig) → Buf (Elt Ideal) ℓ) (g : Dev Cert.DxUpIdeal.nD → PrngReg), Pre_DxUpIdeal m →
    θ_run (Cert.DxUpIdeal.defs (F := Ideal)) (onTc (τ := Cert.DxUpIdeal.τ) (Cert.DxUpIdeal.main (F := Ideal))) ⟨m, fun _ => 0, g⟩ (fun r => (∀ c : Dev Cert.DxUpIdeal.nD,
      r.2.mem ((c.tc : Thread Cert.DxUpIdeal.nD Cert.DxUpIdeal.τ).loc Cert.DxUpIdeal.main_arg0) = m ((c.tc : Thread Cert.DxUpIdeal.nD Cert.DxUpIdeal.τ).loc Cert.DxUpIdeal.main_arg0)
      ∧ r.2.mem ((c.tc : Thread Cert.DxUpIdeal.nD Cert.DxUpIdeal.τ).loc Cert.DxUpIdeal.main_arg1) = m ((c.tc : Thread Cert.DxUpIdeal.nD Cert.DxUpIdeal.τ).loc Cert.DxUpIdeal.main_arg1)
      ∧ r.2.mem ((c.tc : Thread Cert.DxUpIdeal.nD Cert.DxUpIdeal.τ).loc Cert.DxUpIdeal.main_arg2) = m ((c.tc : Thread Cert.DxUpIdeal.nD Cert.DxUpIdeal.τ).loc Cert.DxUpIdeal.main_arg2)
      ∧ r.2.mem ((c.tc : Thread Cert.DxUpIdeal.nD Cert.DxUpIdeal.τ).loc Cert.DxUpIdeal.main_arg3) = m ((c.tc : Thread Cert.DxUpIdeal.nD Cert.DxUpIdeal.τ).loc Cert.DxUpIdeal.main_arg3))
      ∧ r.2.sem = fun _ => 0)

def quiescent_DxUpRefIdeal [hDxUpRefIdeal : Cert.DxUpRefIdeal.Facts] : Prop :=
  ∀ (m : (ℓ : Loc Cert.DxUpRefIdeal.nD Cert.DxUpRefIdeal.τ Cert.DxUpRefIdeal.sig) → Buf (Elt Ideal) ℓ) (g : Dev Cert.DxUpRefIdeal.nD → PrngReg), Pre_DxUpRefIdeal m →
    θ_run (Cert.DxUpRefIdeal.defs (F := Ideal)) (onTc (τ := Cert.DxUpRefIdeal.τ) (Cert.DxUpRefIdeal.main (F := Ideal))) ⟨m, fun _ => 0, g⟩ (fun r => (∀ c : Dev Cert.DxUpRefIdeal.nD,
      r.2.mem ((c.tc : Thread Cert.DxUpRefIdeal.nD Cert.DxUpRefIdeal.τ).loc Cert.DxUpRefIdeal.main_arg0) = m ((c.tc : Thread Cert.DxUpRefIdeal.nD Cert.DxUpRefIdeal.τ).loc Cert.DxUpRefIdeal.main_arg0)
      ∧ r.2.mem ((c.tc : Thread Cert.DxUpRefIdeal.nD Cert.DxUpRefIdeal.τ).loc Cert.DxUpRefIdeal.main_arg1) = m ((c.tc : Thread Cert.DxUpRefIdeal.nD Cert.DxUpRefIdeal.τ).loc Cert.DxUpRefIdeal.main_arg1)
      ∧ r.2.mem ((c.tc : Thread Cert.DxUpRefIdeal.nD Cert.DxUpRefIdeal.τ).loc Cert.DxUpRefIdeal.main_arg2) = m ((c.tc : Thread Cert.DxUpRefIdeal.nD Cert.DxUpRefIdeal.τ).loc Cert.DxUpRefIdeal.main_arg2)
      ∧ r.2.mem ((c.tc : Thread Cert.DxUpRefIdeal.nD Cert.DxUpRefIdeal.τ).loc Cert.DxUpRefIdeal.main_arg3) = m ((c.tc : Thread Cert.DxUpRefIdeal.nD Cert.DxUpRefIdeal.τ).loc Cert.DxUpRefIdeal.main_arg3))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DxDown [hDxDown : Cert.DxDown.Facts] : Prop :=
  ∀ (m : (ℓ : Loc Cert.DxDown.nD Cert.DxDown.τ Cert.DxDown.sig) → Buf (Elt Bits) ℓ) (g : Dev Cert.DxDown.nD → PrngReg), Pre_DxDown m →
    θ_run (Cert.DxDown.defs (F := Bits)) (onTc (τ := Cert.DxDown.τ) (Cert.DxDown.main (F := Bits))) ⟨m, fun _ => 0, g⟩ (fun r => (∀ c : Dev Cert.DxDown.nD,
      r.2.mem ((c.tc : Thread Cert.DxDown.nD Cert.DxDown.τ).loc Cert.DxDown.main_arg0) = m ((c.tc : Thread Cert.DxDown.nD Cert.DxDown.τ).loc Cert.DxDown.main_arg0)
      ∧ r.2.mem ((c.tc : Thread Cert.DxDown.nD Cert.DxDown.τ).loc Cert.DxDown.main_arg1) = m ((c.tc : Thread Cert.DxDown.nD Cert.DxDown.τ).loc Cert.DxDown.main_arg1))
      ∧ r.2.sem = fun _ => 0)

def quiescent_DxDownIdeal [hDxDownIdeal : Cert.DxDownIdeal.Facts] : Prop :=
  ∀ (m : (ℓ : Loc Cert.DxDownIdeal.nD Cert.DxDownIdeal.τ Cert.DxDownIdeal.sig) → Buf (Elt Ideal) ℓ) (g : Dev Cert.DxDownIdeal.nD → PrngReg), Pre_DxDownIdeal m →
    θ_run (Cert.DxDownIdeal.defs (F := Ideal)) (onTc (τ := Cert.DxDownIdeal.τ) (Cert.DxDownIdeal.main (F := Ideal))) ⟨m, fun _ => 0, g⟩ (fun r => (∀ c : Dev Cert.DxDownIdeal.nD,
      r.2.mem ((c.tc : Thread Cert.DxDownIdeal.nD Cert.DxDownIdeal.τ).loc Cert.DxDownIdeal.main_arg0) = m ((c.tc : Thread Cert.DxDownIdeal.nD Cert.DxDownIdeal.τ).loc Cert.DxDownIdeal.main_arg0)
      ∧ r.2.mem ((c.tc : Thread Cert.DxDownIdeal.nD Cert.DxDownIdeal.τ).loc Cert.DxDownIdeal.main_arg1) = m ((c.tc : Thread Cert.DxDownIdeal.nD Cert.DxDownIdeal.τ).loc Cert.DxDownIdeal.main_arg1))
      ∧ r.2.sem = fun _ => 0)

def quiescent_DxDownRefIdeal [hDxDownRefIdeal : Cert.DxDownRefIdeal.Facts] : Prop :=
  ∀ (m : (ℓ : Loc Cert.DxDownRefIdeal.nD Cert.DxDownRefIdeal.τ Cert.DxDownRefIdeal.sig) → Buf (Elt Ideal) ℓ) (g : Dev Cert.DxDownRefIdeal.nD → PrngReg), Pre_DxDownRefIdeal m →
    θ_run (Cert.DxDownRefIdeal.defs (F := Ideal)) (onTc (τ := Cert.DxDownRefIdeal.τ) (Cert.DxDownRefIdeal.main (F := Ideal))) ⟨m, fun _ => 0, g⟩ (fun r => (∀ c : Dev Cert.DxDownRefIdeal.nD,
      r.2.mem ((c.tc : Thread Cert.DxDownRefIdeal.nD Cert.DxDownRefIdeal.τ).loc Cert.DxDownRefIdeal.main_arg0) = m ((c.tc : Thread Cert.DxDownRefIdeal.nD Cert.DxDownRefIdeal.τ).loc Cert.DxDownRefIdeal.main_arg0)
      ∧ r.2.mem ((c.tc : Thread Cert.DxDownRefIdeal.nD Cert.DxDownRefIdeal.τ).loc Cert.DxDownRefIdeal.main_arg1) = m ((c.tc : Thread Cert.DxDownRefIdeal.nD Cert.DxDownRefIdeal.τ).loc Cert.DxDownRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3)
      ∧ r.2.mem ((c.tc : Thread Cert.DwIn.nD Cert.DwIn.τ).loc Cert.DwIn.main_arg4) = m ((c.tc : Thread Cert.DwIn.nD Cert.DwIn.τ).loc Cert.DwIn.main_arg4)
      ∧ r.2.mem ((c.tc : Thread Cert.DwIn.nD Cert.DwIn.τ).loc Cert.DwIn.main_arg5) = m ((c.tc : Thread Cert.DwIn.nD Cert.DwIn.τ).loc Cert.DwIn.main_arg5))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
      ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
      ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3)
      ∧ r.2.mem ((c.tc : Thread Cert.DwInRefIdeal.nD Cert.DwInRefIdeal.τ).loc Cert.DwInRefIdeal.main_arg4) = m ((c.tc : Thread Cert.DwInRefIdeal.nD Cert.DwInRefIdeal.τ).loc Cert.DwInRefIdeal.main_arg4)
      ∧ r.2.mem ((c.tc : Thread Cert.DwInRefIdeal.nD Cert.DwInRefIdeal.τ).loc Cert.DwInRefIdeal.main_arg5) = m ((c.tc : Thread Cert.DwInRefIdeal.nD Cert.DwInRefIdeal.τ).loc Cert.DwInRefIdeal.main_arg5))
      ∧ r.2.sem = fun _ => 0)

def quiescent_DxIn [hDxIn : Cert.DxIn.Facts] : Prop :=
  ∀ (m : (ℓ : Loc Cert.DxIn.nD Cert.DxIn.τ Cert.DxIn.sig) → Buf (Elt Bits) ℓ) (g : Dev Cert.DxIn.nD → PrngReg), Pre_DxIn m →
    θ_run (Cert.DxIn.defs (F := Bits)) (onTc (τ := Cert.DxIn.τ) (Cert.DxIn.main (F := Bits))) ⟨m, fun _ => 0, g⟩ (fun r => (∀ c : Dev Cert.DxIn.nD,
      r.2.mem ((c.tc : Thread Cert.DxIn.nD Cert.DxIn.τ).loc Cert.DxIn.main_arg0) = m ((c.tc : Thread Cert.DxIn.nD Cert.DxIn.τ).loc Cert.DxIn.main_arg0)
      ∧ r.2.mem ((c.tc : Thread Cert.DxIn.nD Cert.DxIn.τ).loc Cert.DxIn.main_arg1) = m ((c.tc : Thread Cert.DxIn.nD Cert.DxIn.τ).loc Cert.DxIn.main_arg1)
      ∧ r.2.mem ((c.tc : Thread Cert.DxIn.nD Cert.DxIn.τ).loc Cert.DxIn.main_arg2) = m ((c.tc : Thread Cert.DxIn.nD Cert.DxIn.τ).loc Cert.DxIn.main_arg2)
      ∧ r.2.mem ((c.tc : Thread Cert.DxIn.nD Cert.DxIn.τ).loc Cert.DxIn.main_arg3) = m ((c.tc : Thread Cert.DxIn.nD Cert.DxIn.τ).loc Cert.DxIn.main_arg3)
      ∧ r.2.mem ((c.tc : Thread Cert.DxIn.nD Cert.DxIn.τ).loc Cert.DxIn.main_arg4) = m ((c.tc : Thread Cert.DxIn.nD Cert.DxIn.τ).loc Cert.DxIn.main_arg4)
      ∧ r.2.mem ((c.tc : Thread Cert.DxIn.nD Cert.DxIn.τ).loc Cert.DxIn.main_arg5) = m ((c.tc : Thread Cert.DxIn.nD Cert.DxIn.τ).loc Cert.DxIn.main_arg5)
      ∧ r.2.mem ((c.tc : Thread Cert.DxIn.nD Cert.DxIn.τ).loc Cert.DxIn.main_arg6) = m ((c.tc : Thread Cert.DxIn.nD Cert.DxIn.τ).loc Cert.DxIn.main_arg6))
      ∧ r.2.sem = fun _ => 0)

def quiescent_DxInIdeal [hDxInIdeal : Cert.DxInIdeal.Facts] : Prop :=
  ∀ (m : (ℓ : Loc Cert.DxInIdeal.nD Cert.DxInIdeal.τ Cert.DxInIdeal.sig) → Buf (Elt Ideal) ℓ) (g : Dev Cert.DxInIdeal.nD → PrngReg), Pre_DxInIdeal m →
    θ_run (Cert.DxInIdeal.defs (F := Ideal)) (onTc (τ := Cert.DxInIdeal.τ) (Cert.DxInIdeal.main (F := Ideal))) ⟨m, fun _ => 0, g⟩ (fun r => (∀ c : Dev Cert.DxInIdeal.nD,
      r.2.mem ((c.tc : Thread Cert.DxInIdeal.nD Cert.DxInIdeal.τ).loc Cert.DxInIdeal.main_arg0) = m ((c.tc : Thread Cert.DxInIdeal.nD Cert.DxInIdeal.τ).loc Cert.DxInIdeal.main_arg0)
      ∧ r.2.mem ((c.tc : Thread Cert.DxInIdeal.nD Cert.DxInIdeal.τ).loc Cert.DxInIdeal.main_arg1) = m ((c.tc : Thread Cert.DxInIdeal.nD Cert.DxInIdeal.τ).loc Cert.DxInIdeal.main_arg1)
      ∧ r.2.mem ((c.tc : Thread Cert.DxInIdeal.nD Cert.DxInIdeal.τ).loc Cert.DxInIdeal.main_arg2) = m ((c.tc : Thread Cert.DxInIdeal.nD Cert.DxInIdeal.τ).loc Cert.DxInIdeal.main_arg2)
      ∧ r.2.mem ((c.tc : Thread Cert.DxInIdeal.nD Cert.DxInIdeal.τ).loc Cert.DxInIdeal.main_arg3) = m ((c.tc : Thread Cert.DxInIdeal.nD Cert.DxInIdeal.τ).loc Cert.DxInIdeal.main_arg3)
      ∧ r.2.mem ((c.tc : Thread Cert.DxInIdeal.nD Cert.DxInIdeal.τ).loc Cert.DxInIdeal.main_arg4) = m ((c.tc : Thread Cert.DxInIdeal.nD Cert.DxInIdeal.τ).loc Cert.DxInIdeal.main_arg4)
      ∧ r.2.mem ((c.tc : Thread Cert.DxInIdeal.nD Cert.DxInIdeal.τ).loc Cert.DxInIdeal.main_arg5) = m ((c.tc : Thread Cert.DxInIdeal.nD Cert.DxInIdeal.τ).loc Cert.DxInIdeal.main_arg5)
      ∧ r.2.mem ((c.tc : Thread Cert.DxInIdeal.nD Cert.DxInIdeal.τ).loc Cert.DxInIdeal.main_arg6) = m ((c.tc : Thread Cert.DxInIdeal.nD Cert.DxInIdeal.τ).loc Cert.DxInIdeal.main_arg6))
      ∧ r.2.sem = fun _ => 0)

def quiescent_DxInRefIdeal [hDxInRefIdeal : Cert.DxInRefIdeal.Facts] : Prop :=
  ∀ (m : (ℓ : Loc Cert.DxInRefIdeal.nD Cert.DxInRefIdeal.τ Cert.DxInRefIdeal.sig) → Buf (Elt Ideal) ℓ) (g : Dev Cert.DxInRefIdeal.nD → PrngReg), Pre_DxInRefIdeal m →
    θ_run (Cert.DxInRefIdeal.defs (F := Ideal)) (onTc (τ := Cert.DxInRefIdeal.τ) (Cert.DxInRefIdeal.main (F := Ideal))) ⟨m, fun _ => 0, g⟩ (fun r => (∀ c : Dev Cert.DxInRefIdeal.nD,
      r.2.mem ((c.tc : Thread Cert.DxInRefIdeal.nD Cert.DxInRefIdeal.τ).loc Cert.DxInRefIdeal.main_arg0) = m ((c.tc : Thread Cert.DxInRefIdeal.nD Cert.DxInRefIdeal.τ).loc Cert.DxInRefIdeal.main_arg0)
      ∧ r.2.mem ((c.tc : Thread Cert.DxInRefIdeal.nD Cert.DxInRefIdeal.τ).loc Cert.DxInRefIdeal.main_arg1) = m ((c.tc : Thread Cert.DxInRefIdeal.nD Cert.DxInRefIdeal.τ).loc Cert.DxInRefIdeal.main_arg1)
      ∧ r.2.mem ((c.tc : Thread Cert.DxInRefIdeal.nD Cert.DxInRefIdeal.τ).loc Cert.DxInRefIdeal.main_arg2) = m ((c.tc : Thread Cert.DxInRefIdeal.nD Cert.DxInRefIdeal.τ).loc Cert.DxInRefIdeal.main_arg2)
      ∧ r.2.mem ((c.tc : Thread Cert.DxInRefIdeal.nD Cert.DxInRefIdeal.τ).loc Cert.DxInRefIdeal.main_arg3) = m ((c.tc : Thread Cert.DxInRefIdeal.nD Cert.DxInRefIdeal.τ).loc Cert.DxInRefIdeal.main_arg3)
      ∧ r.2.mem ((c.tc : Thread Cert.DxInRefIdeal.nD Cert.DxInRefIdeal.τ).loc Cert.DxInRefIdeal.main_arg4) = m ((c.tc : Thread Cert.DxInRefIdeal.nD Cert.DxInRefIdeal.τ).loc Cert.DxInRefIdeal.main_arg4)
      ∧ r.2.mem ((c.tc : Thread Cert.DxInRefIdeal.nD Cert.DxInRefIdeal.τ).loc Cert.DxInRefIdeal.main_arg5) = m ((c.tc : Thread Cert.DxInRefIdeal.nD Cert.DxInRefIdeal.τ).loc Cert.DxInRefIdeal.main_arg5)
      ∧ r.2.mem ((c.tc : Thread Cert.DxInRefIdeal.nD Cert.DxInRefIdeal.τ).loc Cert.DxInRefIdeal.main_arg6) = m ((c.tc : Thread Cert.DxInRefIdeal.nD Cert.DxInRefIdeal.τ).loc Cert.DxInRefIdeal.main_arg6))
      ∧ r.2.sem = fun _ => 0)

def quiescent_DwOutAttn [hDwOutAttn : Cert.DwOutAttn.Facts] : Prop :=
  ∀ (m : (ℓ : Loc Cert.DwOutAttn.nD Cert.DwOutAttn.τ Cert.DwOutAttn.sig) → Buf (Elt Bits) ℓ) (g : Dev Cert.DwOutAttn.nD → PrngReg), Pre_DwOutAttn m →
    θ_run (Cert.DwOutAttn.defs (F := Bits)) (onTc (τ := Cert.DwOutAttn.τ) (Cert.DwOutAttn.main (F := Bits))) ⟨m, fun _ => 0, g⟩ (fun r => (∀ c : Dev Cert.DwOutAttn.nD,
      r.2.mem ((c.tc : Thread Cert.DwOutAttn.nD Cert.DwOutAttn.τ).loc Cert.DwOutAttn.main_arg0) = m ((c.tc : Thread Cert.DwOutAttn.nD Cert.DwOutAttn.τ).loc Cert.DwOutAttn.main_arg0)
      ∧ r.2.mem ((c.tc : Thread Cert.DwOutAttn.nD Cert.DwOutAttn.τ).loc Cert.DwOutAttn.main_arg1) = m ((c.tc : Thread Cert.DwOutAttn.nD Cert.DwOutAttn.τ).loc Cert.DwOutAttn.main_arg1))
      ∧ r.2.sem = fun _ => 0)

def quiescent_DwOutAttnIdeal [hDwOutAttnIdeal : Cert.DwOutAttnIdeal.Facts] : Prop :=
  ∀ (m : (ℓ : Loc Cert.DwOutAttnIdeal.nD Cert.DwOutAttnIdeal.τ Cert.DwOutAttnIdeal.sig) → Buf (Elt Ideal) ℓ) (g : Dev Cert.DwOutAttnIdeal.nD → PrngReg), Pre_DwOutAttnIdeal m →
    θ_run (Cert.DwOutAttnIdeal.defs (F := Ideal)) (onTc (τ := Cert.DwOutAttnIdeal.τ) (Cert.DwOutAttnIdeal.main (F := Ideal))) ⟨m, fun _ => 0, g⟩ (fun r => (∀ c : Dev Cert.DwOutAttnIdeal.nD,
      r.2.mem ((c.tc : Thread Cert.DwOutAttnIdeal.nD Cert.DwOutAttnIdeal.τ).loc Cert.DwOutAttnIdeal.main_arg0) = m ((c.tc : Thread Cert.DwOutAttnIdeal.nD Cert.DwOutAttnIdeal.τ).loc Cert.DwOutAttnIdeal.main_arg0)
      ∧ r.2.mem ((c.tc : Thread Cert.DwOutAttnIdeal.nD Cert.DwOutAttnIdeal.τ).loc Cert.DwOutAttnIdeal.main_arg1) = m ((c.tc : Thread Cert.DwOutAttnIdeal.nD Cert.DwOutAttnIdeal.τ).loc Cert.DwOutAttnIdeal.main_arg1))
      ∧ r.2.sem = fun _ => 0)

def quiescent_DwOutAttnRefIdeal [hDwOutAttnRefIdeal : Cert.DwOutAttnRefIdeal.Facts] : Prop :=
  ∀ (m : (ℓ : Loc Cert.DwOutAttnRefIdeal.nD Cert.DwOutAttnRefIdeal.τ Cert.DwOutAttnRefIdeal.sig) → Buf (Elt Ideal) ℓ) (g : Dev Cert.DwOutAttnRefIdeal.nD → PrngReg), Pre_DwOutAttnRefIdeal m →
    θ_run (Cert.DwOutAttnRefIdeal.defs (F := Ideal)) (onTc (τ := Cert.DwOutAttnRefIdeal.τ) (Cert.DwOutAttnRefIdeal.main (F := Ideal))) ⟨m, fun _ => 0, g⟩ (fun r => (∀ c : Dev Cert.DwOutAttnRefIdeal.nD,
      r.2.mem ((c.tc : Thread Cert.DwOutAttnRefIdeal.nD Cert.DwOutAttnRefIdeal.τ).loc Cert.DwOutAttnRefIdeal.main_arg0) = m ((c.tc : Thread Cert.DwOutAttnRefIdeal.nD Cert.DwOutAttnRefIdeal.τ).loc Cert.DwOutAttnRefIdeal.main_arg0)
      ∧ r.2.mem ((c.tc : Thread Cert.DwOutAttnRefIdeal.nD Cert.DwOutAttnRefIdeal.τ).loc Cert.DwOutAttnRefIdeal.main_arg1) = m ((c.tc : Thread Cert.DwOutAttnRefIdeal.nD Cert.DwOutAttnRefIdeal.τ).loc Cert.DwOutAttnRefIdeal.main_arg1))
      ∧ r.2.sem = fun _ => 0)

def quiescent_DwOutConv [hDwOutConv : Cert.DwOutConv.Facts] : Prop :=
  ∀ (m : (ℓ : Loc Cert.DwOutConv.nD Cert.DwOutConv.τ Cert.DwOutConv.sig) → Buf (Elt Bits) ℓ) (g : Dev Cert.DwOutConv.nD → PrngReg), Pre_DwOutConv m →
    θ_run (Cert.DwOutConv.defs (F := Bits)) (onTc (τ := Cert.DwOutConv.τ) (Cert.DwOutConv.main (F := Bits))) ⟨m, fun _ => 0, g⟩ (fun r => (∀ c : Dev Cert.DwOutConv.nD,
      r.2.mem ((c.tc : Thread Cert.DwOutConv.nD Cert.DwOutConv.τ).loc Cert.DwOutConv.main_arg0) = m ((c.tc : Thread Cert.DwOutConv.nD Cert.DwOutConv.τ).loc Cert.DwOutConv.main_arg0)
      ∧ r.2.mem ((c.tc : Thread Cert.DwOutConv.nD Cert.DwOutConv.τ).loc Cert.DwOutConv.main_arg1) = m ((c.tc : Thread Cert.DwOutConv.nD Cert.DwOutConv.τ).loc Cert.DwOutConv.main_arg1))
      ∧ r.2.sem = fun _ => 0)

def quiescent_DwOutConvIdeal [hDwOutConvIdeal : Cert.DwOutConvIdeal.Facts] : Prop :=
  ∀ (m : (ℓ : Loc Cert.DwOutConvIdeal.nD Cert.DwOutConvIdeal.τ Cert.DwOutConvIdeal.sig) → Buf (Elt Ideal) ℓ) (g : Dev Cert.DwOutConvIdeal.nD → PrngReg), Pre_DwOutConvIdeal m →
    θ_run (Cert.DwOutConvIdeal.defs (F := Ideal)) (onTc (τ := Cert.DwOutConvIdeal.τ) (Cert.DwOutConvIdeal.main (F := Ideal))) ⟨m, fun _ => 0, g⟩ (fun r => (∀ c : Dev Cert.DwOutConvIdeal.nD,
      r.2.mem ((c.tc : Thread Cert.DwOutConvIdeal.nD Cert.DwOutConvIdeal.τ).loc Cert.DwOutConvIdeal.main_arg0) = m ((c.tc : Thread Cert.DwOutConvIdeal.nD Cert.DwOutConvIdeal.τ).loc Cert.DwOutConvIdeal.main_arg0)
      ∧ r.2.mem ((c.tc : Thread Cert.DwOutConvIdeal.nD Cert.DwOutConvIdeal.τ).loc Cert.DwOutConvIdeal.main_arg1) = m ((c.tc : Thread Cert.DwOutConvIdeal.nD Cert.DwOutConvIdeal.τ).loc Cert.DwOutConvIdeal.main_arg1))
      ∧ r.2.sem = fun _ => 0)

def quiescent_DwOutConvRefIdeal [hDwOutConvRefIdeal : Cert.DwOutConvRefIdeal.Facts] : Prop :=
  ∀ (m : (ℓ : Loc Cert.DwOutConvRefIdeal.nD Cert.DwOutConvRefIdeal.τ Cert.DwOutConvRefIdeal.sig) → Buf (Elt Ideal) ℓ) (g : Dev Cert.DwOutConvRefIdeal.nD → PrngReg), Pre_DwOutConvRefIdeal m →
    θ_run (Cert.DwOutConvRefIdeal.defs (F := Ideal)) (onTc (τ := Cert.DwOutConvRefIdeal.τ) (Cert.DwOutConvRefIdeal.main (F := Ideal))) ⟨m, fun _ => 0, g⟩ (fun r => (∀ c : Dev Cert.DwOutConvRefIdeal.nD,
      r.2.mem ((c.tc : Thread Cert.DwOutConvRefIdeal.nD Cert.DwOutConvRefIdeal.τ).loc Cert.DwOutConvRefIdeal.main_arg0) = m ((c.tc : Thread Cert.DwOutConvRefIdeal.nD Cert.DwOutConvRefIdeal.τ).loc Cert.DwOutConvRefIdeal.main_arg0)
      ∧ r.2.mem ((c.tc : Thread Cert.DwOutConvRefIdeal.nD Cert.DwOutConvRefIdeal.τ).loc Cert.DwOutConvRefIdeal.main_arg1) = m ((c.tc : Thread Cert.DwOutConvRefIdeal.nD Cert.DwOutConvRefIdeal.τ).loc Cert.DwOutConvRefIdeal.main_arg1))
      ∧ r.2.sem = fun _ => 0)

def quiescent_DxOut [hDxOut : Cert.DxOut.Facts] : Prop :=
  ∀ (m : (ℓ : Loc Cert.DxOut.nD Cert.DxOut.τ Cert.DxOut.sig) → Buf (Elt Bits) ℓ) (g : Dev Cert.DxOut.nD → PrngReg), Pre_DxOut m →
    θ_run (Cert.DxOut.defs (F := Bits)) (onTc (τ := Cert.DxOut.τ) (Cert.DxOut.main (F := Bits))) ⟨m, fun _ => 0, g⟩ (fun r => (∀ c : Dev Cert.DxOut.nD,
      r.2.mem ((c.tc : Thread Cert.DxOut.nD Cert.DxOut.τ).loc Cert.DxOut.main_arg0) = m ((c.tc : Thread Cert.DxOut.nD Cert.DxOut.τ).loc Cert.DxOut.main_arg0)
      ∧ r.2.mem ((c.tc : Thread Cert.DxOut.nD Cert.DxOut.τ).loc Cert.DxOut.main_arg1) = m ((c.tc : Thread Cert.DxOut.nD Cert.DxOut.τ).loc Cert.DxOut.main_arg1))
      ∧ r.2.sem = fun _ => 0)

def quiescent_DxOutIdeal [hDxOutIdeal : Cert.DxOutIdeal.Facts] : Prop :=
  ∀ (m : (ℓ : Loc Cert.DxOutIdeal.nD Cert.DxOutIdeal.τ Cert.DxOutIdeal.sig) → Buf (Elt Ideal) ℓ) (g : Dev Cert.DxOutIdeal.nD → PrngReg), Pre_DxOutIdeal m →
    θ_run (Cert.DxOutIdeal.defs (F := Ideal)) (onTc (τ := Cert.DxOutIdeal.τ) (Cert.DxOutIdeal.main (F := Ideal))) ⟨m, fun _ => 0, g⟩ (fun r => (∀ c : Dev Cert.DxOutIdeal.nD,
      r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
      ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1))
      ∧ r.2.sem = fun _ => 0)

def quiescent_DxOutRefIdeal [hDxOutRefIdeal : Cert.DxOutRefIdeal.Facts] : Prop :=
  ∀ (m : (ℓ : Loc Cert.DxOutRefIdeal.nD Cert.DxOutRefIdeal.τ Cert.DxOutRefIdeal.sig) → Buf (Elt Ideal) ℓ) (g : Dev Cert.DxOutRefIdeal.nD → PrngReg), Pre_DxOutRefIdeal m →
    θ_run (Cert.DxOutRefIdeal.defs (F := Ideal)) (onTc (τ := Cert.DxOutRefIdeal.τ) (Cert.DxOutRefIdeal.main (F := Ideal))) ⟨m, fun _ => 0, g⟩ (fun r => (∀ c : Dev Cert.DxOutRefIdeal.nD,
      r.2.mem ((c.tc : Thread Cert.DxOutRefIdeal.nD Cert.DxOutRefIdeal.τ).loc Cert.DxOutRefIdeal.main_arg0) = m ((c.tc : Thread Cert.DxOutRefIdeal.nD Cert.DxOutRefIdeal.τ).loc Cert.DxOutRefIdeal.main_arg0)
      ∧ r.2.mem ((c.tc : Thread Cert.DxOutRefIdeal.nD Cert.DxOutRefIdeal.τ).loc Cert.DxOutRefIdeal.main_arg1) = m ((c.tc : Thread Cert.DxOutRefIdeal.nD Cert.DxOutRefIdeal.τ).loc Cert.DxOutRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4)
      ∧ r.2.mem ((c.tc : Thread Cert.FfnDown.nD Cert.FfnDown.τ).loc Cert.FfnDown.main_arg5) = m ((c.tc : Thread Cert.FfnDown.nD Cert.FfnDown.τ).loc Cert.FfnDown.main_arg5))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
      ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4)
      ∧ r.2.mem ((c.tc : Thread Cert.FfnDownRefIdeal.nD Cert.FfnDownRefIdeal.τ).loc Cert.FfnDownRefIdeal.main_arg5) = m ((c.tc : Thread Cert.FfnDownRefIdeal.nD Cert.FfnDownRefIdeal.τ).loc Cert.FfnDownRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39)
      ∧ r.2.mem ((c.tc : Thread Cert.AdamSmall.nD Cert.AdamSmall.τ).loc Cert.AdamSmall.main_arg40) = m ((c.tc : Thread Cert.AdamSmall.nD Cert.AdamSmall.τ).loc Cert.AdamSmall.main_arg40)
      ∧ r.2.mem ((c.tc : Thread Cert.AdamSmall.nD Cert.AdamSmall.τ).loc Cert.AdamSmall.main_arg41) = m ((c.tc : Thread Cert.AdamSmall.nD Cert.AdamSmall.τ).loc Cert.AdamSmall.main_arg41)
      ∧ r.2.mem ((c.tc : Thread Cert.AdamSmall.nD Cert.AdamSmall.τ).loc Cert.AdamSmall.main_arg42) = m ((c.tc : Thread Cert.AdamSmall.nD Cert.AdamSmall.τ).loc Cert.AdamSmall.main_arg42)
      ∧ r.2.mem ((c.tc : Thread Cert.AdamSmall.nD Cert.AdamSmall.τ).loc Cert.AdamSmall.main_arg43) = m ((c.tc : Thread Cert.AdamSmall.nD Cert.AdamSmall.τ).loc Cert.AdamSmall.main_arg43)
      ∧ r.2.mem ((c.tc : Thread Cert.AdamSmall.nD Cert.AdamSmall.τ).loc Cert.AdamSmall.main_arg44) = m ((c.tc : Thread Cert.AdamSmall.nD Cert.AdamSmall.τ).loc Cert.AdamSmall.main_arg44)
      ∧ r.2.mem ((c.tc : Thread Cert.AdamSmall.nD Cert.AdamSmall.τ).loc Cert.AdamSmall.main_arg45) = m ((c.tc : Thread Cert.AdamSmall.nD Cert.AdamSmall.τ).loc Cert.AdamSmall.main_arg45)
      ∧ r.2.mem ((c.tc : Thread Cert.AdamSmall.nD Cert.AdamSmall.τ).loc Cert.AdamSmall.main_arg46) = m ((c.tc : Thread Cert.AdamSmall.nD Cert.AdamSmall.τ).loc Cert.AdamSmall.main_arg46)
      ∧ r.2.mem ((c.tc : Thread Cert.AdamSmall.nD Cert.AdamSmall.τ).loc Cert.AdamSmall.main_arg47) = m ((c.tc : Thread Cert.AdamSmall.nD Cert.AdamSmall.τ).loc Cert.AdamSmall.main_arg47)
      ∧ r.2.mem ((c.tc : Thread Cert.AdamSmall.nD Cert.AdamSmall.τ).loc Cert.AdamSmall.main_arg48) = m ((c.tc : Thread Cert.AdamSmall.nD Cert.AdamSmall.τ).loc Cert.AdamSmall.main_arg48)
      ∧ r.2.mem ((c.tc : Thread Cert.AdamSmall.nD Cert.AdamSmall.τ).loc Cert.AdamSmall.main_arg49) = m ((c.tc : Thread Cert.AdamSmall.nD Cert.AdamSmall.τ).loc Cert.AdamSmall.main_arg49)
      ∧ r.2.mem ((c.tc : Thread Cert.AdamSmall.nD Cert.AdamSmall.τ).loc Cert.AdamSmall.main_arg50) = m ((c.tc : Thread Cert.AdamSmall.nD Cert.AdamSmall.τ).loc Cert.AdamSmall.main_arg50)
      ∧ r.2.mem ((c.tc : Thread Cert.AdamSmall.nD Cert.AdamSmall.τ).loc Cert.AdamSmall.main_arg51) = m ((c.tc : Thread Cert.AdamSmall.nD Cert.AdamSmall.τ).loc Cert.AdamSmall.main_arg51))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
      ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
      ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
      ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
      ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
      ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
      ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
      ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
      ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
      ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
      ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
      ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
      ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39)
      ∧ r.2.mem ((c.tc : Thread Cert.AdamSmallRefIdeal.nD Cert.AdamSmallRefIdeal.τ).loc Cert.AdamSmallRefIdeal.main_arg40) = m ((c.tc : Thread Cert.AdamSmallRefIdeal.nD Cert.AdamSmallRefIdeal.τ).loc Cert.AdamSmallRefIdeal.main_arg40)
      ∧ r.2.mem ((c.tc : Thread Cert.AdamSmallRefIdeal.nD Cert.AdamSmallRefIdeal.τ).loc Cert.AdamSmallRefIdeal.main_arg41) = m ((c.tc : Thread Cert.AdamSmallRefIdeal.nD Cert.AdamSmallRefIdeal.τ).loc Cert.AdamSmallRefIdeal.main_arg41)
      ∧ r.2.mem ((c.tc : Thread Cert.AdamSmallRefIdeal.nD Cert.AdamSmallRefIdeal.τ).loc Cert.AdamSmallRefIdeal.main_arg42) = m ((c.tc : Thread Cert.AdamSmallRefIdeal.nD Cert.AdamSmallRefIdeal.τ).loc Cert.AdamSmallRefIdeal.main_arg42)
      ∧ r.2.mem ((c.tc : Thread Cert.AdamSmallRefIdeal.nD Cert.AdamSmallRefIdeal.τ).loc Cert.AdamSmallRefIdeal.main_arg43) = m ((c.tc : Thread Cert.AdamSmallRefIdeal.nD Cert.AdamSmallRefIdeal.τ).loc Cert.AdamSmallRefIdeal.main_arg43)
      ∧ r.2.mem ((c.tc : Thread Cert.AdamSmallRefIdeal.nD Cert.AdamSmallRefIdeal.τ).loc Cert.AdamSmallRefIdeal.main_arg44) = m ((c.tc : Thread Cert.AdamSmallRefIdeal.nD Cert.AdamSmallRefIdeal.τ).loc Cert.AdamSmallRefIdeal.main_arg44)
      ∧ r.2.mem ((c.tc : Thread Cert.AdamSmallRefIdeal.nD Cert.AdamSmallRefIdeal.τ).loc Cert.AdamSmallRefIdeal.main_arg45) = m ((c.tc : Thread Cert.AdamSmallRefIdeal.nD Cert.AdamSmallRefIdeal.τ).loc Cert.AdamSmallRefIdeal.main_arg45)
      ∧ r.2.mem ((c.tc : Thread Cert.AdamSmallRefIdeal.nD Cert.AdamSmallRefIdeal.τ).loc Cert.AdamSmallRefIdeal.main_arg46) = m ((c.tc : Thread Cert.AdamSmallRefIdeal.nD Cert.AdamSmallRefIdeal.τ).loc Cert.AdamSmallRefIdeal.main_arg46)
      ∧ r.2.mem ((c.tc : Thread Cert.AdamSmallRefIdeal.nD Cert.AdamSmallRefIdeal.τ).loc Cert.AdamSmallRefIdeal.main_arg47) = m ((c.tc : Thread Cert.AdamSmallRefIdeal.nD Cert.AdamSmallRefIdeal.τ).loc Cert.AdamSmallRefIdeal.main_arg47)
      ∧ r.2.mem ((c.tc : Thread Cert.AdamSmallRefIdeal.nD Cert.AdamSmallRefIdeal.τ).loc Cert.AdamSmallRefIdeal.main_arg48) = m ((c.tc : Thread Cert.AdamSmallRefIdeal.nD Cert.AdamSmallRefIdeal.τ).loc Cert.AdamSmallRefIdeal.main_arg48)
      ∧ r.2.mem ((c.tc : Thread Cert.AdamSmallRefIdeal.nD Cert.AdamSmallRefIdeal.τ).loc Cert.AdamSmallRefIdeal.main_arg49) = m ((c.tc : Thread Cert.AdamSmallRefIdeal.nD Cert.AdamSmallRefIdeal.τ).loc Cert.AdamSmallRefIdeal.main_arg49)
      ∧ r.2.mem ((c.tc : Thread Cert.AdamSmallRefIdeal.nD Cert.AdamSmallRefIdeal.τ).loc Cert.AdamSmallRefIdeal.main_arg50) = m ((c.tc : Thread Cert.AdamSmallRefIdeal.nD Cert.AdamSmallRefIdeal.τ).loc Cert.AdamSmallRefIdeal.main_arg50)
      ∧ r.2.mem ((c.tc : Thread Cert.AdamSmallRefIdeal.nD Cert.AdamSmallRefIdeal.τ).loc Cert.AdamSmallRefIdeal.main_arg51) = m ((c.tc : Thread Cert.AdamSmallRefIdeal.nD Cert.AdamSmallRefIdeal.τ).loc Cert.AdamSmallRefIdeal.main_arg51))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v4) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DxUp_DxUpIdeal : Prop :=
  True

def algebraic_DxUpIdeal_DxUpRefIdeal [hDxUpIdeal : Cert.DxUpIdeal.Facts] [hDxUpRefIdeal : Cert.DxUpRefIdeal.Facts] : Prop :=
  ∀ (m : (ℓ : Loc Cert.DxUpIdeal.nD Cert.DxUpIdeal.τ Cert.DxUpIdeal.sig) → Buf (Elt Ideal) ℓ) (g : Dev Cert.DxUpIdeal.nD → PrngReg)
    (m' : (ℓ : Loc Cert.DxUpRefIdeal.nD Cert.DxUpRefIdeal.τ Cert.DxUpRefIdeal.sig) → Buf (Elt Ideal) ℓ) (g' : Dev Cert.DxUpRefIdeal.nD → PrngReg), Pre_DxUpIdeal m →
    (∀ c : Dev Cert.DxUpIdeal.nD,
      m' ((c.tc : Thread Cert.DxUpRefIdeal.nD Cert.DxUpRefIdeal.τ).loc Cert.DxUpRefIdeal.main_arg0) = m ((c.tc : Thread Cert.DxUpIdeal.nD Cert.DxUpIdeal.τ).loc Cert.DxUpIdeal.main_arg0)
      ∧ m' ((c.tc : Thread Cert.DxUpRefIdeal.nD Cert.DxUpRefIdeal.τ).loc Cert.DxUpRefIdeal.main_arg1) = m ((c.tc : Thread Cert.DxUpIdeal.nD Cert.DxUpIdeal.τ).loc Cert.DxUpIdeal.main_arg1)
      ∧ m' ((c.tc : Thread Cert.DxUpRefIdeal.nD Cert.DxUpRefIdeal.τ).loc Cert.DxUpRefIdeal.main_arg2) = m ((c.tc : Thread Cert.DxUpIdeal.nD Cert.DxUpIdeal.τ).loc Cert.DxUpIdeal.main_arg2)
      ∧ m' ((c.tc : Thread Cert.DxUpRefIdeal.nD Cert.DxUpRefIdeal.τ).loc Cert.DxUpRefIdeal.main_arg3) = m ((c.tc : Thread Cert.DxUpIdeal.nD Cert.DxUpIdeal.τ).loc Cert.DxUpIdeal.main_arg3)) →
    ∃ (v0 : (c : Dev Cert.DxUpIdeal.nD) → Buf (Elt Ideal) ((c.tc : Thread Cert.DxUpIdeal.nD Cert.DxUpIdeal.τ).loc Cert.DxUpIdeal.main_v3)),
      θ_run (Cert.DxUpIdeal.defs (F := Ideal)) (onTc (τ := Cert.DxUpIdeal.τ) (Cert.DxUpIdeal.main (F := Ideal))) ⟨m, fun _ => 0, g⟩ (fun r => ∀ c : Dev Cert.DxUpIdeal.nD,
          r.2.mem ((c.tc : Thread Cert.DxUpIdeal.nD Cert.DxUpIdeal.τ).loc Cert.DxUpIdeal.main_v3) = v0 c
          ∧ r.2.mem ((c.tc : Thread Cert.DxUpIdeal.nD Cert.DxUpIdeal.τ).loc Cert.DxUpIdeal.main_arg0) = m ((c.tc : Thread Cert.DxUpIdeal.nD Cert.DxUpIdeal.τ).loc Cert.DxUpIdeal.main_arg0)
          ∧ r.2.mem ((c.tc : Thread Cert.DxUpIdeal.nD Cert.DxUpIdeal.τ).loc Cert.DxUpIdeal.main_arg1) = m ((c.tc : Thread Cert.DxUpIdeal.nD Cert.DxUpIdeal.τ).loc Cert.DxUpIdeal.main_arg1)
          ∧ r.2.mem ((c.tc : Thread Cert.DxUpIdeal.nD Cert.DxUpIdeal.τ).loc Cert.DxUpIdeal.main_arg2) = m ((c.tc : Thread Cert.DxUpIdeal.nD Cert.DxUpIdeal.τ).loc Cert.DxUpIdeal.main_arg2)
          ∧ r.2.mem ((c.tc : Thread Cert.DxUpIdeal.nD Cert.DxUpIdeal.τ).loc Cert.DxUpIdeal.main_arg3) = m ((c.tc : Thread Cert.DxUpIdeal.nD Cert.DxUpIdeal.τ).loc Cert.DxUpIdeal.main_arg3))
      ∧ θ_run (Cert.DxUpRefIdeal.defs (F := Ideal)) (onTc (τ := Cert.DxUpRefIdeal.τ) (Cert.DxUpRefIdeal.main (F := Ideal))) ⟨m', fun _ => 0, g'⟩ (fun r => ∀ c : Dev Cert.DxUpRefIdeal.nD,
          r.2.mem ((c.tc : Thread Cert.DxUpRefIdeal.nD Cert.DxUpRefIdeal.τ).loc Cert.DxUpRefIdeal.main_v13) = v0 c
          ∧ r.2.mem ((c.tc : Thread Cert.DxUpRefIdeal.nD Cert.DxUpRefIdeal.τ).loc Cert.DxUpRefIdeal.main_arg0) = m' ((c.tc : Thread Cert.DxUpRefIdeal.nD Cert.DxUpRefIdeal.τ).loc Cert.DxUpRefIdeal.main_arg0)
          ∧ r.2.mem ((c.tc : Thread Cert.DxUpRefIdeal.nD Cert.DxUpRefIdeal.τ).loc Cert.DxUpRefIdeal.main_arg1) = m' ((c.tc : Thread Cert.DxUpRefIdeal.nD Cert.DxUpRefIdeal.τ).loc Cert.DxUpRefIdeal.main_arg1)
          ∧ r.2.mem ((c.tc : Thread Cert.DxUpRefIdeal.nD Cert.DxUpRefIdeal.τ).loc Cert.DxUpRefIdeal.main_arg2) = m' ((c.tc : Thread Cert.DxUpRefIdeal.nD Cert.DxUpRefIdeal.τ).loc Cert.DxUpRefIdeal.main_arg2)
          ∧ r.2.mem ((c.tc : Thread Cert.DxUpRefIdeal.nD Cert.DxUpRefIdeal.τ).loc Cert.DxUpRefIdeal.main_arg3) = m' ((c.tc : Thread Cert.DxUpRefIdeal.nD Cert.DxUpRefIdeal.τ).loc Cert.DxUpRefIdeal.main_arg3))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v4) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DxDown_DxDownIdeal : Prop :=
  True

def algebraic_DxDownIdeal_DxDownRefIdeal [hDxDownIdeal : Cert.DxDownIdeal.Facts] [hDxDownRefIdeal : Cert.DxDownRefIdeal.Facts] : Prop :=
  ∀ (m : (ℓ : Loc Cert.DxDownIdeal.nD Cert.DxDownIdeal.τ Cert.DxDownIdeal.sig) → Buf (Elt Ideal) ℓ) (g : Dev Cert.DxDownIdeal.nD → PrngReg)
    (m' : (ℓ : Loc Cert.DxDownRefIdeal.nD Cert.DxDownRefIdeal.τ Cert.DxDownRefIdeal.sig) → Buf (Elt Ideal) ℓ) (g' : Dev Cert.DxDownRefIdeal.nD → PrngReg), Pre_DxDownIdeal m →
    (∀ c : Dev Cert.DxDownIdeal.nD,
      m' ((c.tc : Thread Cert.DxDownRefIdeal.nD Cert.DxDownRefIdeal.τ).loc Cert.DxDownRefIdeal.main_arg0) = m ((c.tc : Thread Cert.DxDownIdeal.nD Cert.DxDownIdeal.τ).loc Cert.DxDownIdeal.main_arg0)
      ∧ m' ((c.tc : Thread Cert.DxDownRefIdeal.nD Cert.DxDownRefIdeal.τ).loc Cert.DxDownRefIdeal.main_arg1) = m ((c.tc : Thread Cert.DxDownIdeal.nD Cert.DxDownIdeal.τ).loc Cert.DxDownIdeal.main_arg1)) →
    ∃ (v0 : (c : Dev Cert.DxDownIdeal.nD) → Buf (Elt Ideal) ((c.tc : Thread Cert.DxDownIdeal.nD Cert.DxDownIdeal.τ).loc Cert.DxDownIdeal.main_v1)),
      θ_run (Cert.DxDownIdeal.defs (F := Ideal)) (onTc (τ := Cert.DxDownIdeal.τ) (Cert.DxDownIdeal.main (F := Ideal))) ⟨m, fun _ => 0, g⟩ (fun r => ∀ c : Dev Cert.DxDownIdeal.nD,
          r.2.mem ((c.tc : Thread Cert.DxDownIdeal.nD Cert.DxDownIdeal.τ).loc Cert.DxDownIdeal.main_v1) = v0 c
          ∧ r.2.mem ((c.tc : Thread Cert.DxDownIdeal.nD Cert.DxDownIdeal.τ).loc Cert.DxDownIdeal.main_arg0) = m ((c.tc : Thread Cert.DxDownIdeal.nD Cert.DxDownIdeal.τ).loc Cert.DxDownIdeal.main_arg0)
          ∧ r.2.mem ((c.tc : Thread Cert.DxDownIdeal.nD Cert.DxDownIdeal.τ).loc Cert.DxDownIdeal.main_arg1) = m ((c.tc : Thread Cert.DxDownIdeal.nD Cert.DxDownIdeal.τ).loc Cert.DxDownIdeal.main_arg1))
      ∧ θ_run (Cert.DxDownRefIdeal.defs (F := Ideal)) (onTc (τ := Cert.DxDownRefIdeal.τ) (Cert.DxDownRefIdeal.main (F := Ideal))) ⟨m', fun _ => 0, g'⟩ (fun r => ∀ c : Dev Cert.DxDownRefIdeal.nD,
          r.2.mem ((c.tc : Thread Cert.DxDownRefIdeal.nD Cert.DxDownRefIdeal.τ).loc Cert.DxDownRefIdeal.main_v3) = v0 c
          ∧ r.2.mem ((c.tc : Thread Cert.DxDownRefIdeal.nD Cert.DxDownRefIdeal.τ).loc Cert.DxDownRefIdeal.main_arg0) = m' ((c.tc : Thread Cert.DxDownRefIdeal.nD Cert.DxDownRefIdeal.τ).loc Cert.DxDownRefIdeal.main_arg0)
          ∧ r.2.mem ((c.tc : Thread Cert.DxDownRefIdeal.nD Cert.DxDownRefIdeal.τ).loc Cert.DxDownRefIdeal.main_arg1) = m' ((c.tc : Thread Cert.DxDownRefIdeal.nD Cert.DxDownRefIdeal.τ).loc Cert.DxDownRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)
      ∧ m' ((c.tc : Thread Cert.DwInRefIdeal.nD Cert.DwInRefIdeal.τ).loc Cert.DwInRefIdeal.main_arg3) = m ((c.tc : Thread Cert.DwInIdeal.nD Cert.DwInIdeal.τ).loc Cert.DwInIdeal.main_arg3)
      ∧ m' ((c.tc : Thread Cert.DwInRefIdeal.nD Cert.DwInRefIdeal.τ).loc Cert.DwInRefIdeal.main_arg4) = m ((c.tc : Thread Cert.DwInIdeal.nD Cert.DwInIdeal.τ).loc Cert.DwInIdeal.main_arg4)
      ∧ m' ((c.tc : Thread Cert.DwInRefIdeal.nD Cert.DwInRefIdeal.τ).loc Cert.DwInRefIdeal.main_arg5) = m ((c.tc : Thread Cert.DwInIdeal.nD Cert.DwInIdeal.τ).loc Cert.DwInIdeal.main_arg5)) →
    ∃ (v0 : (c : Dev Cert.DwInIdeal.nD) → Buf (Elt Ideal) ((c.tc : Thread Cert.DwInIdeal.nD Cert.DwInIdeal.τ).loc Cert.DwInIdeal.main_v0_0)) (v1 : (c : Dev Cert.DwInIdeal.nD) → Buf (Elt Ideal) ((c.tc : Thread Cert.DwInIdeal.nD Cert.DwInIdeal.τ).loc Cert.DwInIdeal.main_v0_2)) (v2 : (c : Dev Cert.DwInIdeal.nD) → Buf (Elt Ideal) ((c.tc : Thread Cert.DwInIdeal.nD Cert.DwInIdeal.τ).loc Cert.DwInIdeal.main_v0_4)) (v3 : (c : Dev Cert.DwInIdeal.nD) → Buf (Elt Ideal) ((c.tc : Thread Cert.DwInIdeal.nD Cert.DwInIdeal.τ).loc Cert.DwInIdeal.main_v0_6)) (v4 : (c : Dev Cert.DwInIdeal.nD) → Buf (Elt Ideal) ((c.tc : Thread Cert.DwInIdeal.nD Cert.DwInIdeal.τ).loc Cert.DwInIdeal.main_v0_8)) (v5 : (c : Dev Cert.DwInIdeal.nD) → Buf (Elt Ideal) ((c.tc : Thread Cert.DwInIdeal.nD Cert.DwInIdeal.τ).loc Cert.DwInIdeal.main_v0_1)) (v6 : (c : Dev Cert.DwInIdeal.nD) → Buf (Elt Ideal) ((c.tc : Thread Cert.DwInIdeal.nD Cert.DwInIdeal.τ).loc Cert.DwInIdeal.main_v0_3)) (v7 : (c : Dev Cert.DwInIdeal.nD) → Buf (Elt Ideal) ((c.tc : Thread Cert.DwInIdeal.nD Cert.DwInIdeal.τ).loc Cert.DwInIdeal.main_v0_5)) (v8 : (c : Dev Cert.DwInIdeal.nD) → Buf (Elt Ideal) ((c.tc : Thread Cert.DwInIdeal.nD Cert.DwInIdeal.τ).loc Cert.DwInIdeal.main_v0_7)) (v9 : (c : Dev Cert.DwInIdeal.nD) → Buf (Elt Ideal) ((c.tc : Thread Cert.DwInIdeal.nD Cert.DwInIdeal.τ).loc Cert.DwInIdeal.main_v0_9)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0_0) = v0 c
          ∧ r.2.mem ((c.tc : Thread Cert.DwInIdeal.nD Cert.DwInIdeal.τ).loc Cert.DwInIdeal.main_v0_2) = v1 c
          ∧ r.2.mem ((c.tc : Thread Cert.DwInIdeal.nD Cert.DwInIdeal.τ).loc Cert.DwInIdeal.main_v0_4) = v2 c
          ∧ r.2.mem ((c.tc : Thread Cert.DwInIdeal.nD Cert.DwInIdeal.τ).loc Cert.DwInIdeal.main_v0_6) = v3 c
          ∧ r.2.mem ((c.tc : Thread Cert.DwInIdeal.nD Cert.DwInIdeal.τ).loc Cert.DwInIdeal.main_v0_8) = v4 c
          ∧ r.2.mem ((c.tc : Thread Cert.DwInIdeal.nD Cert.DwInIdeal.τ).loc Cert.DwInIdeal.main_v0_1) = v5 c
          ∧ r.2.mem ((c.tc : Thread Cert.DwInIdeal.nD Cert.DwInIdeal.τ).loc Cert.DwInIdeal.main_v0_3) = v6 c
          ∧ r.2.mem ((c.tc : Thread Cert.DwInIdeal.nD Cert.DwInIdeal.τ).loc Cert.DwInIdeal.main_v0_5) = v7 c
          ∧ r.2.mem ((c.tc : Thread Cert.DwInIdeal.nD Cert.DwInIdeal.τ).loc Cert.DwInIdeal.main_v0_7) = v8 c
          ∧ r.2.mem ((c.tc : Thread Cert.DwInIdeal.nD Cert.DwInIdeal.τ).loc Cert.DwInIdeal.main_v0_9) = v9 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
          ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
          ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v20) = v0 c
          ∧ r.2.mem ((c.tc : Thread Cert.DwInRefIdeal.nD Cert.DwInRefIdeal.τ).loc Cert.DwInRefIdeal.main_v21) = v1 c
          ∧ r.2.mem ((c.tc : Thread Cert.DwInRefIdeal.nD Cert.DwInRefIdeal.τ).loc Cert.DwInRefIdeal.main_v22) = v2 c
          ∧ r.2.mem ((c.tc : Thread Cert.DwInRefIdeal.nD Cert.DwInRefIdeal.τ).loc Cert.DwInRefIdeal.main_v23) = v3 c
          ∧ r.2.mem ((c.tc : Thread Cert.DwInRefIdeal.nD Cert.DwInRefIdeal.τ).loc Cert.DwInRefIdeal.main_v24) = v4 c
          ∧ r.2.mem ((c.tc : Thread Cert.DwInRefIdeal.nD Cert.DwInRefIdeal.τ).loc Cert.DwInRefIdeal.main_v25) = v5 c
          ∧ r.2.mem ((c.tc : Thread Cert.DwInRefIdeal.nD Cert.DwInRefIdeal.τ).loc Cert.DwInRefIdeal.main_v26) = v6 c
          ∧ r.2.mem ((c.tc : Thread Cert.DwInRefIdeal.nD Cert.DwInRefIdeal.τ).loc Cert.DwInRefIdeal.main_v27) = v7 c
          ∧ r.2.mem ((c.tc : Thread Cert.DwInRefIdeal.nD Cert.DwInRefIdeal.τ).loc Cert.DwInRefIdeal.main_v28) = v8 c
          ∧ r.2.mem ((c.tc : Thread Cert.DwInRefIdeal.nD Cert.DwInRefIdeal.τ).loc Cert.DwInRefIdeal.main_v29) = v9 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2)
          ∧ r.2.mem ((c.tc : Thread Cert.DwInRefIdeal.nD Cert.DwInRefIdeal.τ).loc Cert.DwInRefIdeal.main_arg3) = m' ((c.tc : Thread Cert.DwInRefIdeal.nD Cert.DwInRefIdeal.τ).loc Cert.DwInRefIdeal.main_arg3)
          ∧ r.2.mem ((c.tc : Thread Cert.DwInRefIdeal.nD Cert.DwInRefIdeal.τ).loc Cert.DwInRefIdeal.main_arg4) = m' ((c.tc : Thread Cert.DwInRefIdeal.nD Cert.DwInRefIdeal.τ).loc Cert.DwInRefIdeal.main_arg4)
          ∧ r.2.mem ((c.tc : Thread Cert.DwInRefIdeal.nD Cert.DwInRefIdeal.τ).loc Cert.DwInRefIdeal.main_arg5) = m' ((c.tc : Thread Cert.DwInRefIdeal.nD Cert.DwInRefIdeal.τ).loc Cert.DwInRefIdeal.main_arg5))

def preserves_DxIn_DxInIdeal : Prop :=
  True

def algebraic_DxInIdeal_DxInRefIdeal [hDxInIdeal : Cert.DxInIdeal.Facts] [hDxInRefIdeal : Cert.DxInRefIdeal.Facts] : Prop :=
  ∀ (m : (ℓ : Loc Cert.DxInIdeal.nD Cert.DxInIdeal.τ Cert.DxInIdeal.sig) → Buf (Elt Ideal) ℓ) (g : Dev Cert.DxInIdeal.nD → PrngReg)
    (m' : (ℓ : Loc Cert.DxInRefIdeal.nD Cert.DxInRefIdeal.τ Cert.DxInRefIdeal.sig) → Buf (Elt Ideal) ℓ) (g' : Dev Cert.DxInRefIdeal.nD → PrngReg), Pre_DxInIdeal m →
    (∀ c : Dev Cert.DxInIdeal.nD,
      m' ((c.tc : Thread Cert.DxInRefIdeal.nD Cert.DxInRefIdeal.τ).loc Cert.DxInRefIdeal.main_arg0) = m ((c.tc : Thread Cert.DxInIdeal.nD Cert.DxInIdeal.τ).loc Cert.DxInIdeal.main_arg0)
      ∧ m' ((c.tc : Thread Cert.DxInRefIdeal.nD Cert.DxInRefIdeal.τ).loc Cert.DxInRefIdeal.main_arg1) = m ((c.tc : Thread Cert.DxInIdeal.nD Cert.DxInIdeal.τ).loc Cert.DxInIdeal.main_arg1)
      ∧ m' ((c.tc : Thread Cert.DxInRefIdeal.nD Cert.DxInRefIdeal.τ).loc Cert.DxInRefIdeal.main_arg2) = m ((c.tc : Thread Cert.DxInIdeal.nD Cert.DxInIdeal.τ).loc Cert.DxInIdeal.main_arg2)
      ∧ m' ((c.tc : Thread Cert.DxInRefIdeal.nD Cert.DxInRefIdeal.τ).loc Cert.DxInRefIdeal.main_arg3) = m ((c.tc : Thread Cert.DxInIdeal.nD Cert.DxInIdeal.τ).loc Cert.DxInIdeal.main_arg3)
      ∧ m' ((c.tc : Thread Cert.DxInRefIdeal.nD Cert.DxInRefIdeal.τ).loc Cert.DxInRefIdeal.main_arg4) = m ((c.tc : Thread Cert.DxInIdeal.nD Cert.DxInIdeal.τ).loc Cert.DxInIdeal.main_arg4)
      ∧ m' ((c.tc : Thread Cert.DxInRefIdeal.nD Cert.DxInRefIdeal.τ).loc Cert.DxInRefIdeal.main_arg5) = m ((c.tc : Thread Cert.DxInIdeal.nD Cert.DxInIdeal.τ).loc Cert.DxInIdeal.main_arg5)
      ∧ m' ((c.tc : Thread Cert.DxInRefIdeal.nD Cert.DxInRefIdeal.τ).loc Cert.DxInRefIdeal.main_arg6) = m ((c.tc : Thread Cert.DxInIdeal.nD Cert.DxInIdeal.τ).loc Cert.DxInIdeal.main_arg6)) →
    ∃ (v0 : (c : Dev Cert.DxInIdeal.nD) → Buf (Elt Ideal) ((c.tc : Thread Cert.DxInIdeal.nD Cert.DxInIdeal.τ).loc Cert.DxInIdeal.main_v6)),
      θ_run (Cert.DxInIdeal.defs (F := Ideal)) (onTc (τ := Cert.DxInIdeal.τ) (Cert.DxInIdeal.main (F := Ideal))) ⟨m, fun _ => 0, g⟩ (fun r => ∀ c : Dev Cert.DxInIdeal.nD,
          r.2.mem ((c.tc : Thread Cert.DxInIdeal.nD Cert.DxInIdeal.τ).loc Cert.DxInIdeal.main_v6) = v0 c
          ∧ r.2.mem ((c.tc : Thread Cert.DxInIdeal.nD Cert.DxInIdeal.τ).loc Cert.DxInIdeal.main_arg0) = m ((c.tc : Thread Cert.DxInIdeal.nD Cert.DxInIdeal.τ).loc Cert.DxInIdeal.main_arg0)
          ∧ r.2.mem ((c.tc : Thread Cert.DxInIdeal.nD Cert.DxInIdeal.τ).loc Cert.DxInIdeal.main_arg1) = m ((c.tc : Thread Cert.DxInIdeal.nD Cert.DxInIdeal.τ).loc Cert.DxInIdeal.main_arg1)
          ∧ r.2.mem ((c.tc : Thread Cert.DxInIdeal.nD Cert.DxInIdeal.τ).loc Cert.DxInIdeal.main_arg2) = m ((c.tc : Thread Cert.DxInIdeal.nD Cert.DxInIdeal.τ).loc Cert.DxInIdeal.main_arg2)
          ∧ r.2.mem ((c.tc : Thread Cert.DxInIdeal.nD Cert.DxInIdeal.τ).loc Cert.DxInIdeal.main_arg3) = m ((c.tc : Thread Cert.DxInIdeal.nD Cert.DxInIdeal.τ).loc Cert.DxInIdeal.main_arg3)
          ∧ r.2.mem ((c.tc : Thread Cert.DxInIdeal.nD Cert.DxInIdeal.τ).loc Cert.DxInIdeal.main_arg4) = m ((c.tc : Thread Cert.DxInIdeal.nD Cert.DxInIdeal.τ).loc Cert.DxInIdeal.main_arg4)
          ∧ r.2.mem ((c.tc : Thread Cert.DxInIdeal.nD Cert.DxInIdeal.τ).loc Cert.DxInIdeal.main_arg5) = m ((c.tc : Thread Cert.DxInIdeal.nD Cert.DxInIdeal.τ).loc Cert.DxInIdeal.main_arg5)
          ∧ r.2.mem ((c.tc : Thread Cert.DxInIdeal.nD Cert.DxInIdeal.τ).loc Cert.DxInIdeal.main_arg6) = m ((c.tc : Thread Cert.DxInIdeal.nD Cert.DxInIdeal.τ).loc Cert.DxInIdeal.main_arg6))
      ∧ θ_run (Cert.DxInRefIdeal.defs (F := Ideal)) (onTc (τ := Cert.DxInRefIdeal.τ) (Cert.DxInRefIdeal.main (F := Ideal))) ⟨m', fun _ => 0, g'⟩ (fun r => ∀ c : Dev Cert.DxInRefIdeal.nD,
          r.2.mem ((c.tc : Thread Cert.DxInRefIdeal.nD Cert.DxInRefIdeal.τ).loc Cert.DxInRefIdeal.main_v19) = v0 c
          ∧ r.2.mem ((c.tc : Thread Cert.DxInRefIdeal.nD Cert.DxInRefIdeal.τ).loc Cert.DxInRefIdeal.main_arg0) = m' ((c.tc : Thread Cert.DxInRefIdeal.nD Cert.DxInRefIdeal.τ).loc Cert.DxInRefIdeal.main_arg0)
          ∧ r.2.mem ((c.tc : Thread Cert.DxInRefIdeal.nD Cert.DxInRefIdeal.τ).loc Cert.DxInRefIdeal.main_arg1) = m' ((c.tc : Thread Cert.DxInRefIdeal.nD Cert.DxInRefIdeal.τ).loc Cert.DxInRefIdeal.main_arg1)
          ∧ r.2.mem ((c.tc : Thread Cert.DxInRefIdeal.nD Cert.DxInRefIdeal.τ).loc Cert.DxInRefIdeal.main_arg2) = m' ((c.tc : Thread Cert.DxInRefIdeal.nD Cert.DxInRefIdeal.τ).loc Cert.DxInRefIdeal.main_arg2)
          ∧ r.2.mem ((c.tc : Thread Cert.DxInRefIdeal.nD Cert.DxInRefIdeal.τ).loc Cert.DxInRefIdeal.main_arg3) = m' ((c.tc : Thread Cert.DxInRefIdeal.nD Cert.DxInRefIdeal.τ).loc Cert.DxInRefIdeal.main_arg3)
          ∧ r.2.mem ((c.tc : Thread Cert.DxInRefIdeal.nD Cert.DxInRefIdeal.τ).loc Cert.DxInRefIdeal.main_arg4) = m' ((c.tc : Thread Cert.DxInRefIdeal.nD Cert.DxInRefIdeal.τ).loc Cert.DxInRefIdeal.main_arg4)
          ∧ r.2.mem ((c.tc : Thread Cert.DxInRefIdeal.nD Cert.DxInRefIdeal.τ).loc Cert.DxInRefIdeal.main_arg5) = m' ((c.tc : Thread Cert.DxInRefIdeal.nD Cert.DxInRefIdeal.τ).loc Cert.DxInRefIdeal.main_arg5)
          ∧ r.2.mem ((c.tc : Thread Cert.DxInRefIdeal.nD Cert.DxInRefIdeal.τ).loc Cert.DxInRefIdeal.main_arg6) = m' ((c.tc : Thread Cert.DxInRefIdeal.nD Cert.DxInRefIdeal.τ).loc Cert.DxInRefIdeal.main_arg6))

def preserves_DwOutAttn_DwOutAttnIdeal : Prop :=
  True

def algebraic_DwOutAttnIdeal_DwOutAttnRefIdeal [hDwOutAttnIdeal : Cert.DwOutAttnIdeal.Facts] [hDwOutAttnRefIdeal : Cert.DwOutAttnRefIdeal.Facts] : Prop :=
  ∀ (m : (ℓ : Loc Cert.DwOutAttnIdeal.nD Cert.DwOutAttnIdeal.τ Cert.DwOutAttnIdeal.sig) → Buf (Elt Ideal) ℓ) (g : Dev Cert.DwOutAttnIdeal.nD → PrngReg)
    (m' : (ℓ : Loc Cert.DwOutAttnRefIdeal.nD Cert.DwOutAttnRefIdeal.τ Cert.DwOutAttnRefIdeal.sig) → Buf (Elt Ideal) ℓ) (g' : Dev Cert.DwOutAttnRefIdeal.nD → PrngReg), Pre_DwOutAttnIdeal m →
    (∀ c : Dev Cert.DwOutAttnIdeal.nD,
      m' ((c.tc : Thread Cert.DwOutAttnRefIdeal.nD Cert.DwOutAttnRefIdeal.τ).loc Cert.DwOutAttnRefIdeal.main_arg0) = m ((c.tc : Thread Cert.DwOutAttnIdeal.nD Cert.DwOutAttnIdeal.τ).loc Cert.DwOutAttnIdeal.main_arg0)
      ∧ m' ((c.tc : Thread Cert.DwOutAttnRefIdeal.nD Cert.DwOutAttnRefIdeal.τ).loc Cert.DwOutAttnRefIdeal.main_arg1) = m ((c.tc : Thread Cert.DwOutAttnIdeal.nD Cert.DwOutAttnIdeal.τ).loc Cert.DwOutAttnIdeal.main_arg1)) →
    ∃ (v0 : (c : Dev Cert.DwOutAttnIdeal.nD) → Buf (Elt Ideal) ((c.tc : Thread Cert.DwOutAttnIdeal.nD Cert.DwOutAttnIdeal.τ).loc Cert.DwOutAttnIdeal.main_v0)),
      θ_run (Cert.DwOutAttnIdeal.defs (F := Ideal)) (onTc (τ := Cert.DwOutAttnIdeal.τ) (Cert.DwOutAttnIdeal.main (F := Ideal))) ⟨m, fun _ => 0, g⟩ (fun r => ∀ c : Dev Cert.DwOutAttnIdeal.nD,
          r.2.mem ((c.tc : Thread Cert.DwOutAttnIdeal.nD Cert.DwOutAttnIdeal.τ).loc Cert.DwOutAttnIdeal.main_v0) = v0 c
          ∧ r.2.mem ((c.tc : Thread Cert.DwOutAttnIdeal.nD Cert.DwOutAttnIdeal.τ).loc Cert.DwOutAttnIdeal.main_arg0) = m ((c.tc : Thread Cert.DwOutAttnIdeal.nD Cert.DwOutAttnIdeal.τ).loc Cert.DwOutAttnIdeal.main_arg0)
          ∧ r.2.mem ((c.tc : Thread Cert.DwOutAttnIdeal.nD Cert.DwOutAttnIdeal.τ).loc Cert.DwOutAttnIdeal.main_arg1) = m ((c.tc : Thread Cert.DwOutAttnIdeal.nD Cert.DwOutAttnIdeal.τ).loc Cert.DwOutAttnIdeal.main_arg1))
      ∧ θ_run (Cert.DwOutAttnRefIdeal.defs (F := Ideal)) (onTc (τ := Cert.DwOutAttnRefIdeal.τ) (Cert.DwOutAttnRefIdeal.main (F := Ideal))) ⟨m', fun _ => 0, g'⟩ (fun r => ∀ c : Dev Cert.DwOutAttnRefIdeal.nD,
          r.2.mem ((c.tc : Thread Cert.DwOutAttnRefIdeal.nD Cert.DwOutAttnRefIdeal.τ).loc Cert.DwOutAttnRefIdeal.main_v3) = v0 c
          ∧ r.2.mem ((c.tc : Thread Cert.DwOutAttnRefIdeal.nD Cert.DwOutAttnRefIdeal.τ).loc Cert.DwOutAttnRefIdeal.main_arg0) = m' ((c.tc : Thread Cert.DwOutAttnRefIdeal.nD Cert.DwOutAttnRefIdeal.τ).loc Cert.DwOutAttnRefIdeal.main_arg0)
          ∧ r.2.mem ((c.tc : Thread Cert.DwOutAttnRefIdeal.nD Cert.DwOutAttnRefIdeal.τ).loc Cert.DwOutAttnRefIdeal.main_arg1) = m' ((c.tc : Thread Cert.DwOutAttnRefIdeal.nD Cert.DwOutAttnRefIdeal.τ).loc Cert.DwOutAttnRefIdeal.main_arg1))

def preserves_DwOutConv_DwOutConvIdeal : Prop :=
  True

def algebraic_DwOutConvIdeal_DwOutConvRefIdeal [hDwOutConvIdeal : Cert.DwOutConvIdeal.Facts] [hDwOutConvRefIdeal : Cert.DwOutConvRefIdeal.Facts] : Prop :=
  ∀ (m : (ℓ : Loc Cert.DwOutConvIdeal.nD Cert.DwOutConvIdeal.τ Cert.DwOutConvIdeal.sig) → Buf (Elt Ideal) ℓ) (g : Dev Cert.DwOutConvIdeal.nD → PrngReg)
    (m' : (ℓ : Loc Cert.DwOutConvRefIdeal.nD Cert.DwOutConvRefIdeal.τ Cert.DwOutConvRefIdeal.sig) → Buf (Elt Ideal) ℓ) (g' : Dev Cert.DwOutConvRefIdeal.nD → PrngReg), Pre_DwOutConvIdeal m →
    (∀ c : Dev Cert.DwOutConvIdeal.nD,
      m' ((c.tc : Thread Cert.DwOutConvRefIdeal.nD Cert.DwOutConvRefIdeal.τ).loc Cert.DwOutConvRefIdeal.main_arg0) = m ((c.tc : Thread Cert.DwOutConvIdeal.nD Cert.DwOutConvIdeal.τ).loc Cert.DwOutConvIdeal.main_arg0)
      ∧ m' ((c.tc : Thread Cert.DwOutConvRefIdeal.nD Cert.DwOutConvRefIdeal.τ).loc Cert.DwOutConvRefIdeal.main_arg1) = m ((c.tc : Thread Cert.DwOutConvIdeal.nD Cert.DwOutConvIdeal.τ).loc Cert.DwOutConvIdeal.main_arg1)) →
    ∃ (v0 : (c : Dev Cert.DwOutConvIdeal.nD) → Buf (Elt Ideal) ((c.tc : Thread Cert.DwOutConvIdeal.nD Cert.DwOutConvIdeal.τ).loc Cert.DwOutConvIdeal.main_v0)),
      θ_run (Cert.DwOutConvIdeal.defs (F := Ideal)) (onTc (τ := Cert.DwOutConvIdeal.τ) (Cert.DwOutConvIdeal.main (F := Ideal))) ⟨m, fun _ => 0, g⟩ (fun r => ∀ c : Dev Cert.DwOutConvIdeal.nD,
          r.2.mem ((c.tc : Thread Cert.DwOutConvIdeal.nD Cert.DwOutConvIdeal.τ).loc Cert.DwOutConvIdeal.main_v0) = v0 c
          ∧ r.2.mem ((c.tc : Thread Cert.DwOutConvIdeal.nD Cert.DwOutConvIdeal.τ).loc Cert.DwOutConvIdeal.main_arg0) = m ((c.tc : Thread Cert.DwOutConvIdeal.nD Cert.DwOutConvIdeal.τ).loc Cert.DwOutConvIdeal.main_arg0)
          ∧ r.2.mem ((c.tc : Thread Cert.DwOutConvIdeal.nD Cert.DwOutConvIdeal.τ).loc Cert.DwOutConvIdeal.main_arg1) = m ((c.tc : Thread Cert.DwOutConvIdeal.nD Cert.DwOutConvIdeal.τ).loc Cert.DwOutConvIdeal.main_arg1))
      ∧ θ_run (Cert.DwOutConvRefIdeal.defs (F := Ideal)) (onTc (τ := Cert.DwOutConvRefIdeal.τ) (Cert.DwOutConvRefIdeal.main (F := Ideal))) ⟨m', fun _ => 0, g'⟩ (fun r => ∀ c : Dev Cert.DwOutConvRefIdeal.nD,
          r.2.mem ((c.tc : Thread Cert.DwOutConvRefIdeal.nD Cert.DwOutConvRefIdeal.τ).loc Cert.DwOutConvRefIdeal.main_v4) = v0 c
          ∧ r.2.mem ((c.tc : Thread Cert.DwOutConvRefIdeal.nD Cert.DwOutConvRefIdeal.τ).loc Cert.DwOutConvRefIdeal.main_arg0) = m' ((c.tc : Thread Cert.DwOutConvRefIdeal.nD Cert.DwOutConvRefIdeal.τ).loc Cert.DwOutConvRefIdeal.main_arg0)
          ∧ r.2.mem ((c.tc : Thread Cert.DwOutConvRefIdeal.nD Cert.DwOutConvRefIdeal.τ).loc Cert.DwOutConvRefIdeal.main_arg1) = m' ((c.tc : Thread Cert.DwOutConvRefIdeal.nD Cert.DwOutConvRefIdeal.τ).loc Cert.DwOutConvRefIdeal.main_arg1))

def preserves_DxOut_DxOutIdeal : Prop :=
  True

def algebraic_DxOutIdeal_DxOutRefIdeal [hDxOutIdeal : Cert.DxOutIdeal.Facts] [hDxOutRefIdeal : Cert.DxOutRefIdeal.Facts] : Prop :=
  ∀ (m : (ℓ : Loc Cert.DxOutIdeal.nD Cert.DxOutIdeal.τ Cert.DxOutIdeal.sig) → Buf (Elt Ideal) ℓ) (g : Dev Cert.DxOutIdeal.nD → PrngReg)
    (m' : (ℓ : Loc Cert.DxOutRefIdeal.nD Cert.DxOutRefIdeal.τ Cert.DxOutRefIdeal.sig) → Buf (Elt Ideal) ℓ) (g' : Dev Cert.DxOutRefIdeal.nD → PrngReg), Pre_DxOutIdeal m →
    (∀ c : Dev Cert.DxOutIdeal.nD,
      m' ((c.tc : Thread Cert.DxOutRefIdeal.nD Cert.DxOutRefIdeal.τ).loc Cert.DxOutRefIdeal.main_arg0) = m ((c.tc : Thread Cert.DxOutIdeal.nD Cert.DxOutIdeal.τ).loc Cert.DxOutIdeal.main_arg0)
      ∧ m' ((c.tc : Thread Cert.DxOutRefIdeal.nD Cert.DxOutRefIdeal.τ).loc Cert.DxOutRefIdeal.main_arg1) = m ((c.tc : Thread Cert.DxOutIdeal.nD Cert.DxOutIdeal.τ).loc Cert.DxOutIdeal.main_arg1)) →
    ∃ (v0 : (c : Dev Cert.DxOutIdeal.nD) → Buf (Elt Ideal) ((c.tc : Thread Cert.DxOutIdeal.nD Cert.DxOutIdeal.τ).loc Cert.DxOutIdeal.main_v1_0)) (v1 : (c : Dev Cert.DxOutIdeal.nD) → Buf (Elt Ideal) ((c.tc : Thread Cert.DxOutIdeal.nD Cert.DxOutIdeal.τ).loc Cert.DxOutIdeal.main_v1_1)) (v2 : (c : Dev Cert.DxOutIdeal.nD) → Buf (Elt Ideal) ((c.tc : Thread Cert.DxOutIdeal.nD Cert.DxOutIdeal.τ).loc Cert.DxOutIdeal.main_v1_2)),
      θ_run (Cert.DxOutIdeal.defs (F := Ideal)) (onTc (τ := Cert.DxOutIdeal.τ) (Cert.DxOutIdeal.main (F := Ideal))) ⟨m, fun _ => 0, g⟩ (fun r => ∀ c : Dev Cert.DxOutIdeal.nD,
          r.2.mem ((c.tc : Thread Cert.DxOutIdeal.nD Cert.DxOutIdeal.τ).loc Cert.DxOutIdeal.main_v1_0) = v0 c
          ∧ r.2.mem ((c.tc : Thread Cert.DxOutIdeal.nD Cert.DxOutIdeal.τ).loc Cert.DxOutIdeal.main_v1_1) = v1 c
          ∧ r.2.mem ((c.tc : Thread Cert.DxOutIdeal.nD Cert.DxOutIdeal.τ).loc Cert.DxOutIdeal.main_v1_2) = v2 c
          ∧ r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
          ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1))
      ∧ θ_run (Cert.DxOutRefIdeal.defs (F := Ideal)) (onTc (τ := Cert.DxOutRefIdeal.τ) (Cert.DxOutRefIdeal.main (F := Ideal))) ⟨m', fun _ => 0, g'⟩ (fun r => ∀ c : Dev Cert.DxOutRefIdeal.nD,
          r.2.mem ((c.tc : Thread Cert.DxOutRefIdeal.nD Cert.DxOutRefIdeal.τ).loc Cert.DxOutRefIdeal.main_v7) = v0 c
          ∧ r.2.mem ((c.tc : Thread Cert.DxOutRefIdeal.nD Cert.DxOutRefIdeal.τ).loc Cert.DxOutRefIdeal.main_v8) = v1 c
          ∧ r.2.mem ((c.tc : Thread Cert.DxOutRefIdeal.nD Cert.DxOutRefIdeal.τ).loc Cert.DxOutRefIdeal.main_v9) = v2 c
          ∧ r.2.mem ((c.tc : Thread Cert.DxOutRefIdeal.nD Cert.DxOutRefIdeal.τ).loc Cert.DxOutRefIdeal.main_arg0) = m' ((c.tc : Thread Cert.DxOutRefIdeal.nD Cert.DxOutRefIdeal.τ).loc Cert.DxOutRefIdeal.main_arg0)
          ∧ r.2.mem ((c.tc : Thread Cert.DxOutRefIdeal.nD Cert.DxOutRefIdeal.τ).loc Cert.DxOutRefIdeal.main_arg1) = m' ((c.tc : Thread Cert.DxOutRefIdeal.nD Cert.DxOutRefIdeal.τ).loc Cert.DxOutRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v1) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v4) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)
      ∧ m' ((c.tc : Thread Cert.FfnDownRefIdeal.nD Cert.FfnDownRefIdeal.τ).loc Cert.FfnDownRefIdeal.main_arg5) = m ((c.tc : Thread Cert.FfnDownIdeal.nD Cert.FfnDownIdeal.τ).loc Cert.FfnDownIdeal.main_arg5)) →
    ∃ (v0 : (c : Dev Cert.FfnDownIdeal.nD) → Buf (Elt Ideal) ((c.tc : Thread Cert.FfnDownIdeal.nD Cert.FfnDownIdeal.τ).loc Cert.FfnDownIdeal.main_v3_0)) (v1 : (c : Dev Cert.FfnDownIdeal.nD) → Buf (Elt Ideal) ((c.tc : Thread Cert.FfnDownIdeal.nD Cert.FfnDownIdeal.τ).loc Cert.FfnDownIdeal.main_v3_1)) (v2 : (c : Dev Cert.FfnDownIdeal.nD) → Buf (Elt Ideal) ((c.tc : Thread Cert.FfnDownIdeal.nD Cert.FfnDownIdeal.τ).loc Cert.FfnDownIdeal.main_v3_2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v3_0) = v0 c
          ∧ r.2.mem ((c.tc : Thread Cert.FfnDownIdeal.nD Cert.FfnDownIdeal.τ).loc Cert.FfnDownIdeal.main_v3_1) = v1 c
          ∧ r.2.mem ((c.tc : Thread Cert.FfnDownIdeal.nD Cert.FfnDownIdeal.τ).loc Cert.FfnDownIdeal.main_v3_2) = v2 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
          ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v32) = v0 c
          ∧ r.2.mem ((c.tc : Thread Cert.FfnDownRefIdeal.nD Cert.FfnDownRefIdeal.τ).loc Cert.FfnDownRefIdeal.main_v26) = v1 c
          ∧ r.2.mem ((c.tc : Thread Cert.FfnDownRefIdeal.nD Cert.FfnDownRefIdeal.τ).loc Cert.FfnDownRefIdeal.main_v22) = v2 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4)
          ∧ r.2.mem ((c.tc : Thread Cert.FfnDownRefIdeal.nD Cert.FfnDownRefIdeal.τ).loc Cert.FfnDownRefIdeal.main_arg5) = m' ((c.tc : Thread Cert.FfnDownRefIdeal.nD Cert.FfnDownRefIdeal.τ).loc Cert.FfnDownRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v13_0)) (v1 : (c : Dev Cert.InProjIdeal.nD) → Buf (Elt Ideal) ((c.tc : Thread Cert.InProjIdeal.nD Cert.InProjIdeal.τ).loc Cert.InProjIdeal.main_v13_1)) (v2 : (c : Dev Cert.InProjIdeal.nD) → Buf (Elt Ideal) ((c.tc : Thread Cert.InProjIdeal.nD Cert.InProjIdeal.τ).loc Cert.InProjIdeal.main_v13_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v13_0) = v0 c
          ∧ r.2.mem ((c.tc : Thread Cert.InProjIdeal.nD Cert.InProjIdeal.τ).loc Cert.InProjIdeal.main_v13_1) = v1 c
          ∧ r.2.mem ((c.tc : Thread Cert.InProjIdeal.nD Cert.InProjIdeal.τ).loc Cert.InProjIdeal.main_v13_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v5) = v0 c
          ∧ r.2.mem ((c.tc : Thread Cert.InProjRefIdeal.nD Cert.InProjRefIdeal.τ).loc Cert.InProjRefIdeal.main_v12) = v1 c
          ∧ r.2.mem ((c.tc : Thread Cert.InProjRefIdeal.nD Cert.InProjRefIdeal.τ).loc Cert.InProjRefIdeal.main_v9) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)) →
    ∃ (v0 : (c : Dev Cert.OutProjIdeal.nD) → Buf (Elt Ideal) ((c.tc : Thread Cert.OutProjIdeal.nD Cert.OutProjIdeal.τ).loc Cert.OutProjIdeal.main_v6_0)) (v1 : (c : Dev Cert.OutProjIdeal.nD) → Buf (Elt Ideal) ((c.tc : Thread Cert.OutProjIdeal.nD Cert.OutProjIdeal.τ).loc Cert.OutProjIdeal.main_v6_1)) (v2 : (c : Dev Cert.OutProjIdeal.nD) → Buf (Elt Ideal) ((c.tc : Thread Cert.OutProjIdeal.nD Cert.OutProjIdeal.τ).loc Cert.OutProjIdeal.main_v6_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v6_0) = v0 c
          ∧ r.2.mem ((c.tc : Thread Cert.OutProjIdeal.nD Cert.OutProjIdeal.τ).loc Cert.OutProjIdeal.main_v6_1) = v1 c
          ∧ r.2.mem ((c.tc : Thread Cert.OutProjIdeal.nD Cert.OutProjIdeal.τ).loc Cert.OutProjIdeal.main_v6_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v34) = v0 c
          ∧ r.2.mem ((c.tc : Thread Cert.OutProjRefIdeal.nD Cert.OutProjRefIdeal.τ).loc Cert.OutProjRefIdeal.main_v28) = v1 c
          ∧ r.2.mem ((c.tc : Thread Cert.OutProjRefIdeal.nD Cert.OutProjRefIdeal.τ).loc Cert.OutProjRefIdeal.main_v24) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v3_0)) (v1 : (c : Dev Cert.AdamInIdeal.nD) → Buf (Elt Ideal) ((c.tc : Thread Cert.AdamInIdeal.nD Cert.AdamInIdeal.τ).loc Cert.AdamInIdeal.main_v3_1)) (v2 : (c : Dev Cert.AdamInIdeal.nD) → Buf (Elt Ideal) ((c.tc : Thread Cert.AdamInIdeal.nD Cert.AdamInIdeal.τ).loc Cert.AdamInIdeal.main_v3_2)) (v3 : (c : Dev Cert.AdamInIdeal.nD) → Buf (Elt Ideal) ((c.tc : Thread Cert.AdamInIdeal.nD Cert.AdamInIdeal.τ).loc Cert.AdamInIdeal.main_v3_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v3_0) = v0 c
          ∧ r.2.mem ((c.tc : Thread Cert.AdamInIdeal.nD Cert.AdamInIdeal.τ).loc Cert.AdamInIdeal.main_v3_1) = v1 c
          ∧ r.2.mem ((c.tc : Thread Cert.AdamInIdeal.nD Cert.AdamInIdeal.τ).loc Cert.AdamInIdeal.main_v3_2) = v2 c
          ∧ r.2.mem ((c.tc : Thread Cert.AdamInIdeal.nD Cert.AdamInIdeal.τ).loc Cert.AdamInIdeal.main_v3_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v27) = v0 c
          ∧ r.2.mem ((c.tc : Thread Cert.AdamInRefIdeal.nD Cert.AdamInRefIdeal.τ).loc Cert.AdamInRefIdeal.main_v28) = v1 c
          ∧ r.2.mem ((c.tc : Thread Cert.AdamInRefIdeal.nD Cert.AdamInRefIdeal.τ).loc Cert.AdamInRefIdeal.main_v29) = v2 c
          ∧ r.2.mem ((c.tc : Thread Cert.AdamInRefIdeal.nD Cert.AdamInRefIdeal.τ).loc Cert.AdamInRefIdeal.main_v30) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v3_0)) (v1 : (c : Dev Cert.AdamOutIdeal.nD) → Buf (Elt Ideal) ((c.tc : Thread Cert.AdamOutIdeal.nD Cert.AdamOutIdeal.τ).loc Cert.AdamOutIdeal.main_v3_1)) (v2 : (c : Dev Cert.AdamOutIdeal.nD) → Buf (Elt Ideal) ((c.tc : Thread Cert.AdamOutIdeal.nD Cert.AdamOutIdeal.τ).loc Cert.AdamOutIdeal.main_v3_2)) (v3 : (c : Dev Cert.AdamOutIdeal.nD) → Buf (Elt Ideal) ((c.tc : Thread Cert.AdamOutIdeal.nD Cert.AdamOutIdeal.τ).loc Cert.AdamOutIdeal.main_v3_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v3_0) = v0 c
          ∧ r.2.mem ((c.tc : Thread Cert.AdamOutIdeal.nD Cert.AdamOutIdeal.τ).loc Cert.AdamOutIdeal.main_v3_1) = v1 c
          ∧ r.2.mem ((c.tc : Thread Cert.AdamOutIdeal.nD Cert.AdamOutIdeal.τ).loc Cert.AdamOutIdeal.main_v3_2) = v2 c
          ∧ r.2.mem ((c.tc : Thread Cert.AdamOutIdeal.nD Cert.AdamOutIdeal.τ).loc Cert.AdamOutIdeal.main_v3_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v27) = v0 c
          ∧ r.2.mem ((c.tc : Thread Cert.AdamOutRefIdeal.nD Cert.AdamOutRefIdeal.τ).loc Cert.AdamOutRefIdeal.main_v28) = v1 c
          ∧ r.2.mem ((c.tc : Thread Cert.AdamOutRefIdeal.nD Cert.AdamOutRefIdeal.τ).loc Cert.AdamOutRefIdeal.main_v29) = v2 c
          ∧ r.2.mem ((c.tc : Thread Cert.AdamOutRefIdeal.nD Cert.AdamOutRefIdeal.τ).loc Cert.AdamOutRefIdeal.main_v30) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v3_0)) (v1 : (c : Dev Cert.AdamUpIdeal.nD) → Buf (Elt Ideal) ((c.tc : Thread Cert.AdamUpIdeal.nD Cert.AdamUpIdeal.τ).loc Cert.AdamUpIdeal.main_v3_1)) (v2 : (c : Dev Cert.AdamUpIdeal.nD) → Buf (Elt Ideal) ((c.tc : Thread Cert.AdamUpIdeal.nD Cert.AdamUpIdeal.τ).loc Cert.AdamUpIdeal.main_v3_2)) (v3 : (c : Dev Cert.AdamUpIdeal.nD) → Buf (Elt Ideal) ((c.tc : Thread Cert.AdamUpIdeal.nD Cert.AdamUpIdeal.τ).loc Cert.AdamUpIdeal.main_v3_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v3_0) = v0 c
          ∧ r.2.mem ((c.tc : Thread Cert.AdamUpIdeal.nD Cert.AdamUpIdeal.τ).loc Cert.AdamUpIdeal.main_v3_1) = v1 c
          ∧ r.2.mem ((c.tc : Thread Cert.AdamUpIdeal.nD Cert.AdamUpIdeal.τ).loc Cert.AdamUpIdeal.main_v3_2) = v2 c
          ∧ r.2.mem ((c.tc : Thread Cert.AdamUpIdeal.nD Cert.AdamUpIdeal.τ).loc Cert.AdamUpIdeal.main_v3_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v27) = v0 c
          ∧ r.2.mem ((c.tc : Thread Cert.AdamUpRefIdeal.nD Cert.AdamUpRefIdeal.τ).loc Cert.AdamUpRefIdeal.main_v28) = v1 c
          ∧ r.2.mem ((c.tc : Thread Cert.AdamUpRefIdeal.nD Cert.AdamUpRefIdeal.τ).loc Cert.AdamUpRefIdeal.main_v29) = v2 c
          ∧ r.2.mem ((c.tc : Thread Cert.AdamUpRefIdeal.nD Cert.AdamUpRefIdeal.τ).loc Cert.AdamUpRefIdeal.main_v30) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v3_0)) (v1 : (c : Dev Cert.AdamDownIdeal.nD) → Buf (Elt Ideal) ((c.tc : Thread Cert.AdamDownIdeal.nD Cert.AdamDownIdeal.τ).loc Cert.AdamDownIdeal.main_v3_1)) (v2 : (c : Dev Cert.AdamDownIdeal.nD) → Buf (Elt Ideal) ((c.tc : Thread Cert.AdamDownIdeal.nD Cert.AdamDownIdeal.τ).loc Cert.AdamDownIdeal.main_v3_2)) (v3 : (c : Dev Cert.AdamDownIdeal.nD) → Buf (Elt Ideal) ((c.tc : Thread Cert.AdamDownIdeal.nD Cert.AdamDownIdeal.τ).loc Cert.AdamDownIdeal.main_v3_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v3_0) = v0 c
          ∧ r.2.mem ((c.tc : Thread Cert.AdamDownIdeal.nD Cert.AdamDownIdeal.τ).loc Cert.AdamDownIdeal.main_v3_1) = v1 c
          ∧ r.2.mem ((c.tc : Thread Cert.AdamDownIdeal.nD Cert.AdamDownIdeal.τ).loc Cert.AdamDownIdeal.main_v3_2) = v2 c
          ∧ r.2.mem ((c.tc : Thread Cert.AdamDownIdeal.nD Cert.AdamDownIdeal.τ).loc Cert.AdamDownIdeal.main_v3_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v27) = v0 c
          ∧ r.2.mem ((c.tc : Thread Cert.AdamDownRefIdeal.nD Cert.AdamDownRefIdeal.τ).loc Cert.AdamDownRefIdeal.main_v28) = v1 c
          ∧ r.2.mem ((c.tc : Thread Cert.AdamDownRefIdeal.nD Cert.AdamDownRefIdeal.τ).loc Cert.AdamDownRefIdeal.main_v29) = v2 c
          ∧ r.2.mem ((c.tc : Thread Cert.AdamDownRefIdeal.nD Cert.AdamDownRefIdeal.τ).loc Cert.AdamDownRefIdeal.main_v30) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v3_0)) (v1 : (c : Dev Cert.AdamConvIdeal.nD) → Buf (Elt Ideal) ((c.tc : Thread Cert.AdamConvIdeal.nD Cert.AdamConvIdeal.τ).loc Cert.AdamConvIdeal.main_v3_1)) (v2 : (c : Dev Cert.AdamConvIdeal.nD) → Buf (Elt Ideal) ((c.tc : Thread Cert.AdamConvIdeal.nD Cert.AdamConvIdeal.τ).loc Cert.AdamConvIdeal.main_v3_2)) (v3 : (c : Dev Cert.AdamConvIdeal.nD) → Buf (Elt Ideal) ((c.tc : Thread Cert.AdamConvIdeal.nD Cert.AdamConvIdeal.τ).loc Cert.AdamConvIdeal.main_v3_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v3_0) = v0 c
          ∧ r.2.mem ((c.tc : Thread Cert.AdamConvIdeal.nD Cert.AdamConvIdeal.τ).loc Cert.AdamConvIdeal.main_v3_1) = v1 c
          ∧ r.2.mem ((c.tc : Thread Cert.AdamConvIdeal.nD Cert.AdamConvIdeal.τ).loc Cert.AdamConvIdeal.main_v3_2) = v2 c
          ∧ r.2.mem ((c.tc : Thread Cert.AdamConvIdeal.nD Cert.AdamConvIdeal.τ).loc Cert.AdamConvIdeal.main_v3_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v27) = v0 c
          ∧ r.2.mem ((c.tc : Thread Cert.AdamConvRefIdeal.nD Cert.AdamConvRefIdeal.τ).loc Cert.AdamConvRefIdeal.main_v28) = v1 c
          ∧ r.2.mem ((c.tc : Thread Cert.AdamConvRefIdeal.nD Cert.AdamConvRefIdeal.τ).loc Cert.AdamConvRefIdeal.main_v29) = v2 c
          ∧ r.2.mem ((c.tc : Thread Cert.AdamConvRefIdeal.nD Cert.AdamConvRefIdeal.τ).loc Cert.AdamConvRefIdeal.main_v30) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamFfn_AdamFfnIdeal : Prop :=
  True

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)) →
    ∃ (v0 : (c : Dev Cert.AdamFfnIdeal.nD) → Buf (Elt Ideal) ((c.tc : Thread Cert.AdamFfnIdeal.nD Cert.AdamFfnIdeal.τ).loc Cert.AdamFfnIdeal.main_v3_0)) (v1 : (c : Dev Cert.AdamFfnIdeal.nD) → Buf (Elt Ideal) ((c.tc : Thread Cert.AdamFfnIdeal.nD Cert.AdamFfnIdeal.τ).loc Cert.AdamFfnIdeal.main_v3_1)) (v2 : (c : Dev Cert.AdamFfnIdeal.nD) → Buf (Elt Ideal) ((c.tc : Thread Cert.AdamFfnIdeal.nD Cert.AdamFfnIdeal.τ).loc Cert.AdamFfnIdeal.main_v3_2)) (v3 : (c : Dev Cert.AdamFfnIdeal.nD) → Buf (Elt Ideal) ((c.tc : Thread Cert.AdamFfnIdeal.nD Cert.AdamFfnIdeal.τ).loc Cert.AdamFfnIdeal.main_v3_3)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v3_0) = v0 c
          ∧ r.2.mem ((c.tc : Thread Cert.AdamFfnIdeal.nD Cert.AdamFfnIdeal.τ).loc Cert.AdamFfnIdeal.main_v3_1) = v1 c
          ∧ r.2.mem ((c.tc : Thread Cert.AdamFfnIdeal.nD Cert.AdamFfnIdeal.τ).loc Cert.AdamFfnIdeal.main_v3_2) = v2 c
          ∧ r.2.mem ((c.tc : Thread Cert.AdamFfnIdeal.nD Cert.AdamFfnIdeal.τ).loc Cert.AdamFfnIdeal.main_v3_3) = v3 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v27) = v0 c
          ∧ r.2.mem ((c.tc : Thread Cert.AdamFfnRefIdeal.nD Cert.AdamFfnRefIdeal.τ).loc Cert.AdamFfnRefIdeal.main_v28) = v1 c
          ∧ r.2.mem ((c.tc : Thread Cert.AdamFfnRefIdeal.nD Cert.AdamFfnRefIdeal.τ).loc Cert.AdamFfnRefIdeal.main_v29) = v2 c
          ∧ r.2.mem ((c.tc : Thread Cert.AdamFfnRefIdeal.nD Cert.AdamFfnRefIdeal.τ).loc Cert.AdamFfnRefIdeal.main_v30) = v3 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)
      ∧ m' ((c.tc : Thread Cert.AdamSmallRefIdeal.nD Cert.AdamSmallRefIdeal.τ).loc Cert.AdamSmallRefIdeal.main_arg37) = m ((c.tc : Thread Cert.AdamSmallIdeal.nD Cert.AdamSmallIdeal.τ).loc Cert.AdamSmallIdeal.main_arg37)
      ∧ m' ((c.tc : Thread Cert.AdamSmallRefIdeal.nD Cert.AdamSmallRefIdeal.τ).loc Cert.AdamSmallRefIdeal.main_arg38) = m ((c.tc : Thread Cert.AdamSmallIdeal.nD Cert.AdamSmallIdeal.τ).loc Cert.AdamSmallIdeal.main_arg38)
      ∧ m' ((c.tc : Thread Cert.AdamSmallRefIdeal.nD Cert.AdamSmallRefIdeal.τ).loc Cert.AdamSmallRefIdeal.main_arg39) = m ((c.tc : Thread Cert.AdamSmallIdeal.nD Cert.AdamSmallIdeal.τ).loc Cert.AdamSmallIdeal.main_arg39)
      ∧ m' ((c.tc : Thread Cert.AdamSmallRefIdeal.nD Cert.AdamSmallRefIdeal.τ).loc Cert.AdamSmallRefIdeal.main_arg40) = m ((c.tc : Thread Cert.AdamSmallIdeal.nD Cert.AdamSmallIdeal.τ).loc Cert.AdamSmallIdeal.main_arg40)
      ∧ m' ((c.tc : Thread Cert.AdamSmallRefIdeal.nD Cert.AdamSmallRefIdeal.τ).loc Cert.AdamSmallRefIdeal.main_arg41) = m ((c.tc : Thread Cert.AdamSmallIdeal.nD Cert.AdamSmallIdeal.τ).loc Cert.AdamSmallIdeal.main_arg41)
      ∧ m' ((c.tc : Thread Cert.AdamSmallRefIdeal.nD Cert.AdamSmallRefIdeal.τ).loc Cert.AdamSmallRefIdeal.main_arg42) = m ((c.tc : Thread Cert.AdamSmallIdeal.nD Cert.AdamSmallIdeal.τ).loc Cert.AdamSmallIdeal.main_arg42)
      ∧ m' ((c.tc : Thread Cert.AdamSmallRefIdeal.nD Cert.AdamSmallRefIdeal.τ).loc Cert.AdamSmallRefIdeal.main_arg43) = m ((c.tc : Thread Cert.AdamSmallIdeal.nD Cert.AdamSmallIdeal.τ).loc Cert.AdamSmallIdeal.main_arg43)
      ∧ m' ((c.tc : Thread Cert.AdamSmallRefIdeal.nD Cert.AdamSmallRefIdeal.τ).loc Cert.AdamSmallRefIdeal.main_arg44) = m ((c.tc : Thread Cert.AdamSmallIdeal.nD Cert.AdamSmallIdeal.τ).loc Cert.AdamSmallIdeal.main_arg44)
      ∧ m' ((c.tc : Thread Cert.AdamSmallRefIdeal.nD Cert.AdamSmallRefIdeal.τ).loc Cert.AdamSmallRefIdeal.main_arg45) = m ((c.tc : Thread Cert.AdamSmallIdeal.nD Cert.AdamSmallIdeal.τ).loc Cert.AdamSmallIdeal.main_arg45)
      ∧ m' ((c.tc : Thread Cert.AdamSmallRefIdeal.nD Cert.AdamSmallRefIdeal.τ).loc Cert.AdamSmallRefIdeal.main_arg46) = m ((c.tc : Thread Cert.AdamSmallIdeal.nD Cert.AdamSmallIdeal.τ).loc Cert.AdamSmallIdeal.main_arg46)
      ∧ m' ((c.tc : Thread Cert.AdamSmallRefIdeal.nD Cert.AdamSmallRefIdeal.τ).loc Cert.AdamSmallRefIdeal.main_arg47) = m ((c.tc : Thread Cert.AdamSmallIdeal.nD Cert.AdamSmallIdeal.τ).loc Cert.AdamSmallIdeal.main_arg47)
      ∧ m' ((c.tc : Thread Cert.AdamSmallRefIdeal.nD Cert.AdamSmallRefIdeal.τ).loc Cert.AdamSmallRefIdeal.main_arg48) = m ((c.tc : Thread Cert.AdamSmallIdeal.nD Cert.AdamSmallIdeal.τ).loc Cert.AdamSmallIdeal.main_arg48)
      ∧ m' ((c.tc : Thread Cert.AdamSmallRefIdeal.nD Cert.AdamSmallRefIdeal.τ).loc Cert.AdamSmallRefIdeal.main_arg49) = m ((c.tc : Thread Cert.AdamSmallIdeal.nD Cert.AdamSmallIdeal.τ).loc Cert.AdamSmallIdeal.main_arg49)
      ∧ m' ((c.tc : Thread Cert.AdamSmallRefIdeal.nD Cert.AdamSmallRefIdeal.τ).loc Cert.AdamSmallRefIdeal.main_arg50) = m ((c.tc : Thread Cert.AdamSmallIdeal.nD Cert.AdamSmallIdeal.τ).loc Cert.AdamSmallIdeal.main_arg50)
      ∧ m' ((c.tc : Thread Cert.AdamSmallRefIdeal.nD Cert.AdamSmallRefIdeal.τ).loc Cert.AdamSmallRefIdeal.main_arg51) = m ((c.tc : Thread Cert.AdamSmallIdeal.nD Cert.AdamSmallIdeal.τ).loc Cert.AdamSmallIdeal.main_arg51)) →
    ∃ (v0 : (c : Dev Cert.AdamSmallIdeal.nD) → Buf (Elt Ideal) ((c.tc : Thread Cert.AdamSmallIdeal.nD Cert.AdamSmallIdeal.τ).loc Cert.AdamSmallIdeal.main_v114_0)) (v1 : (c : Dev Cert.AdamSmallIdeal.nD) → Buf (Elt Ideal) ((c.tc : Thread Cert.AdamSmallIdeal.nD Cert.AdamSmallIdeal.τ).loc Cert.AdamSmallIdeal.main_v114_1)) (v2 : (c : Dev Cert.AdamSmallIdeal.nD) → Buf (Elt Ideal) ((c.tc : Thread Cert.AdamSmallIdeal.nD Cert.AdamSmallIdeal.τ).loc Cert.AdamSmallIdeal.main_v114_2)) (v3 : (c : Dev Cert.AdamSmallIdeal.nD) → Buf (Elt Ideal) ((c.tc : Thread Cert.AdamSmallIdeal.nD Cert.AdamSmallIdeal.τ).loc Cert.AdamSmallIdeal.main_v114_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v114_0) = v0 c
          ∧ r.2.mem ((c.tc : Thread Cert.AdamSmallIdeal.nD Cert.AdamSmallIdeal.τ).loc Cert.AdamSmallIdeal.main_v114_1) = v1 c
          ∧ r.2.mem ((c.tc : Thread Cert.AdamSmallIdeal.nD Cert.AdamSmallIdeal.τ).loc Cert.AdamSmallIdeal.main_v114_2) = v2 c
          ∧ r.2.mem ((c.tc : Thread Cert.AdamSmallIdeal.nD Cert.AdamSmallIdeal.τ).loc Cert.AdamSmallIdeal.main_v114_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
          ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
          ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
          ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
          ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
          ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
          ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
          ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
          ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
          ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
          ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
          ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
          ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v114) = v0 c
          ∧ r.2.mem ((c.tc : Thread Cert.AdamSmallRefIdeal.nD Cert.AdamSmallRefIdeal.τ).loc Cert.AdamSmallRefIdeal.main_v138) = v1 c
          ∧ r.2.mem ((c.tc : Thread Cert.AdamSmallRefIdeal.nD Cert.AdamSmallRefIdeal.τ).loc Cert.AdamSmallRefIdeal.main_v119) = v2 c
          ∧ r.2.mem ((c.tc : Thread Cert.AdamSmallRefIdeal.nD Cert.AdamSmallRefIdeal.τ).loc Cert.AdamSmallRefIdeal.main_v125) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36)
          ∧ r.2.mem ((c.tc : Thread Cert.AdamSmallRefIdeal.nD Cert.AdamSmallRefIdeal.τ).loc Cert.AdamSmallRefIdeal.main_arg37) = m' ((c.tc : Thread Cert.AdamSmallRefIdeal.nD Cert.AdamSmallRefIdeal.τ).loc Cert.AdamSmallRefIdeal.main_arg37)
          ∧ r.2.mem ((c.tc : Thread Cert.AdamSmallRefIdeal.nD Cert.AdamSmallRefIdeal.τ).loc Cert.AdamSmallRefIdeal.main_arg38) = m' ((c.tc : Thread Cert.AdamSmallRefIdeal.nD Cert.AdamSmallRefIdeal.τ).loc Cert.AdamSmallRefIdeal.main_arg38)
          ∧ r.2.mem ((c.tc : Thread Cert.AdamSmallRefIdeal.nD Cert.AdamSmallRefIdeal.τ).loc Cert.AdamSmallRefIdeal.main_arg39) = m' ((c.tc : Thread Cert.AdamSmallRefIdeal.nD Cert.AdamSmallRefIdeal.τ).loc Cert.AdamSmallRefIdeal.main_arg39)
          ∧ r.2.mem ((c.tc : Thread Cert.AdamSmallRefIdeal.nD Cert.AdamSmallRefIdeal.τ).loc Cert.AdamSmallRefIdeal.main_arg40) = m' ((c.tc : Thread Cert.AdamSmallRefIdeal.nD Cert.AdamSmallRefIdeal.τ).loc Cert.AdamSmallRefIdeal.main_arg40)
          ∧ r.2.mem ((c.tc : Thread Cert.AdamSmallRefIdeal.nD Cert.AdamSmallRefIdeal.τ).loc Cert.AdamSmallRefIdeal.main_arg41) = m' ((c.tc : Thread Cert.AdamSmallRefIdeal.nD Cert.AdamSmallRefIdeal.τ).loc Cert.AdamSmallRefIdeal.main_arg41)
          ∧ r.2.mem ((c.tc : Thread Cert.AdamSmallRefIdeal.nD Cert.AdamSmallRefIdeal.τ).loc Cert.AdamSmallRefIdeal.main_arg42) = m' ((c.tc : Thread Cert.AdamSmallRefIdeal.nD Cert.AdamSmallRefIdeal.τ).loc Cert.AdamSmallRefIdeal.main_arg42)
          ∧ r.2.mem ((c.tc : Thread Cert.AdamSmallRefIdeal.nD Cert.AdamSmallRefIdeal.τ).loc Cert.AdamSmallRefIdeal.main_arg43) = m' ((c.tc : Thread Cert.AdamSmallRefIdeal.nD Cert.AdamSmallRefIdeal.τ).loc Cert.AdamSmallRefIdeal.main_arg43)
          ∧ r.2.mem ((c.tc : Thread Cert.AdamSmallRefIdeal.nD Cert.AdamSmallRefIdeal.τ).loc Cert.AdamSmallRefIdeal.main_arg44) = m' ((c.tc : Thread Cert.AdamSmallRefIdeal.nD Cert.AdamSmallRefIdeal.τ).loc Cert.AdamSmallRefIdeal.main_arg44)
          ∧ r.2.mem ((c.tc : Thread Cert.AdamSmallRefIdeal.nD Cert.AdamSmallRefIdeal.τ).loc Cert.AdamSmallRefIdeal.main_arg45) = m' ((c.tc : Thread Cert.AdamSmallRefIdeal.nD Cert.AdamSmallRefIdeal.τ).loc Cert.AdamSmallRefIdeal.main_arg45)
          ∧ r.2.mem ((c.tc : Thread Cert.AdamSmallRefIdeal.nD Cert.AdamSmallRefIdeal.τ).loc Cert.AdamSmallRefIdeal.main_arg46) = m' ((c.tc : Thread Cert.AdamSmallRefIdeal.nD Cert.AdamSmallRefIdeal.τ).loc Cert.AdamSmallRefIdeal.main_arg46)
          ∧ r.2.mem ((c.tc : Thread Cert.AdamSmallRefIdeal.nD Cert.AdamSmallRefIdeal.τ).loc Cert.AdamSmallRefIdeal.main_arg47) = m' ((c.tc : Thread Cert.AdamSmallRefIdeal.nD Cert.AdamSmallRefIdeal.τ).loc Cert.AdamSmallRefIdeal.main_arg47)
          ∧ r.2.mem ((c.tc : Thread Cert.AdamSmallRefIdeal.nD Cert.AdamSmallRefIdeal.τ).loc Cert.AdamSmallRefIdeal.main_arg48) = m' ((c.tc : Thread Cert.AdamSmallRefIdeal.nD Cert.AdamSmallRefIdeal.τ).loc Cert.AdamSmallRefIdeal.main_arg48)
          ∧ r.2.mem ((c.tc : Thread Cert.AdamSmallRefIdeal.nD Cert.AdamSmallRefIdeal.τ).loc Cert.AdamSmallRefIdeal.main_arg49) = m' ((c.tc : Thread Cert.AdamSmallRefIdeal.nD Cert.AdamSmallRefIdeal.τ).loc Cert.AdamSmallRefIdeal.main_arg49)
          ∧ r.2.mem ((c.tc : Thread Cert.AdamSmallRefIdeal.nD Cert.AdamSmallRefIdeal.τ).loc Cert.AdamSmallRefIdeal.main_arg50) = m' ((c.tc : Thread Cert.AdamSmallRefIdeal.nD Cert.AdamSmallRefIdeal.τ).loc Cert.AdamSmallRefIdeal.main_arg50)
          ∧ r.2.mem ((c.tc : Thread Cert.AdamSmallRefIdeal.nD Cert.AdamSmallRefIdeal.τ).loc Cert.AdamSmallRefIdeal.main_arg51) = m' ((c.tc : Thread Cert.AdamSmallRefIdeal.nD Cert.AdamSmallRefIdeal.τ).loc Cert.AdamSmallRefIdeal.main_arg51))

def Claim : Prop :=
  ∃ (hKernel : Cert.Kernel.Facts) (hKernelIdeal : Cert.KernelIdeal.Facts) (hReferenceIdeal : Cert.ReferenceIdeal.Facts) (hDwUp : Cert.DwUp.Facts) (hDwUpIdeal : Cert.DwUpIdeal.Facts) (hDwUpRefIdeal : Cert.DwUpRefIdeal.Facts) (hDxUp : Cert.DxUp.Facts) (hDxUpIdeal : Cert.DxUpIdeal.Facts) (hDxUpRefIdeal : Cert.DxUpRefIdeal.Facts) (hDwDown : Cert.DwDown.Facts) (hDwDownIdeal : Cert.DwDownIdeal.Facts) (hDwDownRefIdeal : Cert.DwDownRefIdeal.Facts) (hDxDown : Cert.DxDown.Facts) (hDxDownIdeal : Cert.DxDownIdeal.Facts) (hDxDownRefIdeal : Cert.DxDownRefIdeal.Facts) (hDwIn : Cert.DwIn.Facts) (hDwInIdeal : Cert.DwInIdeal.Facts) (hDwInRefIdeal : Cert.DwInRefIdeal.Facts) (hDxIn : Cert.DxIn.Facts) (hDxInIdeal : Cert.DxInIdeal.Facts) (hDxInRefIdeal : Cert.DxInRefIdeal.Facts) (hDwOutAttn : Cert.DwOutAttn.Facts) (hDwOutAttnIdeal : Cert.DwOutAttnIdeal.Facts) (hDwOutAttnRefIdeal : Cert.DwOutAttnRefIdeal.Facts) (hDwOutConv : Cert.DwOutConv.Facts) (hDwOutConvIdeal : Cert.DwOutConvIdeal.Facts) (hDwOutConvRefIdeal : Cert.DwOutConvRefIdeal.Facts) (hDxOut : Cert.DxOut.Facts) (hDxOutIdeal : Cert.DxOutIdeal.Facts) (hDxOutRefIdeal : Cert.DxOutRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamConv : Cert.AdamConv.Facts) (hAdamConvIdeal : Cert.AdamConvIdeal.Facts) (hAdamConvRefIdeal : Cert.AdamConvRefIdeal.Facts) (hAdamFfn : Cert.AdamFfn.Facts) (hAdamFfnIdeal : Cert.AdamFfnIdeal.Facts) (hAdamFfnRefIdeal : Cert.AdamFfnRefIdeal.Facts) (hAdamSmall : Cert.AdamSmall.Facts) (hAdamSmallIdeal : Cert.AdamSmallIdeal.Facts) (hAdamSmallRefIdeal : Cert.AdamSmallRefIdeal.Facts),
    quiescent_Kernel (hKernel := hKernel)
    ∧ quiescent_KernelIdeal (hKernelIdeal := hKernelIdeal)
    ∧ quiescent_ReferenceIdeal (hReferenceIdeal := hReferenceIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DxUp (hDxUp := hDxUp)
    ∧ quiescent_DxUpIdeal (hDxUpIdeal := hDxUpIdeal)
    ∧ quiescent_DxUpRefIdeal (hDxUpRefIdeal := hDxUpRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DxDown (hDxDown := hDxDown)
    ∧ quiescent_DxDownIdeal (hDxDownIdeal := hDxDownIdeal)
    ∧ quiescent_DxDownRefIdeal (hDxDownRefIdeal := hDxDownRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DxIn (hDxIn := hDxIn)
    ∧ quiescent_DxInIdeal (hDxInIdeal := hDxInIdeal)
    ∧ quiescent_DxInRefIdeal (hDxInRefIdeal := hDxInRefIdeal)
    ∧ quiescent_DwOutAttn (hDwOutAttn := hDwOutAttn)
    ∧ quiescent_DwOutAttnIdeal (hDwOutAttnIdeal := hDwOutAttnIdeal)
    ∧ quiescent_DwOutAttnRefIdeal (hDwOutAttnRefIdeal := hDwOutAttnRefIdeal)
    ∧ quiescent_DwOutConv (hDwOutConv := hDwOutConv)
    ∧ quiescent_DwOutConvIdeal (hDwOutConvIdeal := hDwOutConvIdeal)
    ∧ quiescent_DwOutConvRefIdeal (hDwOutConvRefIdeal := hDwOutConvRefIdeal)
    ∧ quiescent_DxOut (hDxOut := hDxOut)
    ∧ quiescent_DxOutIdeal (hDxOutIdeal := hDxOutIdeal)
    ∧ quiescent_DxOutRefIdeal (hDxOutRefIdeal := hDxOutRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal (hKernelIdeal := hKernelIdeal) (hReferenceIdeal := hReferenceIdeal)
    ∧ preserves_DwUp_DwUpIdeal
    ∧ algebraic_DwUpIdeal_DwUpRefIdeal (hDwUpIdeal := hDwUpIdeal) (hDwUpRefIdeal := hDwUpRefIdeal)
    ∧ preserves_DxUp_DxUpIdeal
    ∧ algebraic_DxUpIdeal_DxUpRefIdeal (hDxUpIdeal := hDxUpIdeal) (hDxUpRefIdeal := hDxUpRefIdeal)
    ∧ preserves_DwDown_DwDownIdeal
    ∧ algebraic_DwDownIdeal_DwDownRefIdeal (hDwDownIdeal := hDwDownIdeal) (hDwDownRefIdeal := hDwDownRefIdeal)
    ∧ preserves_DxDown_DxDownIdeal
    ∧ algebraic_DxDownIdeal_DxDownRefIdeal (hDxDownIdeal := hDxDownIdeal) (hDxDownRefIdeal := hDxDownRefIdeal)
    ∧ preserves_DwIn_DwInIdeal
    ∧ algebraic_DwInIdeal_DwInRefIdeal (hDwInIdeal := hDwInIdeal) (hDwInRefIdeal := hDwInRefIdeal)
    ∧ preserves_DxIn_DxInIdeal
    ∧ algebraic_DxInIdeal_DxInRefIdeal (hDxInIdeal := hDxInIdeal) (hDxInRefIdeal := hDxInRefIdeal)
    ∧ preserves_DwOutAttn_DwOutAttnIdeal
    ∧ algebraic_DwOutAttnIdeal_DwOutAttnRefIdeal (hDwOutAttnIdeal := hDwOutAttnIdeal) (hDwOutAttnRefIdeal := hDwOutAttnRefIdeal)
    ∧ preserves_DwOutConv_DwOutConvIdeal
    ∧ algebraic_DwOutConvIdeal_DwOutConvRefIdeal (hDwOutConvIdeal := hDwOutConvIdeal) (hDwOutConvRefIdeal := hDwOutConvRefIdeal)
    ∧ preserves_DxOut_DxOutIdeal
    ∧ algebraic_DxOutIdeal_DxOutRefIdeal (hDxOutIdeal := hDxOutIdeal) (hDxOutRefIdeal := hDxOutRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Kernel.lean ====
abbrev S16384x1536 : Shape := ⟨2, ![16384, 1536]⟩
abbrev S16384x512 : Shape := ⟨2, ![16384, 512]⟩
abbrev S16384x8 : Shape := ⟨2, ![16384, 8]⟩
abbrev S8x128x256 : Shape := ⟨3, ![8, 128, 256]⟩
abbrev S128x256 : Shape := ⟨2, ![128, 256]⟩
abbrev S_ : Shape := ⟨0, ![]⟩
abbrev S16384x8x64 : Shape := ⟨3, ![16384, 8, 64]⟩
abbrev S1024x128 : Shape := ⟨2, ![1024, 128]⟩
abbrev S128x128 : Shape := ⟨2, ![128, 128]⟩
abbrev S2x128x256 : Shape := ⟨3, ![2, 128, 256]⟩
abbrev S2x2048x128 : Shape := ⟨3, ![2, 2048, 128]⟩
abbrev S256x128 : Shape := ⟨2, ![256, 128]⟩
abbrev S1x128x256 : Shape := ⟨3, ![1, 128, 256]⟩
abbrev S128x1 : Shape := ⟨2, ![128, 1]⟩
abbrev S1x128x128 : Shape := ⟨3, ![1, 128, 128]⟩
abbrev S1x256x128 : Shape := ⟨3, ![1, 256, 128]⟩

abbrev nBuf : Space → Nat
  | .hbm => 31
  | .vmem => 36
  | .smem => 0
  | _ => 0

abbrev bufTy : (tb : Table) → Fin (tcTables nBuf tb) → BufTy
  | .hbm, ⟨0, _⟩ => ⟨S16384x1536, .bf16⟩
  | .hbm, ⟨1, _⟩ => ⟨S16384x512, .bf16⟩
  | .hbm, ⟨2, _⟩ => ⟨S16384x8, .f32⟩
  | .hbm, ⟨3, _⟩ => ⟨S16384x8, .f32⟩
  | .hbm, ⟨4, _⟩ => ⟨S8x128x256, .f32⟩
  | .hbm, ⟨5, _⟩ => ⟨S128x256, .i32⟩
  | .hbm, ⟨6, _⟩ => ⟨S128x256, .i32⟩
  | .hbm, ⟨7, _⟩ => ⟨S_, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S_, .i32⟩
  | .hbm, ⟨12, _⟩ => ⟨S128x256, .i32⟩
  | .hbm, ⟨13, _⟩ => ⟨S128x256, .i1⟩
  | .hbm, ⟨14, _⟩ => ⟨S_, .i32⟩
  | .hbm, ⟨15, _⟩ => ⟨S128x256, .i32⟩
  | .hbm, ⟨16, _⟩ => ⟨S128x256, .i1⟩
  | .hbm, ⟨17, _⟩ => ⟨S128x256, .i1⟩
  | .hbm, ⟨18, _⟩ => ⟨S_, .f32⟩
  | .hbm, ⟨19, _⟩ => ⟨S_, .f32⟩
  | .hbm, ⟨20, _⟩ => ⟨S8x128x256, .i1⟩
  | .hbm, ⟨21, _⟩ => ⟨S8x128x256, .f32⟩
  | .hbm, ⟨22, _⟩ => ⟨S8x128x256, .f32⟩
  | .hbm, ⟨23, _⟩ => ⟨S16384x8x64, .f32⟩
  | .hbm, ⟨24, _⟩ => ⟨S16384x512, .f32⟩
  | .hbm, ⟨25, _⟩ => ⟨S16384x8x64, .f32⟩
  | .hbm, ⟨26, _⟩ => ⟨S16384x512, .f32⟩
  | .hbm, ⟨27, _⟩ => ⟨S16384x512, .bf16⟩
  | .hbm, ⟨28, _⟩ => ⟨S16384x512, .bf16⟩
  | .hbm, ⟨29, _⟩ => ⟨S16384x512, .bf16⟩
  | .hbm, ⟨30, _⟩ => ⟨S8x128x256, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S128x128, .bf16⟩
  | .local _ .vmem, ⟨5, _⟩ => ⟨S128x128, .bf16⟩
  | .local _ .vmem, ⟨6, _⟩ => ⟨S1024x128, .bf16⟩
  | .local _ .vmem, ⟨7, _⟩ => ⟨S1024x128, .bf16⟩
  | .local _ .vmem, ⟨8, _⟩ => ⟨S128x128, .bf16⟩
  | .local _ .vmem, ⟨9, _⟩ => ⟨S128x128, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S128x128, .bf16⟩
  | .local _ .vmem, ⟨17, _⟩ => ⟨S128x128, .bf16⟩
  | .local _ .vmem, ⟨18, _⟩ => ⟨S128x128, .bf16⟩
  | .local _ .vmem, ⟨19, _⟩ => ⟨S128x128, .bf16⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S2x128x256, .f32⟩
  | .local _ .vmem, ⟨25, _⟩ => ⟨S2x128x256, .f32⟩
  | .local _ .vmem, ⟨26, _⟩ => ⟨S1024x128, .bf16⟩
  | .local _ .vmem, ⟨27, _⟩ => ⟨S1024x128, .bf16⟩
  | .local _ .vmem, ⟨28, _⟩ => ⟨S1024x128, .bf16⟩
  | .local _ .vmem, ⟨29, _⟩ => ⟨S1024x128, .bf16⟩
  | .local _ .vmem, ⟨30, _⟩ => ⟨S1024x128, .bf16⟩
  | .local _ .vmem, ⟨31, _⟩ => ⟨S1024x128, .bf16⟩
  | .local _ .vmem, ⟨32, _⟩ => ⟨S2x128x256, .f32⟩
  | .local _ .vmem, ⟨33, _⟩ => ⟨S2x128x256, .f32⟩
  | .local _ .vmem, ⟨34, _⟩ => ⟨S2x2048x128, .bf16⟩
  | .local _ .vmem, ⟨35, _⟩ => ⟨S2x2048x128, .bf16⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v15_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c8_i32_0 : BitVec 32 := 8#32
  let v3 : BitVec 32 := Scalar.addi c8_i32_0 arg0
  let c0_i32_1 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let v3 : BitVec 32 := Scalar.addi c0_i32 arg0
  let c0_i32_0 : BitVec 32 := 0#32
  ![v2.toNat, v3.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let v3 : BitVec 32 := Scalar.addi c0_i32 arg0
  let c0_i32_0 : BitVec 32 := 0#32
  ![v2.toNat, v3.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let v3 : BitVec 32 := Scalar.addi c0_i32 arg0
  let c0_i32_0 : BitVec 32 := 0#32
  ![v2.toNat, v3.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let v3 : BitVec 32 := Scalar.addi c0_i32 arg0
  let c0_i32_0 : BitVec 32 := 0#32
  ![v2.toNat, v3.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S2x128x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== KernelIdeal.lean ====
abbrev S16384x1536 : Shape := ⟨2, ![16384, 1536]⟩
abbrev S16384x512 : Shape := ⟨2, ![16384, 512]⟩
abbrev S16384x8 : Shape := ⟨2, ![16384, 8]⟩
abbrev S8x128x256 : Shape := ⟨3, ![8, 128, 256]⟩
abbrev S128x256 : Shape := ⟨2, ![128, 256]⟩
abbrev S_ : Shape := ⟨0, ![]⟩
abbrev S16384x8x64 : Shape := ⟨3, ![16384, 8, 64]⟩
abbrev S1024x128 : Shape := ⟨2, ![1024, 128]⟩
abbrev S128x128 : Shape := ⟨2, ![128, 128]⟩
abbrev S2x128x256 : Shape := ⟨3, ![2, 128, 256]⟩
abbrev S2x2048x128 : Shape := ⟨3, ![2, 2048, 128]⟩
abbrev S256x128 : Shape := ⟨2, ![256, 128]⟩
abbrev S1x128x256 : Shape := ⟨3, ![1, 128, 256]⟩
abbrev S128x1 : Shape := ⟨2, ![128, 1]⟩
abbrev S1x128x128 : Shape := ⟨3, ![1, 128, 128]⟩
abbrev S1x256x128 : Shape := ⟨3, ![1, 256, 128]⟩

abbrev nBuf : Space → Nat
  | .hbm => 31
  | .vmem => 36
  | .smem => 0
  | _ => 0

abbrev bufTy : (tb : Table) → Fin (tcTables nBuf tb) → BufTy
  | .hbm, ⟨0, _⟩ => ⟨S16384x1536, .bf16⟩
  | .hbm, ⟨1, _⟩ => ⟨S16384x512, .bf16⟩
  | .hbm, ⟨2, _⟩ => ⟨S16384x8, .f32⟩
  | .hbm, ⟨3, _⟩ => ⟨S16384x8, .f32⟩
  | .hbm, ⟨4, _⟩ => ⟨S8x128x256, .f32⟩
  | .hbm, ⟨5, _⟩ => ⟨S128x256, .i32⟩
  | .hbm, ⟨6, _⟩ => ⟨S128x256, .i32⟩
  | .hbm, ⟨7, _⟩ => ⟨S_, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S_, .i32⟩
  | .hbm, ⟨12, _⟩ => ⟨S128x256, .i32⟩
  | .hbm, ⟨13, _⟩ => ⟨S128x256, .i1⟩
  | .hbm, ⟨14, _⟩ => ⟨S_, .i32⟩
  | .hbm, ⟨15, _⟩ => ⟨S128x256, .i32⟩
  | .hbm, ⟨16, _⟩ => ⟨S128x256, .i1⟩
  | .hbm, ⟨17, _⟩ => ⟨S128x256, .i1⟩
  | .hbm, ⟨18, _⟩ => ⟨S_, .f32⟩
  | .hbm, ⟨19, _⟩ => ⟨S_, .f32⟩
  | .hbm, ⟨20, _⟩ => ⟨S8x128x256, .i1⟩
  | .hbm, ⟨21, _⟩ => ⟨S8x128x256, .f32⟩
  | .hbm, ⟨22, _⟩ => ⟨S8x128x256, .f32⟩
  | .hbm, ⟨23, _⟩ => ⟨S16384x8x64, .f32⟩
  | .hbm, ⟨24, _⟩ => ⟨S16384x512, .f32⟩
  | .hbm, ⟨25, _⟩ => ⟨S16384x8x64, .f32⟩
  | .hbm, ⟨26, _⟩ => ⟨S16384x512, .f32⟩
  | .hbm, ⟨27, _⟩ => ⟨S16384x512, .bf16⟩
  | .hbm, ⟨28, _⟩ => ⟨S16384x512, .bf16⟩
  | .hbm, ⟨29, _⟩ => ⟨S16384x512, .bf16⟩
  | .hbm, ⟨30, _⟩ => ⟨S8x128x256, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S128x128, .bf16⟩
  | .local _ .vmem, ⟨5, _⟩ => ⟨S128x128, .bf16⟩
  | .local _ .vmem, ⟨6, _⟩ => ⟨S1024x128, .bf16⟩
  | .local _ .vmem, ⟨7, _⟩ => ⟨S1024x128, .bf16⟩
  | .local _ .vmem, ⟨8, _⟩ => ⟨S128x128, .bf16⟩
  | .local _ .vmem, ⟨9, _⟩ => ⟨S128x128, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S128x128, .bf16⟩
  | .local _ .vmem, ⟨17, _⟩ => ⟨S128x128, .bf16⟩
  | .local _ .vmem, ⟨18, _⟩ => ⟨S128x128, .bf16⟩
  | .local _ .vmem, ⟨19, _⟩ => ⟨S128x128, .bf16⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S2x128x256, .f32⟩
  | .local _ .vmem, ⟨25, _⟩ => ⟨S2x128x256, .f32⟩
  | .local _ .vmem, ⟨26, _⟩ => ⟨S1024x128, .bf16⟩
  | .local _ .vmem, ⟨27, _⟩ => ⟨S1024x128, .bf16⟩
  | .local _ .vmem, ⟨28, _⟩ => ⟨S1024x128, .bf16⟩
  | .local _ .vmem, ⟨29, _⟩ => ⟨S1024x128, .bf16⟩
  | .local _ .vmem, ⟨30, _⟩ => ⟨S1024x128, .bf16⟩
  | .local _ .vmem, ⟨31, _⟩ => ⟨S1024x128, .bf16⟩
  | .local _ .vmem, ⟨32, _⟩ => ⟨S2x128x256, .f32⟩
  | .local _ .vmem, ⟨33, _⟩ => ⟨S2x128x256, .f32⟩
  | .local _ .vmem, ⟨34, _⟩ => ⟨S2x2048x128, .bf16⟩
  | .local _ .vmem, ⟨35, _⟩ => ⟨S2x2048x128, .bf16⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v15_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F] [Named F]

def κ : String → Option EReal := fun
  | "mask" => some ⊥
  | _ => none

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c8_i32_0 : BitVec 32 := 8#32
  let v3 : BitVec 32 := Scalar.addi c8_i32_0 arg0
  let c0_i32_1 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let v3 : BitVec 32 := Scalar.addi c0_i32 arg0
  let c0_i32_0 : BitVec 32 := 0#32
  ![v2.toNat, v3.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let v3 : BitVec 32 := Scalar.addi c0_i32 arg0
  let c0_i32_0 : BitVec 32 := 0#32
  ![v2.toNat, v3.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let v3 : BitVec 32 := Scalar.addi c0_i32 arg0
  let c0_i32_0 : BitVec 32 := 0#32
  ![v2.toNat, v3.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let v3 : BitVec 32 := Scalar.addi c0_i32 arg0
  let c0_i32_0 : BitVec 32 := 0#32
  ![v2.toNat, v3.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S2x128x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceIdeal.lean ====
abbrev S16384x1536 : Shape := ⟨2, ![16384, 1536]⟩
abbrev S16384x512 : Shape := ⟨2, ![16384, 512]⟩
abbrev S16384x8 : Shape := ⟨2, ![16384, 8]⟩
abbrev S8x128x256 : Shape := ⟨3, ![8, 128, 256]⟩
abbrev S128x128x8x64 : Shape := ⟨4, ![128, 128, 8, 64]⟩
abbrev S1x128x8x64 : Shape := ⟨4, ![1, 128, 8, 64]⟩
abbrev S_ : Shape := ⟨0, ![]⟩
abbrev S127x128x8x64 : Shape := ⟨4, ![127, 128, 8, 64]⟩
abbrev S128x256x8x64 : Shape := ⟨4, ![128, 256, 8, 64]⟩
abbrev S128x128x256 : Shape := ⟨3, ![128, 128, 256]⟩
abbrev S128x8x128x256 : Shape := ⟨4, ![128, 8, 128, 256]⟩
abbrev S1x8x128x256 : Shape := ⟨4, ![1, 8, 128, 256]⟩
abbrev S128x1x128x256 : Shape := ⟨4, ![128, 1, 128, 256]⟩
abbrev S128x128x8 : Shape := ⟨3, ![128, 128, 8]⟩
abbrev S128x8x128 : Shape := ⟨3, ![128, 8, 128]⟩
abbrev S128x8x128x1 : Shape := ⟨4, ![128, 8, 128, 1]⟩
abbrev S128x8x64x128 : Shape := ⟨4, ![128, 8, 64, 128]⟩
abbrev S128x8x64x256 : Shape := ⟨4, ![128, 8, 64, 256]⟩
abbrev S128x8x256x64 : Shape := ⟨4, ![128, 8, 256, 64]⟩
abbrev S128x8x128x64 : Shape := ⟨4, ![128, 8, 128, 64]⟩

abbrev nBuf : Space → Nat
  | .hbm => 122
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S16384x512, .bf16⟩
  | .hbm, ⟨2, _⟩ => ⟨S16384x8, .f32⟩
  | .hbm, ⟨3, _⟩ => ⟨S16384x8, .f32⟩
  | .hbm, ⟨4, _⟩ => ⟨S8x128x256, .f32⟩
  | .hbm, ⟨5, _⟩ => ⟨S16384x1536, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S128x128x8x64, .f32⟩
  | .hbm, ⟨10, _⟩ => ⟨S128x128x8x64, .f32⟩
  | .hbm, ⟨11, _⟩ => ⟨S1x128x8x64, .f32⟩
  | .hbm, ⟨12, _⟩ => ⟨S_, .f32⟩
  | .hbm, ⟨13, _⟩ => ⟨S1x128x8x64, .f32⟩
  | .hbm, ⟨14, _⟩ => ⟨S127x128x8x64, .f32⟩
  | .hbm, ⟨15, _⟩ => ⟨S128x128x8x64, .f32⟩
  | .hbm, ⟨16, _⟩ => ⟨S_, .f32⟩
  | .hbm, ⟨17, _⟩ => ⟨S1x128x8x64, .f32⟩
  | .hbm, ⟨18, _⟩ => ⟨S128x256x8x64, .f32⟩
  | .hbm, ⟨19, _⟩ => ⟨S128x128x8x64, .f32⟩
  | .hbm, ⟨20, _⟩ => ⟨S1x128x8x64, .f32⟩
  | .hbm, ⟨21, _⟩ => ⟨S_, .f32⟩
  | .hbm, ⟨22, _⟩ => ⟨S1x128x8x64, .f32⟩
  | .hbm, ⟨23, _⟩ => ⟨S127x128x8x64, .f32⟩
  | .hbm, ⟨24, _⟩ => ⟨S128x128x8x64, .f32⟩
  | .hbm, ⟨25, _⟩ => ⟨S_, .f32⟩
  | .hbm, ⟨26, _⟩ => ⟨S1x128x8x64, .f32⟩
  | .hbm, ⟨27, _⟩ => ⟨S128x256x8x64, .f32⟩
  | .hbm, ⟨28, _⟩ => ⟨S128x128x256, .i32⟩
  | .hbm, ⟨29, _⟩ => ⟨S128x128x256, .i32⟩
  | .hbm, ⟨30, _⟩ => ⟨S128x128x256, .i32⟩
  | .hbm, ⟨31, _⟩ => ⟨S_, .i32⟩
  | .hbm, ⟨32, _⟩ => ⟨S128x128x256, .i32⟩
  | .hbm, ⟨33, _⟩ => ⟨S128x128x256, .i32⟩
  | .hbm, ⟨34, _⟩ => ⟨S128x128x256, .i32⟩
  | .hbm, ⟨35, _⟩ => ⟨S_, .i32⟩
  | .hbm, ⟨36, _⟩ => ⟨S128x128x256, .i32⟩
  | .hbm, ⟨37, _⟩ => ⟨S128x128x256, .i32⟩
  | .hbm, ⟨38, _⟩ => ⟨S128x128x256, .i32⟩
  | .hbm, ⟨39, _⟩ => ⟨S_, .i32⟩
  | .hbm, ⟨40, _⟩ => ⟨S128x128x256, .i32⟩
  | .hbm, ⟨41, _⟩ => ⟨S128x128x256, .i32⟩
  | .hbm, ⟨42, _⟩ => ⟨S_, .i32⟩
  | .hbm, ⟨43, _⟩ => ⟨S128x128x256, .i32⟩
  | .hbm, ⟨44, _⟩ => ⟨S128x128x256, .i1⟩
  | .hbm, ⟨45, _⟩ => ⟨S_, .i32⟩
  | .hbm, ⟨46, _⟩ => ⟨S128x128x256, .i32⟩
  | .hbm, ⟨47, _⟩ => ⟨S128x128x256, .i1⟩
  | .hbm, ⟨48, _⟩ => ⟨S128x128x256, .i1⟩
  | .hbm, ⟨49, _⟩ => ⟨S_, .i32⟩
  | .hbm, ⟨50, _⟩ => ⟨S128x128x256, .i32⟩
  | .hbm, ⟨51, _⟩ => ⟨S128x128x256, .i1⟩
  | .hbm, ⟨52, _⟩ => ⟨S128x128x256, .i1⟩
  | .hbm, ⟨53, _⟩ => ⟨S128x8x128x256, .f32⟩
  | .hbm, ⟨54, _⟩ => ⟨S1x8x128x256, .f32⟩
  | .hbm, ⟨55, _⟩ => ⟨S128x8x128x256, .f32⟩
  | .hbm, ⟨56, _⟩ => ⟨S128x8x128x256, .f32⟩
  | .hbm, ⟨57, _⟩ => ⟨S128x1x128x256, .i1⟩
  | .hbm, ⟨58, _⟩ => ⟨S_, .f32⟩
  | .hbm, ⟨59, _⟩ => ⟨S_, .f32⟩
  | .hbm, ⟨60, _⟩ => ⟨S128x8x128x256, .i1⟩
  | .hbm, ⟨61, _⟩ => ⟨S128x8x128x256, .f32⟩
  | .hbm, ⟨62, _⟩ => ⟨S128x8x128x256, .f32⟩
  | .hbm, ⟨63, _⟩ => ⟨S_, .f32⟩
  | .hbm, ⟨64, _⟩ => ⟨S128x8x128x256, .f32⟩
  | .hbm, ⟨65, _⟩ => ⟨S128x128x8, .f32⟩
  | .hbm, ⟨66, _⟩ => ⟨S128x8x128, .f32⟩
  | .hbm, ⟨67, _⟩ => ⟨S128x8x128x1, .f32⟩
  | .hbm, ⟨68, _⟩ => ⟨S128x8x128x256, .f32⟩
  | .hbm, ⟨69, _⟩ => ⟨S128x8x128x256, .f32⟩
  | .hbm, ⟨70, _⟩ => ⟨S128x8x128x256, .f32⟩
  | .hbm, ⟨71, _⟩ => ⟨S_, .f32⟩
  | .hbm, ⟨72, _⟩ => ⟨S128x8x128, .f32⟩
  | .hbm, ⟨73, _⟩ => ⟨S128x8x64x128, .f32⟩
  | .hbm, ⟨74, _⟩ => ⟨S128x128x8x64, .f32⟩
  | .hbm, ⟨75, _⟩ => ⟨S128x128x8, .f32⟩
  | .hbm, ⟨76, _⟩ => ⟨S16384x8, .f32⟩
  | .hbm, ⟨77, _⟩ => ⟨S16384x512, .f32⟩
  | .hbm, ⟨78, _⟩ => ⟨S16384x8, .f32⟩
  | .hbm, ⟨79, _⟩ => ⟨S16384x512, .f32⟩
  | .hbm, ⟨80, _⟩ => ⟨S128x128x8x64, .f32⟩
  | .hbm, ⟨81, _⟩ => ⟨S128x128x8, .f32⟩
  | .hbm, ⟨82, _⟩ => ⟨S128x8x128, .f32⟩
  | .hbm, ⟨83, _⟩ => ⟨S128x8x64x128, .f32⟩
  | .hbm, ⟨84, _⟩ => ⟨S128x8x128x256, .f32⟩
  | .hbm, ⟨85, _⟩ => ⟨S128x8x64x256, .f32⟩
  | .hbm, ⟨86, _⟩ => ⟨S128x256x8x64, .f32⟩
  | .hbm, ⟨87, _⟩ => ⟨S128x8x128x256, .f32⟩
  | .hbm, ⟨88, _⟩ => ⟨S128x8x128x256, .f32⟩
  | .hbm, ⟨89, _⟩ => ⟨S128x8x128x256, .f32⟩
  | .hbm, ⟨90, _⟩ => ⟨S_, .f32⟩
  | .hbm, ⟨91, _⟩ => ⟨S128x8x128x256, .f32⟩
  | .hbm, ⟨92, _⟩ => ⟨S128x8x128x256, .f32⟩
  | .hbm, ⟨93, _⟩ => ⟨S_, .f32⟩
  | .hbm, ⟨94, _⟩ => ⟨S8x128x256, .f32⟩
  | .hbm, ⟨95, _⟩ => ⟨S1x8x128x256, .f32⟩
  | .hbm, ⟨96, _⟩ => ⟨S_, .f32⟩
  | .hbm, ⟨97, _⟩ => ⟨S8x128x256, .f32⟩
  | .hbm, ⟨98, _⟩ => ⟨S128x8x256x64, .f32⟩
  | .hbm, ⟨99, _⟩ => ⟨S128x256x8x64, .f32⟩
  | .hbm, ⟨100, _⟩ => ⟨S128x8x128x64, .f32⟩
  | .hbm, ⟨101, _⟩ => ⟨S128x128x8x64, .f32⟩
  | .hbm, ⟨102, _⟩ => ⟨S128x128x8x64, .f32⟩
  | .hbm, ⟨103, _⟩ => ⟨S128x128x8x64, .f32⟩
  | .hbm, ⟨104, _⟩ => ⟨S1x128x8x64, .f32⟩
  | .hbm, ⟨105, _⟩ => ⟨S127x128x8x64, .f32⟩
  | .hbm, ⟨106, _⟩ => ⟨S_, .f32⟩
  | .hbm, ⟨107, _⟩ => ⟨S128x128x8x64, .f32⟩
  | .hbm, ⟨108, _⟩ => ⟨S128x128x8x64, .f32⟩
  | .hbm, ⟨109, _⟩ => ⟨S16384x512, .f32⟩
  | .hbm, ⟨110, _⟩ => ⟨S128x128x8x64, .f32⟩
  | .hbm, ⟨111, _⟩ => ⟨S128x128x8x64, .f32⟩
  | .hbm, ⟨112, _⟩ => ⟨S1x128x8x64, .f32⟩
  | .hbm, ⟨113, _⟩ => ⟨S127x128x8x64, .f32⟩
  | .hbm, ⟨114, _⟩ => ⟨S_, .f32⟩
  | .hbm, ⟨115, _⟩ => ⟨S128x128x8x64, .f32⟩
  | .hbm, ⟨116, _⟩ => ⟨S128x128x8x64, .f32⟩
  | .hbm, ⟨117, _⟩ => ⟨S16384x512, .f32⟩
  | .hbm, ⟨118, _⟩ => ⟨S16384x512, .f32⟩
  | .hbm, ⟨119, _⟩ => ⟨S16384x512, .bf16⟩
  | .hbm, ⟨120, _⟩ => ⟨S16384x512, .bf16⟩
  | .hbm, ⟨121, _⟩ => ⟨S16384x512, .bf16⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_c_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_call0_v0 : Ref sig .tc := ⟨.hbm, 59, rfl⟩
abbrev main_v43_1 : Ref sig .tc := ⟨.hbm, 60, rfl⟩
abbrev main_call0_v2 : Ref sig .tc := ⟨.hbm, 61, rfl⟩
abbrev main_v43_0 : Ref sig .tc := ⟨.hbm, 62, rfl⟩
abbrev main_call0_cst : Ref sig .tc := ⟨.hbm, 63, rfl⟩
abbrev main_v43_2 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_call1_cst : Ref sig .tc := ⟨.hbm, 90, rfl⟩
abbrev main_call1_v0 : Ref sig .tc := ⟨.hbm, 91, rfl⟩
abbrev main_v68 : Ref sig .tc := ⟨.hbm, 92, rfl⟩
abbrev main_cst_10 : Ref sig .tc := ⟨.hbm, 93, rfl⟩
abbrev main_v69 : Ref sig .tc := ⟨.hbm, 94, rfl⟩
abbrev main_v70 : Ref sig .tc := ⟨.hbm, 95, rfl⟩
abbrev main_cst_11 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_12 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_13 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩

abbrev nD : Nat := 1
abbrev τ : Topo := Topo.v7x

variable {F : FTy → Type} [FloatOps F]
-- ==== DwUp.lean ====
abbrev S16384x1024 : Shape := ⟨2, ![16384, 1024]⟩
abbrev S16384x2816 : Shape := ⟨2, ![16384, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x2816, .bf16⟩
  | .hbm, ⟨2, _⟩ => ⟨S1024x2816, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .bf16⟩
  | .hbm, ⟨2, _⟩ => ⟨S_, .f32⟩
  | .hbm, ⟨3, _⟩ => ⟨S1024x2816, .f32⟩
  | .hbm, ⟨4, _⟩ => ⟨S16384x2816, .f32⟩
  | .hbm, ⟨5, _⟩ => ⟨S16384x2816, .f32⟩
  | .hbm, ⟨6, _⟩ => ⟨S2816x1024, .f32⟩
  | .hbm, ⟨7, _⟩ => ⟨S1024x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DxUp.lean ====
abbrev S16384x2816 : Shape := ⟨2, ![16384, 2816]⟩
abbrev S1024x5632 : Shape := ⟨2, ![1024, 5632]⟩
abbrev S16384x1024 : Shape := ⟨2, ![16384, 1024]⟩
abbrev S5632x1024 : Shape := ⟨2, ![5632, 1024]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 8
  | .vmem => 10
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S16384x1024, .f32⟩
  | .hbm, ⟨4, _⟩ => ⟨S5632x1024, .bf16⟩
  | .hbm, ⟨5, _⟩ => ⟨S2816x1024, .bf16⟩
  | .hbm, ⟨6, _⟩ => ⟨S2816x1024, .bf16⟩
  | .hbm, ⟨7, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DxUpRefIdeal.lean ====
abbrev S16384x2816 : Shape := ⟨2, ![16384, 2816]⟩
abbrev S1024x5632 : Shape := ⟨2, ![1024, 5632]⟩
abbrev S16384x1024 : Shape := ⟨2, ![16384, 1024]⟩
abbrev S_ : Shape := ⟨0, ![]⟩
abbrev S16384x5632 : Shape := ⟨2, ![16384, 5632]⟩

abbrev nBuf : Space → Nat
  | .hbm => 21
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S1024x5632, .f32⟩
  | .hbm, ⟨7, _⟩ => ⟨S16384x5632, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x5632, .f32⟩
  | .hbm, ⟨19, _⟩ => ⟨S16384x1024, .f32⟩
  | .hbm, ⟨20, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== DwDown.lean ====
abbrev S16384x2816 : Shape := ⟨2, ![16384, 2816]⟩
abbrev S16384x1024 : Shape := ⟨2, ![16384, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S1024x2816, .f32⟩
  | .hbm, ⟨7, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DxDown.lean ====
abbrev S16384x1024 : Shape := ⟨2, ![16384, 1024]⟩
abbrev S2816x1024 : Shape := ⟨2, ![2816, 1024]⟩
abbrev S1024x2816 : Shape := ⟨2, ![1024, 2816]⟩
abbrev S16384x2816 : Shape := ⟨2, ![16384, 2816]⟩
abbrev S512x1024 : Shape := ⟨2, ![512, 1024]⟩
abbrev S512x2816 : Shape := ⟨2, ![512, 2816]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S2816x1024, .bf16⟩
  | .hbm, ⟨2, _⟩ => ⟨S1024x2816, .bf16⟩
  | .hbm, ⟨3, _⟩ => ⟨S16384x2816, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S512x2816, .f32⟩
  | .local _ .vmem, ⟨4, _⟩ => ⟨S512x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DxDownRefIdeal.lean ====
abbrev S16384x1024 : Shape := ⟨2, ![16384, 1024]⟩
abbrev S2816x1024 : Shape := ⟨2, ![2816, 1024]⟩
abbrev S_ : Shape := ⟨0, ![]⟩
abbrev S16384x2816 : Shape := ⟨2, ![16384, 2816]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2816x1024, .bf16⟩
  | .hbm, ⟨2, _⟩ => ⟨S_, .f32⟩
  | .hbm, ⟨3, _⟩ => ⟨S16384x2816, .f32⟩
  | .hbm, ⟨4, _⟩ => ⟨S2816x1024, .f32⟩
  | .hbm, ⟨5, _⟩ => ⟨S16384x1024, .f32⟩
  | .hbm, ⟨6, _⟩ => ⟨S16384x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwIn.lean ====
abbrev S16384x1024 : Shape := ⟨2, ![16384, 1024]⟩
abbrev S16384x512 : Shape := ⟨2, ![16384, 512]⟩
abbrev S1024x512 : Shape := ⟨2, ![1024, 512]⟩
abbrev S1x512 : Shape := ⟨2, ![1, 512]⟩
abbrev S1024x1024 : Shape := ⟨2, ![1024, 1024]⟩
abbrev S512 : Shape := ⟨1, ![512]⟩

abbrev nBuf : Space → Nat
  | .hbm => 16
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S16384x512, .bf16⟩
  | .hbm, ⟨6, _⟩ => ⟨S1024x512, .f32⟩
  | .hbm, ⟨7, _⟩ => ⟨S1x512, .f32⟩
  | .hbm, ⟨8, _⟩ => ⟨S1024x512, .f32⟩
  | .hbm, ⟨9, _⟩ => ⟨S1x512, .f32⟩
  | .hbm, ⟨10, _⟩ => ⟨S1024x512, .f32⟩
  | .hbm, ⟨11, _⟩ => ⟨S1x512, .f32⟩
  | .hbm, ⟨12, _⟩ => ⟨S1024x512, .f32⟩
  | .hbm, ⟨13, _⟩ => ⟨S1x512, .f32⟩
  | .hbm, ⟨14, _⟩ => ⟨S1024x512, .f32⟩
  | .hbm, ⟨15, _⟩ => ⟨S1x512, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1x512, .f32⟩
  | .local _ .vmem, ⟨14, _⟩ => ⟨S1024x512, .f32⟩
  | .local _ .vmem, ⟨15, _⟩ => ⟨S1x512, .f32⟩
  | .local _ .vmem, ⟨16, _⟩ => ⟨S1024x512, .f32⟩
  | .local _ .vmem, ⟨17, _⟩ => ⟨S1x512, .f32⟩
  | .local _ .vmem, ⟨18, _⟩ => ⟨S1024x512, .f32⟩
  | .local _ .vmem, ⟨19, _⟩ => ⟨S1x512, .f32⟩
  | .local _ .vmem, ⟨20, _⟩ => ⟨S1024x512, .f32⟩
  | .local _ .vmem, ⟨21, _⟩ => ⟨S1x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev main_v0_8 : Ref sig .tc := ⟨.hbm, 14, rfl⟩
abbrev main_v0_9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_4 : BitVec 32 := 0#32
  let v9 : BitVec 1 := Scalar.cmpi .ne v8 c0_i32_4
  v9

def k0_cond2 (i : grid0.Coords) : BitVec 1 :=
  let arg0 : BitVec 32 := BitVec.ofNat 32 (i 0).val
  let c0_i32_5 : BitVec 32 := 0#32
  let v10 : BitVec 1 := Scalar.cmpi .sgt arg0 c0_i32_5
  let v11 : BitVec 32 := Scalar.extui v10
  let c0_i32_6 : BitVec 32 := 0#32
  let v12 : BitVec 1 := Scalar.cmpi .ne v11 c0_i32_6
  v12

def k0_cond3 (i : grid0.Coords) : BitVec 1 :=
  let arg0 : BitVec 32 := BitVec.ofNat 32 (i 0).val
  let c0_i32_11 : BitVec 32 := 0#32
  let v18 : BitVec 1 := Scalar.cmpi .eq arg0 c0_i32_11
  let v19 : BitVec 32 := Scalar.extui v18
  let c0_i32_12 : BitVec 32 := 0#32
  let v20 : BitVec 1 := Scalar.cmpi .ne v19 c0_i32_12
  v20

def k0_cond4 (i : grid0.Coords) : BitVec 1 :=
  let arg0 : BitVec 32 := BitVec.ofNat 32 (i 0).val
  let c0_i32_13 : BitVec 32 := 0#32
  let v21 : BitVec 1 := Scalar.cmpi .sgt arg0 c0_i32_13
  let v22 : BitVec 32 := Scalar.extui v21
  let c0_i32_14 : BitVec 32 := 0#32
  let v23 : BitVec 1 := Scalar.cmpi .ne v22 c0_i32_14
  v23

def k0_cond5 (i : grid0.Coords) : BitVec 1 :=
  let arg0 : BitVec 32 := BitVec.ofNat 32 (i 0).val
  let c0_i32_19 : BitVec 32 := 0#32
  let v29 : BitVec 1 := Scalar.cmpi .eq arg0 c0_i32_19
  let v30 : BitVec 32 := Scalar.extui v29
  let c0_i32_20 : BitVec 32 := 0#32
  let v31 : BitVec 1 := Scalar.cmpi .ne v30 c0_i32_20
  v31

def k0_cond6 (i : grid0.Coords) : BitVec 1 :=
  let arg0 : BitVec 32 := BitVec.ofNat 32 (i 0).val
  let c0_i32_21 : BitVec 32 := 0#32
  let v32 : BitVec 1 := Scalar.cmpi .sgt arg0 c0_i32_21
  let v33 : BitVec 32 := Scalar.extui v32
  let c0_i32_22 : BitVec 32 := 0#32
  let v34 : BitVec 1 := Scalar.cmpi .ne v33 c0_i32_22
  v34

def k0_cond7 (i : grid0.Coords) : BitVec 1 :=
  let arg0 : BitVec 32 := BitVec.ofNat 32 (i 0).val
  let c0_i32_27 : BitVec 32 := 0#32
  let v40 : BitVec 1 := Scalar.cmpi .eq arg0 c0_i32_27
  let v41 : BitVec 32 := Scalar.extui v40
  let c0_i32_28 : BitVec 32 := 0#32
  let v42 : BitVec 1 := Scalar.cmpi .ne v41 c0_i32_28
  v42

def k0_cond8 (i : grid0.Coords) : BitVec 1 :=
  let arg0 : BitVec 32 := BitVec.ofNat 32 (i 0).val
  let c0_i32_29 : BitVec 32 := 0#32
  let v43 : BitVec 1 := Scalar.cmpi .sgt arg0 c0_i32_29
  let v44 : BitVec 32 := Scalar.extui v43
  let c0_i32_30 : BitVec 32 := 0#32
  let v45 : BitVec 1 := Scalar.cmpi .ne v44 c0_i32_30
  v45

def k0_cond9 (i : grid0.Coords) : BitVec 1 :=
  let arg0 : BitVec 32 := BitVec.ofNat 32 (i 0).val
  let c0_i32_35 : BitVec 32 := 0#32
  let v51 : BitVec 1 := Scalar.cmpi .eq arg0 c0_i32_35
  let v52 : BitVec 32 := Scalar.extui v51
  let c0_i32_36 : BitVec 32 := 0#32
  let v53 : BitVec 1 := Scalar.cmpi .ne v52 c0_i32_36
  v53

def k0_cond10 (i : grid0.Coords) : BitVec 1 :=
  let arg0 : BitVec 32 := BitVec.ofNat 32 (i 0).val
  let c0_i32_37 : BitVec 32 := 0#32
  let v54 : BitVec 1 := Scalar.cmpi .sgt arg0 c0_i32_37
  let v55 : BitVec 32 := Scalar.extui v54
  let c0_i32_38 : BitVec 32 := 0#32
  let v56 : BitVec 1 := Scalar.cmpi .ne v55 c0_i32_38
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== DwInRefIdeal.lean ====
abbrev S16384x1024 : Shape := ⟨2, ![16384, 1024]⟩
abbrev S16384x512 : Shape := ⟨2, ![16384, 512]⟩
abbrev S_ : Shape := ⟨0, ![]⟩
abbrev S1024x2560 : Shape := ⟨2, ![1024, 2560]⟩
abbrev S1x2560 : Shape := ⟨2, ![1, 2560]⟩
abbrev S16384x2560 : Shape := ⟨2, ![16384, 2560]⟩
abbrev S2560 : Shape := ⟨1, ![2560]⟩
abbrev S2560x1024 : Shape := ⟨2, ![2560, 1024]⟩
abbrev S1024x512 : Shape := ⟨2, ![1024, 512]⟩
abbrev S1x512 : Shape := ⟨2, ![1, 512]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S16384x512, .bf16⟩
  | .hbm, ⟨6, _⟩ => ⟨S_, .f32⟩
  | .hbm, ⟨7, _⟩ => ⟨S1024x2560, .f32⟩
  | .hbm, ⟨8, _⟩ => ⟨S_, .f32⟩
  | .hbm, ⟨9, _⟩ => ⟨S1x2560, .f32⟩
  | .hbm, ⟨10, _⟩ => ⟨S16384x2560, .f32⟩
  | .hbm, ⟨11, _⟩ => ⟨S16384x2560, .f32⟩
  | .hbm, ⟨12, _⟩ => ⟨S16384x2560, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x2560, .f32⟩
  | .hbm, ⟨24, _⟩ => ⟨S_, .f32⟩
  | .hbm, ⟨25, _⟩ => ⟨S2560, .f32⟩
  | .hbm, ⟨26, _⟩ => ⟨S1x2560, .f32⟩
  | .hbm, ⟨27, _⟩ => ⟨S2560x1024, .f32⟩
  | .hbm, ⟨28, _⟩ => ⟨S1024x2560, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S1x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== DxIn.lean ====
abbrev S16384x512 : Shape := ⟨2, ![16384, 512]⟩
abbrev S1024x2560 : Shape := ⟨2, ![1024, 2560]⟩
abbrev S16384x1024 : Shape := ⟨2, ![16384, 1024]⟩
abbrev S2560x1024 : Shape := ⟨2, ![2560, 1024]⟩
abbrev S512x1024 : Shape := ⟨2, ![512, 1024]⟩
abbrev S512x512 : Shape := ⟨2, ![512, 512]⟩

abbrev nBuf : Space → Nat
  | .hbm => 14
  | .vmem => 19
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S1024x2560, .bf16⟩
  | .hbm, ⟨6, _⟩ => ⟨S16384x1024, .f32⟩
  | .hbm, ⟨7, _⟩ => ⟨S2560x1024, .bf16⟩
  | .hbm, ⟨8, _⟩ => ⟨S512x1024, .bf16⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S512x1024, .bf16⟩
  | .hbm, ⟨13, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== DxInRefIdeal.lean ====
abbrev S16384x512 : Shape := ⟨2, ![16384, 512]⟩
abbrev S1024x2560 : Shape := ⟨2, ![1024, 2560]⟩
abbrev S16384x1024 : Shape := ⟨2, ![16384, 1024]⟩
abbrev S_ : Shape := ⟨0, ![]⟩
abbrev S16384x2560 : Shape := ⟨2, ![16384, 2560]⟩

abbrev nBuf : Space → Nat
  | .hbm => 30
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S1024x2560, .bf16⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S1024x2560, .f32⟩
  | .hbm, ⟨10, _⟩ => ⟨S16384x2560, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x2560, .f32⟩
  | .hbm, ⟨28, _⟩ => ⟨S16384x1024, .f32⟩
  | .hbm, ⟨29, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== DwOutAttn.lean ====
abbrev S16384x512 : Shape := ⟨2, ![16384, 512]⟩
abbrev S16384x1024 : Shape := ⟨2, ![16384, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S512x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutAttnRefIdeal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S_, .f32⟩
  | .hbm, ⟨3, _⟩ => ⟨S512x1024, .f32⟩
  | .hbm, ⟨4, _⟩ => ⟨S16384x1024, .f32⟩
  | .hbm, ⟨5, _⟩ => ⟨S1024x512, .f32⟩
  | .hbm, ⟨6, _⟩ => ⟨S512x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwOutConv.lean ====
abbrev S16384x256 : Shape := ⟨2, ![16384, 256]⟩
abbrev S16384x1024 : Shape := ⟨2, ![16384, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x256, .bf16⟩
  | .hbm, ⟨1, _⟩ => ⟨S16384x1024, .f32⟩
  | .hbm, ⟨2, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .f32⟩
  | .local _ .vmem, ⟨3, _⟩ => ⟨S1024x1024, .f32⟩
  | .local _ .vmem, ⟨4, _⟩ => ⟨S256x1024, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutConvRefIdeal.lean ====
abbrev S16384x256 : Shape := ⟨2, ![16384, 256]⟩
abbrev S16384x1024 : Shape := ⟨2, ![16384, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S16384x1024, .f32⟩
  | .hbm, ⟨2, _⟩ => ⟨S_, .f32⟩
  | .hbm, ⟨3, _⟩ => ⟨S256x1024, .f32⟩
  | .hbm, ⟨4, _⟩ => ⟨S16384x256, .f32⟩
  | .hbm, ⟨5, _⟩ => ⟨S16384x1024, .f32⟩
  | .hbm, ⟨6, _⟩ => ⟨S1024x256, .f32⟩
  | .hbm, ⟨7, _⟩ => ⟨S256x1024, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DxOut.lean ====
abbrev S16384x1024 : Shape := ⟨2, ![16384, 1024]⟩
abbrev S1024x1024 : Shape := ⟨2, ![1024, 1024]⟩
abbrev S16384x256 : Shape := ⟨2, ![16384, 256]⟩
abbrev S16384x512 : Shape := ⟨2, ![16384, 512]⟩
abbrev S512x1024 : Shape := ⟨2, ![512, 1024]⟩
abbrev S512x256 : Shape := ⟨2, ![512, 256]⟩
abbrev S512x512 : Shape := ⟨2, ![512, 512]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S1024x1024, .bf16⟩
  | .hbm, ⟨3, _⟩ => ⟨S16384x256, .f32⟩
  | .hbm, ⟨4, _⟩ => ⟨S16384x512, .f32⟩
  | .hbm, ⟨5, _⟩ => ⟨S16384x256, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x256, .f32⟩
  | .local _ .vmem, ⟨4, _⟩ => ⟨S512x256, .f32⟩
  | .local _ .vmem, ⟨5, _⟩ => ⟨S512x512, .f32⟩
  | .local _ .vmem, ⟨6, _⟩ => ⟨S512x512, .f32⟩
  | .local _ .vmem, ⟨7, _⟩ => ⟨S512x256, .f32⟩
  | .local _ .vmem, ⟨8, _⟩ => ⟨S512x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== DxOutRefIdeal.lean ====
abbrev S16384x1024 : Shape := ⟨2, ![16384, 1024]⟩
abbrev S1024x1024 : Shape := ⟨2, ![1024, 1024]⟩
abbrev S_ : Shape := ⟨0, ![]⟩
abbrev S16384x256 : Shape := ⟨2, ![16384, 256]⟩
abbrev S16384x512 : Shape := ⟨2, ![16384, 512]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S_, .f32⟩
  | .hbm, ⟨3, _⟩ => ⟨S16384x256, .f32⟩
  | .hbm, ⟨4, _⟩ => ⟨S_, .f32⟩
  | .hbm, ⟨5, _⟩ => ⟨S16384x512, .f32⟩
  | .hbm, ⟨6, _⟩ => ⟨S_, .f32⟩
  | .hbm, ⟨7, _⟩ => ⟨S16384x256, .f32⟩
  | .hbm, ⟨8, _⟩ => ⟨S16384x1024, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S16384x256, .f32⟩
  | .hbm, ⟨13, _⟩ => ⟨S16384x512, .f32⟩
  | .hbm, ⟨14, _⟩ => ⟨S16384x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== FfnUp.lean ====
abbrev S16384x1024 : Shape := ⟨2, ![16384, 1024]⟩
abbrev S1024x5632 : Shape := ⟨2, ![1024, 5632]⟩
abbrev S5632 : Shape := ⟨1, ![5632]⟩
abbrev S1x5632 : Shape := ⟨2, ![1, 5632]⟩
abbrev S16384x5632 : Shape := ⟨2, ![16384, 5632]⟩
abbrev S512x1024 : Shape := ⟨2, ![512, 1024]⟩
abbrev S1024x2816 : Shape := ⟨2, ![1024, 2816]⟩
abbrev S1x2816 : Shape := ⟨2, ![1, 2816]⟩
abbrev S512x2816 : Shape := ⟨2, ![512, 2816]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x5632, .bf16⟩
  | .hbm, ⟨2, _⟩ => ⟨S5632, .f32⟩
  | .hbm, ⟨3, _⟩ => ⟨S1x5632, .f32⟩
  | .hbm, ⟨4, _⟩ => ⟨S16384x5632, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S1x2816, .f32⟩
  | .local _ .vmem, ⟨5, _⟩ => ⟨S1x2816, .f32⟩
  | .local _ .vmem, ⟨6, _⟩ => ⟨S512x2816, .f32⟩
  | .local _ .vmem, ⟨7, _⟩ => ⟨S512x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpRefIdeal.lean ====
abbrev S16384x1024 : Shape := ⟨2, ![16384, 1024]⟩
abbrev S1024x5632 : Shape := ⟨2, ![1024, 5632]⟩
abbrev S5632 : Shape := ⟨1, ![5632]⟩
abbrev S16384x5632 : Shape := ⟨2, ![16384, 5632]⟩
abbrev S1x5632 : Shape := ⟨2, ![1, 5632]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .bf16⟩
  | .hbm, ⟨2, _⟩ => ⟨S5632, .f32⟩
  | .hbm, ⟨3, _⟩ => ⟨S1024x5632, .f32⟩
  | .hbm, ⟨4, _⟩ => ⟨S16384x5632, .f32⟩
  | .hbm, ⟨5, _⟩ => ⟨S1x5632, .f32⟩
  | .hbm, ⟨6, _⟩ => ⟨S16384x5632, .f32⟩
  | .hbm, ⟨7, _⟩ => ⟨S16384x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnDown.lean ====
abbrev S16384x2816 : Shape := ⟨2, ![16384, 2816]⟩
abbrev S2816x1024 : Shape := ⟨2, ![2816, 1024]⟩
abbrev S1024 : Shape := ⟨1, ![1024]⟩
abbrev S16384x1024 : Shape := ⟨2, ![16384, 1024]⟩
abbrev S1x1024 : Shape := ⟨2, ![1, 1024]⟩
abbrev S16384x1 : Shape := ⟨2, ![16384, 1]⟩
abbrev S512x2816 : Shape := ⟨2, ![512, 2816]⟩
abbrev S512x1024 : Shape := ⟨2, ![512, 1024]⟩
abbrev S512x1 : Shape := ⟨2, ![512, 1]⟩
abbrev S512 : Shape := ⟨1, ![512]⟩

abbrev nBuf : Space → Nat
  | .hbm => 12
  | .vmem => 14
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S1024, .f32⟩
  | .hbm, ⟨3, _⟩ => ⟨S16384x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S16384x1024, .f32⟩
  | .hbm, ⟨10, _⟩ => ⟨S16384x1024, .f32⟩
  | .hbm, ⟨11, _⟩ => ⟨S16384x1, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]
-- ==== FfnDownRefIdeal.lean ====
abbrev S16384x2816 : Shape := ⟨2, ![16384, 2816]⟩
abbrev S2816x1024 : Shape := ⟨2, ![2816, 1024]⟩
abbrev S1024 : Shape := ⟨1, ![1024]⟩
abbrev S16384x1024 : Shape := ⟨2, ![16384, 1024]⟩
abbrev S_ : Shape := ⟨0, ![]⟩
abbrev S1x1024 : Shape := ⟨2, ![1, 1024]⟩
abbrev S16384 : Shape := ⟨1, ![16384]⟩
abbrev S16384x1 : Shape := ⟨2, ![16384, 1]⟩

abbrev nBuf : Space → Nat
  | .hbm => 45
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S1024, .f32⟩
  | .hbm, ⟨3, _⟩ => ⟨S16384x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x2816, .f32⟩
  | .hbm, ⟨10, _⟩ => ⟨S2816x1024, .f32⟩
  | .hbm, ⟨11, _⟩ => ⟨S16384x1024, .f32⟩
  | .hbm, ⟨12, _⟩ => ⟨S1x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== InProj.lean ====
abbrev S16384x1024 : Shape := ⟨2, ![16384, 1024]⟩
abbrev S1024x2560 : Shape := ⟨2, ![1024, 2560]⟩
abbrev S2560 : Shape := ⟨1, ![2560]⟩
abbrev S1024x512 : Shape := ⟨2, ![1024, 512]⟩
abbrev S_ : Shape := ⟨0, ![]⟩
abbrev S1024x1536 : Shape := ⟨2, ![1024, 1536]⟩
abbrev S512 : Shape := ⟨1, ![512]⟩
abbrev S1536 : Shape := ⟨1, ![1536]⟩
abbrev S1x2560 : Shape := ⟨2, ![1, 2560]⟩
abbrev S16384x512 : Shape := ⟨2, ![16384, 512]⟩
abbrev S16384x1536 : Shape := ⟨2, ![16384, 1536]⟩
abbrev S512x1024 : Shape := ⟨2, ![512, 1024]⟩
abbrev S512x512 : Shape := ⟨2, ![512, 512]⟩
abbrev S512x1536 : Shape := ⟨2, ![512, 1536]⟩
abbrev S512x2560 : Shape := ⟨2, ![512, 2560]⟩

abbrev nBuf : Space → Nat
  | .hbm => 21
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x2560, .bf16⟩
  | .hbm, ⟨2, _⟩ => ⟨S2560, .f32⟩
  | .hbm, ⟨3, _⟩ => ⟨S1024x512, .bf16⟩
  | .hbm, ⟨4, _⟩ => ⟨S1024x512, .bf16⟩
  | .hbm, ⟨5, _⟩ => ⟨S_, .bf16⟩
  | .hbm, ⟨6, _⟩ => ⟨S1024x512, .bf16⟩
  | .hbm, ⟨7, _⟩ => ⟨S1024x512, .bf16⟩
  | .hbm, ⟨8, _⟩ => ⟨S1024x1536, .bf16⟩
  | .hbm, ⟨9, _⟩ => ⟨S1024x2560, .bf16⟩
  | .hbm, ⟨10, _⟩ => ⟨S512, .f32⟩
  | .hbm, ⟨11, _⟩ => ⟨S512, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S1536, .f32⟩
  | .hbm, ⟨16, _⟩ => ⟨S2560, .f32⟩
  | .hbm, ⟨17, _⟩ => ⟨S1x2560, .f32⟩
  | .hbm, ⟨18, _⟩ => ⟨S16384x512, .f32⟩
  | .hbm, ⟨19, _⟩ => ⟨S16384x1536, .f32⟩
  | .hbm, ⟨20, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1024x2560, .bf16⟩
  | .local _ .vmem, ⟨3, _⟩ => ⟨S1x2560, .f32⟩
  | .local _ .vmem, ⟨4, _⟩ => ⟨S512x512, .f32⟩
  | .local _ .vmem, ⟨5, _⟩ => ⟨S512x512, .f32⟩
  | .local _ .vmem, ⟨6, _⟩ => ⟨S512x1536, .f32⟩
  | .local _ .vmem, ⟨7, _⟩ => ⟨S512x1536, .f32⟩
  | .local _ .vmem, ⟨8, _⟩ => ⟨S512x512, .f32⟩
  | .local _ .vmem, ⟨9, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]
-- ==== InProjRefIdeal.lean ====
abbrev S16384x1024 : Shape := ⟨2, ![16384, 1024]⟩
abbrev S1024x2560 : Shape := ⟨2, ![1024, 2560]⟩
abbrev S2560 : Shape := ⟨1, ![2560]⟩
abbrev S16384x2560 : Shape := ⟨2, ![16384, 2560]⟩
abbrev S1x2560 : Shape := ⟨2, ![1, 2560]⟩
abbrev S16384x512 : Shape := ⟨2, ![16384, 512]⟩
abbrev S_ : Shape := ⟨0, ![]⟩
abbrev S16384x1536 : Shape := ⟨2, ![16384, 1536]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2560, .bf16⟩
  | .hbm, ⟨2, _⟩ => ⟨S2560, .f32⟩
  | .hbm, ⟨3, _⟩ => ⟨S1024x2560, .f32⟩
  | .hbm, ⟨4, _⟩ => ⟨S16384x2560, .f32⟩
  | .hbm, ⟨5, _⟩ => ⟨S1x2560, .f32⟩
  | .hbm, ⟨6, _⟩ => ⟨S16384x2560, .f32⟩
  | .hbm, ⟨7, _⟩ => ⟨S16384x2560, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S16384x1536, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== OutProj.lean ====
abbrev S16384x256 : Shape := ⟨2, ![16384, 256]⟩
abbrev S16384x512 : Shape := ⟨2, ![16384, 512]⟩
abbrev S1024x1024 : Shape := ⟨2, ![1024, 1024]⟩
abbrev S1024 : Shape := ⟨1, ![1024]⟩
abbrev S16384x1024 : Shape := ⟨2, ![16384, 1024]⟩
abbrev S256x1024 : Shape := ⟨2, ![256, 1024]⟩
abbrev S512x1024 : Shape := ⟨2, ![512, 1024]⟩
abbrev S1x1024 : Shape := ⟨2, ![1, 1024]⟩
abbrev S16384x1 : Shape := ⟨2, ![16384, 1]⟩
abbrev S512x256 : Shape := ⟨2, ![512, 256]⟩
abbrev S512x512 : Shape := ⟨2, ![512, 512]⟩
abbrev S512x1 : Shape := ⟨2, ![512, 1]⟩
abbrev S512 : Shape := ⟨1, ![512]⟩

abbrev nBuf : Space → Nat
  | .hbm => 17
  | .vmem => 20
  | .smem => 0
  | _ => 0

abbrev bufTy : (tb : Table) → Fin (tcTables nBuf tb) → BufTy
  | .hbm, ⟨0, _⟩ => ⟨S16384x256, .bf16⟩
  | .hbm, ⟨1, _⟩ => ⟨S16384x512, .f32⟩
  | .hbm, ⟨2, _⟩ => ⟨S16384x256, .bf16⟩
  | .hbm, ⟨3, _⟩ => ⟨S1024x1024, .bf16⟩
  | .hbm, ⟨4, _⟩ => ⟨S1024, .f32⟩
  | .hbm, ⟨5, _⟩ => ⟨S16384x1024, .f32⟩
  | .hbm, ⟨6, _⟩ => ⟨S1024, .f32⟩
  | .hbm, ⟨7, _⟩ => ⟨S1024, .f32⟩
  | .hbm, ⟨8, _⟩ => ⟨S256x1024, .bf16⟩
  | .hbm, ⟨9, _⟩ => ⟨S512x1024, .bf16⟩
  | .hbm, ⟨10, _⟩ => ⟨S256x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S16384x1024, .f32⟩
  | .hbm, ⟨15, _⟩ => ⟨S16384x1024, .f32⟩
  | .hbm, ⟨16, _⟩ => ⟨S16384x1, .f32⟩
  | .local _ .vmem, ⟨0, _⟩ => ⟨S512x256, .bf16⟩
  | .local _ .vmem, ⟨1, _⟩ => ⟨S512x256, .bf16⟩
  | .local _ .vmem, ⟨2, _⟩ => ⟨S512x512, .f32⟩
  | .local _ .vmem, ⟨3, _⟩ => ⟨S512x512, .f32⟩
  | .local _ .vmem, ⟨4, _⟩ => ⟨S512x256, .bf16⟩
  | .local _ .vmem, ⟨5, _⟩ => ⟨S512x256, .bf16⟩
  | .local _ .vmem, ⟨6, _⟩ => ⟨S256x1024, .bf16⟩
  | .local _ .vmem, ⟨7, _⟩ => ⟨S512x1024, .bf16⟩
  | .local _ .vmem, ⟨8, _⟩ => ⟨S256x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1, .f32⟩
  | .local _ .vmem, ⟨19, _⟩ => ⟨S512x1, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]
-- ==== OutProjRefIdeal.lean ====
abbrev S16384x256 : Shape := ⟨2, ![16384, 256]⟩
abbrev S16384x512 : Shape := ⟨2, ![16384, 512]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 49
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S16384x512, .f32⟩
  | .hbm, ⟨2, _⟩ => ⟨S16384x256, .bf16⟩
  | .hbm, ⟨3, _⟩ => ⟨S1024x1024, .bf16⟩
  | .hbm, ⟨4, _⟩ => ⟨S1024, .f32⟩
  | .hbm, ⟨5, _⟩ => ⟨S16384x1024, .f32⟩
  | .hbm, ⟨6, _⟩ => ⟨S1024, .f32⟩
  | .hbm, ⟨7, _⟩ => ⟨S1024, .f32⟩
  | .hbm, ⟨8, _⟩ => ⟨S16384x256, .f32⟩
  | .hbm, ⟨9, _⟩ => ⟨S16384x256, .f32⟩
  | .hbm, ⟨10, _⟩ => ⟨S16384x1024, .f32⟩
  | .hbm, ⟨11, _⟩ => ⟨S1024x1024, .f32⟩
  | .hbm, ⟨12, _⟩ => ⟨S16384x1024, .f32⟩
  | .hbm, ⟨13, _⟩ => ⟨S1x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== AdamIn.lean ====
abbrev S2x1024x320 : Shape := ⟨3, ![2, 1024, 320]⟩
abbrev S8x2048x320 : Shape := ⟨3, ![8, 2048, 320]⟩
abbrev S2048x320 : Shape := ⟨2, ![2048, 320]⟩
abbrev S512x320 : Shape := ⟨2, ![512, 320]⟩
abbrev S8x512x320 : Shape := ⟨3, ![8, 512, 320]⟩
abbrev S1x512x320 : Shape := ⟨3, ![1, 512, 320]⟩

abbrev nBuf : Space → Nat
  | .hbm => 11
  | .vmem => 16
  | .smem => 0
  | _ => 0

abbrev bufTy : (tb : Table) → Fin (tcTables nBuf tb) → BufTy
  | .hbm, ⟨0, _⟩ => ⟨S2x1024x320, .f32⟩
  | .hbm, ⟨1, _⟩ => ⟨S2x1024x320, .f32⟩
  | .hbm, ⟨2, _⟩ => ⟨S2x1024x320, .f32⟩
  | .hbm, ⟨3, _⟩ => ⟨S8x2048x320, .bf16⟩
  | .hbm, ⟨4, _⟩ => ⟨S2048x320, .f32⟩
  | .hbm, ⟨5, _⟩ => ⟨S2048x320, .f32⟩
  | .hbm, ⟨6, _⟩ => ⟨S2048x320, .f32⟩
  | .hbm, ⟨7, _⟩ => ⟨S2048x320, .f32⟩
  | .hbm, ⟨8, _⟩ => ⟨S2048x320, .f32⟩
  | .hbm, ⟨9, _⟩ => ⟨S2048x320, .f32⟩
  | .hbm, ⟨10, _⟩ => ⟨S2048x320, .f32⟩
  | .local _ .vmem, ⟨0, _⟩ => ⟨S512x320, .f32⟩
  | .local _ .vmem, ⟨1, _⟩ => ⟨S512x320, .f32⟩
  | .local _ .vmem, ⟨2, _⟩ => ⟨S512x320, .f32⟩
  | .local _ .vmem, ⟨3, _⟩ => ⟨S512x320, .f32⟩
  | .local _ .vmem, ⟨4, _⟩ => ⟨S512x320, .f32⟩
  | .local _ .vmem, ⟨5, _⟩ => ⟨S512x320, .f32⟩
  | .local _ .vmem, ⟨6, _⟩ => ⟨S8x512x320, .bf16⟩
  | .local _ .vmem, ⟨7, _⟩ => ⟨S8x512x320, .bf16⟩
  | .local _ .vmem, ⟨8, _⟩ => ⟨S512x320, .f32⟩
  | .local _ .vmem, ⟨9, _⟩ => ⟨S512x320, .f32⟩
  | .local _ .vmem, ⟨10, _⟩ => ⟨S512x320, .f32⟩
  | .local _ .vmem, ⟨11, _⟩ => ⟨S512x320, .f32⟩
  | .local _ .vmem, ⟨12, _⟩ => ⟨S512x320, .f32⟩
  | .local _ .vmem, ⟨13, _⟩ => ⟨S512x320, .f32⟩
  | .local _ .vmem, ⟨14, _⟩ => ⟨S512x320, .f32⟩
  | .local _ .vmem, ⟨15, _⟩ => ⟨S512x320, .f32⟩
  | _, _ => ⟨S2x1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x320 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x320 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S2x1024x320 : Shape := ⟨3, ![2, 1024, 320]⟩
abbrev S8x2048x320 : Shape := ⟨3, ![8, 2048, 320]⟩
abbrev S2048x320 : Shape := ⟨2, ![2048, 320]⟩
abbrev S512x320 : Shape := ⟨2, ![512, 320]⟩
abbrev S8x512x320 : Shape := ⟨3, ![8, 512, 320]⟩
abbrev S1x512x320 : Shape := ⟨3, ![1, 512, 320]⟩

abbrev nBuf : Space → Nat
  | .hbm => 11
  | .vmem => 16
  | .smem => 0
  | _ => 0

abbrev bufTy : (tb : Table) → Fin (tcTables nBuf tb) → BufTy
  | .hbm, ⟨0, _⟩ => ⟨S2x1024x320, .f32⟩
  | .hbm, ⟨1, _⟩ => ⟨S2x1024x320, .f32⟩
  | .hbm, ⟨2, _⟩ => ⟨S2x1024x320, .f32⟩
  | .hbm, ⟨3, _⟩ => ⟨S8x2048x320, .bf16⟩
  | .hbm, ⟨4, _⟩ => ⟨S2048x320, .f32⟩
  | .hbm, ⟨5, _⟩ => ⟨S2048x320, .f32⟩
  | .hbm, ⟨6, _⟩ => ⟨S2048x320, .f32⟩
  | .hbm, ⟨7, _⟩ => ⟨S2048x320, .f32⟩
  | .hbm, ⟨8, _⟩ => ⟨S2048x320, .f32⟩
  | .hbm, ⟨9, _⟩ => ⟨S2048x320, .f32⟩
  | .hbm, ⟨10, _⟩ => ⟨S2048x320, .f32⟩
  | .local _ .vmem, ⟨0, _⟩ => ⟨S512x320, .f32⟩
  | .local _ .vmem, ⟨1, _⟩ => ⟨S512x320, .f32⟩
  | .local _ .vmem, ⟨2, _⟩ => ⟨S512x320, .f32⟩
  | .local _ .vmem, ⟨3, _⟩ => ⟨S512x320, .f32⟩
  | .local _ .vmem, ⟨4, _⟩ => ⟨S512x320, .f32⟩
  | .local _ .vmem, ⟨5, _⟩ => ⟨S512x320, .f32⟩
  | .local _ .vmem, ⟨6, _⟩ => ⟨S8x512x320, .bf16⟩
  | .local _ .vmem, ⟨7, _⟩ => ⟨S8x512x320, .bf16⟩
  | .local _ .vmem, ⟨8, _⟩ => ⟨S512x320, .f32⟩
  | .local _ .vmem, ⟨9, _⟩ => ⟨S512x320, .f32⟩
  | .local _ .vmem, ⟨10, _⟩ => ⟨S512x320, .f32⟩
  | .local _ .vmem, ⟨11, _⟩ => ⟨S512x320, .f32⟩
  | .local _ .vmem, ⟨12, _⟩ => ⟨S512x320, .f32⟩
  | .local _ .vmem, ⟨13, _⟩ => ⟨S512x320, .f32⟩
  | .local _ .vmem, ⟨14, _⟩ => ⟨S512x320, .f32⟩
  | .local _ .vmem, ⟨15, _⟩ => ⟨S512x320, .f32⟩
  | _, _ => ⟨S2x1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x320 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x320 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S2x1024x320 : Shape := ⟨3, ![2, 1024, 320]⟩
abbrev S8x2048x320 : Shape := ⟨3, ![8, 2048, 320]⟩
abbrev S_ : Shape := ⟨0, ![]⟩
abbrev S2048x320 : Shape := ⟨2, ![2048, 320]⟩

abbrev nBuf : Space → Nat
  | .hbm => 45
  | .vmem => 0
  | .smem => 0
  | _ => 0

abbrev bufTy : (tb : Table) → Fin (tcTables nBuf tb) → BufTy
  | .hbm, ⟨0, _⟩ => ⟨S2x1024x320, .f32⟩
  | .hbm, ⟨1, _⟩ => ⟨S2x1024x320, .f32⟩
  | .hbm, ⟨2, _⟩ => ⟨S2x1024x320, .f32⟩
  | .hbm, ⟨3, _⟩ => ⟨S8x2048x320, .bf16⟩
  | .hbm, ⟨4, _⟩ => ⟨S8x2048x320, .f32⟩
  | .hbm, ⟨5, _⟩ => ⟨S_, .f32⟩
  | .hbm, ⟨6, _⟩ => ⟨S2048x320, .f32⟩
  | .hbm, ⟨7, _⟩ => ⟨S2x1024x320, .f32⟩
  | .hbm, ⟨8, _⟩ => ⟨S_, .f32⟩
  | .hbm, ⟨9, _⟩ => ⟨S2x1024x320, .f32⟩
  | .hbm, ⟨10, _⟩ => ⟨S2x1024x320, .f32⟩
  | .hbm, ⟨11, _⟩ => ⟨S_, .f32⟩
  | .hbm, ⟨12, _⟩ => ⟨S2x1024x320, .f32⟩
  | .hbm, ⟨13, _⟩ => ⟨S2x1024x320, .f32⟩
  | .hbm, ⟨14, _⟩ => ⟨S2x1024x320, .f32⟩
  | .hbm, ⟨15, _⟩ => ⟨S_, .f32⟩
  | .hbm, ⟨16, _⟩ => ⟨S2x1024x320, .f32⟩
  | .hbm, ⟨17, _⟩ => ⟨S2x1024x320, .f32⟩
  | .hbm, ⟨18, _⟩ => ⟨S2x1024x320, .f32⟩
  | .hbm, ⟨19, _⟩ => ⟨S_, .f32⟩
  | .hbm, ⟨20, _⟩ => ⟨S2x1024x320, .f32⟩
  | .hbm, ⟨21, _⟩ => ⟨S2x1024x320, .f32⟩
  | .hbm, ⟨22, _⟩ => ⟨S2x1024x320, .f32⟩
  | .hbm, ⟨23, _⟩ => ⟨S_, .f32⟩
  | .hbm, ⟨24, _⟩ => ⟨S2x1024x320, .f32⟩
  | .hbm, ⟨25, _⟩ => ⟨S2x1024x320, .f32⟩
  | .hbm, ⟨26, _⟩ => ⟨S_, .f32⟩
  | .hbm, ⟨27, _⟩ => ⟨S2x1024x320, .f32⟩
  | .hbm, ⟨28, _⟩ => ⟨S2x1024x320, .f32⟩
  | .hbm, ⟨29, _⟩ => ⟨S2x1024x320, .f32⟩
  | .hbm, ⟨30, _⟩ => ⟨S_, .f32⟩
  | .hbm, ⟨31, _⟩ => ⟨S2x1024x320, .f32⟩
  | .hbm, ⟨32, _⟩ => ⟨S2x1024x320, .f32⟩
  | .hbm, ⟨33, _⟩ => ⟨S2x1024x320, .f32⟩
  | .hbm, ⟨34, _⟩ => ⟨S_, .f32⟩
  | .hbm, ⟨35, _⟩ => ⟨S2x1024x320, .f32⟩
  | .hbm, ⟨36, _⟩ => ⟨S2x1024x320, .f32⟩
  | .hbm, ⟨37, _⟩ => ⟨S2x1024x320, .f32⟩
  | .hbm, ⟨38, _⟩ => ⟨S_, .f32⟩
  | .hbm, ⟨39, _⟩ => ⟨S2x1024x320, .f32⟩
  | .hbm, ⟨40, _⟩ => ⟨S2x1024x320, .f32⟩
  | .hbm, ⟨41, _⟩ => ⟨S2048x320, .f32⟩
  | .hbm, ⟨42, _⟩ => ⟨S2048x320, .f32⟩
  | .hbm, ⟨43, _⟩ => ⟨S2048x320, .f32⟩
  | .hbm, ⟨44, _⟩ => ⟨S2048x320, .f32⟩
  | _, _ => ⟨S2x1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== AdamOut.lean ====
abbrev S2x128x1024 : Shape := ⟨3, ![2, 128, 1024]⟩
abbrev S8x256x1024 : Shape := ⟨3, ![8, 256, 1024]⟩
abbrev S256x1024 : Shape := ⟨2, ![256, 1024]⟩
abbrev S64x1024 : Shape := ⟨2, ![64, 1024]⟩
abbrev S8x64x1024 : Shape := ⟨3, ![8, 64, 1024]⟩
abbrev S1x64x1024 : Shape := ⟨3, ![1, 64, 1024]⟩

abbrev nBuf : Space → Nat
  | .hbm => 11
  | .vmem => 16
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S8x256x1024, .bf16⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S8x64x1024, .bf16⟩
  | .local _ .vmem, ⟨7, _⟩ => ⟨S8x64x1024, .bf16⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S2x128x1024 : Shape := ⟨3, ![2, 128, 1024]⟩
abbrev S8x256x1024 : Shape := ⟨3, ![8, 256, 1024]⟩
abbrev S256x1024 : Shape := ⟨2, ![256, 1024]⟩
abbrev S64x1024 : Shape := ⟨2, ![64, 1024]⟩
abbrev S8x64x1024 : Shape := ⟨3, ![8, 64, 1024]⟩
abbrev S1x64x1024 : Shape := ⟨3, ![1, 64, 1024]⟩

abbrev nBuf : Space → Nat
  | .hbm => 11
  | .vmem => 16
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S8x256x1024, .bf16⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S8x64x1024, .bf16⟩
  | .local _ .vmem, ⟨7, _⟩ => ⟨S8x64x1024, .bf16⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S2x128x1024 : Shape := ⟨3, ![2, 128, 1024]⟩
abbrev S8x256x1024 : Shape := ⟨3, ![8, 256, 1024]⟩
abbrev S_ : Shape := ⟨0, ![]⟩
abbrev S256x1024 : Shape := ⟨2, ![256, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S8x256x1024, .bf16⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S2x128x1024, .f32⟩
  | .hbm, ⟨8, _⟩ => ⟨S_, .f32⟩
  | .hbm, ⟨9, _⟩ => ⟨S2x128x1024, .f32⟩
  | .hbm, ⟨10, _⟩ => ⟨S2x128x1024, .f32⟩
  | .hbm, ⟨11, _⟩ => ⟨S_, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S_, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S2x128x1024, .f32⟩
  | .hbm, ⟨23, _⟩ => ⟨S_, .f32⟩
  | .hbm, ⟨24, _⟩ => ⟨S2x128x1024, .f32⟩
  | .hbm, ⟨25, _⟩ => ⟨S2x128x1024, .f32⟩
  | .hbm, ⟨26, _⟩ => ⟨S_, .f32⟩
  | .hbm, ⟨27, _⟩ => ⟨S2x128x1024, .f32⟩
  | .hbm, ⟨28, _⟩ => ⟨S2x128x1024, .f32⟩
  | .hbm, ⟨29, _⟩ => ⟨S2x128x1024, .f32⟩
  | .hbm, ⟨30, _⟩ => ⟨S_, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S2x128x1024, .f32⟩
  | .hbm, ⟨38, _⟩ => ⟨S_, .f32⟩
  | .hbm, ⟨39, _⟩ => ⟨S2x128x1024, .f32⟩
  | .hbm, ⟨40, _⟩ => ⟨S2x128x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== AdamUp.lean ====
abbrev S2x1024x704 : Shape := ⟨3, ![2, 1024, 704]⟩
abbrev S8x2048x704 : Shape := ⟨3, ![8, 2048, 704]⟩
abbrev S2048x704 : Shape := ⟨2, ![2048, 704]⟩
abbrev S512x704 : Shape := ⟨2, ![512, 704]⟩
abbrev S8x512x704 : Shape := ⟨3, ![8, 512, 704]⟩
abbrev S1x512x704 : Shape := ⟨3, ![1, 512, 704]⟩

abbrev nBuf : Space → Nat
  | .hbm => 11
  | .vmem => 16
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S8x2048x704, .bf16⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S2048x704, .f32⟩
  | .hbm, ⟨10, _⟩ => ⟨S2048x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S8x512x704, .bf16⟩
  | .local _ .vmem, ⟨7, _⟩ => ⟨S8x512x704, .bf16⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpIdeal.lean ====
abbrev S2x1024x704 : Shape := ⟨3, ![2, 1024, 704]⟩
abbrev S8x2048x704 : Shape := ⟨3, ![8, 2048, 704]⟩
abbrev S2048x704 : Shape := ⟨2, ![2048, 704]⟩
abbrev S512x704 : Shape := ⟨2, ![512, 704]⟩
abbrev S8x512x704 : Shape := ⟨3, ![8, 512, 704]⟩
abbrev S1x512x704 : Shape := ⟨3, ![1, 512, 704]⟩

abbrev nBuf : Space → Nat
  | .hbm => 11
  | .vmem => 16
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S8x2048x704, .bf16⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S2048x704, .f32⟩
  | .hbm, ⟨10, _⟩ => ⟨S2048x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S8x512x704, .bf16⟩
  | .local _ .vmem, ⟨7, _⟩ => ⟨S8x512x704, .bf16⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S2x1024x704 : Shape := ⟨3, ![2, 1024, 704]⟩
abbrev S8x2048x704 : Shape := ⟨3, ![8, 2048, 704]⟩
abbrev S_ : Shape := ⟨0, ![]⟩
abbrev S2048x704 : Shape := ⟨2, ![2048, 704]⟩

abbrev nBuf : Space → Nat
  | .hbm => 45
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S8x2048x704, .bf16⟩
  | .hbm, ⟨4, _⟩ => ⟨S8x2048x704, .f32⟩
  | .hbm, ⟨5, _⟩ => ⟨S_, .f32⟩
  | .hbm, ⟨6, _⟩ => ⟨S2048x704, .f32⟩
  | .hbm, ⟨7, _⟩ => ⟨S2x1024x704, .f32⟩
  | .hbm, ⟨8, _⟩ => ⟨S_, .f32⟩
  | .hbm, ⟨9, _⟩ => ⟨S2x1024x704, .f32⟩
  | .hbm, ⟨10, _⟩ => ⟨S2x1024x704, .f32⟩
  | .hbm, ⟨11, _⟩ => ⟨S_, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S2x1024x704, .f32⟩
  | .hbm, ⟨23, _⟩ => ⟨S_, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | .hbm, ⟨37, _⟩ => ⟨S2x1024x704, .f32⟩
  | .hbm, ⟨38, _⟩ => ⟨S_, .f32⟩
  | .hbm, ⟨39, _⟩ => ⟨S2x1024x704, .f32⟩
  | .hbm, ⟨40, _⟩ => ⟨S2x1024x704, .f32⟩
  | .hbm, ⟨41, _⟩ => ⟨S2048x704, .f32⟩
  | .hbm, ⟨42, _⟩ => ⟨S2048x704, .f32⟩
  | .hbm, ⟨43, _⟩ => ⟨S2048x704, .f32⟩
  | .hbm, ⟨44, _⟩ => ⟨S2048x704, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== AdamDown.lean ====
abbrev S2x352x1024 : Shape := ⟨3, ![2, 352, 1024]⟩
abbrev S8x704x1024 : Shape := ⟨3, ![8, 704, 1024]⟩
abbrev S704x1024 : Shape := ⟨2, ![704, 1024]⟩
abbrev S176x1024 : Shape := ⟨2, ![176, 1024]⟩
abbrev S8x176x1024 : Shape := ⟨3, ![8, 176, 1024]⟩
abbrev S1x176x1024 : Shape := ⟨3, ![1, 176, 1024]⟩

abbrev nBuf : Space → Nat
  | .hbm => 11
  | .vmem => 16
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S8x704x1024, .bf16⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S8x176x1024, .bf16⟩
  | .local _ .vmem, ⟨7, _⟩ => ⟨S8x176x1024, .bf16⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S2x352x1024 : Shape := ⟨3, ![2, 352, 1024]⟩
abbrev S8x704x1024 : Shape := ⟨3, ![8, 704, 1024]⟩
abbrev S704x1024 : Shape := ⟨2, ![704, 1024]⟩
abbrev S176x1024 : Shape := ⟨2, ![176, 1024]⟩
abbrev S8x176x1024 : Shape := ⟨3, ![8, 176, 1024]⟩
abbrev S1x176x1024 : Shape := ⟨3, ![1, 176, 1024]⟩

abbrev nBuf : Space → Nat
  | .hbm => 11
  | .vmem => 16
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S8x704x1024, .bf16⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S8x176x1024, .bf16⟩
  | .local _ .vmem, ⟨7, _⟩ => ⟨S8x176x1024, .bf16⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S2x352x1024 : Shape := ⟨3, ![2, 352, 1024]⟩
abbrev S8x704x1024 : Shape := ⟨3, ![8, 704, 1024]⟩
abbrev S_ : Shape := ⟨0, ![]⟩
abbrev S704x1024 : Shape := ⟨2, ![704, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S8x704x1024, .bf16⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S2x352x1024, .f32⟩
  | .hbm, ⟨8, _⟩ => ⟨S_, .f32⟩
  | .hbm, ⟨9, _⟩ => ⟨S2x352x1024, .f32⟩
  | .hbm, ⟨10, _⟩ => ⟨S2x352x1024, .f32⟩
  | .hbm, ⟨11, _⟩ => ⟨S_, .f32⟩
  | .hbm, ⟨12, _⟩ => ⟨S2x352x1024, .f32⟩
  | .hbm, ⟨13, _⟩ => ⟨S2x352x1024, .f32⟩
  | .hbm, ⟨14, _⟩ => ⟨S2x352x1024, .f32⟩
  | .hbm, ⟨15, _⟩ => ⟨S_, .f32⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S2x352x1024, .f32⟩
  | .hbm, ⟨23, _⟩ => ⟨S_, .f32⟩
  | .hbm, ⟨24, _⟩ => ⟨S2x352x1024, .f32⟩
  | .hbm, ⟨25, _⟩ => ⟨S2x352x1024, .f32⟩
  | .hbm, ⟨26, _⟩ => ⟨S_, .f32⟩
  | .hbm, ⟨27, _⟩ => ⟨S2x352x1024, .f32⟩
  | .hbm, ⟨28, _⟩ => ⟨S2x352x1024, .f32⟩
  | .hbm, ⟨29, _⟩ => ⟨S2x352x1024, .f32⟩
  | .hbm, ⟨30, _⟩ => ⟨S_, .f32⟩
  | .hbm, ⟨31, _⟩ => ⟨S2x352x1024, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | .hbm, ⟨37, _⟩ => ⟨S2x352x1024, .f32⟩
  | .hbm, ⟨38, _⟩ => ⟨S_, .f32⟩
  | .hbm, ⟨39, _⟩ => ⟨S2x352x1024, .f32⟩
  | .hbm, ⟨40, _⟩ => ⟨S2x352x1024, .f32⟩
  | .hbm, ⟨41, _⟩ => ⟨S704x1024, .f32⟩
  | .hbm, ⟨42, _⟩ => ⟨S704x1024, .f32⟩
  | .hbm, ⟨43, _⟩ => ⟨S704x1024, .f32⟩
  | .hbm, ⟨44, _⟩ => ⟨S704x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== AdamConv.lean ====
abbrev S2x31x32 : Shape := ⟨3, ![2, 31, 32]⟩
abbrev S8x62x32 : Shape := ⟨3, ![8, 62, 32]⟩
abbrev S62x32 : Shape := ⟨2, ![62, 32]⟩
abbrev S1x62x32 : Shape := ⟨3, ![1, 62, 32]⟩

abbrev nBuf : Space → Nat
  | .hbm => 11
  | .vmem => 8
  | .smem => 0
  | _ => 0

abbrev bufTy : (tb : Table) → Fin (tcTables nBuf tb) → BufTy
  | .hbm, ⟨0, _⟩ => ⟨S2x31x32, .f32⟩
  | .hbm, ⟨1, _⟩ => ⟨S2x31x32, .f32⟩
  | .hbm, ⟨2, _⟩ => ⟨S2x31x32, .f32⟩
  | .hbm, ⟨3, _⟩ => ⟨S8x62x32, .bf16⟩
  | .hbm, ⟨4, _⟩ => ⟨S62x32, .f32⟩
  | .hbm, ⟨5, _⟩ => ⟨S62x32, .f32⟩
  | .hbm, ⟨6, _⟩ => ⟨S62x32, .f32⟩
  | .hbm, ⟨7, _⟩ => ⟨S62x32, .f32⟩
  | .hbm, ⟨8, _⟩ => ⟨S62x32, .f32⟩
  | .hbm, ⟨9, _⟩ => ⟨S62x32, .f32⟩
  | .hbm, ⟨10, _⟩ => ⟨S62x32, .f32⟩
  | .local _ .vmem, ⟨0, _⟩ => ⟨S62x32, .f32⟩
  | .local _ .vmem, ⟨1, _⟩ => ⟨S62x32, .f32⟩
  | .local _ .vmem, ⟨2, _⟩ => ⟨S62x32, .f32⟩
  | .local _ .vmem, ⟨3, _⟩ => ⟨S8x62x32, .bf16⟩
  | .local _ .vmem, ⟨4, _⟩ => ⟨S62x32, .f32⟩
  | .local _ .vmem, ⟨5, _⟩ => ⟨S62x32, .f32⟩
  | .local _ .vmem, ⟨6, _⟩ => ⟨S62x32, .f32⟩
  | .local _ .vmem, ⟨7, _⟩ => ⟨S62x32, .f32⟩
  | _, _ => ⟨S2x31x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x62x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S62x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvIdeal.lean ====
abbrev S2x31x32 : Shape := ⟨3, ![2, 31, 32]⟩
abbrev S8x62x32 : Shape := ⟨3, ![8, 62, 32]⟩
abbrev S62x32 : Shape := ⟨2, ![62, 32]⟩
abbrev S1x62x32 : Shape := ⟨3, ![1, 62, 32]⟩

abbrev nBuf : Space → Nat
  | .hbm => 11
  | .vmem => 8
  | .smem => 0
  | _ => 0

abbrev bufTy : (tb : Table) → Fin (tcTables nBuf tb) → BufTy
  | .hbm, ⟨0, _⟩ => ⟨S2x31x32, .f32⟩
  | .hbm, ⟨1, _⟩ => ⟨S2x31x32, .f32⟩
  | .hbm, ⟨2, _⟩ => ⟨S2x31x32, .f32⟩
  | .hbm, ⟨3, _⟩ => ⟨S8x62x32, .bf16⟩
  | .hbm, ⟨4, _⟩ => ⟨S62x32, .f32⟩
  | .hbm, ⟨5, _⟩ => ⟨S62x32, .f32⟩
  | .hbm, ⟨6, _⟩ => ⟨S62x32, .f32⟩
  | .hbm, ⟨7, _⟩ => ⟨S62x32, .f32⟩
  | .hbm, ⟨8, _⟩ => ⟨S62x32, .f32⟩
  | .hbm, ⟨9, _⟩ => ⟨S62x32, .f32⟩
  | .hbm, ⟨10, _⟩ => ⟨S62x32, .f32⟩
  | .local _ .vmem, ⟨0, _⟩ => ⟨S62x32, .f32⟩
  | .local _ .vmem, ⟨1, _⟩ => ⟨S62x32, .f32⟩
  | .local _ .vmem, ⟨2, _⟩ => ⟨S62x32, .f32⟩
  | .local _ .vmem, ⟨3, _⟩ => ⟨S8x62x32, .bf16⟩
  | .local _ .vmem, ⟨4, _⟩ => ⟨S62x32, .f32⟩
  | .local _ .vmem, ⟨5, _⟩ => ⟨S62x32, .f32⟩
  | .local _ .vmem, ⟨6, _⟩ => ⟨S62x32, .f32⟩
  | .local _ .vmem, ⟨7, _⟩ => ⟨S62x32, .f32⟩
  | _, _ => ⟨S2x31x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x62x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S62x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvRefIdeal.lean ====
abbrev S2x31x32 : Shape := ⟨3, ![2, 31, 32]⟩
abbrev S8x62x32 : Shape := ⟨3, ![8, 62, 32]⟩
abbrev S_ : Shape := ⟨0, ![]⟩
abbrev S62x32 : Shape := ⟨2, ![62, 32]⟩

abbrev nBuf : Space → Nat
  | .hbm => 45
  | .vmem => 0
  | .smem => 0
  | _ => 0

abbrev bufTy : (tb : Table) → Fin (tcTables nBuf tb) → BufTy
  | .hbm, ⟨0, _⟩ => ⟨S2x31x32, .f32⟩
  | .hbm, ⟨1, _⟩ => ⟨S2x31x32, .f32⟩
  | .hbm, ⟨2, _⟩ => ⟨S2x31x32, .f32⟩
  | .hbm, ⟨3, _⟩ => ⟨S8x62x32, .bf16⟩
  | .hbm, ⟨4, _⟩ => ⟨S8x62x32, .f32⟩
  | .hbm, ⟨5, _⟩ => ⟨S_, .f32⟩
  | .hbm, ⟨6, _⟩ => ⟨S62x32, .f32⟩
  | .hbm, ⟨7, _⟩ => ⟨S2x31x32, .f32⟩
  | .hbm, ⟨8, _⟩ => ⟨S_, .f32⟩
  | .hbm, ⟨9, _⟩ => ⟨S2x31x32, .f32⟩
  | .hbm, ⟨10, _⟩ => ⟨S2x31x32, .f32⟩
  | .hbm, ⟨11, _⟩ => ⟨S_, .f32⟩
  | .hbm, ⟨12, _⟩ => ⟨S2x31x32, .f32⟩
  | .hbm, ⟨13, _⟩ => ⟨S2x31x32, .f32⟩
  | .hbm, ⟨14, _⟩ => ⟨S2x31x32, .f32⟩
  | .hbm, ⟨15, _⟩ => ⟨S_, .f32⟩
  | .hbm, ⟨16, _⟩ => ⟨S2x31x32, .f32⟩
  | .hbm, ⟨17, _⟩ => ⟨S2x31x32, .f32⟩
  | .hbm, ⟨18, _⟩ => ⟨S2x31x32, .f32⟩
  | .hbm, ⟨19, _⟩ => ⟨S_, .f32⟩
  | .hbm, ⟨20, _⟩ => ⟨S2x31x32, .f32⟩
  | .hbm, ⟨21, _⟩ => ⟨S2x31x32, .f32⟩
  | .hbm, ⟨22, _⟩ => ⟨S2x31x32, .f32⟩
  | .hbm, ⟨23, _⟩ => ⟨S_, .f32⟩
  | .hbm, ⟨24, _⟩ => ⟨S2x31x32, .f32⟩
  | .hbm, ⟨25, _⟩ => ⟨S2x31x32, .f32⟩
  | .hbm, ⟨26, _⟩ => ⟨S_, .f32⟩
  | .hbm, ⟨27, _⟩ => ⟨S2x31x32, .f32⟩
  | .hbm, ⟨28, _⟩ => ⟨S2x31x32, .f32⟩
  | .hbm, ⟨29, _⟩ => ⟨S2x31x32, .f32⟩
  | .hbm, ⟨30, _⟩ => ⟨S_, .f32⟩
  | .hbm, ⟨31, _⟩ => ⟨S2x31x32, .f32⟩
  | .hbm, ⟨32, _⟩ => ⟨S2x31x32, .f32⟩
  | .hbm, ⟨33, _⟩ => ⟨S2x31x32, .f32⟩
  | .hbm, ⟨34, _⟩ => ⟨S_, .f32⟩
  | .hbm, ⟨35, _⟩ => ⟨S2x31x32, .f32⟩
  | .hbm, ⟨36, _⟩ => ⟨S2x31x32, .f32⟩
  | .hbm, ⟨37, _⟩ => ⟨S2x31x32, .f32⟩
  | .hbm, ⟨38, _⟩ => ⟨S_, .f32⟩
  | .hbm, ⟨39, _⟩ => ⟨S2x31x32, .f32⟩
  | .hbm, ⟨40, _⟩ => ⟨S2x31x32, .f32⟩
  | .hbm, ⟨41, _⟩ => ⟨S62x32, .f32⟩
  | .hbm, ⟨42, _⟩ => ⟨S62x32, .f32⟩
  | .hbm, ⟨43, _⟩ => ⟨S62x32, .f32⟩
  | .hbm, ⟨44, _⟩ => ⟨S62x32, .f32⟩
  | _, _ => ⟨S2x31x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== AdamFfn.lean ====
abbrev S2x3x704 : Shape := ⟨3, ![2, 3, 704]⟩
abbrev S8x6x704 : Shape := ⟨3, ![8, 6, 704]⟩
abbrev S6x704 : Shape := ⟨2, ![6, 704]⟩
abbrev S1x6x704 : Shape := ⟨3, ![1, 6, 704]⟩

abbrev nBuf : Space → Nat
  | .hbm => 11
  | .vmem => 8
  | .smem => 0
  | _ => 0

abbrev bufTy : (tb : Table) → Fin (tcTables nBuf tb) → BufTy
  | .hbm, ⟨0, _⟩ => ⟨S2x3x704, .f32⟩
  | .hbm, ⟨1, _⟩ => ⟨S2x3x704, .f32⟩
  | .hbm, ⟨2, _⟩ => ⟨S2x3x704, .f32⟩
  | .hbm, ⟨3, _⟩ => ⟨S8x6x704, .bf16⟩
  | .hbm, ⟨4, _⟩ => ⟨S6x704, .f32⟩
  | .hbm, ⟨5, _⟩ => ⟨S6x704, .f32⟩
  | .hbm, ⟨6, _⟩ => ⟨S6x704, .f32⟩
  | .hbm, ⟨7, _⟩ => ⟨S6x704, .f32⟩
  | .hbm, ⟨8, _⟩ => ⟨S6x704, .f32⟩
  | .hbm, ⟨9, _⟩ => ⟨S6x704, .f32⟩
  | .hbm, ⟨10, _⟩ => ⟨S6x704, .f32⟩
  | .local _ .vmem, ⟨0, _⟩ => ⟨S6x704, .f32⟩
  | .local _ .vmem, ⟨1, _⟩ => ⟨S6x704, .f32⟩
  | .local _ .vmem, ⟨2, _⟩ => ⟨S6x704, .f32⟩
  | .local _ .vmem, ⟨3, _⟩ => ⟨S8x6x704, .bf16⟩
  | .local _ .vmem, ⟨4, _⟩ => ⟨S6x704, .f32⟩
  | .local _ .vmem, ⟨5, _⟩ => ⟨S6x704, .f32⟩
  | .local _ .vmem, ⟨6, _⟩ => ⟨S6x704, .f32⟩
  | .local _ .vmem, ⟨7, _⟩ => ⟨S6x704, .f32⟩
  | _, _ => ⟨S2x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x6x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S6x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamFfnRefIdeal.lean ====
abbrev S2x3x704 : Shape := ⟨3, ![2, 3, 704]⟩
abbrev S8x6x704 : Shape := ⟨3, ![8, 6, 704]⟩
abbrev S_ : Shape := ⟨0, ![]⟩
abbrev S6x704 : Shape := ⟨2, ![6, 704]⟩

abbrev nBuf : Space → Nat
  | .hbm => 45
  | .vmem => 0
  | .smem => 0
  | _ => 0

abbrev bufTy : (tb : Table) → Fin (tcTables nBuf tb) → BufTy
  | .hbm, ⟨0, _⟩ => ⟨S2x3x704, .f32⟩
  | .hbm, ⟨1, _⟩ => ⟨S2x3x704, .f32⟩
  | .hbm, ⟨2, _⟩ => ⟨S2x3x704, .f32⟩
  | .hbm, ⟨3, _⟩ => ⟨S8x6x704, .bf16⟩
  | .hbm, ⟨4, _⟩ => ⟨S8x6x704, .f32⟩
  | .hbm, ⟨5, _⟩ => ⟨S_, .f32⟩
  | .hbm, ⟨6, _⟩ => ⟨S6x704, .f32⟩
  | .hbm, ⟨7, _⟩ => ⟨S2x3x704, .f32⟩
  | .hbm, ⟨8, _⟩ => ⟨S_, .f32⟩
  | .hbm, ⟨9, _⟩ => ⟨S2x3x704, .f32⟩
  | .hbm, ⟨10, _⟩ => ⟨S2x3x704, .f32⟩
  | .hbm, ⟨11, _⟩ => ⟨S_, .f32⟩
  | .hbm, ⟨12, _⟩ => ⟨S2x3x704, .f32⟩
  | .hbm, ⟨13, _⟩ => ⟨S2x3x704, .f32⟩
  | .hbm, ⟨14, _⟩ => ⟨S2x3x704, .f32⟩
  | .hbm, ⟨15, _⟩ => ⟨S_, .f32⟩
  | .hbm, ⟨16, _⟩ => ⟨S2x3x704, .f32⟩
  | .hbm, ⟨17, _⟩ => ⟨S2x3x704, .f32⟩
  | .hbm, ⟨18, _⟩ => ⟨S2x3x704, .f32⟩
  | .hbm, ⟨19, _⟩ => ⟨S_, .f32⟩
  | .hbm, ⟨20, _⟩ => ⟨S2x3x704, .f32⟩
  | .hbm, ⟨21, _⟩ => ⟨S2x3x704, .f32⟩
  | .hbm, ⟨22, _⟩ => ⟨S2x3x704, .f32⟩
  | .hbm, ⟨23, _⟩ => ⟨S_, .f32⟩
  | .hbm, ⟨24, _⟩ => ⟨S2x3x704, .f32⟩
  | .hbm, ⟨25, _⟩ => ⟨S2x3x704, .f32⟩
  | .hbm, ⟨26, _⟩ => ⟨S_, .f32⟩
  | .hbm, ⟨27, _⟩ => ⟨S2x3x704, .f32⟩
  | .hbm, ⟨28, _⟩ => ⟨S2x3x704, .f32⟩
  | .hbm, ⟨29, _⟩ => ⟨S2x3x704, .f32⟩
  | .hbm, ⟨30, _⟩ => ⟨S_, .f32⟩
  | .hbm, ⟨31, _⟩ => ⟨S2x3x704, .f32⟩
  | .hbm, ⟨32, _⟩ => ⟨S2x3x704, .f32⟩
  | .hbm, ⟨33, _⟩ => ⟨S2x3x704, .f32⟩
  | .hbm, ⟨34, _⟩ => ⟨S_, .f32⟩
  | .hbm, ⟨35, _⟩ => ⟨S2x3x704, .f32⟩
  | .hbm, ⟨36, _⟩ => ⟨S2x3x704, .f32⟩
  | .hbm, ⟨37, _⟩ => ⟨S2x3x704, .f32⟩
  | .hbm, ⟨38, _⟩ => ⟨S_, .f32⟩
  | .hbm, ⟨39, _⟩ => ⟨S2x3x704, .f32⟩
  | .hbm, ⟨40, _⟩ => ⟨S2x3x704, .f32⟩
  | .hbm, ⟨41, _⟩ => ⟨S6x704, .f32⟩
  | .hbm, ⟨42, _⟩ => ⟨S6x704, .f32⟩
  | .hbm, ⟨43, _⟩ => ⟨S6x704, .f32⟩
  | .hbm, ⟨44, _⟩ => ⟨S6x704, .f32⟩
  | _, _ => ⟨S2x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== AdamSmall.lean ====
abbrev S2x2560 : Shape := ⟨2, ![2, 2560]⟩
abbrev S2x256 : Shape := ⟨2, ![2, 256]⟩
abbrev S32x8 : Shape := ⟨2, ![32, 8]⟩
abbrev S2x4x128x128 : Shape := ⟨4, ![2, 4, 128, 128]⟩
abbrev S2x4x128 : Shape := ⟨3, ![2, 4, 128]⟩
abbrev S2x1024 : Shape := ⟨2, ![2, 1024]⟩
abbrev S2x5632 : Shape := ⟨2, ![2, 5632]⟩
abbrev S8x1368x128 : Shape := ⟨3, ![8, 1368, 128]⟩
abbrev S5120 : Shape := ⟨1, ![5120]⟩
abbrev S40x128 : Shape := ⟨2, ![40, 128]⟩
abbrev S512 : Shape := ⟨1, ![512]⟩
abbrev S4x128 : Shape := ⟨2, ![4, 128]⟩
abbrev S256 : Shape := ⟨1, ![256]⟩
abbrev S2x128 : Shape := ⟨2, ![2, 128]⟩
abbrev S131072 : Shape := ⟨1, ![131072]⟩
abbrev S1024x128 : Shape := ⟨2, ![1024, 128]⟩
abbrev S1024 : Shape := ⟨1, ![1024]⟩
abbrev S8x128 : Shape := ⟨2, ![8, 128]⟩
abbrev S2048 : Shape := ⟨1, ![2048]⟩
abbrev S16x128 : Shape := ⟨2, ![16, 128]⟩
abbrev S11264 : Shape := ⟨1, ![11264]⟩
abbrev S88x128 : Shape := ⟨2, ![88, 128]⟩
abbrev S_ : Shape := ⟨0, ![]⟩
abbrev S1350x128 : Shape := ⟨2, ![1350, 128]⟩
abbrev S18x128 : Shape := ⟨2, ![18, 128]⟩
abbrev S1368x128 : Shape := ⟨2, ![1368, 128]⟩
abbrev S1x1368x128 : Shape := ⟨3, ![1, 1368, 128]⟩

abbrev nBuf : Space → Nat
  | .hbm => 173
  | .vmem => 8
  | .smem => 0
  | _ => 0

abbrev hbmTy0_0 (i : Nat) : BufTy := match i % 128 with
  | 0 => ⟨S2x2560, .f32⟩
  | 1 => ⟨S2x256, .f32⟩
  | 2 => ⟨S2x256, .f32⟩
  | 3 => ⟨S2x256, .f32⟩
  | 4 => ⟨S32x8, .f32⟩
  | 5 => ⟨S2x256, .f32⟩
  | 6 => ⟨S2x256, .f32⟩
  | 7 => ⟨S2x4x128x128, .f32⟩
  | 8 => ⟨S2x4x128, .f32⟩
  | 9 => ⟨S2x1024, .f32⟩
  | 10 => ⟨S2x1024, .f32⟩
  | 11 => ⟨S2x1024, .f32⟩
  | 12 => ⟨S2x5632, .f32⟩
  | 13 => ⟨S2x5632, .f32⟩
  | 14 => ⟨S2x1024, .f32⟩
  | 15 => ⟨S2x1024, .f32⟩
  | 16 => ⟨S2x1024, .f32⟩
  | 17 => ⟨S2x2560, .f32⟩
  | 18 => ⟨S2x256, .f32⟩
  | 19 => ⟨S2x256, .f32⟩
  | 20 => ⟨S2x256, .f32⟩
  | 21 => ⟨S32x8, .f32⟩
  | 22 => ⟨S2x256, .f32⟩
  | 23 => ⟨S2x256, .f32⟩
  | 24 => ⟨S2x4x128x128, .f32⟩
  | 25 => ⟨S2x4x128, .f32⟩
  | 26 => ⟨S2x1024, .f32⟩
  | 27 => ⟨S2x1024, .f32⟩
  | 28 => ⟨S2x1024, .f32⟩
  | 29 => ⟨S2x5632, .f32⟩
  | 30 => ⟨S2x5632, .f32⟩
  | 31 => ⟨S2x1024, .f32⟩
  | 32 => ⟨S2x1024, .f32⟩
  | 33 => ⟨S2x1024, .f32⟩
  | 34 => ⟨S2x2560, .f32⟩
  | 35 => ⟨S2x256, .f32⟩
  | 36 => ⟨S2x256, .f32⟩
  | 37 => ⟨S2x256, .f32⟩
  | 38 => ⟨S32x8, .f32⟩
  | 39 => ⟨S2x256, .f32⟩
  | 40 => ⟨S2x256, .f32⟩
  | 41 => ⟨S2x4x128x128, .f32⟩
  | 42 => ⟨S2x4x128, .f32⟩
  | 43 => ⟨S2x1024, .f32⟩
  | 44 => ⟨S2x1024, .f32⟩
  | 45 => ⟨S2x1024, .f32⟩
  | 46 => ⟨S2x5632, .f32⟩
  | 47 => ⟨S2x5632, .f32⟩
  | 48 => ⟨S2x1024, .f32⟩
  | 49 => ⟨S2x1024, .f32⟩
  | 50 => ⟨S2x1024, .f32⟩
  | 51 => ⟨S8x1368x128, .f32⟩
  | 52 => ⟨S5120, .f32⟩
  | 53 => ⟨S40x128, .f32⟩
  | 54 => ⟨S512, .f32⟩
  | 55 => ⟨S4x128, .f32⟩
  | 56 => ⟨S512, .f32⟩
  | 57 => ⟨S4x128, .f32⟩
  | 58 => ⟨S512, .f32⟩
  | 59 => ⟨S4x128, .f32⟩
  | 60 => ⟨S256, .f32⟩
  | 61 => ⟨S2x128, .f32⟩
  | 62 => ⟨S512, .f32⟩
  | 63 => ⟨S4x128, .f32⟩
  | 64 => ⟨S512, .f32⟩
  | 65 => ⟨S4x128, .f32⟩
  | 66 => ⟨S131072, .f32⟩
  | 67 => ⟨S1024x128, .f32⟩
  | 68 => ⟨S1024, .f32⟩
  | 69 => ⟨S8x128, .f32⟩
  | 70 => ⟨S2048, .f32⟩
  | 71 => ⟨S16x128, .f32⟩
  | 72 => ⟨S2048, .f32⟩
  | 73 => ⟨S16x128, .f32⟩
  | 74 => ⟨S2048, .f32⟩
  | 75 => ⟨S16x128, .f32⟩
  | 76 => ⟨S11264, .f32⟩
  | 77 => ⟨S88x128, .f32⟩
  | 78 => ⟨S11264, .f32⟩
  | 79 => ⟨S88x128, .f32⟩
  | 80 => ⟨S2048, .f32⟩
  | 81 => ⟨S16x128, .f32⟩
  | 82 => ⟨S2048, .f32⟩
  | 83 => ⟨S16x128, .f32⟩
  | 84 => ⟨S2048, .f32⟩
  | 85 => ⟨S16x128, .f32⟩
  | 86 => ⟨S_, .f32⟩
  | 87 => ⟨S2x128, .f32⟩
  | 88 => ⟨S1350x128, .f32⟩
  | 89 => ⟨S18x128, .f32⟩
  | 90 => ⟨S1368x128, .f32⟩
  | 91 => ⟨S5120, .f32⟩
  | 92 => ⟨S40x128, .f32⟩
  | 93 => ⟨S512, .f32⟩
  | 94 => ⟨S4x128, .f32⟩
  | 95 => ⟨S512, .f32⟩
  | 96 => ⟨S4x128, .f32⟩
  | 97 => ⟨S512, .f32⟩
  | 98 => ⟨S4x128, .f32⟩
  | 99 => ⟨S256, .f32⟩
  | 100 => ⟨S2x128, .f32⟩
  | 101 => ⟨S512, .f32⟩
  | 102 => ⟨S4x128, .f32⟩
  | 103 => ⟨S512, .f32⟩
  | 104 => ⟨S4x128, .f32⟩
  | 105 => ⟨S131072, .f32⟩
  | 106 => ⟨S1024x128, .f32⟩
  | 107 => ⟨S1024, .f32⟩
  | 108 => ⟨S8x128, .f32⟩
  | 109 => ⟨S2048, .f32⟩
  | 110 => ⟨S16x128, .f32⟩
  | 111 => ⟨S2048, .f32⟩
  | 112 => ⟨S16x128, .f32⟩
  | 113 => ⟨S2048, .f32⟩
  | 114 => ⟨S16x128, .f32⟩
  | 115 => ⟨S11264, .f32⟩
  | 116 => ⟨S88x128, .f32⟩
  | 117 => ⟨S11264, .f32⟩
  | 118 => ⟨S88x128, .f32⟩
  | 119 => ⟨S2048, .f32⟩
  | 120 => ⟨S16x128, .f32⟩
  | 121 => ⟨S2048, .f32⟩
  | 122 => ⟨S16x128, .f32⟩
  | 123 => ⟨S2048, .f32⟩
  | 124 => ⟨S16x128, .f32⟩
  | 125 => ⟨S_, .f32⟩
  | 126 => ⟨S2x128, .f32⟩
  | 127 => ⟨S1350x128, .f32⟩
  | _ => ⟨S2x2560, .f32⟩

abbrev hbmTy0_1 (i : Nat) : BufTy := match i % 128 with
  | 0 => ⟨S18x128, .f32⟩
  | 1 => ⟨S1368x128, .f32⟩
  | 2 => ⟨S5120, .f32⟩
  | 3 => ⟨S40x128, .f32⟩
  | 4 => ⟨S512, .f32⟩
  | 5 => ⟨S4x128, .f32⟩
  | 6 => ⟨S512, .f32⟩
  | 7 => ⟨S4x128, .f32⟩
  | 8 => ⟨S512, .f32⟩
  | 9 => ⟨S4x128, .f32⟩
  | 10 => ⟨S256, .f32⟩
  | 11 => ⟨S2x128, .f32⟩
  | 12 => ⟨S512, .f32⟩
  | 13 => ⟨S4x128, .f32⟩
  | 14 => ⟨S512, .f32⟩
  | 15 => ⟨S4x128, .f32⟩
  | 16 => ⟨S131072, .f32⟩
  | 17 => ⟨S1024x128, .f32⟩
  | 18 => ⟨S1024, .f32⟩
  | 19 => ⟨S8x128, .f32⟩
  | 20 => ⟨S2048, .f32⟩
  | 21 => ⟨S16x128, .f32⟩
  | 22 => ⟨S2048, .f32⟩
  | 23 => ⟨S16x128, .f32⟩
  | 24 => ⟨S2048, .f32⟩
  | 25 => ⟨S16x128, .f32⟩
  | 26 => ⟨S11264, .f32⟩
  | 27 => ⟨S88x128, .f32⟩
  | 28 => ⟨S11264, .f32⟩
  | 29 => ⟨S88x128, .f32⟩
  | 30 => ⟨S2048, .f32⟩
  | 31 => ⟨S16x128, .f32⟩
  | 32 => ⟨S2048, .f32⟩
  | 33 => ⟨S16x128, .f32⟩
  | 34 => ⟨S2048, .f32⟩
  | 35 => ⟨S16x128, .f32⟩
  | 36 => ⟨S_, .f32⟩
  | 37 => ⟨S2x128, .f32⟩
  | 38 => ⟨S1350x128, .f32⟩
  | 39 => ⟨S18x128, .f32⟩
  | 40 => ⟨S1368x128, .f32⟩
  | 41 => ⟨S1368x128, .f32⟩
  | 42 => ⟨S1368x128, .f32⟩
  | 43 => ⟨S1368x128, .f32⟩
  | 44 => ⟨S1368x128, .f32⟩
  | _ => ⟨S2x2560, .f32⟩

abbrev hbmTy (i : Nat) : BufTy := match i / 128 with
  | 0 => hbmTy0_0 i
  | 1 => hbmTy0_1 i
  | _ => ⟨S2x2560, .f32⟩

abbrev bufTy : (tb : Table) → Fin (tcTables nBuf tb) → BufTy
  | .hbm, ⟨i, _⟩ => hbmTy i
  | .local _ .vmem, ⟨0, _⟩ => ⟨S1368x128, .f32⟩
  | .local _ .vmem, ⟨1, _⟩ => ⟨S1368x128, .f32⟩
  | .local _ .vmem, ⟨2, _⟩ => ⟨S1368x128, .f32⟩
  | .local _ .vmem, ⟨3, _⟩ => ⟨S8x1368x128, .f32⟩
  | .local _ .vmem, ⟨4, _⟩ => ⟨S1368x128, .f32⟩
  | .local _ .vmem, ⟨5, _⟩ => ⟨S1368x128, .f32⟩
  | .local _ .vmem, ⟨6, _⟩ => ⟨S1368x128, .f32⟩
  | .local _ .vmem, ⟨7, _⟩ => ⟨S1368x128, .f32⟩
  | _, _ => ⟨S2x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_v0 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_cst : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_cst_0 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_cst_1 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114_0 : Ref sig .tc := ⟨.hbm, 169, rfl⟩
abbrev main_v114_1 : Ref sig .tc := ⟨.hbm, 170, rfl⟩
abbrev main_v114_2 : Ref sig .tc := ⟨.hbm, 171, rfl⟩
abbrev main_v114_3 : Ref sig .tc := ⟨.hbm, 172, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1368x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1368x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1368x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1368x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1368x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1368x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1368x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1368x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S2x2560 : Shape := ⟨2, ![2, 2560]⟩
abbrev S2x256 : Shape := ⟨2, ![2, 256]⟩
abbrev S32x8 : Shape := ⟨2, ![32, 8]⟩
abbrev S2x4x128x128 : Shape := ⟨4, ![2, 4, 128, 128]⟩
abbrev S2x4x128 : Shape := ⟨3, ![2, 4, 128]⟩
abbrev S2x1024 : Shape := ⟨2, ![2, 1024]⟩
abbrev S2x5632 : Shape := ⟨2, ![2, 5632]⟩
abbrev S8x1368x128 : Shape := ⟨3, ![8, 1368, 128]⟩
abbrev S5120 : Shape := ⟨1, ![5120]⟩
abbrev S40x128 : Shape := ⟨2, ![40, 128]⟩
abbrev S512 : Shape := ⟨1, ![512]⟩
abbrev S4x128 : Shape := ⟨2, ![4, 128]⟩
abbrev S256 : Shape := ⟨1, ![256]⟩
abbrev S2x128 : Shape := ⟨2, ![2, 128]⟩
abbrev S131072 : Shape := ⟨1, ![131072]⟩
abbrev S1024x128 : Shape := ⟨2, ![1024, 128]⟩
abbrev S1024 : Shape := ⟨1, ![1024]⟩
abbrev S8x128 : Shape := ⟨2, ![8, 128]⟩
abbrev S2048 : Shape := ⟨1, ![2048]⟩
abbrev S16x128 : Shape := ⟨2, ![16, 128]⟩
abbrev S11264 : Shape := ⟨1, ![11264]⟩
abbrev S88x128 : Shape := ⟨2, ![88, 128]⟩
abbrev S_ : Shape := ⟨0, ![]⟩
abbrev S1350x128 : Shape := ⟨2, ![1350, 128]⟩
abbrev S18x128 : Shape := ⟨2, ![18, 128]⟩
abbrev S1368x128 : Shape := ⟨2, ![1368, 128]⟩

abbrev nBuf : Space → Nat
  | .hbm => 204
  | .vmem => 0
  | .smem => 0
  | _ => 0

abbrev hbmTy0_0 (i : Nat) : BufTy := match i % 128 with
  | 0 => ⟨S2x2560, .f32⟩
  | 1 => ⟨S2x256, .f32⟩
  | 2 => ⟨S2x256, .f32⟩
  | 3 => ⟨S2x256, .f32⟩
  | 4 => ⟨S32x8, .f32⟩
  | 5 => ⟨S2x256, .f32⟩
  | 6 => ⟨S2x256, .f32⟩
  | 7 => ⟨S2x4x128x128, .f32⟩
  | 8 => ⟨S2x4x128, .f32⟩
  | 9 => ⟨S2x1024, .f32⟩
  | 10 => ⟨S2x1024, .f32⟩
  | 11 => ⟨S2x1024, .f32⟩
  | 12 => ⟨S2x5632, .f32⟩
  | 13 => ⟨S2x5632, .f32⟩
  | 14 => ⟨S2x1024, .f32⟩
  | 15 => ⟨S2x1024, .f32⟩
  | 16 => ⟨S2x1024, .f32⟩
  | 17 => ⟨S2x2560, .f32⟩
  | 18 => ⟨S2x256, .f32⟩
  | 19 => ⟨S2x256, .f32⟩
  | 20 => ⟨S2x256, .f32⟩
  | 21 => ⟨S32x8, .f32⟩
  | 22 => ⟨S2x256, .f32⟩
  | 23 => ⟨S2x256, .f32⟩
  | 24 => ⟨S2x4x128x128, .f32⟩
  | 25 => ⟨S2x4x128, .f32⟩
  | 26 => ⟨S2x1024, .f32⟩
  | 27 => ⟨S2x1024, .f32⟩
  | 28 => ⟨S2x1024, .f32⟩
  | 29 => ⟨S2x5632, .f32⟩
  | 30 => ⟨S2x5632, .f32⟩
  | 31 => ⟨S2x1024, .f32⟩
  | 32 => ⟨S2x1024, .f32⟩
  | 33 => ⟨S2x1024, .f32⟩
  | 34 => ⟨S2x2560, .f32⟩
  | 35 => ⟨S2x256, .f32⟩
  | 36 => ⟨S2x256, .f32⟩
  | 37 => ⟨S2x256, .f32⟩
  | 38 => ⟨S32x8, .f32⟩
  | 39 => ⟨S2x256, .f32⟩
  | 40 => ⟨S2x256, .f32⟩
  | 41 => ⟨S2x4x128x128, .f32⟩
  | 42 => ⟨S2x4x128, .f32⟩
  | 43 => ⟨S2x1024, .f32⟩
  | 44 => ⟨S2x1024, .f32⟩
  | 45 => ⟨S2x1024, .f32⟩
  | 46 => ⟨S2x5632, .f32⟩
  | 47 => ⟨S2x5632, .f32⟩
  | 48 => ⟨S2x1024, .f32⟩
  | 49 => ⟨S2x1024, .f32⟩
  | 50 => ⟨S2x1024, .f32⟩
  | 51 => ⟨S8x1368x128, .f32⟩
  | 52 => ⟨S5120, .f32⟩
  | 53 => ⟨S40x128, .f32⟩
  | 54 => ⟨S512, .f32⟩
  | 55 => ⟨S4x128, .f32⟩
  | 56 => ⟨S512, .f32⟩
  | 57 => ⟨S4x128, .f32⟩
  | 58 => ⟨S512, .f32⟩
  | 59 => ⟨S4x128, .f32⟩
  | 60 => ⟨S256, .f32⟩
  | 61 => ⟨S2x128, .f32⟩
  | 62 => ⟨S512, .f32⟩
  | 63 => ⟨S4x128, .f32⟩
  | 64 => ⟨S512, .f32⟩
  | 65 => ⟨S4x128, .f32⟩
  | 66 => ⟨S131072, .f32⟩
  | 67 => ⟨S1024x128, .f32⟩
  | 68 => ⟨S1024, .f32⟩
  | 69 => ⟨S8x128, .f32⟩
  | 70 => ⟨S2048, .f32⟩
  | 71 => ⟨S16x128, .f32⟩
  | 72 => ⟨S2048, .f32⟩
  | 73 => ⟨S16x128, .f32⟩
  | 74 => ⟨S2048, .f32⟩
  | 75 => ⟨S16x128, .f32⟩
  | 76 => ⟨S11264, .f32⟩
  | 77 => ⟨S88x128, .f32⟩
  | 78 => ⟨S11264, .f32⟩
  | 79 => ⟨S88x128, .f32⟩
  | 80 => ⟨S2048, .f32⟩
  | 81 => ⟨S16x128, .f32⟩
  | 82 => ⟨S2048, .f32⟩
  | 83 => ⟨S16x128, .f32⟩
  | 84 => ⟨S2048, .f32⟩
  | 85 => ⟨S16x128, .f32⟩
  | 86 => ⟨S_, .f32⟩
  | 87 => ⟨S2x128, .f32⟩
  | 88 => ⟨S1350x128, .f32⟩
  | 89 => ⟨S18x128, .f32⟩
  | 90 => ⟨S1368x128, .f32⟩
  | 91 => ⟨S5120, .f32⟩
  | 92 => ⟨S40x128, .f32⟩
  | 93 => ⟨S512, .f32⟩
  | 94 => ⟨S4x128, .f32⟩
  | 95 => ⟨S512, .f32⟩
  | 96 => ⟨S4x128, .f32⟩
  | 97 => ⟨S512, .f32⟩
  | 98 => ⟨S4x128, .f32⟩
  | 99 => ⟨S256, .f32⟩
  | 100 => ⟨S2x128, .f32⟩
  | 101 => ⟨S512, .f32⟩
  | 102 => ⟨S4x128, .f32⟩
  | 103 => ⟨S512, .f32⟩
  | 104 => ⟨S4x128, .f32⟩
  | 105 => ⟨S131072, .f32⟩
  | 106 => ⟨S1024x128, .f32⟩
  | 107 => ⟨S1024, .f32⟩
  | 108 => ⟨S8x128, .f32⟩
  | 109 => ⟨S2048, .f32⟩
  | 110 => ⟨S16x128, .f32⟩
  | 111 => ⟨S2048, .f32⟩
  | 112 => ⟨S16x128, .f32⟩
  | 113 => ⟨S2048, .f32⟩
  | 114 => ⟨S16x128, .f32⟩
  | 115 => ⟨S11264, .f32⟩
  | 116 => ⟨S88x128, .f32⟩
  | 117 => ⟨S11264, .f32⟩
  | 118 => ⟨S88x128, .f32⟩
  | 119 => ⟨S2048, .f32⟩
  | 120 => ⟨S16x128, .f32⟩
  | 121 => ⟨S2048, .f32⟩
  | 122 => ⟨S16x128, .f32⟩
  | 123 => ⟨S2048, .f32⟩
  | 124 => ⟨S16x128, .f32⟩
  | 125 => ⟨S_, .f32⟩
  | 126 => ⟨S2x128, .f32⟩
  | 127 => ⟨S1350x128, .f32⟩
  | _ => ⟨S2x2560, .f32⟩

abbrev hbmTy0_1 (i : Nat) : BufTy := match i % 128 with
  | 0 => ⟨S18x128, .f32⟩
  | 1 => ⟨S1368x128, .f32⟩
  | 2 => ⟨S5120, .f32⟩
  | 3 => ⟨S40x128, .f32⟩
  | 4 => ⟨S512, .f32⟩
  | 5 => ⟨S4x128, .f32⟩
  | 6 => ⟨S512, .f32⟩
  | 7 => ⟨S4x128, .f32⟩
  | 8 => ⟨S512, .f32⟩
  | 9 => ⟨S4x128, .f32⟩
  | 10 => ⟨S256, .f32⟩
  | 11 => ⟨S2x128, .f32⟩
  | 12 => ⟨S512, .f32⟩
  | 13 => ⟨S4x128, .f32⟩
  | 14 => ⟨S512, .f32⟩
  | 15 => ⟨S4x128, .f32⟩
  | 16 => ⟨S131072, .f32⟩
  | 17 => ⟨S1024x128, .f32⟩
  | 18 => ⟨S1024, .f32⟩
  | 19 => ⟨S8x128, .f32⟩
  | 20 => ⟨S2048, .f32⟩
  | 21 => ⟨S16x128, .f32⟩
  | 22 => ⟨S2048, .f32⟩
  | 23 => ⟨S16x128, .f32⟩
  | 24 => ⟨S2048, .f32⟩
  | 25 => ⟨S16x128, .f32⟩
  | 26 => ⟨S11264, .f32⟩
  | 27 => ⟨S88x128, .f32⟩
  | 28 => ⟨S11264, .f32⟩
  | 29 => ⟨S88x128, .f32⟩
  | 30 => ⟨S2048, .f32⟩
  | 31 => ⟨S16x128, .f32⟩
  | 32 => ⟨S2048, .f32⟩
  | 33 => ⟨S16x128, .f32⟩
  | 34 => ⟨S2048, .f32⟩
  | 35 => ⟨S16x128, .f32⟩
  | 36 => ⟨S_, .f32⟩
  | 37 => ⟨S2x128, .f32⟩
  | 38 => ⟨S1350x128, .f32⟩
  | 39 => ⟨S18x128, .f32⟩
  | 40 => ⟨S1368x128, .f32⟩
  | 41 => ⟨S_, .f32⟩
  | 42 => ⟨S1368x128, .f32⟩
  | 43 => ⟨S_, .f32⟩
  | 44 => ⟨S1368x128, .f32⟩
  | 45 => ⟨S1368x128, .f32⟩
  | 46 => ⟨S_, .f32⟩
  | 47 => ⟨S1368x128, .f32⟩
  | 48 => ⟨S1368x128, .f32⟩
  | 49 => ⟨S1368x128, .f32⟩
  | 50 => ⟨S_, .f32⟩
  | 51 => ⟨S1368x128, .f32⟩
  | 52 => ⟨S1368x128, .f32⟩
  | 53 => ⟨S1368x128, .f32⟩
  | 54 => ⟨S_, .f32⟩
  | 55 => ⟨S1368x128, .f32⟩
  | 56 => ⟨S1368x128, .f32⟩
  | 57 => ⟨S1368x128, .f32⟩
  | 58 => ⟨S_, .f32⟩
  | 59 => ⟨S1368x128, .f32⟩
  | 60 => ⟨S1368x128, .f32⟩
  | 61 => ⟨S_, .f32⟩
  | 62 => ⟨S1368x128, .f32⟩
  | 63 => ⟨S1368x128, .f32⟩
  | 64 => ⟨S1368x128, .f32⟩
  | 65 => ⟨S_, .f32⟩
  | 66 => ⟨S1368x128, .f32⟩
  | 67 => ⟨S1368x128, .f32⟩
  | 68 => ⟨S1368x128, .f32⟩
  | 69 => ⟨S_, .f32⟩
  | 70 => ⟨S1368x128, .f32⟩
  | 71 => ⟨S1368x128, .f32⟩
  | 72 => ⟨S1368x128, .f32⟩
  | 73 => ⟨S_, .f32⟩
  | 74 => ⟨S1368x128, .f32⟩
  | 75 => ⟨S1368x128, .f32⟩
  | _ => ⟨S2x2560, .f32⟩

abbrev hbmTy (i : Nat) : BufTy := match i / 128 with
  | 0 => hbmTy0_0 i
  | 1 => hbmTy0_1 i
  | _ => ⟨S2x2560, .f32⟩

abbrev bufTy : (tb : Table) → Fin (tcTables nBuf tb) → BufTy
  | .hbm, ⟨i, _⟩ => hbmTy i
  | _, _ => ⟨S2x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_v0 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_cst : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_cst_0 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_cst_1 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_cst_2 : Ref sig .tc := ⟨.hbm, 169, rfl⟩
abbrev main_v114 : Ref sig .tc := ⟨.hbm, 170, rfl⟩
abbrev main_cst_3 : Ref sig .tc := ⟨.hbm, 171, rfl⟩
abbrev main_v115 : Ref sig .tc := ⟨.hbm, 172, rfl⟩
abbrev main_v116 : Ref sig .tc := ⟨.hbm, 173, rfl⟩
abbrev main_cst_4 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_cst_5 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_cst_6 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_cst_7 : Ref sig .tc := ⟨.hbm, 186, rfl⟩
abbrev main_v126 : Ref sig .tc := ⟨.hbm, 187, rfl⟩
abbrev main_v127 : Ref sig .tc := ⟨.hbm, 188, rfl⟩
abbrev main_cst_8 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_cst_9 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_cst_10 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_cst_11 : Ref sig .tc := ⟨.hbm, 201, rfl⟩
abbrev main_v137 : Ref sig .tc := ⟨.hbm, 202, rfl⟩
abbrev main_v138 : Ref sig .tc := ⟨.hbm, 203, rfl⟩

abbrev nD : Nat := 1
abbrev τ : Topo := Topo.v7x

variable {F : FTy → Type} [FloatOps F]
-- ==== Proof.Spec.lean ====
/- The gradient of one branch of the windowed attention as sums over extended reals: the common form
   that the kernel's blocks and the reference's arrays are both read as. -/
module

public import Idealize.ShloMosaic.Lib.Pointwise
public import Idealize.ShloMosaic.PureOps.Ideal
public import Idealize.ShloMosaic.PureOps.Ideal.Laws
public import Idealize.ShloMosaic.Lib.WordCmp

@[expose] public section

set_option maxRecDepth 16384

noncomputable section

namespace Cert.Attn

open Idealize.ShloMosaic

/-- Rows by block, row in the block, head and lane. -/
abbrev Rows := Fin 128 → Fin 128 → Fin 8 → Fin 64 → EReal
/-- One number for each row and head. -/
abbrev Col := Fin 128 → Fin 128 → Fin 8 → EReal
/-- The bias of a head at a row and a key of the row's window. -/
abbrev Bias := Fin 8 → Fin 128 → Fin 256 → EReal

/-- The 256 keys of block `n`: the block before (zeros for the first block), then the block itself. -/
def keys (k : Rows) (n : Fin 128) (j : Fin 256) (h : Fin 8) (d : Fin 64) : EReal :=
  if hj : j.val < 128 then
    if n.val = 0 then 0 else k ⟨n.val - 1, by omega⟩ ⟨j.val, hj⟩ h d
  else k n ⟨j.val - 128, by omega⟩ h d

/-- Row `i` of a block sees key `j`: at most 128 back, none ahead, and none before the sequence begins. -/
def sees (n i : Fin 128) (j : Fin 256) : Prop := j.val ≤ i.val + 128 ∧ i.val ≤ j.val ∧ (n.val ≠ 0 ∨ 128 ≤ j.val)

instance (n i : Fin 128) (j : Fin 256) : Decidable (sees n i j) := by unfold sees; infer_instance

/-- The probability that row `i` of block `n` gives key `j`, shifted by the row's `l`. -/
def prob (q k : Rows) (b : Bias) (l : Col) (n : Fin 128) (h : Fin 8) (i : Fin 128) (j : Fin 256) : EReal :=
  if sees n i j then Ideal.exp ((∑ d : Fin 64, q n i h d * keys k n j h d) + b h i j - l n i h) else 0

/-- The gradient of the logit. -/
def dlog (q k v o : Rows) (b : Bias) (l e : Col) (n : Fin 128) (h : Fin 8) (i : Fin 128) (j : Fin 256) : EReal :=
  if sees n i j then prob q k b l n h i j * ((∑ d : Fin 64, o n i h d * keys v n j h d) - e n i h) else 0

def gradQ (s : Fin 128 → Fin 8 → Fin 128 → Fin 256 → EReal) (k : Rows) (n i : Fin 128) (h : Fin 8) (d : Fin 64) : EReal :=
  ∑ j : Fin 256, s n h i j * keys k n j h d

/-- What key `j` of block `n` collects: from its own block's rows and from the next block's. -/
def gradK (s : Fin 128 → Fin 8 → Fin 128 → Fin 256 → EReal) (q : Rows) (n j : Fin 128) (h : Fin 8) (d : Fin 64) : EReal :=
  (∑ i : Fin 128, s n h i ⟨128 + j.val, by omega⟩ * q n i h d)
    + if hn : n.val < 127 then ∑ i : Fin 128, s ⟨1 + n.val, by omega⟩ h i ⟨j.val, by omega⟩ * q ⟨1 + n.val, by omega⟩ i h d else 0

def gradB (s : Fin 128 → Fin 8 → Fin 128 → Fin 256 → EReal) (h : Fin 8) (i : Fin 128) (j : Fin 256) : EReal :=
  ∑ n : Fin 128, s n h i j

/-- The rows of an array of 512 columns. -/
def rows (X : (⟨2, ![16384, 512]⟩ : Shape).Idx → EReal) : Rows := fun n i h d =>
  X (ix2 ⟨n.val * 128 + i.val, by omega⟩ ⟨h.val * 64 + d.val, by omega⟩)

/-- The rows of columns `o`, …, `o + 511` of an array of 1536 columns. -/
def rowsAt (o : ℕ) (ho : o + 512 ≤ 1536) (X : (⟨2, ![16384, 1536]⟩ : Shape).Idx → EReal) : Rows := fun n i h d =>
  X (ix2 ⟨n.val * 128 + i.val, by omega⟩ ⟨o + (h.val * 64 + d.val), by omega⟩)

def col (X : (⟨2, ![16384, 8]⟩ : Shape).Idx → EReal) : Col := fun n i h =>
  X (ix2 ⟨n.val * 128 + i.val, by omega⟩ h)

def bias (X : (⟨3, ![8, 128, 256]⟩ : Shape).Idx → EReal) : Bias := fun h i j => X (ix3 h i j)

theorem toInt_subi {a b : ℕ} (ha : a < 2 ^ 30) (hb : b < 2 ^ 30) :
    (IntOp.subi (BitVec.ofNat 32 a) (BitVec.ofNat 32 b)).toInt = (a : ℤ) - b := by
  show (BitVec.ofNat 32 a - BitVec.ofNat 32 b).toInt = _
  rw [BitVec.toInt_sub, BitVec.toInt_ofNat', BitVec.toInt_ofNat']
  simp only [Int.bmod]
  omega

theorem and_word (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The window's two comparisons on words. -/
theorem window_word (i : Fin 128) (j : Fin 256) :
    IntOp.andi
        (IntOp.cmpi .sge (IntOp.subi (IntOp.addi (BitVec.ofNat 32 i.val) 128#32) (BitVec.ofNat 32 j.val)) 0#32)
        (IntOp.cmpi .sle (IntOp.subi (IntOp.addi (BitVec.ofNat 32 i.val) 128#32) (BitVec.ofNat 32 j.val)) 128#32)
      = BitVec.ofBool (decide (j.val ≤ i.val + 128 ∧ i.val ≤ j.val)) := by
  have h1 : (BitVec.ofNat 32 128).toInt = 128 := rfl
  rw [show (128#32 : BitVec 32) = BitVec.ofNat 32 128 from rfl, WordCmp.addi_ofNat, WordCmp.cmpi_sge_eq, WordCmp.cmpi_sle_eq,
    toInt_subi (by omega) (by omega), h1, show (0#32 : BitVec 32).toInt = 0 from rfl, and_word]
  congr 2
  apply propext
  omega

/-- … with the comparison that keeps a key from before the sequence out. -/
theorem sees_word (n i : Fin 128) (j : Fin 256) :
    IntOp.andi
        (IntOp.andi
          (IntOp.cmpi .sge (IntOp.subi (IntOp.addi (BitVec.ofNat 32 i.val) 128#32) (BitVec.ofNat 32 j.val)) 0#32)
          (IntOp.cmpi .sle (IntOp.subi (IntOp.addi (BitVec.ofNat 32 i.val) 128#32) (BitVec.ofNat 32 j.val)) 128#32))
        (IntOp.cmpi .sge (IntOp.subi (IntOp.addi (IntOp.muli (BitVec.ofNat 32 n.val) 128#32) (BitVec.ofNat 32 j.val)) 128#32) 0#32)
      = BitVec.ofBool (decide (sees n i j)) := by
  rw [window_word, show (128#32 : BitVec 32) = BitVec.ofNat 32 128 from rfl, WordCmp.muli_ofNat, WordCmp.addi_ofNat,
    WordCmp.cmpi_sge_eq, toInt_subi (by omega) (by omega), show (0#32 : BitVec 32).toInt = 0 from rfl, and_word]
  congr 2
  apply propext
  unfold sees
  omega

theorem sum_first_half {f : Fin 128 → EReal} (hf : ∀ l : Fin 128, 64 ≤ l.val → f l = 0) :
    ∑ l : Fin 128, f l = ∑ d : Fin 64, f ⟨d.val, by omega⟩ := by
  rw [Fin.sum_univ_two_halves 64 64 rfl f]
  rw [Finset.sum_eq_zero (s := Finset.univ) (f := fun d : Fin 64 => f ⟨64 + d.val, _⟩) (fun d _ => hf _ (by simp)), add_zero]

theorem sum_second_half {f : Fin 128 → EReal} (hf : ∀ l : Fin 128, l.val < 64 → f l = 0) :
    ∑ l : Fin 128, f l = ∑ d : Fin 64, f ⟨64 + d.val, by omega⟩ := by
  rw [Fin.sum_univ_two_halves 64 64 rfl f]
  rw [Finset.sum_eq_zero (s := Finset.univ) (f := fun d : Fin 64 => f ⟨d.val, _⟩) (fun d _ => hf _ (by simp)), zero_add]

end Cert.Attn

end
-- ==== Proof.Head.lean ====
/- One head of one block, as the kernel computes it: the probabilities and the gradient of the logits at an entry. -/
module

public import Idealize.ShloMosaic.Lib.Pointwise
public import proofs.«01_k».proof.Proof.Spec
public import proofs.«01_k».proof.Proof.Gen.KernelIdeal.Skeleton

@[expose] public section

set_option maxRecDepth 16384

noncomputable section

namespace Cert.KernelIdeal.Head

open Idealize.ShloMosaic Cert.KernelIdeal.Gen Cert.Attn

/-- Lane `d` of head `u` of a pair. -/
def lane (u : Fin 2) (d : Fin 64) : Fin 128 := ⟨u.val * 64 + d.val, by omega⟩

theorem lt_word {a b : ℕ} (ha : a < 2 ^ 30) (hb : b < 2 ^ 30) :
    IntOp.cmpi .slt (BitVec.ofNat 32 a) (BitVec.ofNat 32 b) = BitVec.ofBool (decide (a < b)) := by
  rw [WordCmp.cmpi_slt_eq, BitVec.toInt_ofNat', BitVec.toInt_ofNat']
  congr 2
  apply propext
  simp only [Int.bmod]
  omega

theorem head_word (c : Fin 128) : IntOp.cmpi .slt (BitVec.ofNat 32 c.val) 64#32 = BitVec.ofBool (decide (c.val < 64)) :=
  lt_word (by omega) (by omega)

/-- The lanes of head 0 are the first 64, … -/
theorem sum_head0 (f : Fin 128 → EReal) :
    ∑ x : Fin 128, Scalar.select (IntOp.cmpi .slt (BitVec.ofNat 32 x.val) 64#32) (f x) 0 = ∑ d : Fin 64, f (lane 0 d) := by
  rw [sum_first_half fun l hl => ?_]
  · refine Finset.sum_congr rfl fun d _ => ?_
    rw [head_word, decide_eq_true (by simp)]
    refine congrArg f (Fin.ext ?_)
    simp [lane]
  · rw [head_word, decide_eq_false (by omega)]
    rfl

/-- … those of head 1 the last. -/
theorem sum_head1 (f : Fin 128 → EReal) :
    ∑ x : Fin 128, Scalar.select (IntOp.cmpi .slt (BitVec.ofNat 32 x.val) 64#32) 0 (f x) = ∑ d : Fin 64, f (lane 1 d) := by
  rw [sum_second_half fun l hl => ?_]
  · refine Finset.sum_congr rfl fun d _ => ?_
    rw [head_word, decide_eq_false (by simp)]
    rfl
  · rw [head_word, decide_eq_true (by omega)]
    rfl

theorem pick_head0 {c : Fin 128} (hc : c.val < 64) (a b : EReal) :
    Scalar.select (IntOp.cmpi .slt (BitVec.ofNat 32 c.val) 64#32) a b = a := by
  rw [head_word, decide_eq_true hc]
  rfl

theorem pick_head1 {c : Fin 128} (hc : ¬c.val < 64) (a b : EReal) :
    Scalar.select (IntOp.cmpi .slt (BitVec.ofNat 32 c.val) 64#32) a b = b := by
  rw [head_word, decide_eq_false hc]
  rfl

/-- The kernel's word for "this point's first block begins the sequence", with the key's half. -/
theorem mask_word {g : ℕ} (hg : g < 16) {j : ℕ} (hj : j < 256) :
    IntOp.andi
        (Scalar.xori
          (Scalar.cmpi .ne
            (Scalar.select
              (Scalar.andi
                (Scalar.xori (Scalar.cmpi .slt (Scalar.remsi (Scalar.muli (BitVec.ofNat 32 g) 8#32) 128#32) 0#32) 0#1)
                (Scalar.cmpi .ne (Scalar.remsi (Scalar.muli (BitVec.ofNat 32 g) 8#32) 128#32) 0#32))
              (Scalar.addi (Scalar.remsi (Scalar.muli (BitVec.ofNat 32 g) 8#32) 128#32) 128#32)
              (Scalar.remsi (Scalar.muli (BitVec.ofNat 32 g) 8#32) 128#32))
            0#32)
          1#1)
        (IntOp.cmpi .slt (BitVec.ofNat 32 j) 128#32)
      = BitVec.ofBool (decide (g = 0 ∧ j < 128)) := by
  rw [show (128#32 : BitVec 32) = BitVec.ofNat 32 128 from rfl, lt_word (by omega) (by omega), ← and_word]
  refine congrArg (IntOp.andi · _) ?_
  have : ∀ g : Fin 16, Scalar.xori
          (Scalar.cmpi .ne
            (Scalar.select
              (Scalar.andi
                (Scalar.xori (Scalar.cmpi .slt (Scalar.remsi (Scalar.muli (BitVec.ofNat 32 g.val) 8#32) 128#32) 0#32) 0#1)
                (Scalar.cmpi .ne (Scalar.remsi (Scalar.muli (BitVec.ofNat 32 g.val) 8#32) 128#32) 0#32))
              (Scalar.addi (Scalar.remsi (Scalar.muli (BitVec.ofNat 32 g.val) 8#32) 128#32) 128#32)
              (Scalar.remsi (Scalar.muli (BitVec.ofNat 32 g.val) 8#32) 128#32))
            0#32)
          1#1 = BitVec.ofBool (decide (g.val = 0)) := by decide
  exact this ⟨g, hg⟩

theorem mask_bot : (Named.named κ "mask" 0xF149F2CA#32 : Ideal .f32) = ⊥ := rfl

theorem mask_first {g : ℕ} (hg : g < 16) (j : Fin 128) (a b : EReal) :
    Scalar.select
        (IntOp.andi
          (Scalar.xori
            (Scalar.cmpi .ne
              (Scalar.select
                (Scalar.andi
                  (Scalar.xori (Scalar.cmpi .slt (Scalar.remsi (Scalar.muli (BitVec.ofNat 32 g) 8#32) 128#32) 0#32) 0#1)
                  (Scalar.cmpi .ne (Scalar.remsi (Scalar.muli (BitVec.ofNat 32 g) 8#32) 128#32) 0#32))
                (Scalar.addi (Scalar.remsi (Scalar.muli (BitVec.ofNat 32 g) 8#32) 128#32) 128#32)
                (Scalar.remsi (Scalar.muli (BitVec.ofNat 32 g) 8#32) 128#32))
              0#32)
            1#1)
          (IntOp.cmpi .slt (BitVec.ofNat 32 j.val) 128#32))
        a b = if g = 0 then a else b := by
  rw [mask_word hg (by omega)]
  by_cases h : g = 0 <;> simp [h, Scalar.select]

theorem mask_second {g : ℕ} (hg : g < 16) (j : Fin 128) (a b : EReal) :
    Scalar.select
        (IntOp.andi
          (Scalar.xori
            (Scalar.cmpi .ne
              (Scalar.select
                (Scalar.andi
                  (Scalar.xori (Scalar.cmpi .slt (Scalar.remsi (Scalar.muli (BitVec.ofNat 32 g) 8#32) 128#32) 0#32) 0#1)
                  (Scalar.cmpi .ne (Scalar.remsi (Scalar.muli (BitVec.ofNat 32 g) 8#32) 128#32) 0#32))
                (Scalar.addi (Scalar.remsi (Scalar.muli (BitVec.ofNat 32 g) 8#32) 128#32) 128#32)
                (Scalar.remsi (Scalar.muli (BitVec.ofNat 32 g) 8#32) 128#32))
              0#32)
            1#1)
          (IntOp.cmpi .slt (BitVec.ofNat 32 (128 + j.val)) 128#32))
        a b = b := by
  rw [mask_word hg (by omega), decide_eq_false (by omega)]
  rfl

/-- A key of the block itself, wherever it stands. -/
theorem mask_later {g : ℕ} (hg : g < 16) {j : ℕ} (hj : j < 128) (a b : EReal) :
    Scalar.select
        (IntOp.andi
          (Scalar.xori
            (Scalar.cmpi .ne
              (Scalar.select
                (Scalar.andi
                  (Scalar.xori (Scalar.cmpi .slt (Scalar.remsi (Scalar.muli (BitVec.ofNat 32 g) 8#32) 128#32) 0#32) 0#1)
                  (Scalar.cmpi .ne (Scalar.remsi (Scalar.muli (BitVec.ofNat 32 g) 8#32) 128#32) 0#32))
                (Scalar.addi (Scalar.remsi (Scalar.muli (BitVec.ofNat 32 g) 8#32) 128#32) 128#32)
                (Scalar.remsi (Scalar.muli (BitVec.ofNat 32 g) 8#32) 128#32))
              0#32)
            1#1)
          (IntOp.cmpi .slt (BitVec.ofNat 32 (128 + j)) 128#32))
        a b = b :=
  mask_second hg ⟨j, hj⟩ a b

section entry

variable {Q K V O : Rows} {B : Bias} {L E : Col} {n i : Fin 128} {h : Fin 8} {j : Fin 256}

/-- An entry of the probabilities: the logit right where the row sees the key, and −∞ elsewhere. -/
theorem prob_of {s l : EReal} (hs : sees n i j → s = (∑ d : Fin 64, Q n i h d * keys K n j h d) + B h i j)
    (hb : ¬sees n i j → s = ⊥) (hl : l = L n i h) : Ideal.exp (s - l) = prob Q K B L n h i j := by
  unfold prob
  by_cases hv : sees n i j
  · rw [if_pos hv, hs hv, hl]
  · rw [if_neg hv, hb hv, EReal.bot_sub, Ideal.exp_bot]

theorem dlog_of {s l w : EReal} (hs : sees n i j → s = (∑ d : Fin 64, Q n i h d * keys K n j h d) + B h i j)
    (hb : ¬sees n i j → s = ⊥) (hl : l = L n i h)
    (hw : sees n i j → w = (∑ d : Fin 64, O n i h d * keys V n j h d) - E n i h) :
    Ideal.exp (s - l) * w = dlog Q K V O B L E n h i j := by
  unfold dlog
  rw [prob_of hs hb hl]
  by_cases hv : sees n i j
  · rw [if_pos hv, hw hv]
  · rw [if_neg hv, prob, if_neg hv, zero_mul]

/-- A key that the row does not see is multiplied by zero, whatever stands there. -/
theorem dlog_mul {a b : EReal} (hab : sees n i j → a = b) :
    dlog Q K V O B L E n h i j * a = dlog Q K V O B L E n h i j * b := by
  by_cases hv : sees n i j
  · rw [hab hv]
  · rw [dlog, if_neg hv, zero_mul, zero_mul]

end entry

/-- What the blocks of grid point (`hp`, `g`) hold, by absolute row and column. -/
structure Reads (hp g : ℕ) (Q K V O : Rows) (B : Bias) (L E : Col) (q k v o ll e : S1024x128.Idx → EReal)
    (kh vh qn dn ln en : S128x128.Idx → EReal) (b : S2x128x256.Idx → EReal) : Prop where
  q : ∀ (r : Fin 1024) (c n i : Fin 128) (h : Fin 8) (d : Fin 64), n.val * 128 + i.val = g * 1024 + r.val →
    h.val * 64 + d.val = hp * 128 + c.val → q (ix2 r c) = Q n i h d
  k : ∀ (r : Fin 1024) (c n i : Fin 128) (h : Fin 8) (d : Fin 64), n.val * 128 + i.val = g * 1024 + r.val →
    h.val * 64 + d.val = hp * 128 + c.val → k (ix2 r c) = K n i h d
  v : ∀ (r : Fin 1024) (c n i : Fin 128) (h : Fin 8) (d : Fin 64), n.val * 128 + i.val = g * 1024 + r.val →
    h.val * 64 + d.val = hp * 128 + c.val → v (ix2 r c) = V n i h d
  o : ∀ (r : Fin 1024) (c n i : Fin 128) (h : Fin 8) (d : Fin 64), n.val * 128 + i.val = g * 1024 + r.val →
    h.val * 64 + d.val = hp * 128 + c.val → o (ix2 r c) = O n i h d
  ll : ∀ (r : Fin 1024) (c n i : Fin 128) (h : Fin 8) (d : Fin 64), n.val * 128 + i.val = g * 1024 + r.val →
    h.val * 64 + d.val = hp * 128 + c.val → ll (ix2 r c) = L n i h
  e : ∀ (r : Fin 1024) (c n i : Fin 128) (h : Fin 8) (d : Fin 64), n.val * 128 + i.val = g * 1024 + r.val →
    h.val * 64 + d.val = hp * 128 + c.val → e (ix2 r c) = E n i h
  kh : ∀ (r : Fin 128) (c n i : Fin 128) (h : Fin 8) (d : Fin 64), n.val * 128 + i.val + 128 = g * 1024 + r.val →
    h.val * 64 + d.val = hp * 128 + c.val → kh (ix2 r c) = K n i h d
  vh : ∀ (r : Fin 128) (c n i : Fin 128) (h : Fin 8) (d : Fin 64), n.val * 128 + i.val + 128 = g * 1024 + r.val →
    h.val * 64 + d.val = hp * 128 + c.val → vh (ix2 r c) = V n i h d
  qn : ∀ (r : Fin 128) (c n i : Fin 128) (h : Fin 8) (d : Fin 64), n.val * 128 + i.val = g * 1024 + 1024 + r.val →
    h.val * 64 + d.val = hp * 128 + c.val → qn (ix2 r c) = Q n i h d
  dn : ∀ (r : Fin 128) (c n i : Fin 128) (h : Fin 8) (d : Fin 64), n.val * 128 + i.val = g * 1024 + 1024 + r.val →
    h.val * 64 + d.val = hp * 128 + c.val → dn (ix2 r c) = O n i h d
  ln : ∀ (r : Fin 128) (c n i : Fin 128) (h : Fin 8) (d : Fin 64), n.val * 128 + i.val = g * 1024 + 1024 + r.val →
    h.val * 64 + d.val = hp * 128 + c.val → ln (ix2 r c) = L n i h
  en : ∀ (r : Fin 128) (c n i : Fin 128) (h : Fin 8) (d : Fin 64), n.val * 128 + i.val = g * 1024 + 1024 + r.val →
    h.val * 64 + d.val = hp * 128 + c.val → en (ix2 r c) = E n i h
  b : ∀ (u : Fin 2) (i : Fin 128) (j : Fin 256) (h : Fin 8), h.val = 2 * hp + u.val →
    b (ix3 u i j) = if j.val ≤ i.val + 128 ∧ i.val ≤ j.val then B h i j else ⊥

section blocks

variable {hp g : ℕ} {Q K V O : Rows} {B : Bias} {L E : Col} {q k v o ll e : S1024x128.Idx → EReal}
  {kh vh qn dn ln en : S128x128.Idx → EReal} {b : S2x128x256.Idx → EReal}
  (R : Reads hp g Q K V O B L E q k v o ll e kh vh qn dn ln en b)
include R

/-- The sum of a logit and the table's bias: right where seen, −∞ out of the window. -/
theorem Reads.table {a : EReal} {u : Fin 2} {n i : Fin 128} {h : Fin 8} {j : Fin 256} (hu : h.val = 2 * hp + u.val)
    (hm : n.val = 0 → 128 ≤ j.val) :
    (sees n i j → a = ∑ d : Fin 64, Q n i h d * keys K n j h d) →
      (sees n i j → a + b (ix3 u i j) = (∑ d : Fin 64, Q n i h d * keys K n j h d) + B h i j)
        ∧ (¬sees n i j → a + b (ix3 u i j) = ⊥) := by
  intro ha
  constructor
  · intro hs
    rw [ha hs, R.b u i j h hu, if_pos ⟨hs.1, hs.2.1⟩]
  · intro hs
    rw [R.b u i j h hu, if_neg fun hw => hs ⟨hw.1, hw.2, by by_cases h0 : n.val = 0; exacts [Or.inr (hm h0), Or.inl h0]⟩,
      EReal.add_bot]

/-- A key row of a block past the first of its point: the row `s` of the point's own keys. -/
theorem Reads.key {s : Fin 1024} {n : Fin 128} {j : Fin 256} {h : Fin 8} {d : Fin 64} {c : Fin 128}
    (hs : n.val * 128 + j.val = g * 1024 + s.val + 128) (hc : h.val * 64 + d.val = hp * 128 + c.val) :
    k (ix2 s c) = keys K n j h d ∧ v (ix2 s c) = keys V n j h d := by
  unfold keys
  by_cases hj : j.val < 128
  · have h0 : n.val ≠ 0 := by omega
    simp only [dif_pos hj, if_neg h0]
    exact ⟨R.k s c _ _ h d (by simp only; omega) hc, R.v s c _ _ h d (by simp only; omega) hc⟩
  · simp only [dif_neg hj]
    exact ⟨R.k s c _ _ h d (by simp only; omega) hc, R.v s c _ _ h d (by simp only; omega) hc⟩

/-- The probabilities at a key among the point's own rows. -/
theorem Reads.prob_own {r s : Fin 1024} {cl : Fin 128} {u : Fin 2} {n i : Fin 128} {h : Fin 8} {j : Fin 256}
    (hr : n.val * 128 + i.val = g * 1024 + r.val) (hs : n.val * 128 + j.val = g * 1024 + s.val + 128)
    (hu : h.val = 2 * hp + u.val) (hcl : cl.val = u.val * 64) :
    Ideal.exp ((∑ d : Fin 64, q (ix2 r (lane u d)) * k (ix2 s (lane u d))) + b (ix3 u i j) - ll (ix2 r cl))
      = prob Q K B L n h i j := by
  have hc : ∀ d : Fin 64, h.val * 64 + d.val = hp * 128 + (lane u d).val := fun d => by simp only [lane]; omega
  obtain ⟨h1, h2⟩ := R.table (a := ∑ d : Fin 64, q (ix2 r (lane u d)) * k (ix2 s (lane u d))) (n := n) (i := i) (j := j) hu
    (fun h0 => by omega) fun _ => Finset.sum_congr rfl fun d _ => by
      rw [R.q r _ n i h d hr (hc d), (R.key hs (hc d)).1]
  exact prob_of h1 h2 (R.ll r cl n i h ⟨0, by omega⟩ hr (by simp only; omega))

theorem Reads.dlog_own {r s : Fin 1024} {cl : Fin 128} {u : Fin 2} {n i : Fin 128} {h : Fin 8} {j : Fin 256}
    (hr : n.val * 128 + i.val = g * 1024 + r.val) (hs : n.val * 128 + j.val = g * 1024 + s.val + 128)
    (hu : h.val = 2 * hp + u.val) (hcl : cl.val = u.val * 64) :
    Ideal.exp ((∑ d : Fin 64, q (ix2 r (lane u d)) * k (ix2 s (lane u d))) + b (ix3 u i j) - ll (ix2 r cl))
        * ((∑ d : Fin 64, o (ix2 r (lane u d)) * v (ix2 s (lane u d))) - e (ix2 r cl))
      = dlog Q K V O B L E n h i j := by
  have hc : ∀ d : Fin 64, h.val * 64 + d.val = hp * 128 + (lane u d).val := fun d => by simp only [lane]; omega
  obtain ⟨h1, h2⟩ := R.table (a := ∑ d : Fin 64, q (ix2 r (lane u d)) * k (ix2 s (lane u d))) (n := n) (i := i) (j := j) hu
    (fun h0 => by omega) fun _ => Finset.sum_congr rfl fun d _ => by
      rw [R.q r _ n i h d hr (hc d), (R.key hs (hc d)).1]
  refine dlog_of h1 h2 (R.ll r cl n i h ⟨0, by omega⟩ hr (by simp only; omega)) fun _ => ?_
  rw [R.e r cl n i h ⟨0, by omega⟩ hr (by simp only; omega)]
  refine congrArg (· - _) (Finset.sum_congr rfl fun d _ => ?_)
  rw [R.o r _ n i h d hr (hc d), (R.key hs (hc d)).2]

/-- A key row of the block before the point's first. -/
theorem Reads.halo {s : Fin 128} {n i : Fin 128} {j : Fin 256} {h : Fin 8} {d : Fin 64} {c : Fin 128}
    (hn : n.val = g * 8) (hj : j.val = s.val) (hv : sees n i j) (hc : h.val * 64 + d.val = hp * 128 + c.val) :
    g ≠ 0 ∧ kh (ix2 s c) = keys K n j h d ∧ vh (ix2 s c) = keys V n j h d := by
  have h0 : n.val ≠ 0 := by
    have := hv.2.2
    omega
  have hj' : j.val < 128 := by omega
  unfold keys
  simp only [dif_pos hj', if_neg h0]
  exact ⟨by omega, R.kh s c _ _ h d (by simp only; omega) hc, R.vh s c _ _ h d (by simp only; omega) hc⟩

theorem Reads.table_halo {a : EReal} {u : Fin 2} {n i : Fin 128} {h : Fin 8} {j : Fin 256} (hu : h.val = 2 * hp + u.val)
    (hn : n.val = g * 8) (hj : j.val < 128) (ha : sees n i j → a = ∑ d : Fin 64, Q n i h d * keys K n j h d) :
    (sees n i j → (if g = 0 then ⊥ else a + b (ix3 u i j)) = (∑ d : Fin 64, Q n i h d * keys K n j h d) + B h i j)
      ∧ (¬sees n i j → (if g = 0 then ⊥ else a + b (ix3 u i j)) = ⊥) := by
  by_cases hg : g = 0
  · rw [if_pos hg]
    refine ⟨fun hs => absurd hs.2.2 (by omega), fun _ => rfl⟩
  · rw [if_neg hg]
    exact R.table hu (fun h0 => by omega) ha

/-- The first block's keys from the block before: masked where the sequence begins. -/
theorem Reads.prob_halo {r : Fin 1024} {s cl : Fin 128} {u : Fin 2} {n i : Fin 128} {h : Fin 8} {j : Fin 256}
    (hr : n.val * 128 + i.val = g * 1024 + r.val) (hg : r.val < 128) (hj : j.val = s.val) (hu : h.val = 2 * hp + u.val)
    (hcl : cl.val = u.val * 64) :
    Ideal.exp ((if g = 0 then ⊥ else (∑ d : Fin 64, q (ix2 r (lane u d)) * kh (ix2 s (lane u d))) + b (ix3 u i j)) - ll (ix2 r cl))
      = prob Q K B L n h i j := by
  have hc : ∀ d : Fin 64, h.val * 64 + d.val = hp * 128 + (lane u d).val := fun d => by simp only [lane]; omega
  obtain ⟨h1, h2⟩ := R.table_halo (a := ∑ d : Fin 64, q (ix2 r (lane u d)) * kh (ix2 s (lane u d))) (n := n) (i := i) (j := j) hu
    (by omega) (by omega) fun hs => Finset.sum_congr rfl fun d _ => by
      rw [R.q r _ n i h d hr (hc d), (R.halo (by omega) hj hs (hc d)).2.1]
  exact prob_of h1 h2 (R.ll r cl n i h ⟨0, by omega⟩ hr (by simp only; omega))

theorem Reads.dlog_halo {r : Fin 1024} {s cl : Fin 128} {u : Fin 2} {n i : Fin 128} {h : Fin 8} {j : Fin 256}
    (hr : n.val * 128 + i.val = g * 1024 + r.val) (hg : r.val < 128) (hj : j.val = s.val) (hu : h.val = 2 * hp + u.val)
    (hcl : cl.val = u.val * 64) :
    Ideal.exp ((if g = 0 then ⊥ else (∑ d : Fin 64, q (ix2 r (lane u d)) * kh (ix2 s (lane u d))) + b (ix3 u i j)) - ll (ix2 r cl))
        * ((∑ d : Fin 64, o (ix2 r (lane u d)) * vh (ix2 s (lane u d))) - e (ix2 r cl))
      = dlog Q K V O B L E n h i j := by
  have hc : ∀ d : Fin 64, h.val * 64 + d.val = hp * 128 + (lane u d).val := fun d => by simp only [lane]; omega
  obtain ⟨h1, h2⟩ := R.table_halo (a := ∑ d : Fin 64, q (ix2 r (lane u d)) * kh (ix2 s (lane u d))) (n := n) (i := i) (j := j) hu
    (by omega) (by omega) fun hs => Finset.sum_congr rfl fun d _ => by
      rw [R.q r _ n i h d hr (hc d), (R.halo (by omega) hj hs (hc d)).2.1]
  refine dlog_of h1 h2 (R.ll r cl n i h ⟨0, by omega⟩ hr (by simp only; omega)) fun hs => ?_
  rw [R.e r cl n i h ⟨0, by omega⟩ hr (by simp only; omega)]
  refine congrArg (· - _) (Finset.sum_congr rfl fun d _ => ?_)
  rw [R.o r _ n i h d hr (hc d), (R.halo (by omega) hj hs (hc d)).2.2]

/-- The next point's first block, at the keys of this point's last. -/
theorem Reads.prob_next {r cl : Fin 128} {s : Fin 1024} {u : Fin 2} {n i : Fin 128} {h : Fin 8} {j : Fin 256}
    (hr : n.val * 128 + i.val = g * 1024 + 1024 + r.val) (hs : n.val * 128 + j.val = g * 1024 + s.val + 128)
    (hu : h.val = 2 * hp + u.val) (hcl : cl.val = u.val * 64) :
    Ideal.exp ((∑ d : Fin 64, qn (ix2 r (lane u d)) * k (ix2 s (lane u d))) + b (ix3 u i j) - ln (ix2 r cl))
      = prob Q K B L n h i j := by
  have hc : ∀ d : Fin 64, h.val * 64 + d.val = hp * 128 + (lane u d).val := fun d => by simp only [lane]; omega
  obtain ⟨h1, h2⟩ := R.table (a := ∑ d : Fin 64, qn (ix2 r (lane u d)) * k (ix2 s (lane u d))) (n := n) (i := i) (j := j) hu
    (fun h0 => by omega) fun _ => Finset.sum_congr rfl fun d _ => by
      rw [R.qn r _ n i h d hr (hc d), (R.key hs (hc d)).1]
  exact prob_of h1 h2 (R.ln r cl n i h ⟨0, by omega⟩ hr (by simp only; omega))

theorem Reads.dlog_next {r cl : Fin 128} {s : Fin 1024} {u : Fin 2} {n i : Fin 128} {h : Fin 8} {j : Fin 256}
    (hr : n.val * 128 + i.val = g * 1024 + 1024 + r.val) (hs : n.val * 128 + j.val = g * 1024 + s.val + 128)
    (hu : h.val = 2 * hp + u.val) (hcl : cl.val = u.val * 64) :
    Ideal.exp ((∑ d : Fin 64, qn (ix2 r (lane u d)) * k (ix2 s (lane u d))) + b (ix3 u i j) - ln (ix2 r cl))
        * ((∑ d : Fin 64, dn (ix2 r (lane u d)) * v (ix2 s (lane u d))) - en (ix2 r cl))
      = dlog Q K V O B L E n h i j := by
  have hc : ∀ d : Fin 64, h.val * 64 + d.val = hp * 128 + (lane u d).val := fun d => by simp only [lane]; omega
  obtain ⟨h1, h2⟩ := R.table (a := ∑ d : Fin 64, qn (ix2 r (lane u d)) * k (ix2 s (lane u d))) (n := n) (i := i) (j := j) hu
    (fun h0 => by omega) fun _ => Finset.sum_congr rfl fun d _ => by
      rw [R.qn r _ n i h d hr (hc d), (R.key hs (hc d)).1]
  refine dlog_of h1 h2 (R.ln r cl n i h ⟨0, by omega⟩ hr (by simp only; omega)) fun _ => ?_
  rw [R.en r cl n i h ⟨0, by omega⟩ hr (by simp only; omega)]
  refine congrArg (· - _) (Finset.sum_congr rfl fun d _ => ?_)
  rw [R.dn r _ n i h d hr (hc d), (R.key hs (hc d)).2]

/-- The gradient of the queries of a block past the point's first. -/
theorem Reads.gradQ_own {r : Fin 1024} {c z o1 : Fin 128} {s : Fin 256 → Fin 1024} {t : Fin 256 → Fin 256} {n i : Fin 128} {h : Fin 8} {d : Fin 64}
    (hr : n.val * 128 + i.val = g * 1024 + r.val) (hs : ∀ j, n.val * 128 + j.val = g * 1024 + (s j).val + 128)
    (hc : h.val * 64 + d.val = hp * 128 + c.val) (hz : z.val = 0) (ho : o1.val = 64) (ii : Fin 128) (hi : ii = i) (ht : ∀ j, t j = j) :
    Scalar.select (IntOp.cmpi .slt (BitVec.ofNat 32 c.val) 64#32)
        (∑ j : Fin 256, Ideal.exp ((∑ d : Fin 64, q (ix2 r (lane 0 d)) * k (ix2 (s j) (lane 0 d))) + b (ix3 0 ii (t j)) - ll (ix2 r z))
          * ((∑ d : Fin 64, o (ix2 r (lane 0 d)) * v (ix2 (s j) (lane 0 d))) - e (ix2 r z)) * k (ix2 (s j) c))
        (∑ j : Fin 256, Ideal.exp ((∑ d : Fin 64, q (ix2 r (lane 1 d)) * k (ix2 (s j) (lane 1 d))) + b (ix3 1 ii (t j)) - ll (ix2 r o1))
          * ((∑ d : Fin 64, o (ix2 r (lane 1 d)) * v (ix2 (s j) (lane 1 d))) - e (ix2 r o1)) * k (ix2 (s j) c))
      = gradQ (dlog Q K V O B L E) K n i h d := by
  subst hi
  unfold gradQ
  by_cases hh : c.val < 64
  · rw [pick_head0 hh]
    refine Finset.sum_congr rfl fun j _ => ?_
    rw [ht j, R.dlog_own hr (hs j) (h := h) (by simp; omega) (by simp; omega), (R.key (hs j) hc).1]
  · rw [pick_head1 hh]
    refine Finset.sum_congr rfl fun j _ => ?_
    rw [ht j, R.dlog_own hr (hs j) (h := h) (by simp; omega) (by simp; omega), (R.key (hs j) hc).1]

/-- The gradient of the queries of the point's first block, over the block before and the block itself: one head, … -/
theorem Reads.sum_halo {r : Fin 1024} {c z : Fin 128} {u : Fin 2} {s : Fin 128 → Fin 1024} {a a' : Fin 128 → Fin 256} {n i : Fin 128} {h : Fin 8}
    {d : Fin 64} (hr : n.val * 128 + i.val = g * 1024 + r.val) (hg : r.val < 128) (hs : ∀ j : Fin 128, (s j).val = j.val)
    (hc : h.val * 64 + d.val = hp * 128 + c.val) (hu : h.val = 2 * hp + u.val) (hz : z.val = u.val * 64)
    (ha : ∀ j : Fin 128, (a j).val = j.val) (ha' : ∀ j : Fin 128, (a' j).val = 128 + j.val) :
    (∑ j : Fin 128, Ideal.exp ((if g = 0 then ⊥ else (∑ d : Fin 64, q (ix2 r (lane u d)) * kh (ix2 j (lane u d))) + b (ix3 u i (a j))) - ll (ix2 r z))
        * ((∑ d : Fin 64, o (ix2 r (lane u d)) * vh (ix2 j (lane u d))) - e (ix2 r z)) * kh (ix2 j c))
      + ∑ j : Fin 128, Ideal.exp ((∑ d : Fin 64, q (ix2 r (lane u d)) * k (ix2 (s j) (lane u d))) + b (ix3 u i (a' j)) - ll (ix2 r z))
        * ((∑ d : Fin 64, o (ix2 r (lane u d)) * v (ix2 (s j) (lane u d))) - e (ix2 r z)) * k (ix2 (s j) c)
      = gradQ (dlog Q K V O B L E) K n i h d := by
  have hn : n.val = g * 8 := by omega
  have hk : ∀ j : Fin 128, n.val * 128 + (a' j).val = g * 1024 + (s j).val + 128 := fun j => by rw [ha' j, hs j]; omega
  unfold gradQ
  rw [Fin.sum_univ_two_halves 128 128 rfl fun j : Fin 256 => dlog Q K V O B L E n h i j * keys K n j h d]
  refine congrArg₂ (· + ·) (Finset.sum_congr rfl fun j _ => ?_) (Finset.sum_congr rfl fun j _ => ?_)
  · rw [R.dlog_halo hr hg (ha j) hu hz, show (⟨j.val, _⟩ : Fin 256) = a j from Fin.ext (ha j).symm]
    exact dlog_mul fun hv => (R.halo hn (ha j) hv hc).2.1
  · rw [R.dlog_own hr (hk j) hu hz, (R.key (hk j) hc).1, show (⟨128 + j.val, _⟩ : Fin 256) = a' j from Fin.ext (ha' j).symm]

/-- … and both. -/
theorem Reads.gradQ_halo {r : Fin 1024} {c z o1 : Fin 128} {s : Fin 128 → Fin 1024} {a a' : Fin 128 → Fin 256} {n i : Fin 128} {h : Fin 8}
    {d : Fin 64} (hr : n.val * 128 + i.val = g * 1024 + r.val) (hg : r.val < 128) (hs : ∀ j : Fin 128, (s j).val = j.val)
    (hc : h.val * 64 + d.val = hp * 128 + c.val) (hz : z.val = 0) (ho : o1.val = 64) (ii : Fin 128) (hi : ii = i)
    (ha : ∀ j : Fin 128, (a j).val = j.val) (ha' : ∀ j : Fin 128, (a' j).val = 128 + j.val) :
    Scalar.select (IntOp.cmpi .slt (BitVec.ofNat 32 c.val) 64#32)
        ((∑ j : Fin 128, Ideal.exp ((if g = 0 then ⊥ else (∑ d : Fin 64, q (ix2 r (lane 0 d)) * kh (ix2 j (lane 0 d))) + b (ix3 0 ii (a j))) - ll (ix2 r z))
            * ((∑ d : Fin 64, o (ix2 r (lane 0 d)) * vh (ix2 j (lane 0 d))) - e (ix2 r z)) * kh (ix2 j c))
          + ∑ j : Fin 128, Ideal.exp ((∑ d : Fin 64, q (ix2 r (lane 0 d)) * k (ix2 (s j) (lane 0 d))) + b (ix3 0 ii (a' j)) - ll (ix2 r z))
            * ((∑ d : Fin 64, o (ix2 r (lane 0 d)) * v (ix2 (s j) (lane 0 d))) - e (ix2 r z)) * k (ix2 (s j) c))
        ((∑ j : Fin 128, Ideal.exp ((if g = 0 then ⊥ else (∑ d : Fin 64, q (ix2 r (lane 1 d)) * kh (ix2 j (lane 1 d))) + b (ix3 1 ii (a j))) - ll (ix2 r o1))
            * ((∑ d : Fin 64, o (ix2 r (lane 1 d)) * vh (ix2 j (lane 1 d))) - e (ix2 r o1)) * kh (ix2 j c))
          + ∑ j : Fin 128, Ideal.exp ((∑ d : Fin 64, q (ix2 r (lane 1 d)) * k (ix2 (s j) (lane 1 d))) + b (ix3 1 ii (a' j)) - ll (ix2 r o1))
            * ((∑ d : Fin 64, o (ix2 r (lane 1 d)) * v (ix2 (s j) (lane 1 d))) - e (ix2 r o1)) * k (ix2 (s j) c))
      = gradQ (dlog Q K V O B L E) K n i h d := by
  subst hi
  by_cases hh : c.val < 64
  · rw [pick_head0 hh]
    exact R.sum_halo (u := 0) hr hg hs hc (by simp; omega) (by simp; omega) ha ha'
  · rw [pick_head1 hh]
    exact R.sum_halo (u := 1) hr hg hs hc (by simp; omega) (by simp; omega) ha ha'

end blocks

end Cert.KernelIdeal.Head

end
-- ==== Proof.Point.lean ====
/- What the body leaves in the block of query gradients at a grid point. -/
module

public import Idealize.ShloMosaic.Lib.Pipeline.ValueKit
public import proofs.«01_k».proof.Proof.Head
public import proofs.«01_k».proof.Proof.Gen.KernelIdeal.Value

@[expose] public section

set_option maxRecDepth 16384
set_option maxHeartbeats 4000000

noncomputable section

namespace Cert.KernelIdeal.Point

open Idealize.ShloMosaic Idealize.ShloMosaic.TcCoe Idealize.ShloMosaic.Tactic Idealize.SL.Sem
open Cert.KernelIdeal Cert.KernelIdeal.Gen Cert.KernelIdeal.Head
open Cert.Attn

variable (m : (ℓ : Loc nD τ sig) → Buf (Elt Ideal) ℓ)

/-- The input blocks of a grid point, read off the arrays. -/
abbrev At (c : Dev nD) (t : Fin cfg0.N) (hp : ℕ) (Q K V O : Rows) (B : Bias) (L E : Col) : Prop :=
  Reads hp (grid0.coords t 1).val Q K V O B L E (iblk m c 0 t) (iblk m c 1 t) (iblk m c 3 t) (iblk m c 5 t) (iblk m c 6 t) (iblk m c 7 t)
    (iblk m c 2 t) (iblk m c 4 t) (iblk m c 8 t) (iblk m c 9 t) (iblk m c 10 t) (iblk m c 11 t) (iblk m c 12 t)

theorem second : ∀ t : Fin cfg0.N, (grid0.coords t 1).val = t.val % 16 := (by decide +kernel : ∀ t : Fin grid0.N, _)

variable {hp : ℕ} {Q K V O : Rows} {B : Bias} {L E : Col}

theorem dq_A (c : Dev nD) (t : Fin cfg0.N) (h0 : t.val % 16 = 0) (h1 : t.val % 16 ≤ 14) (h2 : ¬t.val % 16 = 15) (R : At m c t hp Q K V O B L E)
    (r : Fin 1024) (l : Fin 128) (n i : Fin 128) (h : Fin 8) (d : Fin 64)
    (hr : n.val * 128 + i.val = (grid0.coords t 1).val * 1024 + r.val) (hl : h.val * 64 + d.val = hp * 128 + l.val) :
    (outsAt0 m c t.val t.isLt).1 (ix2 r l) = gradQ (dlog Q K V O B L E) K n i h d := by
  rw [outsAt0_A m c t h0 h1 h2]
  frame_out
  clear h0 h1 h2
  have hg : (grid0.coords t 1).val < 16 := (grid0.coords t 1).isLt
  revert hg hr R
  unfold At
  generalize iblk m c 0 t = q
  generalize iblk m c 1 t = k
  generalize iblk m c 2 t = kh
  generalize iblk m c 3 t = v
  generalize iblk m c 4 t = vh
  generalize iblk m c 5 t = o
  generalize iblk m c 6 t = ll
  generalize iblk m c 7 t = e
  generalize iblk m c 8 t = qn
  generalize iblk m c 9 t = dn
  generalize iblk m c 10 t = ln
  generalize iblk m c 11 t = en
  generalize iblk m c 12 t = b
  generalize (grid0.coords t 1).val = g
  intro R hr hg
  have e0 : r.val = ((ix2 r l : S1024x128.Idx) 0).val := rfl
  have e1 : l.val = ((ix2 r l : S1024x128.Idx) 1).val := rfl
  canon_tiles x p
  all_goals
    pointwise [k0_pay14, k0_pay11, k0_pay10, k0_pay13, k0_pay8, k0_pay9, k0_pay17]
    simp only [sum_head0, sum_head1, mask_first hg, mask_second hg, mask_bot]
    have ei : x 0 = i := Fin.ext (by omega)
  case piece7 =>
    refine R.gradQ_halo (n := n) (i := i) ?_ ?_ ?_ ?_ ?_ ?_ _ ei ?_ ?_
    all_goals first | rfl | (intro j; rfl) | omega | (dsimp only; omega)
  all_goals
    refine R.gradQ_own (n := n) (i := i) ?_ ?_ ?_ ?_ ?_ _ ei ?_
    all_goals first | rfl | (intro j; rfl) | omega | (dsimp only; omega) | (intro j; dsimp only; omega)

theorem dq_B (c : Dev nD) (t : Fin cfg0.N) (h0 : ¬t.val % 16 = 0) (h1 : t.val % 16 ≤ 14) (h2 : ¬t.val % 16 = 15) (R : At m c t hp Q K V O B L E)
    (r : Fin 1024) (l : Fin 128) (n i : Fin 128) (h : Fin 8) (d : Fin 64)
    (hr : n.val * 128 + i.val = (grid0.coords t 1).val * 1024 + r.val) (hl : h.val * 64 + d.val = hp * 128 + l.val) :
    (outsAt0 m c t.val t.isLt).1 (ix2 r l) = gradQ (dlog Q K V O B L E) K n i h d := by
  rw [outsAt0_B m c t h0 h1 h2]
  frame_out
  clear h0 h1 h2
  have hg : (grid0.coords t 1).val < 16 := (grid0.coords t 1).isLt
  revert hg hr R
  unfold At
  generalize iblk m c 0 t = q
  generalize iblk m c 1 t = k
  generalize iblk m c 2 t = kh
  generalize iblk m c 3 t = v
  generalize iblk m c 4 t = vh
  generalize iblk m c 5 t = o
  generalize iblk m c 6 t = ll
  generalize iblk m c 7 t = e
  generalize iblk m c 8 t = qn
  generalize iblk m c 9 t = dn
  generalize iblk m c 10 t = ln
  generalize iblk m c 11 t = en
  generalize iblk m c 12 t = b
  generalize (grid0.coords t 1).val = g
  intro R hr hg
  have e0 : r.val = ((ix2 r l : S1024x128.Idx) 0).val := rfl
  have e1 : l.val = ((ix2 r l : S1024x128.Idx) 1).val := rfl
  canon_tiles x p
  all_goals
    pointwise [k0_pay14, k0_pay11, k0_pay10, k0_pay13, k0_pay8, k0_pay9, k0_pay17]
    simp only [sum_head0, sum_head1, mask_first hg, mask_second hg, mask_bot]
    have ei : x 0 = i := Fin.ext (by omega)
  case piece7 =>
    refine R.gradQ_halo (n := n) (i := i) ?_ ?_ ?_ ?_ ?_ ?_ _ ei ?_ ?_
    all_goals first | rfl | (intro j; rfl) | omega | (dsimp only; omega)
  all_goals
    refine R.gradQ_own (n := n) (i := i) ?_ ?_ ?_ ?_ ?_ _ ei ?_
    all_goals first | rfl | (intro j; rfl) | omega | (dsimp only; omega) | (intro j; dsimp only; omega)

theorem dq_C (c : Dev nD) (t : Fin cfg0.N) (h0 : ¬t.val % 16 = 0) (h1 : ¬t.val % 16 ≤ 14) (h2 : t.val % 16 = 15) (R : At m c t hp Q K V O B L E)
    (r : Fin 1024) (l : Fin 128) (n i : Fin 128) (h : Fin 8) (d : Fin 64)
    (hr : n.val * 128 + i.val = (grid0.coords t 1).val * 1024 + r.val) (hl : h.val * 64 + d.val = hp * 128 + l.val) :
    (outsAt0 m c t.val t.isLt).1 (ix2 r l) = gradQ (dlog Q K V O B L E) K n i h d := by
  rw [outsAt0_C m c t h0 h1 h2]
  frame_out
  clear h0 h1 h2
  have hg : (grid0.coords t 1).val < 16 := (grid0.coords t 1).isLt
  revert hg hr R
  unfold At
  generalize iblk m c 0 t = q
  generalize iblk m c 1 t = k
  generalize iblk m c 2 t = kh
  generalize iblk m c 3 t = v
  generalize iblk m c 4 t = vh
  generalize iblk m c 5 t = o
  generalize iblk m c 6 t = ll
  generalize iblk m c 7 t = e
  generalize iblk m c 8 t = qn
  generalize iblk m c 9 t = dn
  generalize iblk m c 10 t = ln
  generalize iblk m c 11 t = en
  generalize iblk m c 12 t = b
  generalize (grid0.coords t 1).val = g
  intro R hr hg
  have e0 : r.val = ((ix2 r l : S1024x128.Idx) 0).val := rfl
  have e1 : l.val = ((ix2 r l : S1024x128.Idx) 1).val := rfl
  canon_tiles x p
  all_goals
    pointwise [k0_pay14, k0_pay11, k0_pay10, k0_pay13, k0_pay8, k0_pay9, k0_pay17]
    simp only [sum_head0, sum_head1, mask_first hg, mask_second hg, mask_bot]
    have ei : x 0 = i := Fin.ext (by omega)
  case piece7 =>
    refine R.gradQ_halo (n := n) (i := i) ?_ ?_ ?_ ?_ ?_ ?_ _ ei ?_ ?_
    all_goals first | rfl | (intro j; rfl) | omega | (dsimp only; omega)
  all_goals
    refine R.gradQ_own (n := n) (i := i) ?_ ?_ ?_ ?_ ?_ _ ei ?_
    all_goals first | rfl | (intro j; rfl) | omega | (dsimp only; omega) | (intro j; dsimp only; omega)

end Cert.KernelIdeal.Point

end
-- ==== Proof.Blocks.lean ====
/- What the blocks of the thirteen operands hold at a grid point. -/
module

public import Idealize.ShloMosaic.Lib.Pipeline.ValueKit
public import proofs.«01_k».proof.Proof.Point
public import Idealize.ShloMosaic.Lib.Claim

@[expose] public section

set_option maxRecDepth 16384

noncomputable section

namespace Cert.KernelIdeal.Point

open Idealize.ShloMosaic Idealize.ShloMosaic.TcCoe Idealize.ShloMosaic.Tactic Idealize.SL.Sem
open Cert.KernelIdeal Cert.KernelIdeal.Gen Cert.KernelIdeal.Head
open Cert.Attn

variable (m : (ℓ : Loc nD τ sig) → Buf (Elt Ideal) ℓ)

theorem idx : ∀ t : Fin cfg0.N, win0_0.index t = ![(grid0.coords t 1).val, (grid0.coords t 0).val]
    ∧ win0_1.index t = ![(grid0.coords t 1).val, 4 + (grid0.coords t 0).val]
    ∧ win0_2.index t = ![(grid0.coords t 1).val * 8 - 1, 4 + (grid0.coords t 0).val]
    ∧ win0_3.index t = ![(grid0.coords t 1).val, 8 + (grid0.coords t 0).val]
    ∧ win0_4.index t = ![(grid0.coords t 1).val * 8 - 1, 8 + (grid0.coords t 0).val]
    ∧ win0_5.index t = ![(grid0.coords t 1).val, (grid0.coords t 0).val]
    ∧ win0_6.index t = ![(grid0.coords t 1).val, (grid0.coords t 0).val]
    ∧ win0_7.index t = ![(grid0.coords t 1).val, (grid0.coords t 0).val]
    ∧ win0_8.index t = ![min (((grid0.coords t 1).val + 1) * 8) 127, (grid0.coords t 0).val]
    ∧ win0_9.index t = ![min (((grid0.coords t 1).val + 1) * 8) 127, (grid0.coords t 0).val]
    ∧ win0_10.index t = ![min (((grid0.coords t 1).val + 1) * 8) 127, (grid0.coords t 0).val]
    ∧ win0_11.index t = ![min (((grid0.coords t 1).val + 1) * 8) 127, (grid0.coords t 0).val]
    ∧ win0_12.index t = ![(grid0.coords t 0).val, 0, 0]
    ∧ win0_13.index t = ![(grid0.coords t 1).val, (grid0.coords t 0).val]
    ∧ win0_14.index t = ![(grid0.coords t 1).val, (grid0.coords t 0).val]
    ∧ win0_15.index t = ![(grid0.coords t 1).val, (grid0.coords t 0).val]
    ∧ win0_16.index t = ![(grid0.coords t 0).val, 0, 0] :=
  (by decide +kernel : ∀ t : Fin grid0.N, _)

theorem bits_bot : Ideal.ofBits .f32 0xFF800000#32 = ⊥ := by
  simp [Ideal.ofBits, Ideal.ieee]

theorem V_lse (c : Dev nD) (x : Fin 16384) (y : Fin 512) : V m c main_v12 (ix2 x y)
    = m ((c : Thread nD τ).loc main_arg2) (ix2 x ⟨y.val / 64, by omega⟩) := by
  unfold V
  simp only [hostOps0, hostOps0_1, hostOps0_2, List.flatten_cons, List.flatten_nil, List.cons_append, List.nil_append, List.append_nil]
  entry_read
  pointwise

theorem V_dd (c : Dev nD) (x : Fin 16384) (y : Fin 512) : V m c main_v14 (ix2 x y)
    = m ((c : Thread nD τ).loc main_arg3) (ix2 x ⟨y.val / 64, by omega⟩) := by
  unfold V
  simp only [hostOps0, hostOps0_1, hostOps0_2, List.flatten_cons, List.flatten_nil, List.cons_append, List.nil_append, List.append_nil]
  entry_read
  pointwise

theorem V_table (c : Dev nD) (h : Fin 8) (i : Fin 128) (j : Fin 256) : V m c main_v10 (ix3 h i j)
    = if j.val ≤ i.val + 128 ∧ i.val ≤ j.val then bias (m ((c : Thread nD τ).loc main_arg4)) h i j else ⊥ := by
  unfold V bias
  simp only [hostOps0, hostOps0_1, hostOps0_2, List.flatten_cons, List.flatten_nil, List.cons_append, List.nil_append, List.append_nil]
  entry_read
  simp -implicitDefEqProofs only [StableHlo.TRef.toBuf, StableHlo.TRef.ofBuf, cast_cast, cast_eq]
  pointwise
  rw [window_word]
  by_cases hw : j.val ≤ i.val + 128 ∧ i.val ≤ j.val
  · rw [if_pos hw, decide_eq_true hw]
    rfl
  · rw [if_neg hw, decide_eq_false hw]
    exact bits_bot

set_option maxHeartbeats 4000000 in
theorem at_point (c : Dev nD) (t : Fin cfg0.N) : At m c t (grid0.coords t 0).val
    (rowsAt 0 (by decide) (m ((c : Thread nD τ).loc main_arg0))) (rowsAt 512 (by decide) (m ((c : Thread nD τ).loc main_arg0)))
    (rowsAt 1024 (by decide) (m ((c : Thread nD τ).loc main_arg0))) (rows (m ((c : Thread nD τ).loc main_arg1)))
    (bias (m ((c : Thread nD τ).loc main_arg4))) (col (m ((c : Thread nD τ).loc main_arg2))) (col (m ((c : Thread nD τ).loc main_arg3))) where
  q := fun r l n i h d h1 h2 => by
    unfold rowsAt
    blk_ext [iblk, V, idx t]
  k := fun r l n i h d h1 h2 => by
    unfold rowsAt
    blk_ext [iblk, V, idx t]
  v := fun r l n i h d h1 h2 => by
    unfold rowsAt
    blk_ext [iblk, V, idx t]
  o := fun r l n i h d h1 h2 => by
    unfold rows
    blk_ext [iblk, V, idx t]
  ll := fun r l n i h d h1 h2 => by
    blk_simp [iblk, idx t]
    refine (congrArg (V m c _) (?_ : _ = ix2 (⟨n.val * 128 + i.val, by omega⟩ : Fin 16384) (⟨h.val * 64 + d.val, by omega⟩ : Fin 512))).trans
      ((V_lse m c _ _).trans ?_)
    · blk_ext [idx t]
    · unfold col
      blk_ext!
  e := fun r l n i h d h1 h2 => by
    blk_simp [iblk, idx t]
    refine (congrArg (V m c _) (?_ : _ = ix2 (⟨n.val * 128 + i.val, by omega⟩ : Fin 16384) (⟨h.val * 64 + d.val, by omega⟩ : Fin 512))).trans
      ((V_dd m c _ _).trans ?_)
    · blk_ext [idx t]
    · unfold col
      blk_ext!
  kh := fun r l n i h d h1 h2 => by
    unfold rowsAt
    blk_ext [iblk, V, idx t]
  vh := fun r l n i h d h1 h2 => by
    unfold rowsAt
    blk_ext [iblk, V, idx t]
  qn := fun r l n i h d h1 h2 => by
    unfold rowsAt
    blk_ext [iblk, V, idx t]
  dn := fun r l n i h d h1 h2 => by
    unfold rows
    blk_ext [iblk, V, idx t]
  ln := fun r l n i h d h1 h2 => by
    blk_simp [iblk, idx t]
    refine (congrArg (V m c _) (?_ : _ = ix2 (⟨n.val * 128 + i.val, by omega⟩ : Fin 16384) (⟨h.val * 64 + d.val, by omega⟩ : Fin 512))).trans
      ((V_lse m c _ _).trans ?_)
    · blk_ext [idx t]
    · unfold col
      blk_ext!
  en := fun r l n i h d h1 h2 => by
    blk_simp [iblk, idx t]
    refine (congrArg (V m c _) (?_ : _ = ix2 (⟨n.val * 128 + i.val, by omega⟩ : Fin 16384) (⟨h.val * 64 + d.val, by omega⟩ : Fin 512))).trans
      ((V_dd m c _ _).trans ?_)
    · blk_ext [idx t]
    · unfold col
      blk_ext!
  b := fun u i j h hu => by
    blk_simp [iblk, idx t]
    refine (congrArg (V m c _) (?_ : _ = ix3 h i j)).trans (V_table m c h i j)
    blk_ext [idx t]

end Cert.KernelIdeal.Point

end
-- ==== Proof.Saved.lean ====
/- The logits' gradients (or the probabilities) of a point as the kernel keeps them for the keys: block by block, the rows that see it. -/
module

public import proofs.«01_k».proof.Proof.Head

@[expose] public section

set_option maxRecDepth 16384

noncomputable section

namespace Cert.KernelIdeal.Head

open Idealize.ShloMosaic Cert.KernelIdeal.Gen Cert.Attn

/-- Rows `256 b`, …, `256 b + 255` are the rows that see key block `b` of point `g`: its own, then the next block's, or zeros at the end. -/
structure Saved (hp g : ℕ) (S : Fin 128 → Fin 8 → Fin 128 → Fin 256 → EReal) (A : S2x2048x128.Idx → EReal) : Prop where
  own : ∀ (u : Fin 2) (ρ : Fin 2048) (c n i : Fin 128) (h : Fin 8) (b : ℕ), n.val = 8 * g + b → b < 8 → ρ.val = 256 * b + i.val →
    h.val = 2 * hp + u.val → A (ix3 u ρ c) = S n h i ⟨128 + c.val, by omega⟩
  next : ∀ (u : Fin 2) (ρ : Fin 2048) (c n i : Fin 128) (h : Fin 8) (b : ℕ), n.val = 8 * g + b + 1 → b < 8 → ρ.val = 256 * b + 128 + i.val →
    h.val = 2 * hp + u.val → A (ix3 u ρ c) = S n h i ⟨c.val, by omega⟩
  last : ∀ (u : Fin 2) (ρ : Fin 2048) (c i : Fin 128) (b : ℕ), 127 = 8 * g + b → b < 8 → ρ.val = 256 * b + 128 + i.val →
    A (ix3 u ρ c) = 0

theorem pick_either {c : Fin 128} {a b v : EReal} (h0 : c.val < 64 → a = v) (h1 : ¬c.val < 64 → b = v) :
    Scalar.select (IntOp.cmpi .slt (BitVec.ofNat 32 c.val) 64#32) a b = v := by
  by_cases h : c.val < 64
  · rw [pick_head0 h, h0 h]
  · rw [pick_head1 h, h1 h]

variable {hp g : ℕ} {S : Fin 128 → Fin 8 → Fin 128 → Fin 256 → EReal} {A : S2x2048x128.Idx → EReal}

/-- A key row's gradient: the sum over its own block's rows and over the next block's. -/
theorem Saved.sum (W : Saved hp g S A) {X : Rows} {f f' : Fin 128 → EReal} {ρ ρ' : Fin 128 → Fin 2048} {u : Fin 2} {c n j : Fin 128} {h : Fin 8}
    {d : Fin 64} (b : ℕ) (hn : n.val = 8 * g + b) (hb : b < 8) (hρ : ∀ i, (ρ i).val = 256 * b + i.val)
    (hρ' : ∀ i, (ρ' i).val = 256 * b + 128 + i.val) (hu : h.val = 2 * hp + u.val) (hc : c = j) (hf : ∀ i, f i = X n i h d)
    (hf' : ∀ (hl : n.val < 127) i, f' i = X ⟨1 + n.val, by omega⟩ i h d) :
    (∑ i : Fin 128, A (ix3 u (ρ i) c) * f i) + ∑ i : Fin 128, A (ix3 u (ρ' i) c) * f' i = gradK S X n j h d := by
  subst hc
  unfold gradK
  refine congrArg₂ (· + ·) (Finset.sum_congr rfl fun i _ => ?_) ?_
  · rw [W.own u (ρ i) c n i h b hn hb (hρ i) hu, hf]
  · by_cases hl : n.val < 127
    · rw [dif_pos hl]
      refine Finset.sum_congr rfl fun i _ => ?_
      rw [W.next u (ρ' i) c ⟨1 + n.val, by omega⟩ i h b (by simp only; omega) hb (hρ' i) hu, hf' hl]
    · rw [dif_neg hl]
      refine Finset.sum_eq_zero fun i _ => ?_
      rw [W.last u (ρ' i) c i b (by omega) hb (hρ' i), zero_mul]

/-- The same, written over the 256 rows at once. -/
theorem Saved.sum_pair (W : Saved hp g S A) {X : Rows} {f : Fin 256 → EReal} {ρ : Fin 256 → Fin 2048} {u : Fin 2} {c n j : Fin 128} {h : Fin 8}
    {d : Fin 64} (b : ℕ) (hn : n.val = 8 * g + b) (hb : b < 7) (hρ : ∀ i, (ρ i).val = 256 * b + i.val) (hu : h.val = 2 * hp + u.val)
    (hc : c = j) (hf : ∀ (i : Fin 256) (n' i' : Fin 128), n'.val * 128 + i'.val = n.val * 128 + i.val → f i = X n' i' h d) :
    ∑ i : Fin 256, A (ix3 u (ρ i) c) * f i = gradK S X n j h d := by
  rw [Fin.sum_univ_two_halves 128 128 rfl fun i : Fin 256 => A (ix3 u (ρ i) c) * f i]
  exact W.sum b hn (by omega) (fun i => hρ _) (fun i => (hρ _).trans (Nat.add_assoc _ _ _).symm) hu hc (fun i => hf _ _ _ rfl)
    fun hl i => hf _ _ _ (by dsimp only; omega)

end Cert.KernelIdeal.Head

end
-- ==== Proof.PointKA.lean ====
/- The gradient of the keys at a grid point of case A. -/
module

public import Idealize.ShloMosaic.Lib.Pipeline.ValueKit
public import proofs.«01_k».proof.Proof.Saved
public import proofs.«01_k».proof.Proof.Point

@[expose] public section

set_option maxRecDepth 16384
set_option maxHeartbeats 4000000

noncomputable section

namespace Cert.KernelIdeal.Point

open Idealize.ShloMosaic Idealize.ShloMosaic.TcCoe Idealize.ShloMosaic.Tactic Idealize.SL.Sem
open Cert.KernelIdeal Cert.KernelIdeal.Gen Cert.KernelIdeal.Head
open Cert.Attn

variable (m : (ℓ : Loc nD τ sig) → Buf (Elt Ideal) ℓ)

variable {hp : ℕ} {Q K V O : Rows} {B : Bias} {L E : Col}

theorem dk_A (c : Dev nD) (t : Fin cfg0.N) (h0 : t.val % 16 = 0) (h1 : t.val % 16 ≤ 14) (h2 : ¬t.val % 16 = 15) (R : At m c t hp Q K V O B L E)
    (r : Fin 1024) (l : Fin 128) (n i : Fin 128) (h : Fin 8) (d : Fin 64)
    (hr : n.val * 128 + i.val = (grid0.coords t 1).val * 1024 + r.val) (hl : h.val * 64 + d.val = hp * 128 + l.val) :
    (outsAt0 m c t.val t.isLt).2.1 (ix2 r l) = gradK (dlog Q K V O B L E) Q n i h d := by
  rw [outsAt0_A m c t h0 h1 h2]
  frame_out
  have hg' : (grid0.coords t 1).val ≤ 14 := (second t).symm ▸ h1
  clear h0 h1 h2
  have hg : (grid0.coords t 1).val < 16 := (grid0.coords t 1).isLt
  revert hg hg' hr R
  unfold At
  generalize iblk m c 0 t = q
  generalize iblk m c 1 t = k
  generalize iblk m c 2 t = kh
  generalize iblk m c 3 t = v
  generalize iblk m c 4 t = vh
  generalize iblk m c 5 t = o
  generalize iblk m c 6 t = ll
  generalize iblk m c 7 t = e
  generalize iblk m c 8 t = qn
  generalize iblk m c 9 t = dn
  generalize iblk m c 10 t = ln
  generalize iblk m c 11 t = en
  generalize iblk m c 12 t = b
  generalize (grid0.coords t 1).val = g
  intro R hr hg' hg
  have e0 : r.val = ((ix2 r l : S1024x128.Idx) 0).val := rfl
  have e1 : l.val = ((ix2 r l : S1024x128.Idx) 1).val := rfl
  simp only [View.readCov_eq_canon']
  generalize hA : @View.canon S2x2048x128 .bf16 (Elt Ideal) _ _ = A
  have W : Saved hp g (dlog Q K V O B L E) A := by
    subst hA
    constructor
    · intro u ρ c n i h b hn hb hρ hu
      have e0 : u.val = ((ix3 u ρ c : S2x2048x128.Idx) 0).val := rfl
      have e1 : ρ.val = ((ix3 u ρ c : S2x2048x128.Idx) 1).val := rfl
      have e2 : c.val = ((ix3 u ρ c : S2x2048x128.Idx) 2).val := rfl
      canon_tiles y p
      all_goals first
        | (exfalso; omega)
        | (pointwise [k0_pay14, k0_pay11, k0_pay10, k0_pay13, k0_pay8, k0_pay9, k0_pay17, k0_pay15, k0_pay16]
           simp only [sum_head0, sum_head1, mask_first hg, mask_second hg, mask_later hg y2_lt, mask_bot]
           have ei : i = y 1 := Fin.ext (by omega)
           have ec : c = y 2 := Fin.ext (by omega)
           subst ei ec
           refine R.dlog_own ?_ ?_ ?_ ?_ <;> (first | rfl | omega | (dsimp only; omega) | (simp; omega)))
    · intro u ρ c n i h b hn hb hρ hu
      have e0 : u.val = ((ix3 u ρ c : S2x2048x128.Idx) 0).val := rfl
      have e1 : ρ.val = ((ix3 u ρ c : S2x2048x128.Idx) 1).val := rfl
      have e2 : c.val = ((ix3 u ρ c : S2x2048x128.Idx) 2).val := rfl
      canon_tiles y p
      all_goals first
        | (exfalso; omega)
        | (pointwise [k0_pay14, k0_pay11, k0_pay10, k0_pay13, k0_pay8, k0_pay9, k0_pay17, k0_pay15, k0_pay16]
           simp only [sum_head0, sum_head1, mask_first hg, mask_second hg, mask_later hg y2_lt, mask_bot]
           have ei : i = y 1 := Fin.ext (by omega)
           have ec : c = y 2 := Fin.ext (by omega)
           subst ei ec
           first
             | (refine R.dlog_own ?_ ?_ ?_ ?_ <;> (first | rfl | omega | (dsimp only; omega) | (simp; omega)))
             | (refine R.dlog_next ?_ ?_ ?_ ?_ <;> (first | rfl | omega | (dsimp only; omega) | (simp; omega))))
    · intro u ρ c i b hn hb hρ
      have e0 : u.val = ((ix3 u ρ c : S2x2048x128.Idx) 0).val := rfl
      have e1 : ρ.val = ((ix3 u ρ c : S2x2048x128.Idx) 1).val := rfl
      canon_tiles y p
      all_goals first
        | (exfalso; omega)
        | (pointwise [k0_pay206, k0_pay5]; done)
  clear hA
  canon_tiles x p
  case piece0 =>
    pointwise [k0_pay206, k0_pay5]
    refine pick_either (fun hh => ?_) (fun hh => ?_)
    all_goals
      refine W.sum (X := Q) 7 ?_ ?_ (fun a => ?_) (fun a => ?_) ?_ (Fin.ext ?_) (fun a => R.q _ _ n a h d ?_ ?_) (fun hl' a => R.qn _ _ _ a h d ?_ ?_)
      all_goals first | rfl | omega | (dsimp only; omega) | (simp; omega)
  all_goals
    pointwise
    refine pick_either (fun hh => ?_) (fun hh => ?_)
    all_goals
      refine W.sum_pair (X := Q) ((r.val - (x 0).val) / 128) ?_ ?_ (fun a => ?_) ?_ (Fin.ext ?_) (fun a n' i' ha => R.q _ _ n' i' h d ?_ ?_)
      all_goals first | rfl | omega | (dsimp only; omega) | (simp; omega)

end Cert.KernelIdeal.Point

end
-- ==== Proof.PointKB.lean ====
/- The gradient of the keys at a grid point of case B. -/
module

public import Idealize.ShloMosaic.Lib.Pipeline.ValueKit
public import proofs.«01_k».proof.Proof.Saved
public import proofs.«01_k».proof.Proof.Point

@[expose] public section

set_option maxRecDepth 16384
set_option maxHeartbeats 4000000

noncomputable section

namespace Cert.KernelIdeal.Point

open Idealize.ShloMosaic Idealize.ShloMosaic.TcCoe Idealize.ShloMosaic.Tactic Idealize.SL.Sem
open Cert.KernelIdeal Cert.KernelIdeal.Gen Cert.KernelIdeal.Head
open Cert.Attn

variable (m : (ℓ : Loc nD τ sig) → Buf (Elt Ideal) ℓ)

variable {hp : ℕ} {Q K V O : Rows} {B : Bias} {L E : Col}

theorem dk_B (c : Dev nD) (t : Fin cfg0.N) (h0 : ¬t.val % 16 = 0) (h1 : t.val % 16 ≤ 14) (h2 : ¬t.val % 16 = 15) (R : At m c t hp Q K V O B L E)
    (r : Fin 1024) (l : Fin 128) (n i : Fin 128) (h : Fin 8) (d : Fin 64)
    (hr : n.val * 128 + i.val = (grid0.coords t 1).val * 1024 + r.val) (hl : h.val * 64 + d.val = hp * 128 + l.val) :
    (outsAt0 m c t.val t.isLt).2.1 (ix2 r l) = gradK (dlog Q K V O B L E) Q n i h d := by
  rw [outsAt0_B m c t h0 h1 h2]
  frame_out
  have hg' : (grid0.coords t 1).val ≤ 14 := (second t).symm ▸ h1
  clear h0 h1 h2
  have hg : (grid0.coords t 1).val < 16 := (grid0.coords t 1).isLt
  revert hg hg' hr R
  unfold At
  generalize iblk m c 0 t = q
  generalize iblk m c 1 t = k
  generalize iblk m c 2 t = kh
  generalize iblk m c 3 t = v
  generalize iblk m c 4 t = vh
  generalize iblk m c 5 t = o
  generalize iblk m c 6 t = ll
  generalize iblk m c 7 t = e
  generalize iblk m c 8 t = qn
  generalize iblk m c 9 t = dn
  generalize iblk m c 10 t = ln
  generalize iblk m c 11 t = en
  generalize iblk m c 12 t = b
  generalize (grid0.coords t 1).val = g
  intro R hr hg' hg
  have e0 : r.val = ((ix2 r l : S1024x128.Idx) 0).val := rfl
  have e1 : l.val = ((ix2 r l : S1024x128.Idx) 1).val := rfl
  simp only [View.readCov_eq_canon']
  generalize hA : @View.canon S2x2048x128 .bf16 (Elt Ideal) _ _ = A
  have W : Saved hp g (dlog Q K V O B L E) A := by
    subst hA
    constructor
    · intro u ρ c n i h b hn hb hρ hu
      have e0 : u.val = ((ix3 u ρ c : S2x2048x128.Idx) 0).val := rfl
      have e1 : ρ.val = ((ix3 u ρ c : S2x2048x128.Idx) 1).val := rfl
      have e2 : c.val = ((ix3 u ρ c : S2x2048x128.Idx) 2).val := rfl
      canon_tiles y p
      all_goals first
        | (exfalso; omega)
        | (pointwise [k0_pay14, k0_pay11, k0_pay10, k0_pay13, k0_pay8, k0_pay9, k0_pay17, k0_pay15, k0_pay16]
           simp only [sum_head0, sum_head1, mask_first hg, mask_second hg, mask_later hg y2_lt, mask_bot]
           have ei : i = y 1 := Fin.ext (by omega)
           have ec : c = y 2 := Fin.ext (by omega)
           subst ei ec
           refine R.dlog_own ?_ ?_ ?_ ?_ <;> (first | rfl | omega | (dsimp only; omega) | (simp; omega)))
    · intro u ρ c n i h b hn hb hρ hu
      have e0 : u.val = ((ix3 u ρ c : S2x2048x128.Idx) 0).val := rfl
      have e1 : ρ.val = ((ix3 u ρ c : S2x2048x128.Idx) 1).val := rfl
      have e2 : c.val = ((ix3 u ρ c : S2x2048x128.Idx) 2).val := rfl
      canon_tiles y p
      all_goals first
        | (exfalso; omega)
        | (pointwise [k0_pay14, k0_pay11, k0_pay10, k0_pay13, k0_pay8, k0_pay9, k0_pay17, k0_pay15, k0_pay16]
           simp only [sum_head0, sum_head1, mask_first hg, mask_second hg, mask_later hg y2_lt, mask_bot]
           have ei : i = y 1 := Fin.ext (by omega)
           have ec : c = y 2 := Fin.ext (by omega)
           subst ei ec
           first
             | (refine R.dlog_own ?_ ?_ ?_ ?_ <;> (first | rfl | omega | (dsimp only; omega) | (simp; omega)))
             | (refine R.dlog_next ?_ ?_ ?_ ?_ <;> (first | rfl | omega | (dsimp only; omega) | (simp; omega))))
    · intro u ρ c i b hn hb hρ
      have e0 : u.val = ((ix3 u ρ c : S2x2048x128.Idx) 0).val := rfl
      have e1 : ρ.val = ((ix3 u ρ c : S2x2048x128.Idx) 1).val := rfl
      canon_tiles y p
      all_goals first
        | (exfalso; omega)
        | (pointwise [k0_pay206, k0_pay5]; done)
  clear hA
  canon_tiles x p
  case piece0 =>
    pointwise [k0_pay206, k0_pay5]
    refine pick_either (fun hh => ?_) (fun hh => ?_)
    all_goals
      refine W.sum (X := Q) 7 ?_ ?_ (fun a => ?_) (fun a => ?_) ?_ (Fin.ext ?_) (fun a => R.q _ _ n a h d ?_ ?_) (fun hl' a => R.qn _ _ _ a h d ?_ ?_)
      all_goals first | rfl | omega | (dsimp only; omega) | (simp; omega)
  all_goals
    pointwise
    refine pick_either (fun hh => ?_) (fun hh => ?_)
    all_goals
      refine W.sum_pair (X := Q) ((r.val - (x 0).val) / 128) ?_ ?_ (fun a => ?_) ?_ (Fin.ext ?_) (fun a n' i' ha => R.q _ _ n' i' h d ?_ ?_)
      all_goals first | rfl | omega | (dsimp only; omega) | (simp; omega)

end Cert.KernelIdeal.Point

end
-- ==== Proof.PointKC.lean ====
/- The gradient of the keys at a grid point of case C. -/
module

public import Idealize.ShloMosaic.Lib.Pipeline.ValueKit
public import proofs.«01_k».proof.Proof.Saved
public import proofs.«01_k».proof.Proof.Point

@[expose] public section

set_option maxRecDepth 16384
set_option maxHeartbeats 4000000

noncomputable section

namespace Cert.KernelIdeal.Point

open Idealize.ShloMosaic Idealize.ShloMosaic.TcCoe Idealize.ShloMosaic.Tactic Idealize.SL.Sem
open Cert.KernelIdeal Cert.KernelIdeal.Gen Cert.KernelIdeal.Head
open Cert.Attn

variable (m : (ℓ : Loc nD τ sig) → Buf (Elt Ideal) ℓ)

variable {hp : ℕ} {Q K V O : Rows} {B : Bias} {L E : Col}

theorem dk_C (c : Dev nD) (t : Fin cfg0.N) (h0 : ¬t.val % 16 = 0) (h1 : ¬t.val % 16 ≤ 14) (h2 : t.val % 16 = 15) (R : At m c t hp Q K V O B L E)
    (r : Fin 1024) (l : Fin 128) (n i : Fin 128) (h : Fin 8) (d : Fin 64)
    (hr : n.val * 128 + i.val = (grid0.coords t 1).val * 1024 + r.val) (hl : h.val * 64 + d.val = hp * 128 + l.val) :
    (outsAt0 m c t.val t.isLt).2.1 (ix2 r l) = gradK (dlog Q K V O B L E) Q n i h d := by
  rw [outsAt0_C m c t h0 h1 h2]
  frame_out
  have hg' : (grid0.coords t 1).val = 15 := (second t).symm ▸ h2
  clear h0 h1 h2
  have hg : (grid0.coords t 1).val < 16 := (grid0.coords t 1).isLt
  revert hg hg' hr R
  unfold At
  generalize iblk m c 0 t = q
  generalize iblk m c 1 t = k
  generalize iblk m c 2 t = kh
  generalize iblk m c 3 t = v
  generalize iblk m c 4 t = vh
  generalize iblk m c 5 t = o
  generalize iblk m c 6 t = ll
  generalize iblk m c 7 t = e
  generalize iblk m c 8 t = qn
  generalize iblk m c 9 t = dn
  generalize iblk m c 10 t = ln
  generalize iblk m c 11 t = en
  generalize iblk m c 12 t = b
  generalize (grid0.coords t 1).val = g
  intro R hr hg' hg
  have e0 : r.val = ((ix2 r l : S1024x128.Idx) 0).val := rfl
  have e1 : l.val = ((ix2 r l : S1024x128.Idx) 1).val := rfl
  simp only [View.readCov_eq_canon']
  generalize hA : @View.canon S2x2048x128 .bf16 (Elt Ideal) _ _ = A
  have W : Saved hp g (dlog Q K V O B L E) A := by
    subst hA
    constructor
    · intro u ρ c n i h b hn hb hρ hu
      have e0 : u.val = ((ix3 u ρ c : S2x2048x128.Idx) 0).val := rfl
      have e1 : ρ.val = ((ix3 u ρ c : S2x2048x128.Idx) 1).val := rfl
      have e2 : c.val = ((ix3 u ρ c : S2x2048x128.Idx) 2).val := rfl
      canon_tiles y p
      all_goals first
        | (exfalso; omega)
        | (pointwise [k0_pay14, k0_pay11, k0_pay10, k0_pay13, k0_pay8, k0_pay9, k0_pay17, k0_pay15, k0_pay16]
           simp only [sum_head0, sum_head1, mask_first hg, mask_second hg, mask_later hg y2_lt, mask_bot]
           have ei : i = y 1 := Fin.ext (by omega)
           have ec : c = y 2 := Fin.ext (by omega)
           subst ei ec
           refine R.dlog_own ?_ ?_ ?_ ?_ <;> (first | rfl | omega | (dsimp only; omega) | (simp; omega)))
    · intro u ρ c n i h b hn hb hρ hu
      have e0 : u.val = ((ix3 u ρ c : S2x2048x128.Idx) 0).val := rfl
      have e1 : ρ.val = ((ix3 u ρ c : S2x2048x128.Idx) 1).val := rfl
      have e2 : c.val = ((ix3 u ρ c : S2x2048x128.Idx) 2).val := rfl
      canon_tiles y p
      all_goals first
        | (exfalso; omega)
        | (pointwise [k0_pay14, k0_pay11, k0_pay10, k0_pay13, k0_pay8, k0_pay9, k0_pay17, k0_pay15, k0_pay16]
           simp only [sum_head0, sum_head1, mask_first hg, mask_second hg, mask_later hg y2_lt, mask_bot]
           have ei : i = y 1 := Fin.ext (by omega)
           have ec : c = y 2 := Fin.ext (by omega)
           subst ei ec
           refine R.dlog_own ?_ ?_ ?_ ?_ <;> (first | rfl | omega | (dsimp only; omega) | (simp; omega)))
    · intro u ρ c i b hn hb hρ
      have e0 : u.val = ((ix3 u ρ c : S2x2048x128.Idx) 0).val := rfl
      have e1 : ρ.val = ((ix3 u ρ c : S2x2048x128.Idx) 1).val := rfl
      canon_tiles y p
      all_goals first
        | (exfalso; omega)
        | (pointwise [k0_pay206, k0_pay5]; done)
  clear hA
  canon_tiles x p
  case piece0 =>
    pointwise [k0_pay206, k0_pay5]
    refine pick_either (fun hh => ?_) (fun hh => ?_)
    all_goals
      refine W.sum (X := Q) 7 ?_ ?_ (fun a => ?_) (fun a => ?_) ?_ (Fin.ext ?_) (fun a => R.q _ _ n a h d ?_ ?_) (fun hl' a => R.qn _ _ _ a h d ?_ ?_)
      all_goals first | rfl | omega | (dsimp only; omega) | (simp; omega)
  all_goals
    pointwise
    refine pick_either (fun hh => ?_) (fun hh => ?_)
    all_goals
      refine W.sum_pair (X := Q) ((r.val - (x 0).val) / 128) ?_ ?_ (fun a => ?_) ?_ (Fin.ext ?_) (fun a n' i' ha => R.q _ _ n' i' h d ?_ ?_)
      all_goals first | rfl | omega | (dsimp only; omega) | (simp; omega)

end Cert.KernelIdeal.Point

end
-- ==== Proof.PointVA.lean ====
/- The gradient of the values at a grid point of case A. -/
module

public import Idealize.ShloMosaic.Lib.Pipeline.ValueKit
public import proofs.«01_k».proof.Proof.Saved
public import proofs.«01_k».proof.Proof.Point

@[expose] public section

set_option maxRecDepth 16384
set_option maxHeartbeats 4000000

noncomputable section

namespace Cert.KernelIdeal.Point

open Idealize.ShloMosaic Idealize.ShloMosaic.TcCoe Idealize.ShloMosaic.Tactic Idealize.SL.Sem
open Cert.KernelIdeal Cert.KernelIdeal.Gen Cert.KernelIdeal.Head
open Cert.Attn

variable (m : (ℓ : Loc nD τ sig) → Buf (Elt Ideal) ℓ)

variable {hp : ℕ} {Q K V O : Rows} {B : Bias} {L E : Col}

theorem dv_A (c : Dev nD) (t : Fin cfg0.N) (h0 : t.val % 16 = 0) (h1 : t.val % 16 ≤ 14) (h2 : ¬t.val % 16 = 15) (R : At m c t hp Q K V O B L E)
    (r : Fin 1024) (l : Fin 128) (n i : Fin 128) (h : Fin 8) (d : Fin 64)
    (hr : n.val * 128 + i.val = (grid0.coords t 1).val * 1024 + r.val) (hl : h.val * 64 + d.val = hp * 128 + l.val) :
    (outsAt0 m c t.val t.isLt).2.2.1 (ix2 r l) = gradK (prob Q K B L) O n i h d := by
  rw [outsAt0_A m c t h0 h1 h2]
  frame_out
  have hg' : (grid0.coords t 1).val ≤ 14 := (second t).symm ▸ h1
  clear h0 h1 h2
  have hg : (grid0.coords t 1).val < 16 := (grid0.coords t 1).isLt
  revert hg hg' hr R
  unfold At
  generalize iblk m c 0 t = q
  generalize iblk m c 1 t = k
  generalize iblk m c 2 t = kh
  generalize iblk m c 3 t = v
  generalize iblk m c 4 t = vh
  generalize iblk m c 5 t = o
  generalize iblk m c 6 t = ll
  generalize iblk m c 7 t = e
  generalize iblk m c 8 t = qn
  generalize iblk m c 9 t = dn
  generalize iblk m c 10 t = ln
  generalize iblk m c 11 t = en
  generalize iblk m c 12 t = b
  generalize (grid0.coords t 1).val = g
  intro R hr hg' hg
  have e0 : r.val = ((ix2 r l : S1024x128.Idx) 0).val := rfl
  have e1 : l.val = ((ix2 r l : S1024x128.Idx) 1).val := rfl
  simp only [View.readCov_eq_canon']
  generalize hA : @View.canon S2x2048x128 .bf16 (Elt Ideal) _ _ = A
  have W : Saved hp g (prob Q K B L) A := by
    subst hA
    constructor
    · intro u ρ c n i h b hn hb hρ hu
      have e0 : u.val = ((ix3 u ρ c : S2x2048x128.Idx) 0).val := rfl
      have e1 : ρ.val = ((ix3 u ρ c : S2x2048x128.Idx) 1).val := rfl
      have e2 : c.val = ((ix3 u ρ c : S2x2048x128.Idx) 2).val := rfl
      canon_tiles y p
      all_goals first
        | (exfalso; omega)
        | (pointwise [k0_pay14, k0_pay11, k0_pay10, k0_pay13, k0_pay8, k0_pay9, k0_pay17, k0_pay15, k0_pay16, k0_pay2, k0_pay4]
           simp only [sum_head0, sum_head1, mask_first hg, mask_second hg, mask_later hg y2_lt, mask_bot]
           have ei : i = y 1 := Fin.ext (by omega)
           have ec : c = y 2 := Fin.ext (by omega)
           subst ei ec
           refine R.prob_own ?_ ?_ ?_ ?_ <;> (first | rfl | omega | (dsimp only; omega) | (simp; omega)))
    · intro u ρ c n i h b hn hb hρ hu
      have e0 : u.val = ((ix3 u ρ c : S2x2048x128.Idx) 0).val := rfl
      have e1 : ρ.val = ((ix3 u ρ c : S2x2048x128.Idx) 1).val := rfl
      have e2 : c.val = ((ix3 u ρ c : S2x2048x128.Idx) 2).val := rfl
      canon_tiles y p
      all_goals first
        | (exfalso; omega)
        | (pointwise [k0_pay14, k0_pay11, k0_pay10, k0_pay13, k0_pay8, k0_pay9, k0_pay17, k0_pay15, k0_pay16, k0_pay2, k0_pay4]
           simp only [sum_head0, sum_head1, mask_first hg, mask_second hg, mask_later hg y2_lt, mask_bot]
           have ei : i = y 1 := Fin.ext (by omega)
           have ec : c = y 2 := Fin.ext (by omega)
           subst ei ec
           first
             | (refine R.prob_own ?_ ?_ ?_ ?_ <;> (first | rfl | omega | (dsimp only; omega) | (simp; omega)))
             | (refine R.prob_next ?_ ?_ ?_ ?_ <;> (first | rfl | omega | (dsimp only; omega) | (simp; omega))))
    · intro u ρ c i b hn hb hρ
      have e0 : u.val = ((ix3 u ρ c : S2x2048x128.Idx) 0).val := rfl
      have e1 : ρ.val = ((ix3 u ρ c : S2x2048x128.Idx) 1).val := rfl
      canon_tiles y p
      all_goals first
        | (exfalso; omega)
        | (pointwise [k0_pay1, k0_pay205, k0_pay5]; done)
  clear hA
  canon_tiles x p
  case piece0 =>
    pointwise [k0_pay1, k0_pay205, k0_pay5]
    refine pick_either (fun hh => ?_) (fun hh => ?_)
    all_goals
      refine W.sum (X := O) 7 ?_ ?_ (fun a => ?_) (fun a => ?_) ?_ (Fin.ext ?_) (fun a => R.o _ _ n a h d ?_ ?_) (fun hl' a => R.dn _ _ _ a h d ?_ ?_)
      all_goals first | rfl | omega | (dsimp only; omega) | (simp; omega)
  all_goals
    pointwise
    refine pick_either (fun hh => ?_) (fun hh => ?_)
    all_goals
      refine W.sum_pair (X := O) ((r.val - (x 0).val) / 128) ?_ ?_ (fun a => ?_) ?_ (Fin.ext ?_) (fun a n' i' ha => R.o _ _ n' i' h d ?_ ?_)
      all_goals first | rfl | omega | (dsimp only; omega) | (simp; omega)

end Cert.KernelIdeal.Point

end
-- ==== Proof.PointVB.lean ====
/- The gradient of the values at a grid point of case B. -/
module

public import Idealize.ShloMosaic.Lib.Pipeline.ValueKit
public import proofs.«01_k».proof.Proof.Saved
public import proofs.«01_k».proof.Proof.Point

@[expose] public section

set_option maxRecDepth 16384
set_option maxHeartbeats 4000000

noncomputable section

namespace Cert.KernelIdeal.Point

open Idealize.ShloMosaic Idealize.ShloMosaic.TcCoe Idealize.ShloMosaic.Tactic Idealize.SL.Sem
open Cert.KernelIdeal Cert.KernelIdeal.Gen Cert.KernelIdeal.Head
open Cert.Attn

variable (m : (ℓ : Loc nD τ sig) → Buf (Elt Ideal) ℓ)

variable {hp : ℕ} {Q K V O : Rows} {B : Bias} {L E : Col}

theorem dv_B (c : Dev nD) (t : Fin cfg0.N) (h0 : ¬t.val % 16 = 0) (h1 : t.val % 16 ≤ 14) (h2 : ¬t.val % 16 = 15) (R : At m c t hp Q K V O B L E)
    (r : Fin 1024) (l : Fin 128) (n i : Fin 128) (h : Fin 8) (d : Fin 64)
    (hr : n.val * 128 + i.val = (grid0.coords t 1).val * 1024 + r.val) (hl : h.val * 64 + d.val = hp * 128 + l.val) :
    (outsAt0 m c t.val t.isLt).2.2.1 (ix2 r l) = gradK (prob Q K B L) O n i h d := by
  rw [outsAt0_B m c t h0 h1 h2]
  frame_out
  have hg' : (grid0.coords t 1).val ≤ 14 := (second t).symm ▸ h1
  clear h0 h1 h2
  have hg : (grid0.coords t 1).val < 16 := (grid0.coords t 1).isLt
  revert hg hg' hr R
  unfold At
  generalize iblk m c 0 t = q
  generalize iblk m c 1 t = k
  generalize iblk m c 2 t = kh
  generalize iblk m c 3 t = v
  generalize iblk m c 4 t = vh
  generalize iblk m c 5 t = o
  generalize iblk m c 6 t = ll
  generalize iblk m c 7 t = e
  generalize iblk m c 8 t = qn
  generalize iblk m c 9 t = dn
  generalize iblk m c 10 t = ln
  generalize iblk m c 11 t = en
  generalize iblk m c 12 t = b
  generalize (grid0.coords t 1).val = g
  intro R hr hg' hg
  have e0 : r.val = ((ix2 r l : S1024x128.Idx) 0).val := rfl
  have e1 : l.val = ((ix2 r l : S1024x128.Idx) 1).val := rfl
  simp only [View.readCov_eq_canon']
  generalize hA : @View.canon S2x2048x128 .bf16 (Elt Ideal) _ _ = A
  have W : Saved hp g (prob Q K B L) A := by
    subst hA
    constructor
    · intro u ρ c n i h b hn hb hρ hu
      have e0 : u.val = ((ix3 u ρ c : S2x2048x128.Idx) 0).val := rfl
      have e1 : ρ.val = ((ix3 u ρ c : S2x2048x128.Idx) 1).val := rfl
      have e2 : c.val = ((ix3 u ρ c : S2x2048x128.Idx) 2).val := rfl
      canon_tiles y p
      all_goals first
        | (exfalso; omega)
        | (pointwise [k0_pay14, k0_pay11, k0_pay10, k0_pay13, k0_pay8, k0_pay9, k0_pay17, k0_pay15, k0_pay16, k0_pay2, k0_pay4]
           simp only [sum_head0, sum_head1, mask_first hg, mask_second hg, mask_later hg y2_lt, mask_bot]
           have ei : i = y 1 := Fin.ext (by omega)
           have ec : c = y 2 := Fin.ext (by omega)
           subst ei ec
           refine R.prob_own ?_ ?_ ?_ ?_ <;> (first | rfl | omega | (dsimp only; omega) | (simp; omega)))
    · intro u ρ c n i h b hn hb hρ hu
      have e0 : u.val = ((ix3 u ρ c : S2x2048x128.Idx) 0).val := rfl
      have e1 : ρ.val = ((ix3 u ρ c : S2x2048x128.Idx) 1).val := rfl
      have e2 : c.val = ((ix3 u ρ c : S2x2048x128.Idx) 2).val := rfl
      canon_tiles y p
      all_goals first
        | (exfalso; omega)
        | (pointwise [k0_pay14, k0_pay11, k0_pay10, k0_pay13, k0_pay8, k0_pay9, k0_pay17, k0_pay15, k0_pay16, k0_pay2, k0_pay4]
           simp only [sum_head0, sum_head1, mask_first hg, mask_second hg, mask_later hg y2_lt, mask_bot]
           have ei : i = y 1 := Fin.ext (by omega)
           have ec : c = y 2 := Fin.ext (by omega)
           subst ei ec
           first
             | (refine R.prob_own ?_ ?_ ?_ ?_ <;> (first | rfl | omega | (dsimp only; omega) | (simp; omega)))
             | (refine R.prob_next ?_ ?_ ?_ ?_ <;> (first | rfl | omega | (dsimp only; omega) | (simp; omega))))
    · intro u ρ c i b hn hb hρ
      have e0 : u.val = ((ix3 u ρ c : S2x2048x128.Idx) 0).val := rfl
      have e1 : ρ.val = ((ix3 u ρ c : S2x2048x128.Idx) 1).val := rfl
      canon_tiles y p
      all_goals first
        | (exfalso; omega)
        | (pointwise [k0_pay1, k0_pay205, k0_pay5]; done)
  clear hA
  canon_tiles x p
  case piece0 =>
    pointwise [k0_pay1, k0_pay205, k0_pay5]
    refine pick_either (fun hh => ?_) (fun hh => ?_)
    all_goals
      refine W.sum (X := O) 7 ?_ ?_ (fun a => ?_) (fun a => ?_) ?_ (Fin.ext ?_) (fun a => R.o _ _ n a h d ?_ ?_) (fun hl' a => R.dn _ _ _ a h d ?_ ?_)
      all_goals first | rfl | omega | (dsimp only; omega) | (simp; omega)
  all_goals
    pointwise
    refine pick_either (fun hh => ?_) (fun hh => ?_)
    all_goals
      refine W.sum_pair (X := O) ((r.val - (x 0).val) / 128) ?_ ?_ (fun a => ?_) ?_ (Fin.ext ?_) (fun a n' i' ha => R.o _ _ n' i' h d ?_ ?_)
      all_goals first | rfl | omega | (dsimp only; omega) | (simp; omega)

end Cert.KernelIdeal.Point

end
-- ==== Proof.PointVC.lean ====
/- The gradient of the values at a grid point of case C. -/
module

public import Idealize.ShloMosaic.Lib.Pipeline.ValueKit
public import proofs.«01_k».proof.Proof.Saved
public import proofs.«01_k».proof.Proof.Point

@[expose] public section

set_option maxRecDepth 16384
set_option maxHeartbeats 4000000

noncomputable section

namespace Cert.KernelIdeal.Point

open Idealize.ShloMosaic Idealize.ShloMosaic.TcCoe Idealize.ShloMosaic.Tactic Idealize.SL.Sem
open Cert.KernelIdeal Cert.KernelIdeal.Gen Cert.KernelIdeal.Head
open Cert.Attn

variable (m : (ℓ : Loc nD τ sig) → Buf (Elt Ideal) ℓ)

variable {hp : ℕ} {Q K V O : Rows} {B : Bias} {L E : Col}

theorem dv_C (c : Dev nD) (t : Fin cfg0.N) (h0 : ¬t.val % 16 = 0) (h1 : ¬t.val % 16 ≤ 14) (h2 : t.val % 16 = 15) (R : At m c t hp Q K V O B L E)
    (r : Fin 1024) (l : Fin 128) (n i : Fin 128) (h : Fin 8) (d : Fin 64)
    (hr : n.val * 128 + i.val = (grid0.coords t 1).val * 1024 + r.val) (hl : h.val * 64 + d.val = hp * 128 + l.val) :
    (outsAt0 m c t.val t.isLt).2.2.1 (ix2 r l) = gradK (prob Q K B L) O n i h d := by
  rw [outsAt0_C m c t h0 h1 h2]
  frame_out
  have hg' : (grid0.coords t 1).val = 15 := (second t).symm ▸ h2
  clear h0 h1 h2
  have hg : (grid0.coords t 1).val < 16 := (grid0.coords t 1).isLt
  revert hg hg' hr R
  unfold At
  generalize iblk m c 0 t = q
  generalize iblk m c 1 t = k
  generalize iblk m c 2 t = kh
  generalize iblk m c 3 t = v
  generalize iblk m c 4 t = vh
  generalize iblk m c 5 t = o
  generalize iblk m c 6 t = ll
  generalize iblk m c 7 t = e
  generalize iblk m c 8 t = qn
  generalize iblk m c 9 t = dn
  generalize iblk m c 10 t = ln
  generalize iblk m c 11 t = en
  generalize iblk m c 12 t = b
  generalize (grid0.coords t 1).val = g
  intro R hr hg' hg
  have e0 : r.val = ((ix2 r l : S1024x128.Idx) 0).val := rfl
  have e1 : l.val = ((ix2 r l : S1024x128.Idx) 1).val := rfl
  simp only [View.readCov_eq_canon']
  generalize hA : @View.canon S2x2048x128 .bf16 (Elt Ideal) _ _ = A
  have W : Saved hp g (prob Q K B L) A := by
    subst hA
    constructor
    · intro u ρ c n i h b hn hb hρ hu
      have e0 : u.val = ((ix3 u ρ c : S2x2048x128.Idx) 0).val := rfl
      have e1 : ρ.val = ((ix3 u ρ c : S2x2048x128.Idx) 1).val := rfl
      have e2 : c.val = ((ix3 u ρ c : S2x2048x128.Idx) 2).val := rfl
      canon_tiles y p
      all_goals first
        | (exfalso; omega)
        | (pointwise [k0_pay14, k0_pay11, k0_pay10, k0_pay13, k0_pay8, k0_pay9, k0_pay17, k0_pay15, k0_pay16, k0_pay2, k0_pay4]
           simp only [sum_head0, sum_head1, mask_first hg, mask_second hg, mask_later hg y2_lt, mask_bot]
           have ei : i = y 1 := Fin.ext (by omega)
           have ec : c = y 2 := Fin.ext (by omega)
           subst ei ec
           refine R.prob_own ?_ ?_ ?_ ?_ <;> (first | rfl | omega | (dsimp only; omega) | (simp; omega)))
    · intro u ρ c n i h b hn hb hρ hu
      have e0 : u.val = ((ix3 u ρ c : S2x2048x128.Idx) 0).val := rfl
      have e1 : ρ.val = ((ix3 u ρ c : S2x2048x128.Idx) 1).val := rfl
      have e2 : c.val = ((ix3 u ρ c : S2x2048x128.Idx) 2).val := rfl
      canon_tiles y p
      all_goals first
        | (exfalso; omega)
        | (pointwise [k0_pay14, k0_pay11, k0_pay10, k0_pay13, k0_pay8, k0_pay9, k0_pay17, k0_pay15, k0_pay16, k0_pay2, k0_pay4]
           simp only [sum_head0, sum_head1, mask_first hg, mask_second hg, mask_later hg y2_lt, mask_bot]
           have ei : i = y 1 := Fin.ext (by omega)
           have ec : c = y 2 := Fin.ext (by omega)
           subst ei ec
           refine R.prob_own ?_ ?_ ?_ ?_ <;> (first | rfl | omega | (dsimp only; omega) | (simp; omega)))
    · intro u ρ c i b hn hb hρ
      have e0 : u.val = ((ix3 u ρ c : S2x2048x128.Idx) 0).val := rfl
      have e1 : ρ.val = ((ix3 u ρ c : S2x2048x128.Idx) 1).val := rfl
      canon_tiles y p
      all_goals first
        | (exfalso; omega)
        | (pointwise [k0_pay1, k0_pay205, k0_pay5]; done)
  clear hA
  canon_tiles x p
  case piece0 =>
    pointwise [k0_pay1, k0_pay205, k0_pay5]
    refine pick_either (fun hh => ?_) (fun hh => ?_)
    all_goals
      refine W.sum (X := O) 7 ?_ ?_ (fun a => ?_) (fun a => ?_) ?_ (Fin.ext ?_) (fun a => R.o _ _ n a h d ?_ ?_) (fun hl' a => R.dn _ _ _ a h d ?_ ?_)
      all_goals first | rfl | omega | (dsimp only; omega) | (simp; omega)
  all_goals
    pointwise
    refine pick_either (fun hh => ?_) (fun hh => ?_)
    all_goals
      refine W.sum_pair (X := O) ((r.val - (x 0).val) / 128) ?_ ?_ (fun a => ?_) ?_ (Fin.ext ?_) (fun a n' i' ha => R.o _ _ n' i' h d ?_ ?_)
      all_goals first | rfl | omega | (dsimp only; omega) | (simp; omega)

end Cert.KernelIdeal.Point

end
-- ==== Proof.Fold.lean ====
/- The bias's gradient within a point: the table's two planes are read and written once a block. -/
module

public import Idealize.ShloMosaic.Lib.Pipeline.ValueKit
public import proofs.«01_k».proof.Proof.Head

@[expose] public section

set_option maxRecDepth 16384

noncomputable section

namespace Cert.KernelIdeal.Head

open Idealize.ShloMosaic Cert.KernelIdeal.Gen Cert.Attn

/-- The last two of a list of stores are all that is read where they reach. -/
theorem canon_head {s : Shape} {e : EltTy} {p p' : View.Piece (Elt Ideal) s e} {l : List (View.Piece (Elt Ideal) s e)} {y : s.Idx}
    (h : y ∈ p.1.set ∨ y ∈ p'.1.set) : View.canon (p :: p' :: l) y = View.canon [p, p'] y := by
  by_cases hp : y ∈ p.1.set
  · obtain ⟨x, rfl⟩ := p.1.exists_idx_of_mem hp
    rw [show p.1.idx x = p.1.emb x from rfl]
    exact (View.canon_cons_emb p.1 p.2 _ x).trans (View.canon_cons_emb p.1 p.2 _ x).symm
  · have hp' := h.resolve_left hp
    rw [View.canon_cons_of_not_mem _ _ hp, View.canon_cons_of_not_mem _ _ hp]
    obtain ⟨x, rfl⟩ := p'.1.exists_idx_of_mem hp'
    rw [show p'.1.idx x = p'.1.emb x from rfl]
    exact (View.canon_cons_emb p'.1 p'.2 _ x).trans (View.canon_cons_emb p'.1 p'.2 _ x).symm

theorem mem_plane {v : ℕ} {inb} (u : Fin 2) (i : Fin 128) (j : Fin 256) (hu : u.val = v) :
    (ix3 u i j : S2x128x256.Idx) ∈ (Rect.unit (s := S2x128x256) ![v, 0, 0] ![1, 128, 256] inb).set := by
  refine Rect.mem_set_unit.mpr fun a => ?_
  match a with
  | 0 => exact ⟨hu.ge, by show u.val < v + 1; omega⟩
  | 1 => exact ⟨Nat.zero_le _, by show i.val < 0 + 128; omega⟩
  | 2 => exact ⟨Nat.zero_le _, by show j.val < 0 + 256; omega⟩

theorem sum_eight (a : EReal) (f : Fin 8 → EReal) : a + ∑ b : Fin 8, f b = a + f 0 + f 1 + f 2 + f 3 + f 4 + f 5 + f 6 + f 7 := by
  rw [Fin.sum_univ_eight]
  simp only [add_assoc]

/-- An entry of the point's first block, over both halves of the keys. -/
theorem Reads.dlog_first {hp g : ℕ} {Q K V O : Rows} {B : Bias} {L E : Col} {q k v o ll e : S1024x128.Idx → EReal}
    {kh vh qn dn ln en : S128x128.Idx → EReal} {b : S2x128x256.Idx → EReal} (R : Reads hp g Q K V O B L E q k v o ll e kh vh qn dn ln en b)
    {r : Fin 1024} {cl : Fin 128} {u : Fin 2} {n i : Fin 128} {h : Fin 8} {j : Fin 256} {w : BitVec 1} (hw : w = BitVec.ofBool (decide (g = 0 ∧ j.val < 128)))
    (hr : n.val * 128 + i.val = g * 1024 + r.val) (hg : r.val < 128) (hu : h.val = 2 * hp + u.val) (hcl : cl.val = u.val * 64) :
    Ideal.exp (Scalar.select w ⊥ ((∑ d : Fin 64, q (ix2 r (lane u d)) *
          if hj : j.val < 128 then kh (ix2 (⟨j.val, hj⟩ : Fin 128) (lane u d)) else k (ix2 (⟨j.val - 128, by omega⟩ : Fin 1024) (lane u d))) + b (ix3 u i j))
          - ll (ix2 r cl))
        * ((∑ d : Fin 64, o (ix2 r (lane u d)) *
          if hj : j.val < 128 then vh (ix2 (⟨j.val, hj⟩ : Fin 128) (lane u d)) else v (ix2 (⟨j.val - 128, by omega⟩ : Fin 1024) (lane u d))) - e (ix2 r cl))
      = dlog Q K V O B L E n h i j := by
  subst hw
  by_cases hj : j.val < 128
  · simp only [dif_pos hj]
    rw [← R.dlog_halo hr hg (s := ⟨j.val, hj⟩) rfl hu hcl]
    by_cases h0 : g = 0 <;> simp [h0, hj, Scalar.select]
  · simp only [dif_neg hj]
    rw [← R.dlog_own hr (s := ⟨j.val - 128, by omega⟩) (by dsimp only; omega) hu hcl, decide_eq_false fun hh => hj hh.2]
    rfl

end Cert.KernelIdeal.Head

end
-- ==== Proof.PointBA.lean ====
/- The gradient of the bias at a grid point of case A. -/
module

public import Idealize.ShloMosaic.Lib.Pipeline.ValueKit
public import Idealize.ShloMosaic.Lib.Pipeline.ReadBack
public import proofs.«01_k».proof.Proof.Fold
public import proofs.«01_k».proof.Proof.Point

@[expose] public section

set_option maxRecDepth 16384
set_option maxHeartbeats 4000000

noncomputable section

namespace Cert.KernelIdeal.Point

open Idealize.ShloMosaic Idealize.ShloMosaic.TcCoe Idealize.ShloMosaic.Tactic Idealize.SL.Sem
open Cert.KernelIdeal Cert.KernelIdeal.Gen Cert.KernelIdeal.Head
open Cert.Attn

variable (m : (ℓ : Loc nD τ sig) → Buf (Elt Ideal) ℓ)

variable {hp : ℕ} {Q K V O : Rows} {B : Bias} {L E : Col}

theorem db_A (c : Dev nD) (t : Fin cfg0.N) (h0 : t.val % 16 = 0) (h1 : t.val % 16 ≤ 14) (h2 : ¬t.val % 16 = 15) (R : At m c t hp Q K V O B L E)
    (u : Fin 2) (i : Fin 128) (j : Fin 256) (h : Fin 8) (hu : h.val = 2 * hp + u.val) (N : Fin 8 → Fin 128)
    (hN : ∀ b : Fin 8, (N b).val = 8 * (grid0.coords t 1).val + b.val) :
    (outsAt0 m c t.val t.isLt).2.2.2 (ix3 u i j) = 0 + ∑ b : Fin 8, dlog Q K V O B L E (N b) h i j := by
  rw [outsAt0_A m c t h0 h1 h2, sum_eight]
  frame_open
  simp (disch := decide) only [↓ View.readCov_skip, ↓ View.readCov_cons_toLoadRect, ↓ View.readCov_fill]
  frame_out
  clear h0 h1 h2
  have hg : (grid0.coords t 1).val < 16 := (grid0.coords t 1).isLt
  revert hg hN R
  unfold At
  generalize iblk m c 0 t = q
  generalize iblk m c 1 t = k
  generalize iblk m c 2 t = kh
  generalize iblk m c 3 t = v
  generalize iblk m c 4 t = vh
  generalize iblk m c 5 t = o
  generalize iblk m c 6 t = ll
  generalize iblk m c 7 t = e
  generalize iblk m c 8 t = qn
  generalize iblk m c 9 t = dn
  generalize iblk m c 10 t = ln
  generalize iblk m c 11 t = en
  generalize iblk m c 12 t = b
  generalize (grid0.coords t 1).val = g
  intro R hN hg
  have N0 : (N 0).val = 8 * g + 0 := hN 0
  have N1 : (N 1).val = 8 * g + 1 := hN 1
  have N2 : (N 2).val = 8 * g + 2 := hN 2
  have N3 : (N 3).val = 8 * g + 3 := hN 3
  have N4 : (N 4).val = 8 * g + 4 := hN 4
  have N5 : (N 5).val = 8 * g + 5 := hN 5
  have N6 : (N 6).val = 8 * g + 6 := hN 6
  have N7 : (N 7).val = 8 * g + 7 := hN 7
  clear hN
  have e0 : u.val = ((ix3 u i j : S2x128x256.Idx) 0).val := rfl
  have e1 : i.val = ((ix3 u i j : S2x128x256.Idx) 1).val := rfl
  have e2 : j.val = ((ix3 u i j : S2x128x256.Idx) 2).val := rfl
  have hm : u.val = 1 ∨ u.val = 0 := by omega
  refine (canon_head ?_).trans ?_
  · exact hm.imp (mem_plane (inb := inb_S2x128x256_S1x128x256_1_0_0) u i j) (mem_plane (inb := inb_S2x128x256_S1x128x256_0_0_0) u i j)
  canon_tiles x p
  all_goals
    pointwise [k0_pay14, k0_pay11, k0_pay10, k0_pay13, k0_pay8, k0_pay9, k0_pay17, k0_pay12, k0_pay6]
    simp only [sum_head0, sum_head1, mask_bot]
    have ei : i = x 1 := Fin.ext (by omega)
    have ej : j = x 2 := Fin.ext (by omega)
    subst ei ej
  case piece0 =>
    have eu : u = 1 := Fin.ext (by omega)
    subst eu
    iterate 7
      refine congrArg₂ (· + ·) ?_ (R.dlog_own ?_ ?_ ?_ ?_)
      on_goal 2 => (first | rfl | omega | (dsimp only; omega) | (simp; omega))
      on_goal 2 => (first | rfl | omega | (dsimp only; omega) | (simp; omega))
      on_goal 2 => (first | rfl | omega | (dsimp only; omega) | (simp; omega))
      on_goal 2 => (first | rfl | omega | (dsimp only; omega) | (simp; omega))
    refine R.dlog_first (mask_word hg x2_lt) ?_ ?_ ?_ ?_
    all_goals first | rfl | omega | (dsimp only; omega) | (simp; omega)
  case piece1 =>
    have eu : u = 0 := Fin.ext (by omega)
    subst eu
    iterate 7
      refine congrArg₂ (· + ·) ?_ (R.dlog_own ?_ ?_ ?_ ?_)
      on_goal 2 => (first | rfl | omega | (dsimp only; omega) | (simp; omega))
      on_goal 2 => (first | rfl | omega | (dsimp only; omega) | (simp; omega))
      on_goal 2 => (first | rfl | omega | (dsimp only; omega) | (simp; omega))
      on_goal 2 => (first | rfl | omega | (dsimp only; omega) | (simp; omega))
    refine R.dlog_first (mask_word hg x2_lt) ?_ ?_ ?_ ?_
    all_goals first | rfl | omega | (dsimp only; omega) | (simp; omega)

end Cert.KernelIdeal.Point

end
-- ==== Proof.PointBB.lean ====
/- The gradient of the bias at a grid point of case B. -/
module

public import Idealize.ShloMosaic.Lib.Pipeline.ValueKit
public import Idealize.ShloMosaic.Lib.Pipeline.ReadBack
public import proofs.«01_k».proof.Proof.Fold
public import proofs.«01_k».proof.Proof.Point

@[expose] public section

set_option maxRecDepth 16384
set_option maxHeartbeats 4000000

noncomputable section

namespace Cert.KernelIdeal.Point

open Idealize.ShloMosaic Idealize.ShloMosaic.TcCoe Idealize.ShloMosaic.Tactic Idealize.SL.Sem
open Cert.KernelIdeal Cert.KernelIdeal.Gen Cert.KernelIdeal.Head
open Cert.Attn

variable (m : (ℓ : Loc nD τ sig) → Buf (Elt Ideal) ℓ)

variable {hp : ℕ} {Q K V O : Rows} {B : Bias} {L E : Col}

theorem db_B (c : Dev nD) (t : Fin cfg0.N) (h0 : ¬t.val % 16 = 0) (h1 : t.val % 16 ≤ 14) (h2 : ¬t.val % 16 = 15) (R : At m c t hp Q K V O B L E)
    (u : Fin 2) (i : Fin 128) (j : Fin 256) (h : Fin 8) (hu : h.val = 2 * hp + u.val) (N : Fin 8 → Fin 128)
    (hN : ∀ b : Fin 8, (N b).val = 8 * (grid0.coords t 1).val + b.val) :
    (outsAt0 m c t.val t.isLt).2.2.2 (ix3 u i j) = (outsAt0 m c (t.val - 1) (lt_of_le_of_lt (Nat.sub_le _ _) t.isLt)).2.2.2 (ix3 u i j) + ∑ b : Fin 8, dlog Q K V O B L E (N b) h i j := by
  rw [outsAt0_B m c t h0 h1 h2, sum_eight]
  frame_open
  simp (disch := decide) only [↓ View.readCov_skip, ↓ View.readCov_cons_toLoadRect, ↓ View.readCov_fill]
  frame_out
  clear h0 h1 h2
  have hg : (grid0.coords t 1).val < 16 := (grid0.coords t 1).isLt
  revert hg hN R
  unfold At
  generalize iblk m c 0 t = q
  generalize iblk m c 1 t = k
  generalize iblk m c 2 t = kh
  generalize iblk m c 3 t = v
  generalize iblk m c 4 t = vh
  generalize iblk m c 5 t = o
  generalize iblk m c 6 t = ll
  generalize iblk m c 7 t = e
  generalize iblk m c 8 t = qn
  generalize iblk m c 9 t = dn
  generalize iblk m c 10 t = ln
  generalize iblk m c 11 t = en
  generalize iblk m c 12 t = b
  generalize (grid0.coords t 1).val = g
  generalize outsAt0 m c (t.val - 1) _ = X
  intro R hN hg
  have N0 : (N 0).val = 8 * g + 0 := hN 0
  have N1 : (N 1).val = 8 * g + 1 := hN 1
  have N2 : (N 2).val = 8 * g + 2 := hN 2
  have N3 : (N 3).val = 8 * g + 3 := hN 3
  have N4 : (N 4).val = 8 * g + 4 := hN 4
  have N5 : (N 5).val = 8 * g + 5 := hN 5
  have N6 : (N 6).val = 8 * g + 6 := hN 6
  have N7 : (N 7).val = 8 * g + 7 := hN 7
  clear hN
  have e0 : u.val = ((ix3 u i j : S2x128x256.Idx) 0).val := rfl
  have e1 : i.val = ((ix3 u i j : S2x128x256.Idx) 1).val := rfl
  have e2 : j.val = ((ix3 u i j : S2x128x256.Idx) 2).val := rfl
  have hm : u.val = 1 ∨ u.val = 0 := by omega
  refine (canon_head ?_).trans ?_
  · exact hm.imp (mem_plane (inb := inb_S2x128x256_S1x128x256_1_0_0) u i j) (mem_plane (inb := inb_S2x128x256_S1x128x256_0_0_0) u i j)
  canon_tiles x p
  all_goals
    pointwise [k0_pay14, k0_pay11, k0_pay10, k0_pay13, k0_pay8, k0_pay9, k0_pay17, k0_pay12, k0_pay6]
    simp only [sum_head0, sum_head1, mask_bot]
    have ei : i = x 1 := Fin.ext (by omega)
    have ej : j = x 2 := Fin.ext (by omega)
    subst ei ej
  case piece0 =>
    have eu : u = 1 := Fin.ext (by omega)
    subst eu
    iterate 7
      refine congrArg₂ (· + ·) ?_ (R.dlog_own ?_ ?_ ?_ ?_)
      on_goal 2 => (first | rfl | omega | (dsimp only; omega) | (simp; omega))
      on_goal 2 => (first | rfl | omega | (dsimp only; omega) | (simp; omega))
      on_goal 2 => (first | rfl | omega | (dsimp only; omega) | (simp; omega))
      on_goal 2 => (first | rfl | omega | (dsimp only; omega) | (simp; omega))
    refine congrArg₂ (· + ·) ?_ (R.dlog_first (mask_word hg x2_lt) ?_ ?_ ?_ ?_)
    all_goals first | rfl | omega | (dsimp only; omega) | (simp; omega)
  case piece1 =>
    have eu : u = 0 := Fin.ext (by omega)
    subst eu
    iterate 7
      refine congrArg₂ (· + ·) ?_ (R.dlog_own ?_ ?_ ?_ ?_)
      on_goal 2 => (first | rfl | omega | (dsimp only; omega) | (simp; omega))
      on_goal 2 => (first | rfl | omega | (dsimp only; omega) | (simp; omega))
      on_goal 2 => (first | rfl | omega | (dsimp only; omega) | (simp; omega))
      on_goal 2 => (first | rfl | omega | (dsimp only; omega) | (simp; omega))
    refine congrArg₂ (· + ·) ?_ (R.dlog_first (mask_word hg x2_lt) ?_ ?_ ?_ ?_)
    all_goals first | rfl | omega | (dsimp only; omega) | (simp; omega)

end Cert.KernelIdeal.Point

end
-- ==== Proof.PointBC.lean ====
/- The gradient of the bias at a grid point of case C. -/
module

public import Idealize.ShloMosaic.Lib.Pipeline.ValueKit
public import Idealize.ShloMosaic.Lib.Pipeline.ReadBack
public import proofs.«01_k».proof.Proof.Fold
public import proofs.«01_k».proof.Proof.Point

@[expose] public section

set_option maxRecDepth 16384
set_option maxHeartbeats 4000000

noncomputable section

namespace Cert.KernelIdeal.Point

open Idealize.ShloMosaic Idealize.ShloMosaic.TcCoe Idealize.ShloMosaic.Tactic Idealize.SL.Sem
open Cert.KernelIdeal Cert.KernelIdeal.Gen Cert.KernelIdeal.Head
open Cert.Attn

variable (m : (ℓ : Loc nD τ sig) → Buf (Elt Ideal) ℓ)

variable {hp : ℕ} {Q K V O : Rows} {B : Bias} {L E : Col}

theorem db_C (c : Dev nD) (t : Fin cfg0.N) (h0 : ¬t.val % 16 = 0) (h1 : ¬t.val % 16 ≤ 14) (h2 : t.val % 16 = 15) (R : At m c t hp Q K V O B L E)
    (u : Fin 2) (i : Fin 128) (j : Fin 256) (h : Fin 8) (hu : h.val = 2 * hp + u.val) (N : Fin 8 → Fin 128)
    (hN : ∀ b : Fin 8, (N b).val = 8 * (grid0.coords t 1).val + b.val) :
    (outsAt0 m c t.val t.isLt).2.2.2 (ix3 u i j) = (outsAt0 m c (t.val - 1) (lt_of_le_of_lt (Nat.sub_le _ _) t.isLt)).2.2.2 (ix3 u i j) + ∑ b : Fin 8, dlog Q K V O B L E (N b) h i j := by
  rw [outsAt0_C m c t h0 h1 h2, sum_eight]
  frame_open
  simp (disch := decide) only [↓ View.readCov_skip, ↓ View.readCov_cons_toLoadRect, ↓ View.readCov_fill]
  frame_out
  clear h0 h1 h2
  have hg : (grid0.coords t 1).val < 16 := (grid0.coords t 1).isLt
  revert hg hN R
  unfold At
  generalize iblk m c 0 t = q
  generalize iblk m c 1 t = k
  generalize iblk m c 2 t = kh
  generalize iblk m c 3 t = v
  generalize iblk m c 4 t = vh
  generalize iblk m c 5 t = o
  generalize iblk m c 6 t = ll
  generalize iblk m c 7 t = e
  generalize iblk m c 8 t = qn
  generalize iblk m c 9 t = dn
  generalize iblk m c 10 t = ln
  generalize iblk m c 11 t = en
  generalize iblk m c 12 t = b
  generalize (grid0.coords t 1).val = g
  generalize outsAt0 m c (t.val - 1) _ = X
  intro R hN hg
  have N0 : (N 0).val = 8 * g + 0 := hN 0
  have N1 : (N 1).val = 8 * g + 1 := hN 1
  have N2 : (N 2).val = 8 * g + 2 := hN 2
  have N3 : (N 3).val = 8 * g + 3 := hN 3
  have N4 : (N 4).val = 8 * g + 4 := hN 4
  have N5 : (N 5).val = 8 * g + 5 := hN 5
  have N6 : (N 6).val = 8 * g + 6 := hN 6
  have N7 : (N 7).val = 8 * g + 7 := hN 7
  clear hN
  have e0 : u.val = ((ix3 u i j : S2x128x256.Idx) 0).val := rfl
  have e1 : i.val = ((ix3 u i j : S2x128x256.Idx) 1).val := rfl
  have e2 : j.val = ((ix3 u i j : S2x128x256.Idx) 2).val := rfl
  have hm : u.val = 1 ∨ u.val = 0 := by omega
  refine (canon_head ?_).trans ?_
  · exact hm.imp (mem_plane (inb := inb_S2x128x256_S1x128x256_1_0_0) u i j) (mem_plane (inb := inb_S2x128x256_S1x128x256_0_0_0) u i j)
  canon_tiles x p
  all_goals
    pointwise [k0_pay14, k0_pay11, k0_pay10, k0_pay13, k0_pay8, k0_pay9, k0_pay17, k0_pay12, k0_pay6]
    simp only [sum_head0, sum_head1, mask_bot]
    have ei : i = x 1 := Fin.ext (by omega)
    have ej : j = x 2 := Fin.ext (by omega)
    subst ei ej
  case piece0 =>
    have eu : u = 1 := Fin.ext (by omega)
    subst eu
    iterate 7
      refine congrArg₂ (· + ·) ?_ (R.dlog_own ?_ ?_ ?_ ?_)
      on_goal 2 => (first | rfl | omega | (dsimp only; omega) | (simp; omega))
      on_goal 2 => (first | rfl | omega | (dsimp only; omega) | (simp; omega))
      on_goal 2 => (first | rfl | omega | (dsimp only; omega) | (simp; omega))
      on_goal 2 => (first | rfl | omega | (dsimp only; omega) | (simp; omega))
    refine congrArg₂ (· + ·) ?_ (R.dlog_first (mask_word hg x2_lt) ?_ ?_ ?_ ?_)
    all_goals first | rfl | omega | (dsimp only; omega) | (simp; omega)
  case piece1 =>
    have eu : u = 0 := Fin.ext (by omega)
    subst eu
    iterate 7
      refine congrArg₂ (· + ·) ?_ (R.dlog_own ?_ ?_ ?_ ?_)
      on_goal 2 => (first | rfl | omega | (dsimp only; omega) | (simp; omega))
      on_goal 2 => (first | rfl | omega | (dsimp only; omega) | (simp; omega))
      on_goal 2 => (first | rfl | omega | (dsimp only; omega) | (simp; omega))
      on_goal 2 => (first | rfl | omega | (dsimp only; omega) | (simp; omega))
    refine congrArg₂ (· + ·) ?_ (R.dlog_first (mask_word hg x2_lt) ?_ ?_ ?_ ?_)
    all_goals first | rfl | omega | (dsimp only; omega) | (simp; omega)

end Cert.KernelIdeal.Point

end
-- ==== Proof.Ref.lean ====
/- The reference's arrays read as the common form of Proof/Spec.lean. -/
module

public import proofs.«01_k».proof.Proof.Gen.ReferenceIdeal.Read
public import proofs.«01_k».proof.Proof.Spec
public import Idealize.ShloMosaic.Lib.WordCmp

@[expose] public section

set_option maxRecDepth 16384

noncomputable section

namespace Cert.Attn.Ref

open Idealize.ShloMosaic Idealize.ShloMosaic.TcCoe Idealize.SL.Sem
open Cert.ReferenceIdeal Cert.ReferenceIdeal.Gen Cert.ReferenceIdeal.Read

variable (X : FVec Ideal S16384x1536 .bf16) (D : FVec Ideal S16384x512 .bf16)
  (L E : FVec Ideal S16384x8 .f32) (B : FVec Ideal S8x128x256 .f32)

theorem v4_at (n i : Fin 128) (h : Fin 8) (d : Fin 64) :
    val_main_v4 (F := Ideal) X (ix4 n i h d) = rowsAt 0 (by omega) X n i h d := by
  rw [val_main_v4_apply, val_main_v1_apply, val_main_v0_apply]
  refine congrArg X ?_
  idx_ext

theorem v5_at (n i : Fin 128) (h : Fin 8) (d : Fin 64) :
    val_main_v5 (F := Ideal) X (ix4 n i h d) = rowsAt 512 (by omega) X n i h d := by
  rw [val_main_v5_apply, val_main_v2_apply, val_main_v0_apply]
  refine congrArg X ?_
  idx_ext

theorem v12_at (n i : Fin 128) (h : Fin 8) (d : Fin 64) :
    val_main_v12 (F := Ideal) X (ix4 n i h d) = rowsAt 1024 (by omega) X n i h d := by
  rw [val_main_v12_apply, val_main_v3_apply, val_main_v0_apply]
  refine congrArg X ?_
  idx_ext

theorem v58_at (n i : Fin 128) (h : Fin 8) (d : Fin 64) :
    val_main_v58 (F := Ideal) D (ix4 n i h d) = rows D n i h d := by
  rw [val_main_v58_apply, val_main_v57_apply]
  refine congrArg D ?_
  idx_ext

theorem v11_at (n : Fin 128) (j : Fin 256) (h : Fin 8) (d : Fin 64) :
    val_main_v11 (F := Ideal) X (ix4 n j h d) = keys (rowsAt 512 (by omega) X) n j h d := by
  unfold keys
  pointwise [val_main_v11, val_main_v9, val_main_v7, val_main_v8, val_main_cst]
  simp only [v5_at, Nat.lt_one_iff]
  rfl

theorem v18_at (n : Fin 128) (j : Fin 256) (h : Fin 8) (d : Fin 64) :
    val_main_v18 (F := Ideal) X (ix4 n j h d) = keys (rowsAt 1024 (by omega) X) n j h d := by
  unfold keys
  pointwise [val_main_v18, val_main_v16, val_main_v14, val_main_v15, val_main_cst_1]
  simp only [v12_at, Nat.lt_one_iff]
  rfl

theorem mask_at (n i : Fin 128) (h : Fin 8) (j : Fin 256) :
    val_main_v43_1 (F := Ideal) (ix4 n h i j) = BitVec.ofBool (decide (sees n i j)) := by
  pointwise [val_main_v43_1, val_main_v42, val_main_v37, val_main_v34, val_main_v36, val_main_v35, val_main_v33, val_main_v32,
    val_main_v31, val_main_v30, val_main_v29, val_main_v28, val_main_v27, val_main_v26, val_main_v25, val_main_v24, val_main_v23,
    val_main_v22, val_main_v21, val_main_v20, val_main_v19, val_main_c, val_main_c_3, val_main_c_4, val_main_c_5, val_main_c_6,
    val_main_c_7]
  exact sees_word n i j

theorem bits_bot : Ideal.ofBits .f32 0xFF800000#32 = ⊥ := by
  simp [Ideal.ofBits, Ideal.ieee]

theorem v49_at (n i : Fin 128) (h : Fin 8) (j : Fin 256) :
    val_main_v49 (F := Ideal) X L B (ix4 n h i j)
      = prob (rowsAt 0 (by omega) X) (rowsAt 512 (by omega) X) (bias B) (col L) n h i j := by
  rw [val_main_v49_apply, val_main_v48_apply, val_main_v43_0_apply, mask_at]
  pointwise [val_main_v47, val_main_v46, val_main_v45, val_main_v44, val_main_v41, val_main_v40, val_main_v39, val_main_v38,
    val_main_call0_v2, val_main_call0_v0, val_main_cst_8]
  unfold prob
  simp only [v4_at, v11_at]
  by_cases hs : sees n i j
  · rw [if_pos hs, if_pos hs]; rfl
  · rw [if_neg hs, if_neg hs]
    show Ideal.exp (Ideal.ofBits .f32 0xFF800000#32 - _) = 0
    rw [bits_bot, EReal.bot_sub, Ideal.exp_bot]

theorem v68_at (n i : Fin 128) (h : Fin 8) (j : Fin 256) :
    val_main_v68 (F := Ideal) X D L E B (ix4 n h i j)
      = dlog (rowsAt 0 (by omega) X) (rowsAt 512 (by omega) X) (rowsAt 1024 (by omega) X) (rows D) (bias B) (col L) (col E) n h i j := by
  rw [val_main_v68_apply, val_main_v67_apply, mask_at, v49_at]
  pointwise [val_main_v66, val_main_v65, val_main_v62, val_main_v61, val_main_v60, val_main_v59, val_main_v56,
    val_main_call1_v0, val_main_call1_cst]
  unfold dlog
  simp only [v58_at, v18_at]
  rw [mul_comm]
  rfl

theorem v71_at (h : Fin 8) (i : Fin 128) (j : Fin 256) :
    val_main_v71 (F := Ideal) X D L E B (ix3 h i j)
      = gradB (dlog (rowsAt 0 (by omega) X) (rowsAt 512 (by omega) X) (rowsAt 1024 (by omega) X) (rows D) (bias B) (col L) (col E)) h i j := by
  pointwise [val_main_v71, val_main_v70, val_main_v69, val_main_cst_10, val_main_cst_11]
  simp only [v68_at]
  unfold gradB
  rw [Finset.sum_const, Finset.card_univ, Fintype.card_fin, one_smul]

theorem v91_at (n i : Fin 128) (h : Fin 8) (d : Fin 64) :
    val_main_v91 (F := Ideal) X D L E B (ix2 ⟨n.val * 128 + i.val, by omega⟩ ⟨h.val * 64 + d.val, by omega⟩)
      = gradQ (dlog (rowsAt 0 (by omega) X) (rowsAt 512 (by omega) X) (rowsAt 1024 (by omega) X) (rows D) (bias B) (col L) (col E))
          (rowsAt 512 (by omega) X) n i h d := by
  rw [val_main_v91_apply, val_main_v90_apply]
  rw [show idx_main_v90 (ix2 ⟨n.val * 128 + i.val, by omega⟩ ⟨h.val * 64 + d.val, by omega⟩) = ix4 n i h d by idx_ext]
  pointwise [val_main_v75, val_main_v74]
  simp only [v68_at, v11_at]
  rfl

theorem v92_at (n i : Fin 128) (h : Fin 8) (d : Fin 64) :
    val_main_v92 (F := Ideal) X D L E B (ix2 ⟨n.val * 128 + i.val, by omega⟩ ⟨h.val * 64 + d.val, by omega⟩)
      = gradK (dlog (rowsAt 0 (by omega) X) (rowsAt 512 (by omega) X) (rowsAt 1024 (by omega) X) (rows D) (bias B) (col L) (col E))
          (rowsAt 0 (by omega) X) n i h d := by
  rw [val_main_v92_apply, val_main_v89_apply]
  rw [show idx_main_v89 (ix2 ⟨n.val * 128 + i.val, by omega⟩ ⟨h.val * 64 + d.val, by omega⟩) = ix4 n i h d by idx_ext]
  pointwise [val_main_v88, val_main_v87, val_main_v86, val_main_v84, val_main_v83, val_main_v73, val_main_v72, val_main_cst_13]
  simp only [v68_at, v4_at]
  unfold gradK
  rfl

theorem v93_at (n i : Fin 128) (h : Fin 8) (d : Fin 64) :
    val_main_v93 (F := Ideal) X D L B (ix2 ⟨n.val * 128 + i.val, by omega⟩ ⟨h.val * 64 + d.val, by omega⟩)
      = gradK (prob (rowsAt 0 (by omega) X) (rowsAt 512 (by omega) X) (bias B) (col L)) (rows D) n i h d := by
  rw [val_main_v93_apply, val_main_v82_apply]
  rw [show idx_main_v82 (ix2 ⟨n.val * 128 + i.val, by omega⟩ ⟨h.val * 64 + d.val, by omega⟩) = ix4 n i h d by idx_ext]
  pointwise [val_main_v81, val_main_v80, val_main_v79, val_main_v77, val_main_v76, val_main_v64, val_main_v63, val_main_v61,
    val_main_cst_12]
  simp only [v49_at, v58_at]
  unfold gradK
  simp only [mul_comm (rows D _ _ _ _)]

end Cert.Attn.Ref

end
-- ==== Proof.Arrays.lean ====
/- The four result arrays after the run, index by index, as the reference's values of the same arguments. -/
module

public import Idealize.ShloMosaic.Lib.Pipeline.ValueKit
public import proofs.«01_k».proof.Proof.Blocks
public import proofs.«01_k».proof.Proof.PointKA
public import proofs.«01_k».proof.Proof.PointKB
public import proofs.«01_k».proof.Proof.PointKC
public import proofs.«01_k».proof.Proof.PointVA
public import proofs.«01_k».proof.Proof.PointVB
public import proofs.«01_k».proof.Proof.PointVC
public import proofs.«01_k».proof.Proof.PointBA
public import proofs.«01_k».proof.Proof.PointBB
public import proofs.«01_k».proof.Proof.PointBC
public import proofs.«01_k».proof.Proof.Ref

@[expose] public section

set_option maxRecDepth 16384

noncomputable section

namespace Cert.KernelIdeal.Point

open Idealize.ShloMosaic Idealize.ShloMosaic.TcCoe Idealize.ShloMosaic.Tactic Idealize.SL.Sem
open Cert.KernelIdeal Cert.KernelIdeal.Gen Cert.KernelIdeal.Head
open Cert.Attn

variable {hp : ℕ} {Q K V O : Rows} {B : Bias} {L E : Col}
variable (m : (ℓ : Loc nD τ sig) → Buf (Elt Ideal) ℓ)

theorem first : ∀ t : Fin cfg0.N, (grid0.coords t 0).val = t.val / 16 := (by decide +kernel : ∀ t : Fin grid0.N, _)

theorem dq_point (c : Dev nD) (t : Fin cfg0.N) (R : At m c t hp Q K V O B L E) (r : Fin 1024) (l n i : Fin 128) (h : Fin 8) (d : Fin 64)
    (hr : n.val * 128 + i.val = (grid0.coords t 1).val * 1024 + r.val) (hl : h.val * 64 + d.val = hp * 128 + l.val) :
    (outsAt0 m c t.val t.isLt).1 (ix2 r l) = gradQ (dlog Q K V O B L E) K n i h d := by
  rcases Nat.lt_trichotomy (t.val % 16) 0 with h0 | h0 | h0
  · omega
  · exact dq_A m c t h0 (by omega) (by omega) R r l n i h d hr hl
  · by_cases h2 : t.val % 16 = 15
    · exact dq_C m c t (by omega) (by omega) h2 R r l n i h d hr hl
    · exact dq_B m c t (by omega) (by omega) h2 R r l n i h d hr hl

theorem dk_point (c : Dev nD) (t : Fin cfg0.N) (R : At m c t hp Q K V O B L E) (r : Fin 1024) (l n i : Fin 128) (h : Fin 8) (d : Fin 64)
    (hr : n.val * 128 + i.val = (grid0.coords t 1).val * 1024 + r.val) (hl : h.val * 64 + d.val = hp * 128 + l.val) :
    (outsAt0 m c t.val t.isLt).2.1 (ix2 r l) = gradK (dlog Q K V O B L E) Q n i h d := by
  rcases Nat.lt_trichotomy (t.val % 16) 0 with h0 | h0 | h0
  · omega
  · exact dk_A m c t h0 (by omega) (by omega) R r l n i h d hr hl
  · by_cases h2 : t.val % 16 = 15
    · exact dk_C m c t (by omega) (by omega) h2 R r l n i h d hr hl
    · exact dk_B m c t (by omega) (by omega) h2 R r l n i h d hr hl

theorem dv_point (c : Dev nD) (t : Fin cfg0.N) (R : At m c t hp Q K V O B L E) (r : Fin 1024) (l n i : Fin 128) (h : Fin 8) (d : Fin 64)
    (hr : n.val * 128 + i.val = (grid0.coords t 1).val * 1024 + r.val) (hl : h.val * 64 + d.val = hp * 128 + l.val) :
    (outsAt0 m c t.val t.isLt).2.2.1 (ix2 r l) = gradK (prob Q K B L) O n i h d := by
  rcases Nat.lt_trichotomy (t.val % 16) 0 with h0 | h0 | h0
  · omega
  · exact dv_A m c t h0 (by omega) (by omega) R r l n i h d hr hl
  · by_cases h2 : t.val % 16 = 15
    · exact dv_C m c t (by omega) (by omega) h2 R r l n i h d hr hl
    · exact dv_B m c t (by omega) (by omega) h2 R r l n i h d hr hl

/-- Row `r` of the array lies in block `r / 128` and column `l` in head `l / 64`. -/
theorem split_row (r : Fin 1024) (g : Fin 16) : ∃ n i : Fin 128, n.val * 128 + i.val = g.val * 1024 + r.val :=
  ⟨⟨(g.val * 1024 + r.val) / 128, by omega⟩, ⟨(g.val * 1024 + r.val) % 128, by omega⟩, by dsimp only; omega⟩

theorem split_col (l : Fin 128) (p : Fin 4) : ∃ (h : Fin 8) (d : Fin 64), h.val * 64 + d.val = p.val * 128 + l.val :=
  ⟨⟨(p.val * 128 + l.val) / 64, by omega⟩, ⟨(p.val * 128 + l.val) % 64, by omega⟩, by dsimp only; omega⟩

theorem array_dq (c : Dev nD) : (dats m 0 c).arrAt 13 cfg0.N
    = Cert.ReferenceIdeal.Read.val_main_v91 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 13 _ (by decide +kernel) fun t hf y => ?_
  blk_simp
  rw [after0_13]
  obtain ⟨n, i, hr⟩ := split_row (y 0) (grid0.coords t 1)
  obtain ⟨h, d, hl⟩ := split_col (y 1) (grid0.coords t 0)
  refine ((congrArg _ (by idx_ext : y = ix2 (y 0) (y 1))).trans (dq_point m c t (at_point m c t) (y 0) (y 1) n i h d hr hl)).trans
    ((Cert.Attn.Ref.v91_at _ _ _ _ _ n i h d).symm.trans (congrArg _ ?_))
  blk_ext [idx t]

theorem array_dk (c : Dev nD) : (dats m 0 c).arrAt 14 cfg0.N
    = Cert.ReferenceIdeal.Read.val_main_v92 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 14 _ (by decide +kernel) fun t hf y => ?_
  blk_simp
  rw [after0_14]
  obtain ⟨n, i, hr⟩ := split_row (y 0) (grid0.coords t 1)
  obtain ⟨h, d, hl⟩ := split_col (y 1) (grid0.coords t 0)
  refine ((congrArg _ (by idx_ext : y = ix2 (y 0) (y 1))).trans (dk_point m c t (at_point m c t) (y 0) (y 1) n i h d hr hl)).trans
    ((Cert.Attn.Ref.v92_at _ _ _ _ _ n i h d).symm.trans (congrArg _ ?_))
  blk_ext [idx t]

theorem array_dv (c : Dev nD) : (dats m 0 c).arrAt 15 cfg0.N
    = Cert.ReferenceIdeal.Read.val_main_v93 (F := Ideal) (m ((c : Thread nD τ).loc main_arg0)) (m ((c : Thread nD τ).loc main_arg1))
        (m ((c : Thread nD τ).loc main_arg2)) (m ((c : Thread nD τ).loc main_arg4)) := by
  refine (dats m 0 c).arrAt_eq_of_covers 15 _ (by decide +kernel) fun t hf y => ?_
  blk_simp
  rw [after0_15]
  obtain ⟨n, i, hr⟩ := split_row (y 0) (grid0.coords t 1)
  obtain ⟨h, d, hl⟩ := split_col (y 1) (grid0.coords t 0)
  refine ((congrArg _ (by idx_ext : y = ix2 (y 0) (y 1))).trans (dv_point m c t (at_point m c t) (y 0) (y 1) n i h d hr hl)).trans
    ((Cert.Attn.Ref.v93_at _ _ _ _ n i h d).symm.trans (congrArg _ ?_))
  blk_ext [idx t]

/-- What a point adds to the bias's gradient: its eight blocks' logit gradients. -/
def added (c : Dev nD) (t : Fin cfg0.N) (x : S2x128x256.Idx) : EReal :=
  ∑ b : Fin 8, dlog (rowsAt 0 (by decide) (m ((c : Thread nD τ).loc main_arg0))) (rowsAt 512 (by decide) (m ((c : Thread nD τ).loc main_arg0)))
    (rowsAt 1024 (by decide) (m ((c : Thread nD τ).loc main_arg0))) (rows (m ((c : Thread nD τ).loc main_arg1)))
    (bias (m ((c : Thread nD τ).loc main_arg4))) (col (m ((c : Thread nD τ).loc main_arg2))) (col (m ((c : Thread nD τ).loc main_arg3)))
    ⟨8 * (t.val % 16) + b.val, by omega⟩ ⟨2 * (grid0.coords t 0).val + (x 0).val, by
      have : (grid0.coords t 0).val < 4 := (grid0.coords t 0).isLt
      have : (x 0).val < 2 := (x 0).isLt
      omega⟩ (x 1) (x 2)

theorem db_first (c : Dev nD) (t : Fin cfg0.N) (h0 : t.val % 16 = 0) (x : S2x128x256.Idx) :
    (outsAt0 m c t.val t.isLt).2.2.2 x = (0 : EReal) + added m c t x :=
  (congrArg _ (by idx_ext : x = ix3 (x 0) (x 1) (x 2))).trans
    (db_A m c t h0 (by omega) (by omega) (at_point m c t) (x 0) (x 1) (x 2) _ rfl _ fun b => by rw [second t])

theorem db_next (c : Dev nD) (t : Fin cfg0.N) (h0 : ¬t.val % 16 = 0) (x : S2x128x256.Idx) :
    (outsAt0 m c t.val t.isLt).2.2.2 x
      = (outsAt0 m c (t.val - 1) (Nat.lt_of_le_of_lt (Nat.sub_le _ _) t.isLt)).2.2.2 x + added m c t x := by
  obtain ⟨u, i, j, rfl⟩ : ∃ (u : Fin 2) (i : Fin 128) (j : Fin 256), x = ix3 u i j := ⟨x 0, x 1, x 2, by idx_ext⟩
  by_cases h2 : t.val % 16 = 15
  · exact db_C m c t h0 (by omega) h2 (at_point m c t) u i j _ rfl _ fun b => by rw [second t]
  · exact db_B m c t h0 (by omega) h2 (at_point m c t) u i j _ rfl _ fun b => by rw [second t]

theorem array_db (c : Dev nD) : (dats m 0 c).arrAt 16 cfg0.N
    = Cert.ReferenceIdeal.Read.val_main_v71 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 16 _ (by decide +kernel) fun t hf y => ?_
  blk_simp
  rw [after0_16]
  have hp : (grid0.coords t 0).val < 4 := (grid0.coords t 0).isLt
  have hu : (y 0).val < 2 := (y 0).isLt
  refine (Pipeline.eq_sum_fin_of_reset_step_apply_of_flush (fun n h => (outsAt0 m c n h).2.2.2) 16 (fun _ => (0 : EReal)) (added m c)
    (db_first m c) (db_next m c) t ((flush0_16 t).mp hf) y).trans ?_
  refine Eq.trans ?_ ((Cert.Attn.Ref.v71_at _ _ _ _ _ ⟨2 * (grid0.coords t 0).val + (y 0).val, by omega⟩ (y 1) (y 2)).symm.trans
    (congrArg _ ?_))
  · unfold added gradB
    rw [zero_add]
    refine Fin.sum_mul_add_congr (fun s b hl => ?_)
    have e : (grid0.coords (⟨16 * (t.val / 16) + s.val, Pipeline.run_point_lt_of_flush t ((flush0_16 t).mp hf) s⟩ : Fin cfg0.N) 0).val
        = (grid0.coords t 0).val := by
      rw [first, first]
      dsimp only
      omega
    congr 1
    · exact Fin.ext (by dsimp only; omega)
    · exact Fin.ext (congrArg (fun p => 2 * p + (y 0).val) e)
  · blk_ext [idx t]

end Cert.KernelIdeal.Point

end
-- ==== Proof.DwUp.lean ====
/- The gradient of one half of the feed-forward up weights, index by index, as the reference's value of the same arguments. -/
module

public import Idealize.ShloMosaic.Lib.Pipeline.ValueKit
public import Idealize.ShloMosaic.Lib.Claim
public import proofs.«01_k».proof.Proof.Gen.DwUpIdeal.Value
public import proofs.«01_k».proof.Proof.Gen.DwUpRefIdeal.Run
public import proofs.«01_k».proof.Proof.Gen.DwUpRefIdeal.Read

@[expose] public section

set_option maxRecDepth 16384

noncomputable section

namespace Cert.DwUpIdeal.Point

open Idealize.ShloMosaic Idealize.ShloMosaic.TcCoe Idealize.ShloMosaic.Tactic Idealize.SL.Sem
open Cert.DwUpIdeal Cert.DwUpIdeal.Gen

variable (m : (ℓ : Loc nD τ sig) → Buf (Elt Ideal) ℓ)

theorem idx : ∀ t : Fin cfg0.N, win0_0.index t = ![t.val % 16, 0]
    ∧ win0_1.index t = ![t.val % 16, t.val / 16]
    ∧ win0_2.index t = ![0, t.val / 16] :=
  (by decide +kernel : ∀ t : Fin grid0.N, _)

/-- The product over a grid point's rows. -/
def prod (a : S1024x1024.Idx → EReal) (b : S1024x1408.Idx → EReal) (y : S1024x1408.Idx) : EReal :=
  ∑ k : Fin 1024, a (ix2 k (y 0)) * b (ix2 k (y 1))

theorem step_first (c : Dev nD) (t : Fin cfg0.N) (h0 : t.val % 16 = 0) (y : S1024x1408.Idx) :
    outsAt0 m c t.val t.isLt y = (0 : EReal) + prod (iblk m c 0 t) (iblk m c 1 t) y := by
  rw [outsAt0_A m c t h0 (by omega)]
  frame_out
  unfold prod
  generalize iblk m c 0 t = a
  generalize iblk m c 1 t = b
  obtain ⟨i, j, rfl⟩ : ∃ (i : Fin 1024) (j : Fin 1408), y = ix2 i j := ⟨y 0, y 1, by idx_ext⟩
  pointwise [k0_pay1]

theorem step_next (c : Dev nD) (t : Fin cfg0.N) (h0 : ¬t.val % 16 = 0) (y : S1024x1408.Idx) :
    outsAt0 m c t.val t.isLt y
      = outsAt0 m c (t.val - 1) (Nat.lt_of_le_of_lt (Nat.sub_le _ _) t.isLt) y + prod (iblk m c 0 t) (iblk m c 1 t) y := by
  rw [outsAt0_B m c t h0 (by omega)]
  frame_out
  unfold prod
  generalize iblk m c 0 t = a
  generalize iblk m c 1 t = b
  generalize outsAt0 m c (t.val - 1) (Nat.lt_of_le_of_lt (Nat.sub_le _ _) t.isLt) = z
  obtain ⟨i, j, rfl⟩ : ∃ (i : Fin 1024) (j : Fin 1408), y = ix2 i j := ⟨y 0, y 1, by idx_ext⟩
  pointwise [k0_pay1, k0_pay2]

theorem array (c : Dev nD) : (dats m 0 c).arrAt 2 cfg0.N
    = Cert.DwUpRefIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (Pipeline.eq_sum_fin_of_reset_step_apply_of_flush (fun n h => outsAt0 m c n h) 16 (fun _ => (0 : EReal)) (fun t => prod (iblk m c 0 t) (iblk m c 1 t))
    (step_first m c) (step_next m c) t ((flush0_2 t).mp hf) y).trans ?_
  rw [zero_add, Cert.DwUpRefIdeal.Read.val_main_v4_apply, Cert.DwUpRefIdeal.Read.val_main_v3_apply]
  unfold prod
  refine Fin.sum_mul_add_congr (fun s k hl => ?_)
  rw [Cert.DwUpRefIdeal.Read.val_main_v2_apply]
  have e := idx ⟨16 * (t.val / 16) + s.val, Pipeline.run_point_lt_of_flush t ((flush0_2 t).mp hf) s⟩
  refine (mul_comm _ _).trans (congrArg₂ (· * ·) ?_ ?_)
  · blk_ext [iblk, V, idx t, e]
  · blk_ext [iblk, V, idx t, e]

end Cert.DwUpIdeal.Point

end
-- ==== Proof.DxUp.lean ====
/- The gradient that reaches the feed-forward block's input, index by index, as the reference's value of the same arguments. -/
module

public import Idealize.ShloMosaic.Lib.Pipeline.ValueKit
public import Idealize.ShloMosaic.Lib.Claim
public import proofs.«01_k».proof.Proof.Gen.DxUpIdeal.Value
public import proofs.«01_k».proof.Proof.Gen.DxUpRefIdeal.Run
public import proofs.«01_k».proof.Proof.Gen.DxUpRefIdeal.Read

@[expose] public section

set_option maxRecDepth 16384

noncomputable section

namespace Cert.DxUpIdeal.Point

open Idealize.ShloMosaic Idealize.ShloMosaic.TcCoe Idealize.ShloMosaic.Tactic Idealize.SL.Sem
open Cert.DxUpIdeal Cert.DxUpIdeal.Gen

variable (m : (ℓ : Loc nD τ sig) → Buf (Elt Ideal) ℓ)

theorem idx : ∀ t : Fin cfg0.N, win0_0.index t = ![(grid0.coords t 1).val, 0]
    ∧ win0_1.index t = ![(grid0.coords t 1).val, 0]
    ∧ win0_2.index t = ![0, (grid0.coords t 0).val]
    ∧ win0_3.index t = ![0, (grid0.coords t 0).val]
    ∧ win0_4.index t = ![(grid0.coords t 1).val, (grid0.coords t 0).val]
    ∧ win0_5.index t = ![(grid0.coords t 1).val, (grid0.coords t 0).val]
    ∧ (grid0.coords t 0).val = 0 :=
  (by decide +kernel : ∀ t : Fin grid0.N, _)

/-- A row block's products with the two halves of the weights, and the scaled residual. -/
def prod (a b : S512x2816.Idx → EReal) (u v : S2816x1024.Idx → EReal) (z : S512x1024.Idx → EReal) (i : Fin 512) (j : Fin 1024) : EReal :=
  Ideal.ofBits .f32 0x3FB504F3#32 * z (ix2 i j) + (∑ k : Fin 2816, a (ix2 i k) * u (ix2 k j) + ∑ k : Fin 2816, b (ix2 i k) * v (ix2 k j))

theorem point (a b : Vec Ideal S512x2816 .bf16) (u v : Vec Ideal S2816x1024 .bf16) (z : Vec Ideal S512x1024 .f32) (i : Fin 512) (j : Fin 1024) :
    out0_5 a b u v z (ix2 i j) = prod a b u v z i j := by
  unfold prod
  frame_out
  pointwise [k0_pay1]

theorem V_left (c : Dev nD) (x : Fin 2816) (y : Fin 1024) : V m c main_v1 (ix2 x y)
    = m ((c : Thread nD τ).loc main_arg2) (ix2 y ⟨x.val, by omega⟩) := by
  unfold V
  simp only [hostOps0, List.flatten_cons, List.flatten_nil, List.cons_append, List.nil_append, List.append_nil]
  entry_read
  pointwise

theorem V_right (c : Dev nD) (x : Fin 2816) (y : Fin 1024) : V m c main_v2 (ix2 x y)
    = m ((c : Thread nD τ).loc main_arg2) (ix2 y ⟨2816 + x.val, by omega⟩) := by
  unfold V
  simp only [hostOps0, List.flatten_cons, List.flatten_nil, List.cons_append, List.nil_append, List.append_nil]
  entry_read
  pointwise

open Cert.DxUpRefIdeal.Read in
theorem reference_at (x0 x1 : S16384x2816.Idx → EReal) (x2 : S1024x5632.Idx → EReal) (x3 : S16384x1024.Idx → EReal) (i : Fin 16384) (j : Fin 1024) :
    val_main_v13 (F := Ideal) x0 x1 x2 x3 (ix2 i j)
      = Ideal.ofBits .f32 0x3FB504F3#32 * x3 (ix2 i j)
        + (∑ k : Fin 2816, x0 (ix2 i k) * x2 (ix2 j ⟨k.val, by omega⟩) + ∑ k : Fin 2816, x1 (ix2 i k) * x2 (ix2 j ⟨2816 + k.val, by omega⟩)) := by
  pointwise [val_main_v13, val_main_v12, val_main_v11, val_main_v10, val_main_v9, val_main_v8, val_main_v7, val_main_v1, val_main_cst_1]

theorem array (c : Dev nD) : (dats m 0 c).arrAt 5 cfg0.N
    = Cert.DxUpRefIdeal.Read.val_main_v13 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  rw [after0_5]
  have h1 : (grid0.coords t 1).val < 32 := (grid0.coords t 1).isLt
  have hy : (y 0).val < 512 := (y 0).isLt
  refine ((congrArg _ (by idx_ext : y = ix2 (y 0) (y 1))).trans (point _ _ _ _ _ (y 0) (y 1))).trans
    (Eq.trans ?_ ((reference_at _ _ _ _ ⟨(grid0.coords t 1).val * 512 + (y 0).val, by omega⟩ (y 1)).symm.trans (congrArg _ ?_)))
  · unfold prod
    refine congrArg₂ (· + ·) (congrArg (_ * ·) ?_) (congrArg₂ (· + ·)
      (Finset.sum_congr rfl fun k _ => congrArg₂ (· * ·) ?_ ?_) (Finset.sum_congr rfl fun k _ => congrArg₂ (· * ·) ?_ ?_))
    · blk_ext [iblk, V, idx t]
    · blk_ext [iblk, V, idx t]
    · blk_simp [iblk, idx t]
      refine (congrArg (V m c _) (?_ : _ = ix2 k (y 1))).trans ((V_left m c k (y 1)).trans ?_)
      · blk_ext [idx t]
      · blk_ext [idx t]
    · blk_ext [iblk, V, idx t]
    · blk_simp [iblk, idx t]
      refine (congrArg (V m c _) (?_ : _ = ix2 k (y 1))).trans ((V_right m c k (y 1)).trans ?_)
      · blk_ext [idx t]
      · blk_ext [idx t]
  · blk_ext [idx t]

end Cert.DxUpIdeal.Point

end
-- ==== Proof.DwDown.lean ====
/- The gradient of the feed-forward down weights, index by index, as the reference's value of the same arguments. -/
module

public import Idealize.ShloMosaic.Lib.Pipeline.ValueKit
public import Idealize.ShloMosaic.Lib.Claim
public import proofs.«01_k».proof.Proof.Gen.DwDownIdeal.Value
public import proofs.«01_k».proof.Proof.Gen.DwDownRefIdeal.Run
public import proofs.«01_k».proof.Proof.Gen.DwDownRefIdeal.Read

@[expose] public section

set_option maxRecDepth 16384

noncomputable section

namespace Cert.DwDownIdeal.Point

open Idealize.ShloMosaic Idealize.ShloMosaic.TcCoe Idealize.ShloMosaic.Tactic Idealize.SL.Sem
open Cert.DwDownIdeal Cert.DwDownIdeal.Gen

variable (m : (ℓ : Loc nD τ sig) → Buf (Elt Ideal) ℓ)

theorem idx : ∀ t : Fin cfg0.N, win0_0.index t = ![t.val % 16, t.val / 16] ∧ win0_1.index t = ![t.val % 16, 0]
    ∧ win0_2.index t = ![t.val / 16, 0] := (by decide +kernel : ∀ t : Fin grid0.N, _)

/-- The product over a grid point's rows. -/
def prod (a : S1024x1408.Idx → EReal) (b : S1024x1024.Idx → EReal) (y : S1408x1024.Idx) : EReal :=
  ∑ k : Fin 1024, a (ix2 k (y 0)) * b (ix2 k (y 1))

theorem step_first (c : Dev nD) (t : Fin cfg0.N) (h0 : t.val % 16 = 0) (y : S1408x1024.Idx) :
    outsAt0 m c t.val t.isLt y = (0 : EReal) + prod (iblk m c 0 t) (iblk m c 1 t) y := by
  rw [outsAt0_A m c t h0 (by omega)]
  frame_out
  unfold prod
  generalize iblk m c 0 t = a
  generalize iblk m c 1 t = b
  obtain ⟨i, j, rfl⟩ : ∃ (i : Fin 1408) (j : Fin 1024), y = ix2 i j := ⟨y 0, y 1, by idx_ext⟩
  pointwise [k0_pay1]

theorem step_next (c : Dev nD) (t : Fin cfg0.N) (h0 : ¬t.val % 16 = 0) (y : S1408x1024.Idx) :
    outsAt0 m c t.val t.isLt y
      = outsAt0 m c (t.val - 1) (Nat.lt_of_le_of_lt (Nat.sub_le _ _) t.isLt) y + prod (iblk m c 0 t) (iblk m c 1 t) y := by
  rw [outsAt0_B m c t h0 (by omega)]
  frame_out
  unfold prod
  generalize iblk m c 0 t = a
  generalize iblk m c 1 t = b
  generalize outsAt0 m c (t.val - 1) (Nat.lt_of_le_of_lt (Nat.sub_le _ _) t.isLt) = z
  obtain ⟨i, j, rfl⟩ : ∃ (i : Fin 1408) (j : Fin 1024), y = ix2 i j := ⟨y 0, y 1, by idx_ext⟩
  pointwise [k0_pay1, k0_pay2]

theorem array (c : Dev nD) : (dats m 0 c).arrAt 2 cfg0.N
    = Cert.DwDownRefIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (Pipeline.eq_sum_fin_of_reset_step_apply_of_flush (fun n h => outsAt0 m c n h) 16 (fun _ => (0 : EReal)) (fun t => prod (iblk m c 0 t) (iblk m c 1 t))
    (step_first m c) (step_next m c) t ((flush0_2 t).mp hf) y).trans ?_
  rw [zero_add, Cert.DwDownRefIdeal.Read.val_main_v4_apply, Cert.DwDownRefIdeal.Read.val_main_v3_apply]
  unfold prod
  refine Fin.sum_mul_add_congr (fun s k hl => ?_)
  rw [Cert.DwDownRefIdeal.Read.val_main_v1_apply]
  have e := idx ⟨16 * (t.val / 16) + s.val, Pipeline.run_point_lt_of_flush t ((flush0_2 t).mp hf) s⟩
  refine (mul_comm _ _).trans (congrArg₂ (· * ·) ?_ ?_)
  · blk_ext [iblk, V, idx t, e]
  · blk_ext [iblk, V, idx t, e]

end Cert.DwDownIdeal.Point

end
-- ==== Proof.DxDown.lean ====
/- The gradient that reaches the feed-forward block's activations, index by index, as the reference's value of the same arguments. -/
module

public import Idealize.ShloMosaic.Lib.Pipeline.ValueKit
public import Idealize.ShloMosaic.Lib.Claim
public import proofs.«01_k».proof.Proof.Gen.DxDownIdeal.Value
public import proofs.«01_k».proof.Proof.Gen.DxDownRefIdeal.Run
public import proofs.«01_k».proof.Proof.Gen.DxDownRefIdeal.Read

@[expose] public section

set_option maxRecDepth 16384

noncomputable section

namespace Cert.DxDownIdeal.Point

open Idealize.ShloMosaic Idealize.ShloMosaic.TcCoe Idealize.ShloMosaic.Tactic Idealize.SL.Sem
open Cert.DxDownIdeal Cert.DxDownIdeal.Gen

variable (m : (ℓ : Loc nD τ sig) → Buf (Elt Ideal) ℓ)

theorem idx : ∀ t : Fin cfg0.N, win0_0.index t = ![(grid0.coords t 1).val, 0] ∧ win0_1.index t = ![0, (grid0.coords t 0).val]
    ∧ win0_2.index t = ![(grid0.coords t 1).val, (grid0.coords t 0).val] ∧ (grid0.coords t 0).val = 0 :=
  (by decide +kernel : ∀ t : Fin grid0.N, _)

theorem point (a : Vec Ideal S512x1024 .f32) (u : Vec Ideal S1024x2816 .bf16) (i : Fin 512) (j : Fin 2816) :
    out0_2 a u (ix2 i j) = (∑ k : Fin 1024, a (ix2 i k) * u (ix2 k j) : EReal) := by
  frame_out
  pointwise [k0_pay1]

theorem V_weights (c : Dev nD) (x : Fin 1024) (y : Fin 2816) : V m c main_v0 (ix2 x y)
    = m ((c : Thread nD τ).loc main_arg1) (ix2 y x) := by
  unfold V
  simp only [hostOps0, List.flatten_cons, List.flatten_nil, List.cons_append, List.nil_append, List.append_nil]
  entry_read
  pointwise

open Cert.DxDownRefIdeal.Read in
theorem reference_at (x0 : S16384x1024.Idx → EReal) (x1 : S2816x1024.Idx → EReal) (i : Fin 16384) (j : Fin 2816) :
    val_main_v3 (F := Ideal) x0 x1 (ix2 i j) = ∑ k : Fin 1024, x0 (ix2 i k) * x1 (ix2 j k) := by
  pointwise [val_main_v3, val_main_v1]

theorem array (c : Dev nD) : (dats m 0 c).arrAt 2 cfg0.N
    = Cert.DxDownRefIdeal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have h1 : (grid0.coords t 1).val < 32 := (grid0.coords t 1).isLt
  have hy : (y 0).val < 512 := (y 0).isLt
  refine ((congrArg _ (by idx_ext : y = ix2 (y 0) (y 1))).trans (point _ _ (y 0) (y 1))).trans
    (Eq.trans ?_ ((reference_at _ _ ⟨(grid0.coords t 1).val * 512 + (y 0).val, by omega⟩ (y 1)).symm.trans (congrArg _ ?_)))
  · refine Finset.sum_congr rfl fun k _ => congrArg₂ (· * ·) ?_ ?_
    · blk_ext [iblk, V, idx t]
    · blk_simp [iblk, idx t]
      refine (congrArg (V m c _) (?_ : _ = ix2 k (y 1))).trans ((V_weights m c k (y 1)).trans ?_)
      · blk_ext [idx t]
      · blk_ext [idx t]
  · blk_ext [idx t]

end Cert.DxDownIdeal.Point

end
-- ==== Proof.DwIn.lean ====
/- The gradients of the input projection's weights and biases, in the five pieces that the projection's outputs make, index by index, as the reference's value of the same arguments. -/
module

public import Idealize.ShloMosaic.Lib.Pipeline.ValueKit
public import Idealize.ShloMosaic.Lib.Claim
public import proofs.«01_k».proof.Proof.Gen.DwInIdeal.Value
public import proofs.«01_k».proof.Proof.Gen.DwInRefIdeal.Run
public import proofs.«01_k».proof.Proof.Gen.DwInRefIdeal.Read

@[expose] public section

set_option maxRecDepth 16384

noncomputable section

namespace Cert.DwInIdeal.Point

open Idealize.ShloMosaic Idealize.ShloMosaic.TcCoe Idealize.ShloMosaic.Tactic Idealize.SL.Sem
open Cert.DwInIdeal Cert.DwInIdeal.Gen

variable (m : (ℓ : Loc nD τ sig) → Buf (Elt Ideal) ℓ)

theorem idx : ∀ t : Fin cfg0.N, win0_0.index t = ![t.val % 16, 0] ∧ win0_1.index t = ![t.val % 16, 0] ∧ win0_2.index t = ![t.val % 16, 0]
    ∧ win0_3.index t = ![t.val % 16, 0] ∧ win0_4.index t = ![t.val % 16, 0] ∧ win0_5.index t = ![t.val % 16, 0]
    ∧ win0_6.index t = ![0, 0] ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] ∧ win0_15.index t = ![0, 0] :=
  (by decide +kernel : ∀ t : Fin grid0.N, _)

theorem point_lt (t : Fin cfg0.N) : t.val < 16 := Nat.lt_of_lt_of_eq t.isLt (by decide +kernel : cfg0.N = 16)

/-- The product over a grid point's rows. -/
def prod (a : S1024x1024.Idx → EReal) (b : S1024x512.Idx → EReal) (y : S1024x512.Idx) : EReal :=
  ∑ k : Fin 1024, a (ix2 k (y 0)) * b (ix2 k (y 1))

/-- The sum of a column over a grid point's rows. -/
def column (b : S1024x512.Idx → EReal) (y : S1x512.Idx) : EReal := ∑ k : Fin 1024, b (ix2 k (y 1))

theorem first_w0 (c : Dev nD) (t : Fin cfg0.N) (h0 : t.val % 16 = 0) (y : S1024x512.Idx) :
    (outsAt0 m c t.val t.isLt).1 y = (0 : EReal) + prod (iblk m c 0 t) (iblk m c 1 t) y := by
  have h1 : ¬1 ≤ t.val := by have := point_lt t; omega
  rw [outsAt0_A m c t h0 h1 h0 h1 h0 h1 h0 h1 h0 h1]
  frame_out
  unfold prod
  generalize iblk m c 0 t = b0
  generalize iblk m c 1 t = b1
  generalize iblk m c 2 t = b2
  generalize iblk m c 3 t = b3
  generalize iblk m c 4 t = b4
  generalize iblk m c 5 t = b5
  obtain ⟨i, j, rfl⟩ : ∃ (i : Fin 1024) (j : Fin 512), y = ix2 i j := ⟨y 0, y 1, by idx_ext⟩
  pointwise [k0_pay11, k0_pay12, k0_pay14]

theorem next_w0 (c : Dev nD) (t : Fin cfg0.N) (h0 : ¬t.val % 16 = 0) (y : S1024x512.Idx) :
    (outsAt0 m c t.val t.isLt).1 y
      = (outsAt0 m c (t.val - 1) (Nat.lt_of_le_of_lt (Nat.sub_le _ _) t.isLt)).1 y + prod (iblk m c 0 t) (iblk m c 1 t) y := by
  have h1 : 1 ≤ t.val := by omega
  rw [outsAt0_B m c t h0 h1 h0 h1 h0 h1 h0 h1 h0 h1]
  frame_out
  unfold prod
  generalize iblk m c 0 t = b0
  generalize iblk m c 1 t = b1
  generalize iblk m c 2 t = b2
  generalize iblk m c 3 t = b3
  generalize iblk m c 4 t = b4
  generalize iblk m c 5 t = b5
  generalize outsAt0 m c (t.val - 1) (Nat.lt_of_le_of_lt (Nat.sub_le _ _) t.isLt) = z
  obtain ⟨i, j, rfl⟩ : ∃ (i : Fin 1024) (j : Fin 512), y = ix2 i j := ⟨y 0, y 1, by idx_ext⟩
  pointwise [k0_pay11, k0_pay12, k0_pay14]

theorem first_c0 (c : Dev nD) (t : Fin cfg0.N) (h0 : t.val % 16 = 0) (y : S1x512.Idx) :
    (outsAt0 m c t.val t.isLt).2.1 y = (0 : EReal) + column (iblk m c 1 t) y := by
  have h1 : ¬1 ≤ t.val := by have := point_lt t; omega
  rw [outsAt0_A m c t h0 h1 h0 h1 h0 h1 h0 h1 h0 h1]
  frame_out
  unfold column
  generalize iblk m c 0 t = b0
  generalize iblk m c 1 t = b1
  generalize iblk m c 2 t = b2
  generalize iblk m c 3 t = b3
  generalize iblk m c 4 t = b4
  generalize iblk m c 5 t = b5
  obtain ⟨i, j, rfl⟩ : ∃ (i : Fin 1) (j : Fin 512), y = ix2 i j := ⟨y 0, y 1, by idx_ext⟩
  pointwise [k0_pay13, k0_pay15]

theorem next_c0 (c : Dev nD) (t : Fin cfg0.N) (h0 : ¬t.val % 16 = 0) (y : S1x512.Idx) :
    (outsAt0 m c t.val t.isLt).2.1 y
      = (outsAt0 m c (t.val - 1) (Nat.lt_of_le_of_lt (Nat.sub_le _ _) t.isLt)).2.1 y + column (iblk m c 1 t) y := by
  have h1 : 1 ≤ t.val := by omega
  rw [outsAt0_B m c t h0 h1 h0 h1 h0 h1 h0 h1 h0 h1]
  frame_out
  unfold column
  generalize iblk m c 0 t = b0
  generalize iblk m c 1 t = b1
  generalize iblk m c 2 t = b2
  generalize iblk m c 3 t = b3
  generalize iblk m c 4 t = b4
  generalize iblk m c 5 t = b5
  generalize outsAt0 m c (t.val - 1) (Nat.lt_of_le_of_lt (Nat.sub_le _ _) t.isLt) = z
  obtain ⟨i, j, rfl⟩ : ∃ (i : Fin 1) (j : Fin 512), y = ix2 i j := ⟨y 0, y 1, by idx_ext⟩
  pointwise [k0_pay13, k0_pay15]

open Cert.DwInRefIdeal.Read in
theorem reference_w0 (x0 : S16384x1024.Idx → EReal) (x1 x2 x3 x4 x5 : S16384x512.Idx → EReal) (i : Fin 1024) (j : Fin 512) :
    val_main_v20 (F := Ideal) x0 x1 x2 x3 x4 x5 (ix2 i j) = ∑ k : Fin 16384, x0 (ix2 k i) * x1 (ix2 k j) := by
  pointwise [val_main_v20, val_main_v19, val_main_v18, val_main_v15, val_main_v14, val_main_v13, val_main_v12, val_main_v11, val_main_v10]
  exact Finset.sum_congr rfl fun k _ => mul_comm _ _

open Cert.DwInRefIdeal.Read in
theorem reference_c0 (x1 x2 x3 x4 x5 : S16384x512.Idx → EReal) (i : Fin 1) (j : Fin 512) :
    val_main_v25 (F := Ideal) x1 x2 x3 x4 x5 (ix2 i j) = ∑ k : Fin 16384, x1 (ix2 k j) := by
  pointwise [val_main_v25, val_main_v17, val_main_v16, val_main_v15, val_main_v14, val_main_v13, val_main_v12, val_main_v11, val_main_v10, val_main_cst_1]

theorem array_w0 (c : Dev nD) : (dats m 0 c).arrAt 6 cfg0.N
    = Cert.DwInRefIdeal.Read.val_main_v20 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  refine (Pipeline.eq_sum_fin_of_reset_step_apply_of_flush (fun n h => (outsAt0 m c n h).1) 16 (fun _ => (0 : EReal))
    (fun t => prod (iblk m c 0 t) (iblk m c 1 t)) (first_w0 m c) (next_w0 m c) t ((flush0_6 t).mp hf) y).trans ?_
  refine (zero_add _).trans (Eq.trans ?_ ((reference_w0 _ _ _ _ _ _ (y 0) (y 1)).symm.trans (congrArg _ (by blk_ext [idx t]))))
  unfold prod
  refine Fin.sum_mul_add_congr (fun s k hl => ?_)
  have e := idx ⟨16 * (t.val / 16) + s.val, Pipeline.run_point_lt_of_flush t ((flush0_6 t).mp hf) s⟩
  refine congrArg₂ (· * ·) ?_ ?_
  · blk_ext [iblk, V, idx t, e]
  · blk_ext [iblk, V, idx t, e]

theorem array_c0 (c : Dev nD) : (dats m 0 c).arrAt 7 cfg0.N
    = Cert.DwInRefIdeal.Read.val_main_v25 (F := Ideal) (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 7 _ (by decide +kernel) fun t hf y => ?_
  blk_simp
  rw [after0_7]
  refine (Pipeline.eq_sum_fin_of_reset_step_apply_of_flush (fun n h => (outsAt0 m c n h).2.1) 16 (fun _ => (0 : EReal))
    (fun t => column (iblk m c 1 t)) (first_c0 m c) (next_c0 m c) t ((flush0_7 t).mp hf) y).trans ?_
  refine (zero_add _).trans (Eq.trans ?_ ((reference_c0 _ _ _ _ _ (y 0) (y 1)).symm.trans (congrArg _ (by blk_ext [idx t]))))
  unfold column
  refine Fin.sum_mul_add_congr (fun s k hl => ?_)
  have e := idx ⟨16 * (t.val / 16) + s.val, Pipeline.run_point_lt_of_flush t ((flush0_7 t).mp hf) s⟩
  blk_ext [iblk, V, idx t, e]

theorem first_w1 (c : Dev nD) (t : Fin cfg0.N) (h0 : t.val % 16 = 0) (y : S1024x512.Idx) :
    (outsAt0 m c t.val t.isLt).2.2.1 y = (0 : EReal) + prod (iblk m c 0 t) (iblk m c 2 t) y := by
  have h1 : ¬1 ≤ t.val := by have := point_lt t; omega
  rw [outsAt0_A m c t h0 h1 h0 h1 h0 h1 h0 h1 h0 h1]
  frame_out
  unfold prod
  generalize iblk m c 0 t = b0
  generalize iblk m c 1 t = b1
  generalize iblk m c 2 t = b2
  generalize iblk m c 3 t = b3
  generalize iblk m c 4 t = b4
  generalize iblk m c 5 t = b5
  obtain ⟨i, j, rfl⟩ : ∃ (i : Fin 1024) (j : Fin 512), y = ix2 i j := ⟨y 0, y 1, by idx_ext⟩
  pointwise [k0_pay11, k0_pay16, k0_pay18]

theorem next_w1 (c : Dev nD) (t : Fin cfg0.N) (h0 : ¬t.val % 16 = 0) (y : S1024x512.Idx) :
    (outsAt0 m c t.val t.isLt).2.2.1 y
      = (outsAt0 m c (t.val - 1) (Nat.lt_of_le_of_lt (Nat.sub_le _ _) t.isLt)).2.2.1 y + prod (iblk m c 0 t) (iblk m c 2 t) y := by
  have h1 : 1 ≤ t.val := by omega
  rw [outsAt0_B m c t h0 h1 h0 h1 h0 h1 h0 h1 h0 h1]
  frame_out
  unfold prod
  generalize iblk m c 0 t = b0
  generalize iblk m c 1 t = b1
  generalize iblk m c 2 t = b2
  generalize iblk m c 3 t = b3
  generalize iblk m c 4 t = b4
  generalize iblk m c 5 t = b5
  generalize outsAt0 m c (t.val - 1) (Nat.lt_of_le_of_lt (Nat.sub_le _ _) t.isLt) = z
  obtain ⟨i, j, rfl⟩ : ∃ (i : Fin 1024) (j : Fin 512), y = ix2 i j := ⟨y 0, y 1, by idx_ext⟩
  pointwise [k0_pay11, k0_pay16, k0_pay18]

theorem first_c1 (c : Dev nD) (t : Fin cfg0.N) (h0 : t.val % 16 = 0) (y : S1x512.Idx) :
    (outsAt0 m c t.val t.isLt).2.2.2.1 y = (0 : EReal) + column (iblk m c 2 t) y := by
  have h1 : ¬1 ≤ t.val := by have := point_lt t; omega
  rw [outsAt0_A m c t h0 h1 h0 h1 h0 h1 h0 h1 h0 h1]
  frame_out
  unfold column
  generalize iblk m c 0 t = b0
  generalize iblk m c 1 t = b1
  generalize iblk m c 2 t = b2
  generalize iblk m c 3 t = b3
  generalize iblk m c 4 t = b4
  generalize iblk m c 5 t = b5
  obtain ⟨i, j, rfl⟩ : ∃ (i : Fin 1) (j : Fin 512), y = ix2 i j := ⟨y 0, y 1, by idx_ext⟩
  pointwise [k0_pay17, k0_pay19]

theorem next_c1 (c : Dev nD) (t : Fin cfg0.N) (h0 : ¬t.val % 16 = 0) (y : S1x512.Idx) :
    (outsAt0 m c t.val t.isLt).2.2.2.1 y
      = (outsAt0 m c (t.val - 1) (Nat.lt_of_le_of_lt (Nat.sub_le _ _) t.isLt)).2.2.2.1 y + column (iblk m c 2 t) y := by
  have h1 : 1 ≤ t.val := by omega
  rw [outsAt0_B m c t h0 h1 h0 h1 h0 h1 h0 h1 h0 h1]
  frame_out
  unfold column
  generalize iblk m c 0 t = b0
  generalize iblk m c 1 t = b1
  generalize iblk m c 2 t = b2
  generalize iblk m c 3 t = b3
  generalize iblk m c 4 t = b4
  generalize iblk m c 5 t = b5
  generalize outsAt0 m c (t.val - 1) (Nat.lt_of_le_of_lt (Nat.sub_le _ _) t.isLt) = z
  obtain ⟨i, j, rfl⟩ : ∃ (i : Fin 1) (j : Fin 512), y = ix2 i j := ⟨y 0, y 1, by idx_ext⟩
  pointwise [k0_pay17, k0_pay19]

open Cert.DwInRefIdeal.Read in
theorem reference_w1 (x0 : S16384x1024.Idx → EReal) (x1 x2 x3 x4 x5 : S16384x512.Idx → EReal) (i : Fin 1024) (j : Fin 512) :
    val_main_v21 (F := Ideal) x0 x1 x2 x3 x4 x5 (ix2 i j) = ∑ k : Fin 16384, x0 (ix2 k i) * x2 (ix2 k j) := by
  pointwise [val_main_v21, val_main_v19, val_main_v18, val_main_v15, val_main_v14, val_main_v13, val_main_v12, val_main_v11, val_main_v10]
  exact Finset.sum_congr rfl fun k _ => mul_comm _ _

open Cert.DwInRefIdeal.Read in
theorem reference_c1 (x1 x2 x3 x4 x5 : S16384x512.Idx → EReal) (i : Fin 1) (j : Fin 512) :
    val_main_v26 (F := Ideal) x1 x2 x3 x4 x5 (ix2 i j) = ∑ k : Fin 16384, x2 (ix2 k j) := by
  pointwise [val_main_v26, val_main_v17, val_main_v16, val_main_v15, val_main_v14, val_main_v13, val_main_v12, val_main_v11, val_main_v10, val_main_cst_1]

theorem array_w1 (c : Dev nD) : (dats m 0 c).arrAt 8 cfg0.N
    = Cert.DwInRefIdeal.Read.val_main_v21 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  refine (Pipeline.eq_sum_fin_of_reset_step_apply_of_flush (fun n h => (outsAt0 m c n h).2.2.1) 16 (fun _ => (0 : EReal))
    (fun t => prod (iblk m c 0 t) (iblk m c 2 t)) (first_w1 m c) (next_w1 m c) t ((flush0_8 t).mp hf) y).trans ?_
  refine (zero_add _).trans (Eq.trans ?_ ((reference_w1 _ _ _ _ _ _ (y 0) (y 1)).symm.trans (congrArg _ (by blk_ext [idx t]))))
  unfold prod
  refine Fin.sum_mul_add_congr (fun s k hl => ?_)
  have e := idx ⟨16 * (t.val / 16) + s.val, Pipeline.run_point_lt_of_flush t ((flush0_8 t).mp hf) s⟩
  refine congrArg₂ (· * ·) ?_ ?_
  · blk_ext [iblk, V, idx t, e]
  · blk_ext [iblk, V, idx t, e]

theorem array_c1 (c : Dev nD) : (dats m 0 c).arrAt 9 cfg0.N
    = Cert.DwInRefIdeal.Read.val_main_v26 (F := Ideal) (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 9 _ (by decide +kernel) fun t hf y => ?_
  blk_simp
  rw [after0_9]
  refine (Pipeline.eq_sum_fin_of_reset_step_apply_of_flush (fun n h => (outsAt0 m c n h).2.2.2.1) 16 (fun _ => (0 : EReal))
    (fun t => column (iblk m c 2 t)) (first_c1 m c) (next_c1 m c) t ((flush0_9 t).mp hf) y).trans ?_
  refine (zero_add _).trans (Eq.trans ?_ ((reference_c1 _ _ _ _ _ (y 0) (y 1)).symm.trans (congrArg _ (by blk_ext [idx t]))))
  unfold column
  refine Fin.sum_mul_add_congr (fun s k hl => ?_)
  have e := idx ⟨16 * (t.val / 16) + s.val, Pipeline.run_point_lt_of_flush t ((flush0_9 t).mp hf) s⟩
  blk_ext [iblk, V, idx t, e]

theorem first_w2 (c : Dev nD) (t : Fin cfg0.N) (h0 : t.val % 16 = 0) (y : S1024x512.Idx) :
    (outsAt0 m c t.val t.isLt).2.2.2.2.1 y = (0 : EReal) + prod (iblk m c 0 t) (iblk m c 3 t) y := by
  have h1 : ¬1 ≤ t.val := by have := point_lt t; omega
  rw [outsAt0_A m c t h0 h1 h0 h1 h0 h1 h0 h1 h0 h1]
  frame_out
  unfold prod
  generalize iblk m c 0 t = b0
  generalize iblk m c 1 t = b1
  generalize iblk m c 2 t = b2
  generalize iblk m c 3 t = b3
  generalize iblk m c 4 t = b4
  generalize iblk m c 5 t = b5
  obtain ⟨i, j, rfl⟩ : ∃ (i : Fin 1024) (j : Fin 512), y = ix2 i j := ⟨y 0, y 1, by idx_ext⟩
  pointwise [k0_pay11, k0_pay20, k0_pay1]

theorem next_w2 (c : Dev nD) (t : Fin cfg0.N) (h0 : ¬t.val % 16 = 0) (y : S1024x512.Idx) :
    (outsAt0 m c t.val t.isLt).2.2.2.2.1 y
      = (outsAt0 m c (t.val - 1) (Nat.lt_of_le_of_lt (Nat.sub_le _ _) t.isLt)).2.2.2.2.1 y + prod (iblk m c 0 t) (iblk m c 3 t) y := by
  have h1 : 1 ≤ t.val := by omega
  rw [outsAt0_B m c t h0 h1 h0 h1 h0 h1 h0 h1 h0 h1]
  frame_out
  unfold prod
  generalize iblk m c 0 t = b0
  generalize iblk m c 1 t = b1
  generalize iblk m c 2 t = b2
  generalize iblk m c 3 t = b3
  generalize iblk m c 4 t = b4
  generalize iblk m c 5 t = b5
  generalize outsAt0 m c (t.val - 1) (Nat.lt_of_le_of_lt (Nat.sub_le _ _) t.isLt) = z
  obtain ⟨i, j, rfl⟩ : ∃ (i : Fin 1024) (j : Fin 512), y = ix2 i j := ⟨y 0, y 1, by idx_ext⟩
  pointwise [k0_pay11, k0_pay20, k0_pay1]

theorem first_c2 (c : Dev nD) (t : Fin cfg0.N) (h0 : t.val % 16 = 0) (y : S1x512.Idx) :
    (outsAt0 m c t.val t.isLt).2.2.2.2.2.1 y = (0 : EReal) + column (iblk m c 3 t) y := by
  have h1 : ¬1 ≤ t.val := by have := point_lt t; omega
  rw [outsAt0_A m c t h0 h1 h0 h1 h0 h1 h0 h1 h0 h1]
  frame_out
  unfold column
  generalize iblk m c 0 t = b0
  generalize iblk m c 1 t = b1
  generalize iblk m c 2 t = b2
  generalize iblk m c 3 t = b3
  generalize iblk m c 4 t = b4
  generalize iblk m c 5 t = b5
  obtain ⟨i, j, rfl⟩ : ∃ (i : Fin 1) (j : Fin 512), y = ix2 i j := ⟨y 0, y 1, by idx_ext⟩
  pointwise [k0_pay21, k0_pay2]

theorem next_c2 (c : Dev nD) (t : Fin cfg0.N) (h0 : ¬t.val % 16 = 0) (y : S1x512.Idx) :
    (outsAt0 m c t.val t.isLt).2.2.2.2.2.1 y
      = (outsAt0 m c (t.val - 1) (Nat.lt_of_le_of_lt (Nat.sub_le _ _) t.isLt)).2.2.2.2.2.1 y + column (iblk m c 3 t) y := by
  have h1 : 1 ≤ t.val := by omega
  rw [outsAt0_B m c t h0 h1 h0 h1 h0 h1 h0 h1 h0 h1]
  frame_out
  unfold column
  generalize iblk m c 0 t = b0
  generalize iblk m c 1 t = b1
  generalize iblk m c 2 t = b2
  generalize iblk m c 3 t = b3
  generalize iblk m c 4 t = b4
  generalize iblk m c 5 t = b5
  generalize outsAt0 m c (t.val - 1) (Nat.lt_of_le_of_lt (Nat.sub_le _ _) t.isLt) = z
  obtain ⟨i, j, rfl⟩ : ∃ (i : Fin 1) (j : Fin 512), y = ix2 i j := ⟨y 0, y 1, by idx_ext⟩
  pointwise [k0_pay21, k0_pay2]

open Cert.DwInRefIdeal.Read in
theorem reference_w2 (x0 : S16384x1024.Idx → EReal) (x1 x2 x3 x4 x5 : S16384x512.Idx → EReal) (i : Fin 1024) (j : Fin 512) :
    val_main_v22 (F := Ideal) x0 x1 x2 x3 x4 x5 (ix2 i j) = ∑ k : Fin 16384, x0 (ix2 k i) * x3 (ix2 k j) := by
  pointwise [val_main_v22, val_main_v19, val_main_v18, val_main_v15, val_main_v14, val_main_v13, val_main_v12, val_main_v11, val_main_v10]
  refine Finset.sum_congr rfl fun k _ => (mul_comm _ _).trans (congrArg (_ * ·) ?_)
  have hj := j.isLt
  split_ifs <;> first | omega | exact congrArg _ (by idx_ext)

open Cert.DwInRefIdeal.Read in
theorem reference_c2 (x1 x2 x3 x4 x5 : S16384x512.Idx → EReal) (i : Fin 1) (j : Fin 512) :
    val_main_v27 (F := Ideal) x1 x2 x3 x4 x5 (ix2 i j) = ∑ k : Fin 16384, x3 (ix2 k j) := by
  pointwise [val_main_v27, val_main_v17, val_main_v16, val_main_v15, val_main_v14, val_main_v13, val_main_v12, val_main_v11, val_main_v10, val_main_cst_1]
  refine Finset.sum_congr rfl fun k _ => ?_
  have hj := j.isLt
  split_ifs <;> first | omega | exact congrArg _ (by idx_ext)

theorem array_w2 (c : Dev nD) : (dats m 0 c).arrAt 10 cfg0.N
    = Cert.DwInRefIdeal.Read.val_main_v22 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  rw [after0_10]
  refine (Pipeline.eq_sum_fin_of_reset_step_apply_of_flush (fun n h => (outsAt0 m c n h).2.2.2.2.1) 16 (fun _ => (0 : EReal))
    (fun t => prod (iblk m c 0 t) (iblk m c 3 t)) (first_w2 m c) (next_w2 m c) t ((flush0_10 t).mp hf) y).trans ?_
  refine (zero_add _).trans (Eq.trans ?_ ((reference_w2 _ _ _ _ _ _ (y 0) (y 1)).symm.trans (congrArg _ (by blk_ext [idx t]))))
  unfold prod
  refine Fin.sum_mul_add_congr (fun s k hl => ?_)
  have e := idx ⟨16 * (t.val / 16) + s.val, Pipeline.run_point_lt_of_flush t ((flush0_10 t).mp hf) s⟩
  refine congrArg₂ (· * ·) ?_ ?_
  · blk_ext [iblk, V, idx t, e]
  · blk_ext [iblk, V, idx t, e]

theorem array_c2 (c : Dev nD) : (dats m 0 c).arrAt 11 cfg0.N
    = Cert.DwInRefIdeal.Read.val_main_v27 (F := Ideal) (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 11 _ (by decide +kernel) fun t hf y => ?_
  blk_simp
  rw [after0_11]
  refine (Pipeline.eq_sum_fin_of_reset_step_apply_of_flush (fun n h => (outsAt0 m c n h).2.2.2.2.2.1) 16 (fun _ => (0 : EReal))
    (fun t => column (iblk m c 3 t)) (first_c2 m c) (next_c2 m c) t ((flush0_11 t).mp hf) y).trans ?_
  refine (zero_add _).trans (Eq.trans ?_ ((reference_c2 _ _ _ _ _ (y 0) (y 1)).symm.trans (congrArg _ (by blk_ext [idx t]))))
  unfold column
  refine Fin.sum_mul_add_congr (fun s k hl => ?_)
  have e := idx ⟨16 * (t.val / 16) + s.val, Pipeline.run_point_lt_of_flush t ((flush0_11 t).mp hf) s⟩
  blk_ext [iblk, V, idx t, e]

theorem first_w3 (c : Dev nD) (t : Fin cfg0.N) (h0 : t.val % 16 = 0) (y : S1024x512.Idx) :
    (outsAt0 m c t.val t.isLt).2.2.2.2.2.2.1 y = (0 : EReal) + prod (iblk m c 0 t) (iblk m c 4 t) y := by
  have h1 : ¬1 ≤ t.val := by have := point_lt t; omega
  rw [outsAt0_A m c t h0 h1 h0 h1 h0 h1 h0 h1 h0 h1]
  frame_out
  unfold prod
  generalize iblk m c 0 t = b0
  generalize iblk m c 1 t = b1
  generalize iblk m c 2 t = b2
  generalize iblk m c 3 t = b3
  generalize iblk m c 4 t = b4
  generalize iblk m c 5 t = b5
  obtain ⟨i, j, rfl⟩ : ∃ (i : Fin 1024) (j : Fin 512), y = ix2 i j := ⟨y 0, y 1, by idx_ext⟩
  pointwise [k0_pay11, k0_pay3, k0_pay5]

theorem next_w3 (c : Dev nD) (t : Fin cfg0.N) (h0 : ¬t.val % 16 = 0) (y : S1024x512.Idx) :
    (outsAt0 m c t.val t.isLt).2.2.2.2.2.2.1 y
      = (outsAt0 m c (t.val - 1) (Nat.lt_of_le_of_lt (Nat.sub_le _ _) t.isLt)).2.2.2.2.2.2.1 y + prod (iblk m c 0 t) (iblk m c 4 t) y := by
  have h1 : 1 ≤ t.val := by omega
  rw [outsAt0_B m c t h0 h1 h0 h1 h0 h1 h0 h1 h0 h1]
  frame_out
  unfold prod
  generalize iblk m c 0 t = b0
  generalize iblk m c 1 t = b1
  generalize iblk m c 2 t = b2
  generalize iblk m c 3 t = b3
  generalize iblk m c 4 t = b4
  generalize iblk m c 5 t = b5
  generalize outsAt0 m c (t.val - 1) (Nat.lt_of_le_of_lt (Nat.sub_le _ _) t.isLt) = z
  obtain ⟨i, j, rfl⟩ : ∃ (i : Fin 1024) (j : Fin 512), y = ix2 i j := ⟨y 0, y 1, by idx_ext⟩
  pointwise [k0_pay11, k0_pay3, k0_pay5]

theorem first_c3 (c : Dev nD) (t : Fin cfg0.N) (h0 : t.val % 16 = 0) (y : S1x512.Idx) :
    (outsAt0 m c t.val t.isLt).2.2.2.2.2.2.2.1 y = (0 : EReal) + column (iblk m c 4 t) y := by
  have h1 : ¬1 ≤ t.val := by have := point_lt t; omega
  rw [outsAt0_A m c t h0 h1 h0 h1 h0 h1 h0 h1 h0 h1]
  frame_out
  unfold column
  generalize iblk m c 0 t = b0
  generalize iblk m c 1 t = b1
  generalize iblk m c 2 t = b2
  generalize iblk m c 3 t = b3
  generalize iblk m c 4 t = b4
  generalize iblk m c 5 t = b5
  obtain ⟨i, j, rfl⟩ : ∃ (i : Fin 1) (j : Fin 512), y = ix2 i j := ⟨y 0, y 1, by idx_ext⟩
  pointwise [k0_pay4, k0_pay6]

theorem next_c3 (c : Dev nD) (t : Fin cfg0.N) (h0 : ¬t.val % 16 = 0) (y : S1x512.Idx) :
    (outsAt0 m c t.val t.isLt).2.2.2.2.2.2.2.1 y
      = (outsAt0 m c (t.val - 1) (Nat.lt_of_le_of_lt (Nat.sub_le _ _) t.isLt)).2.2.2.2.2.2.2.1 y + column (iblk m c 4 t) y := by
  have h1 : 1 ≤ t.val := by omega
  rw [outsAt0_B m c t h0 h1 h0 h1 h0 h1 h0 h1 h0 h1]
  frame_out
  unfold column
  generalize iblk m c 0 t = b0
  generalize iblk m c 1 t = b1
  generalize iblk m c 2 t = b2
  generalize iblk m c 3 t = b3
  generalize iblk m c 4 t = b4
  generalize iblk m c 5 t = b5
  generalize outsAt0 m c (t.val - 1) (Nat.lt_of_le_of_lt (Nat.sub_le _ _) t.isLt) = z
  obtain ⟨i, j, rfl⟩ : ∃ (i : Fin 1) (j : Fin 512), y = ix2 i j := ⟨y 0, y 1, by idx_ext⟩
  pointwise [k0_pay4, k0_pay6]

open Cert.DwInRefIdeal.Read in
theorem reference_w3 (x0 : S16384x1024.Idx → EReal) (x1 x2 x3 x4 x5 : S16384x512.Idx → EReal) (i : Fin 1024) (j : Fin 512) :
    val_main_v23 (F := Ideal) x0 x1 x2 x3 x4 x5 (ix2 i j) = ∑ k : Fin 16384, x0 (ix2 k i) * x4 (ix2 k j) := by
  pointwise [val_main_v23, val_main_v19, val_main_v18, val_main_v15, val_main_v14, val_main_v13, val_main_v12, val_main_v11, val_main_v10]
  refine Finset.sum_congr rfl fun k _ => (mul_comm _ _).trans (congrArg (_ * ·) ?_)
  have hj := j.isLt
  split_ifs <;> first | omega | exact congrArg _ (by idx_ext)

open Cert.DwInRefIdeal.Read in
theorem reference_c3 (x1 x2 x3 x4 x5 : S16384x512.Idx → EReal) (i : Fin 1) (j : Fin 512) :
    val_main_v28 (F := Ideal) x1 x2 x3 x4 x5 (ix2 i j) = ∑ k : Fin 16384, x4 (ix2 k j) := by
  pointwise [val_main_v28, val_main_v17, val_main_v16, val_main_v15, val_main_v14, val_main_v13, val_main_v12, val_main_v11, val_main_v10, val_main_cst_1]
  refine Finset.sum_congr rfl fun k _ => ?_
  have hj := j.isLt
  split_ifs <;> first | omega | exact congrArg _ (by idx_ext)

theorem array_w3 (c : Dev nD) : (dats m 0 c).arrAt 12 cfg0.N
    = Cert.DwInRefIdeal.Read.val_main_v23 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 12 _ (by decide +kernel) fun t hf y => ?_
  blk_simp
  rw [after0_12]
  refine (Pipeline.eq_sum_fin_of_reset_step_apply_of_flush (fun n h => (outsAt0 m c n h).2.2.2.2.2.2.1) 16 (fun _ => (0 : EReal))
    (fun t => prod (iblk m c 0 t) (iblk m c 4 t)) (first_w3 m c) (next_w3 m c) t ((flush0_12 t).mp hf) y).trans ?_
  refine (zero_add _).trans (Eq.trans ?_ ((reference_w3 _ _ _ _ _ _ (y 0) (y 1)).symm.trans (congrArg _ (by blk_ext [idx t]))))
  unfold prod
  refine Fin.sum_mul_add_congr (fun s k hl => ?_)
  have e := idx ⟨16 * (t.val / 16) + s.val, Pipeline.run_point_lt_of_flush t ((flush0_12 t).mp hf) s⟩
  refine congrArg₂ (· * ·) ?_ ?_
  · blk_ext [iblk, V, idx t, e]
  · blk_ext [iblk, V, idx t, e]

theorem array_c3 (c : Dev nD) : (dats m 0 c).arrAt 13 cfg0.N
    = Cert.DwInRefIdeal.Read.val_main_v28 (F := Ideal) (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 13 _ (by decide +kernel) fun t hf y => ?_
  blk_simp
  rw [after0_13]
  refine (Pipeline.eq_sum_fin_of_reset_step_apply_of_flush (fun n h => (outsAt0 m c n h).2.2.2.2.2.2.2.1) 16 (fun _ => (0 : EReal))
    (fun t => column (iblk m c 4 t)) (first_c3 m c) (next_c3 m c) t ((flush0_13 t).mp hf) y).trans ?_
  refine (zero_add _).trans (Eq.trans ?_ ((reference_c3 _ _ _ _ _ (y 0) (y 1)).symm.trans (congrArg _ (by blk_ext [idx t]))))
  unfold column
  refine Fin.sum_mul_add_congr (fun s k hl => ?_)
  have e := idx ⟨16 * (t.val / 16) + s.val, Pipeline.run_point_lt_of_flush t ((flush0_13 t).mp hf) s⟩
  blk_ext [iblk, V, idx t, e]

theorem first_w4 (c : Dev nD) (t : Fin cfg0.N) (h0 : t.val % 16 = 0) (y : S1024x512.Idx) :
    (outsAt0 m c t.val t.isLt).2.2.2.2.2.2.2.2.1 y = (0 : EReal) + prod (iblk m c 0 t) (iblk m c 5 t) y := by
  have h1 : ¬1 ≤ t.val := by have := point_lt t; omega
  rw [outsAt0_A m c t h0 h1 h0 h1 h0 h1 h0 h1 h0 h1]
  frame_out
  unfold prod
  generalize iblk m c 0 t = b0
  generalize iblk m c 1 t = b1
  generalize iblk m c 2 t = b2
  generalize iblk m c 3 t = b3
  generalize iblk m c 4 t = b4
  generalize iblk m c 5 t = b5
  obtain ⟨i, j, rfl⟩ : ∃ (i : Fin 1024) (j : Fin 512), y = ix2 i j := ⟨y 0, y 1, by idx_ext⟩
  pointwise [k0_pay11, k0_pay7, k0_pay9]

theorem next_w4 (c : Dev nD) (t : Fin cfg0.N) (h0 : ¬t.val % 16 = 0) (y : S1024x512.Idx) :
    (outsAt0 m c t.val t.isLt).2.2.2.2.2.2.2.2.1 y
      = (outsAt0 m c (t.val - 1) (Nat.lt_of_le_of_lt (Nat.sub_le _ _) t.isLt)).2.2.2.2.2.2.2.2.1 y + prod (iblk m c 0 t) (iblk m c 5 t) y := by
  have h1 : 1 ≤ t.val := by omega
  rw [outsAt0_B m c t h0 h1 h0 h1 h0 h1 h0 h1 h0 h1]
  frame_out
  unfold prod
  generalize iblk m c 0 t = b0
  generalize iblk m c 1 t = b1
  generalize iblk m c 2 t = b2
  generalize iblk m c 3 t = b3
  generalize iblk m c 4 t = b4
  generalize iblk m c 5 t = b5
  generalize outsAt0 m c (t.val - 1) (Nat.lt_of_le_of_lt (Nat.sub_le _ _) t.isLt) = z
  obtain ⟨i, j, rfl⟩ : ∃ (i : Fin 1024) (j : Fin 512), y = ix2 i j := ⟨y 0, y 1, by idx_ext⟩
  pointwise [k0_pay11, k0_pay7, k0_pay9]

theorem first_c4 (c : Dev nD) (t : Fin cfg0.N) (h0 : t.val % 16 = 0) (y : S1x512.Idx) :
    (outsAt0 m c t.val t.isLt).2.2.2.2.2.2.2.2.2 y = (0 : EReal) + column (iblk m c 5 t) y := by
  have h1 : ¬1 ≤ t.val := by have := point_lt t; omega
  rw [outsAt0_A m c t h0 h1 h0 h1 h0 h1 h0 h1 h0 h1]
  frame_out
  unfold column
  generalize iblk m c 0 t = b0
  generalize iblk m c 1 t = b1
  generalize iblk m c 2 t = b2
  generalize iblk m c 3 t = b3
  generalize iblk m c 4 t = b4
  generalize iblk m c 5 t = b5
  obtain ⟨i, j, rfl⟩ : ∃ (i : Fin 1) (j : Fin 512), y = ix2 i j := ⟨y 0, y 1, by idx_ext⟩
  pointwise [k0_pay8, k0_pay10]

theorem next_c4 (c : Dev nD) (t : Fin cfg0.N) (h0 : ¬t.val % 16 = 0) (y : S1x512.Idx) :
    (outsAt0 m c t.val t.isLt).2.2.2.2.2.2.2.2.2 y
      = (outsAt0 m c (t.val - 1) (Nat.lt_of_le_of_lt (Nat.sub_le _ _) t.isLt)).2.2.2.2.2.2.2.2.2 y + column (iblk m c 5 t) y := by
  have h1 : 1 ≤ t.val := by omega
  rw [outsAt0_B m c t h0 h1 h0 h1 h0 h1 h0 h1 h0 h1]
  frame_out
  unfold column
  generalize iblk m c 0 t = b0
  generalize iblk m c 1 t = b1
  generalize iblk m c 2 t = b2
  generalize iblk m c 3 t = b3
  generalize iblk m c 4 t = b4
  generalize iblk m c 5 t = b5
  generalize outsAt0 m c (t.val - 1) (Nat.lt_of_le_of_lt (Nat.sub_le _ _) t.isLt) = z
  obtain ⟨i, j, rfl⟩ : ∃ (i : Fin 1) (j : Fin 512), y = ix2 i j := ⟨y 0, y 1, by idx_ext⟩
  pointwise [k0_pay8, k0_pay10]

open Cert.DwInRefIdeal.Read in
theorem reference_w4 (x0 : S16384x1024.Idx → EReal) (x1 x2 x3 x4 x5 : S16384x512.Idx → EReal) (i : Fin 1024) (j : Fin 512) :
    val_main_v24 (F := Ideal) x0 x1 x2 x3 x4 x5 (ix2 i j) = ∑ k : Fin 16384, x0 (ix2 k i) * x5 (ix2 k j) := by
  pointwise [val_main_v24, val_main_v19, val_main_v18, val_main_v15, val_main_v14, val_main_v13, val_main_v12, val_main_v11, val_main_v10]
  refine Finset.sum_congr rfl fun k _ => (mul_comm _ _).trans (congrArg (_ * ·) ?_)
  have hj := j.isLt
  split_ifs <;> first | omega | exact congrArg _ (by idx_ext)

open Cert.DwInRefIdeal.Read in
theorem reference_c4 (x1 x2 x3 x4 x5 : S16384x512.Idx → EReal) (i : Fin 1) (j : Fin 512) :
    val_main_v29 (F := Ideal) x1 x2 x3 x4 x5 (ix2 i j) = ∑ k : Fin 16384, x5 (ix2 k j) := by
  pointwise [val_main_v29, val_main_v17, val_main_v16, val_main_v15, val_main_v14, val_main_v13, val_main_v12, val_main_v11, val_main_v10, val_main_cst_1]
  refine Finset.sum_congr rfl fun k _ => ?_
  have hj := j.isLt
  split_ifs <;> first | omega | exact congrArg _ (by idx_ext)

theorem array_w4 (c : Dev nD) : (dats m 0 c).arrAt 14 cfg0.N
    = Cert.DwInRefIdeal.Read.val_main_v24 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 14 _ (by decide +kernel) fun t hf y => ?_
  blk_simp
  rw [after0_14]
  refine (Pipeline.eq_sum_fin_of_reset_step_apply_of_flush (fun n h => (outsAt0 m c n h).2.2.2.2.2.2.2.2.1) 16 (fun _ => (0 : EReal))
    (fun t => prod (iblk m c 0 t) (iblk m c 5 t)) (first_w4 m c) (next_w4 m c) t ((flush0_14 t).mp hf) y).trans ?_
  refine (zero_add _).trans (Eq.trans ?_ ((reference_w4 _ _ _ _ _ _ (y 0) (y 1)).symm.trans (congrArg _ (by blk_ext [idx t]))))
  unfold prod
  refine Fin.sum_mul_add_congr (fun s k hl => ?_)
  have e := idx ⟨16 * (t.val / 16) + s.val, Pipeline.run_point_lt_of_flush t ((flush0_14 t).mp hf) s⟩
  refine congrArg₂ (· * ·) ?_ ?_
  · blk_ext [iblk, V, idx t, e]
  · blk_ext [iblk, V, idx t, e]

theorem array_c4 (c : Dev nD) : (dats m 0 c).arrAt 15 cfg0.N
    = Cert.DwInRefIdeal.Read.val_main_v29 (F := Ideal) (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 15 _ (by decide +kernel) fun t hf y => ?_
  blk_simp
  rw [after0_15]
  refine (Pipeline.eq_sum_fin_of_reset_step_apply_of_flush (fun n h => (outsAt0 m c n h).2.2.2.2.2.2.2.2.2) 16 (fun _ => (0 : EReal))
    (fun t => column (iblk m c 5 t)) (first_c4 m c) (next_c4 m c) t ((flush0_15 t).mp hf) y).trans ?_
  refine (zero_add _).trans (Eq.trans ?_ ((reference_c4 _ _ _ _ _ (y 0) (y 1)).symm.trans (congrArg _ (by blk_ext [idx t]))))
  unfold column
  refine Fin.sum_mul_add_congr (fun s k hl => ?_)
  have e := idx ⟨16 * (t.val / 16) + s.val, Pipeline.run_point_lt_of_flush t ((flush0_15 t).mp hf) s⟩
  blk_ext [iblk, V, idx t, e]

end Cert.DwInIdeal.Point

end
-- ==== Proof.DxIn.lean ====
/- The gradient that reaches a layer's input, index by index, as the reference's value of the same arguments. -/
module

public import Idealize.ShloMosaic.Lib.Pipeline.ValueKit
public import Idealize.ShloMosaic.Lib.Claim
public import proofs.«01_k».proof.Proof.Gen.DxInIdeal.Value
public import proofs.«01_k».proof.Proof.Gen.DxInRefIdeal.Run
public import proofs.«01_k».proof.Proof.Gen.DxInRefIdeal.Read

@[expose] public section

set_option maxRecDepth 16384

noncomputable section

namespace Cert.DxInIdeal.Point

open Idealize.ShloMosaic Idealize.ShloMosaic.TcCoe Idealize.ShloMosaic.Tactic Idealize.SL.Sem
open Cert.DxInIdeal Cert.DxInIdeal.Gen

variable (m : (ℓ : Loc nD τ sig) → Buf (Elt Ideal) ℓ)

theorem idx : ∀ t : Fin cfg0.N, win0_0.index t = ![(grid0.coords t 1).val, 0] ∧ win0_1.index t = ![(grid0.coords t 1).val, 0]
    ∧ win0_2.index t = ![(grid0.coords t 1).val, 0] ∧ win0_3.index t = ![(grid0.coords t 1).val, 0]
    ∧ win0_4.index t = ![(grid0.coords t 1).val, 0]
    ∧ win0_5.index t = ![0, (grid0.coords t 0).val]
    ∧ win0_6.index t = ![0, (grid0.coords t 0).val]
    ∧ win0_7.index t = ![0, (grid0.coords t 0).val]
    ∧ win0_8.index t = ![0, (grid0.coords t 0).val]
    ∧ win0_9.index t = ![0, (grid0.coords t 0).val]
    ∧ win0_10.index t = ![(grid0.coords t 1).val, (grid0.coords t 0).val] ∧ win0_11.index t = ![(grid0.coords t 1).val, (grid0.coords t 0).val]
    ∧ (grid0.coords t 0).val = 0 :=
  (by decide +kernel : ∀ t : Fin grid0.N, _)

/-- One piece's product with its rows of the transposed weights. -/
def prod (a : S512x512.Idx → EReal) (u : S512x1024.Idx → EReal) (i : Fin 512) (j : Fin 1024) : EReal :=
  ∑ k : Fin 512, a (ix2 i k) * u (ix2 k j)

theorem point (a b d e f : Vec Ideal S512x512 .bf16) (p q r s u : Vec Ideal S512x1024 .bf16) (z : Vec Ideal S512x1024 .f32) (i : Fin 512) (j : Fin 1024) :
    out0_11 a b d e f p q r s u z (ix2 i j)
      = Ideal.ofBits .f32 0x3FB504F3#32 * z (ix2 i j) + (prod a p i j + prod b q i j + prod d r i j + prod e s i j + prod f u i j) := by
  unfold prod
  frame_out
  pointwise [k0_pay1]

theorem V_0 (c : Dev nD) (x : Fin 512) (y : Fin 1024) : V m c main_v1 (ix2 x y)
    = m ((c : Thread nD τ).loc main_arg5) (ix2 y ⟨x.val, by omega⟩) := by
  unfold V
  simp only [hostOps0, List.flatten_cons, List.flatten_nil, List.cons_append, List.nil_append, List.append_nil]
  entry_read
  pointwise

theorem V_1 (c : Dev nD) (x : Fin 512) (y : Fin 1024) : V m c main_v2 (ix2 x y)
    = m ((c : Thread nD τ).loc main_arg5) (ix2 y ⟨512 + x.val, by omega⟩) := by
  unfold V
  simp only [hostOps0, List.flatten_cons, List.flatten_nil, List.cons_append, List.nil_append, List.append_nil]
  entry_read
  pointwise

theorem V_2 (c : Dev nD) (x : Fin 512) (y : Fin 1024) : V m c main_v3 (ix2 x y)
    = m ((c : Thread nD τ).loc main_arg5) (ix2 y ⟨1024 + x.val, by omega⟩) := by
  unfold V
  simp only [hostOps0, List.flatten_cons, List.flatten_nil, List.cons_append, List.nil_append, List.append_nil]
  entry_read
  pointwise

theorem V_3 (c : Dev nD) (x : Fin 512) (y : Fin 1024) : V m c main_v4 (ix2 x y)
    = m ((c : Thread nD τ).loc main_arg5) (ix2 y ⟨1536 + x.val, by omega⟩) := by
  unfold V
  simp only [hostOps0, List.flatten_cons, List.flatten_nil, List.cons_append, List.nil_append, List.append_nil]
  entry_read
  pointwise

theorem V_4 (c : Dev nD) (x : Fin 512) (y : Fin 1024) : V m c main_v5 (ix2 x y)
    = m ((c : Thread nD τ).loc main_arg5) (ix2 y ⟨2048 + x.val, by omega⟩) := by
  unfold V
  simp only [hostOps0, List.flatten_cons, List.flatten_nil, List.cons_append, List.nil_append, List.append_nil]
  entry_read
  pointwise

/-- A sum over five times 512 terms, in five runs of 512. -/
theorem sum_five (f : Fin 2560 → EReal) : ∑ k, f k
    = (∑ k : Fin 512, f ⟨k.val, by omega⟩) + (∑ k : Fin 512, f ⟨512 + k.val, by omega⟩) + (∑ k : Fin 512, f ⟨1024 + k.val, by omega⟩)
      + (∑ k : Fin 512, f ⟨1536 + k.val, by omega⟩) + (∑ k : Fin 512, f ⟨2048 + k.val, by omega⟩) := by
  have e : ∀ (n : ℕ) (g : Fin (n + 512) → EReal), ∑ k, g k
      = (∑ k : Fin n, g ⟨k.val, by omega⟩) + ∑ k : Fin 512, g ⟨n + k.val, by omega⟩ := fun n g => Fin.sum_univ_add g
  exact (e 2048 f).trans (congrArg (· + _) ((e 1536 _).trans (congrArg (· + _) ((e 1024 _).trans (congrArg (· + _) (e 512 _))))))

open Cert.DxInRefIdeal.Read in
theorem reference_at (x0 x1 x2 x3 x4 : S16384x512.Idx → EReal) (x5 : S1024x2560.Idx → EReal) (x6 : S16384x1024.Idx → EReal) (i : Fin 16384) (j : Fin 1024) :
    val_main_v19 (F := Ideal) x0 x1 x2 x3 x4 x5 x6 (ix2 i j)
      = Ideal.ofBits .f32 0x3FB504F3#32 * x6 (ix2 i j)
        + ((∑ k : Fin 512, x0 (ix2 i k) * x5 (ix2 j ⟨k.val, by omega⟩))
          + (∑ k : Fin 512, x1 (ix2 i k) * x5 (ix2 j ⟨512 + k.val, by omega⟩))
          + (∑ k : Fin 512, x2 (ix2 i k) * x5 (ix2 j ⟨1024 + k.val, by omega⟩))
          + (∑ k : Fin 512, x3 (ix2 i k) * x5 (ix2 j ⟨1536 + k.val, by omega⟩))
          + (∑ k : Fin 512, x4 (ix2 i k) * x5 (ix2 j ⟨2048 + k.val, by omega⟩))) := by
  pointwise [val_main_v19, val_main_v18, val_main_v17, val_main_v16, val_main_v15, val_main_v14, val_main_v13, val_main_v12, val_main_v11, val_main_v10,
    val_main_v1, val_main_cst_1]
  refine congrArg (_ + ·) ((sum_five _).trans ?_)
  refine congrArg₂ (· + ·) (congrArg₂ (· + ·) (congrArg₂ (· + ·) (congrArg₂ (· + ·) ?_ ?_) ?_) ?_) ?_ <;>
    refine Finset.sum_congr rfl fun k _ => congrArg (· * _) ?_
  all_goals
    have hk := k.isLt
    dsimp only
    split_ifs <;> first | omega | exact congrArg _ (by idx_ext)

theorem array (c : Dev nD) : (dats m 0 c).arrAt 11 cfg0.N
    = Cert.DxInRefIdeal.Read.val_main_v19 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 11 _ (by decide +kernel) fun t hf y => ?_
  blk_simp
  rw [after0_11]
  have h1 : (grid0.coords t 1).val < 32 := (grid0.coords t 1).isLt
  have hy : (y 0).val < 512 := (y 0).isLt
  refine ((congrArg _ (by idx_ext : y = ix2 (y 0) (y 1))).trans (point _ _ _ _ _ _ _ _ _ _ _ (y 0) (y 1))).trans
    (Eq.trans ?_ ((reference_at _ _ _ _ _ _ _ ⟨(grid0.coords t 1).val * 512 + (y 0).val, by omega⟩ (y 1)).symm.trans (congrArg _ ?_)))
  · unfold prod
    refine congrArg₂ (· + ·) (congrArg (_ * ·) ?_) (congrArg₂ (· + ·) (congrArg₂ (· + ·) (congrArg₂ (· + ·) (congrArg₂ (· + ·)
      (Finset.sum_congr rfl fun k _ => congrArg₂ (· * ·) ?_ ?_) (Finset.sum_congr rfl fun k _ => congrArg₂ (· * ·) ?_ ?_))
      (Finset.sum_congr rfl fun k _ => congrArg₂ (· * ·) ?_ ?_)) (Finset.sum_congr rfl fun k _ => congrArg₂ (· * ·) ?_ ?_))
      (Finset.sum_congr rfl fun k _ => congrArg₂ (· * ·) ?_ ?_))
    · blk_ext [iblk, V, idx t]
    · blk_ext [iblk, V, idx t]
    · blk_simp [iblk, idx t]
      refine (congrArg (V m c _) (?_ : _ = ix2 k (y 1))).trans ((V_0 m c k (y 1)).trans ?_)
      · blk_ext [idx t]
      · blk_ext [idx t]
    · blk_ext [iblk, V, idx t]
    · blk_simp [iblk, idx t]
      refine (congrArg (V m c _) (?_ : _ = ix2 k (y 1))).trans ((V_1 m c k (y 1)).trans ?_)
      · blk_ext [idx t]
      · blk_ext [idx t]
    · blk_ext [iblk, V, idx t]
    · blk_simp [iblk, idx t]
      refine (congrArg (V m c _) (?_ : _ = ix2 k (y 1))).trans ((V_2 m c k (y 1)).trans ?_)
      · blk_ext [idx t]
      · blk_ext [idx t]
    · blk_ext [iblk, V, idx t]
    · blk_simp [iblk, idx t]
      refine (congrArg (V m c _) (?_ : _ = ix2 k (y 1))).trans ((V_3 m c k (y 1)).trans ?_)
      · blk_ext [idx t]
      · blk_ext [idx t]
    · blk_ext [iblk, V, idx t]
    · blk_simp [iblk, idx t]
      refine (congrArg (V m c _) (?_ : _ = ix2 k (y 1))).trans ((V_4 m c k (y 1)).trans ?_)
      · blk_ext [idx t]
      · blk_ext [idx t]
  · blk_ext [idx t]

end Cert.DxInIdeal.Point

end
-- ==== Proof.DwOutAttn.lean ====
/- The gradient of the output projection's rows that the attention feeds, index by index, as the reference's value of the same arguments. -/
module

public import Idealize.ShloMosaic.Lib.Pipeline.ValueKit
public import Idealize.ShloMosaic.Lib.Claim
public import proofs.«01_k».proof.Proof.Gen.DwOutAttnIdeal.Value
public import proofs.«01_k».proof.Proof.Gen.DwOutAttnRefIdeal.Run
public import proofs.«01_k».proof.Proof.Gen.DwOutAttnRefIdeal.Read

@[expose] public section

set_option maxRecDepth 16384

noncomputable section

namespace Cert.DwOutAttnIdeal.Point

open Idealize.ShloMosaic Idealize.ShloMosaic.TcCoe Idealize.ShloMosaic.Tactic Idealize.SL.Sem
open Cert.DwOutAttnIdeal Cert.DwOutAttnIdeal.Gen

variable (m : (ℓ : Loc nD τ sig) → Buf (Elt Ideal) ℓ)

theorem idx : ∀ t : Fin cfg0.N, win0_0.index t = ![t.val % 16, 0] ∧ win0_1.index t = ![t.val % 16, 0] ∧ win0_2.index t = ![0, 0] := (by decide +kernel : ∀ t : Fin grid0.N, _)

theorem point_lt (t : Fin cfg0.N) : t.val < 16 := Nat.lt_of_lt_of_eq t.isLt (by decide +kernel : cfg0.N = 16)

/-- The product over a grid point's rows. -/
def prod (a : S1024x512.Idx → EReal) (b : S1024x1024.Idx → EReal) (y : S512x1024.Idx) : EReal :=
  ∑ k : Fin 1024, a (ix2 k (y 0)) * b (ix2 k (y 1))

theorem step_first (c : Dev nD) (t : Fin cfg0.N) (h0 : t.val % 16 = 0) (y : S512x1024.Idx) :
    outsAt0 m c t.val t.isLt y = (0 : EReal) + prod (iblk m c 0 t) (iblk m c 1 t) y := by
  rw [outsAt0_A m c t h0 (by have := point_lt t; omega)]
  frame_out
  unfold prod
  generalize iblk m c 0 t = a
  generalize iblk m c 1 t = b
  obtain ⟨i, j, rfl⟩ : ∃ (i : Fin 512) (j : Fin 1024), y = ix2 i j := ⟨y 0, y 1, by idx_ext⟩
  pointwise [k0_pay1]

theorem step_next (c : Dev nD) (t : Fin cfg0.N) (h0 : ¬t.val % 16 = 0) (y : S512x1024.Idx) :
    outsAt0 m c t.val t.isLt y
      = outsAt0 m c (t.val - 1) (Nat.lt_of_le_of_lt (Nat.sub_le _ _) t.isLt) y + prod (iblk m c 0 t) (iblk m c 1 t) y := by
  rw [outsAt0_B m c t h0 (by omega)]
  frame_out
  unfold prod
  generalize iblk m c 0 t = a
  generalize iblk m c 1 t = b
  generalize outsAt0 m c (t.val - 1) (Nat.lt_of_le_of_lt (Nat.sub_le _ _) t.isLt) = z
  obtain ⟨i, j, rfl⟩ : ∃ (i : Fin 512) (j : Fin 1024), y = ix2 i j := ⟨y 0, y 1, by idx_ext⟩
  pointwise [k0_pay1, k0_pay2]

theorem array (c : Dev nD) : (dats m 0 c).arrAt 2 cfg0.N
    = Cert.DwOutAttnRefIdeal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (Pipeline.eq_sum_fin_of_reset_step_apply_of_flush (fun n h => outsAt0 m c n h) 16 (fun _ => (0 : EReal)) (fun t => prod (iblk m c 0 t) (iblk m c 1 t))
    (step_first m c) (step_next m c) t ((flush0_2 t).mp hf) y).trans ?_
  rw [zero_add, Cert.DwOutAttnRefIdeal.Read.val_main_v3_apply, Cert.DwOutAttnRefIdeal.Read.val_main_v2_apply]
  unfold prod
  refine Fin.sum_mul_add_congr (fun s k hl => ?_)
  have e := idx ⟨16 * (t.val / 16) + s.val, Pipeline.run_point_lt_of_flush t ((flush0_2 t).mp hf) s⟩
  refine (mul_comm _ _).trans (congrArg₂ (· * ·) ?_ ?_)
  · blk_ext [iblk, V, idx t, e]
  · blk_ext [iblk, V, idx t, e]

end Cert.DwOutAttnIdeal.Point

end
-- ==== Proof.DwOutConv.lean ====
/- The gradient of the output projection's rows that the convolution (or the gated memory) feeds, index by index, as the reference's value of the same arguments. -/
module

public import Idealize.ShloMosaic.Lib.Pipeline.ValueKit
public import Idealize.ShloMosaic.Lib.Claim
public import proofs.«01_k».proof.Proof.Gen.DwOutConvIdeal.Value
public import proofs.«01_k».proof.Proof.Gen.DwOutConvRefIdeal.Run
public import proofs.«01_k».proof.Proof.Gen.DwOutConvRefIdeal.Read

@[expose] public section

set_option maxRecDepth 16384

noncomputable section

namespace Cert.DwOutConvIdeal.Point

open Idealize.ShloMosaic Idealize.ShloMosaic.TcCoe Idealize.ShloMosaic.Tactic Idealize.SL.Sem
open Cert.DwOutConvIdeal Cert.DwOutConvIdeal.Gen

variable (m : (ℓ : Loc nD τ sig) → Buf (Elt Ideal) ℓ)

theorem idx : ∀ t : Fin cfg0.N, win0_0.index t = ![t.val % 16, 0] ∧ win0_1.index t = ![t.val % 16, 0] ∧ win0_2.index t = ![0, 0] := (by decide +kernel : ∀ t : Fin grid0.N, _)

theorem point_lt (t : Fin cfg0.N) : t.val < 16 := Nat.lt_of_lt_of_eq t.isLt (by decide +kernel : cfg0.N = 16)

/-- The product over a grid point's rows. -/
def prod (a : S1024x256.Idx → EReal) (b : S1024x1024.Idx → EReal) (y : S256x1024.Idx) : EReal :=
  ∑ k : Fin 1024, a (ix2 k (y 0)) * b (ix2 k (y 1))

theorem step_first (c : Dev nD) (t : Fin cfg0.N) (h0 : t.val % 16 = 0) (y : S256x1024.Idx) :
    outsAt0 m c t.val t.isLt y = (0 : EReal) + prod (iblk m c 0 t) (iblk m c 1 t) y := by
  rw [outsAt0_A m c t h0 (by have := point_lt t; omega)]
  frame_out
  unfold prod
  generalize iblk m c 0 t = a
  generalize iblk m c 1 t = b
  obtain ⟨i, j, rfl⟩ : ∃ (i : Fin 256) (j : Fin 1024), y = ix2 i j := ⟨y 0, y 1, by idx_ext⟩
  pointwise [k0_pay1]

theorem step_next (c : Dev nD) (t : Fin cfg0.N) (h0 : ¬t.val % 16 = 0) (y : S256x1024.Idx) :
    outsAt0 m c t.val t.isLt y
      = outsAt0 m c (t.val - 1) (Nat.lt_of_le_of_lt (Nat.sub_le _ _) t.isLt) y + prod (iblk m c 0 t) (iblk m c 1 t) y := by
  rw [outsAt0_B m c t h0 (by omega)]
  frame_out
  unfold prod
  generalize iblk m c 0 t = a
  generalize iblk m c 1 t = b
  generalize outsAt0 m c (t.val - 1) (Nat.lt_of_le_of_lt (Nat.sub_le _ _) t.isLt) = z
  obtain ⟨i, j, rfl⟩ : ∃ (i : Fin 256) (j : Fin 1024), y = ix2 i j := ⟨y 0, y 1, by idx_ext⟩
  pointwise [k0_pay1, k0_pay2]

theorem array (c : Dev nD) : (dats m 0 c).arrAt 2 cfg0.N
    = Cert.DwOutConvRefIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (Pipeline.eq_sum_fin_of_reset_step_apply_of_flush (fun n h => outsAt0 m c n h) 16 (fun _ => (0 : EReal)) (fun t => prod (iblk m c 0 t) (iblk m c 1 t))
    (step_first m c) (step_next m c) t ((flush0_2 t).mp hf) y).trans ?_
  rw [zero_add, Cert.DwOutConvRefIdeal.Read.val_main_v4_apply, Cert.DwOutConvRefIdeal.Read.val_main_v3_apply]
  unfold prod
  refine Fin.sum_mul_add_congr (fun s k hl => ?_)
  rw [Cert.DwOutConvRefIdeal.Read.val_main_v1_apply]
  have e := idx ⟨16 * (t.val / 16) + s.val, Pipeline.run_point_lt_of_flush t ((flush0_2 t).mp hf) s⟩
  refine (mul_comm _ _).trans (congrArg₂ (· * ·) ?_ ?_)
  · blk_ext [iblk, V, idx t, e]
  · blk_ext [iblk, V, idx t, e]

end Cert.DwOutConvIdeal.Point

end
-- ==== Proof.DxOut.lean ====
/- The gradients that reach the three branches through the output projection, index by index, as the reference's value of the same arguments. -/
module

public import Idealize.ShloMosaic.Lib.Pipeline.ValueKit
public import Idealize.ShloMosaic.Lib.Claim
public import proofs.«01_k».proof.Proof.Gen.DxOutIdeal.Value
public import proofs.«01_k».proof.Proof.Gen.DxOutRefIdeal.Run
public import proofs.«01_k».proof.Proof.Gen.DxOutRefIdeal.Read

@[expose] public section

set_option maxRecDepth 16384

noncomputable section

namespace Cert.DxOutIdeal.Point

open Idealize.ShloMosaic Idealize.ShloMosaic.TcCoe Idealize.ShloMosaic.Tactic Idealize.SL.Sem
open Cert.DxOutIdeal Cert.DxOutIdeal.Gen

variable (m : (ℓ : Loc nD τ sig) → Buf (Elt Ideal) ℓ)

theorem idx : ∀ t : Fin cfg0.N, win0_0.index t = ![(grid0.coords t 1).val, 0] ∧ win0_1.index t = ![0, 0]
    ∧ win0_2.index t = ![(grid0.coords t 1).val, 0] ∧ win0_3.index t = ![(grid0.coords t 1).val, 0]
    ∧ win0_4.index t = ![(grid0.coords t 1).val, 0] :=
  (by decide +kernel : ∀ t : Fin grid0.N, _)

theorem product (a : Vec Ideal S512x1024 .f32) (u : Vec Ideal S1024x1024 .bf16) (i : Fin 512) (j : Fin 1024) :
    k0_pay1 a u (ix2 i j) = (∑ k : Fin 1024, a (ix2 i k) * u (ix2 k j) : EReal) := by
  pointwise [k0_pay1]

theorem V_weights (c : Dev nD) (x : Fin 1024) (y : Fin 1024) : V m c main_v0 (ix2 x y)
    = m ((c : Thread nD τ).loc main_arg1) (ix2 y x) := by
  unfold V
  simp only [hostOps0, List.flatten_cons, List.flatten_nil, List.cons_append, List.nil_append, List.append_nil]
  entry_read
  pointwise

open Cert.DxOutRefIdeal.Read in
theorem reference_at (x0 : S16384x1024.Idx → EReal) (x1 : S1024x1024.Idx → EReal) (i : Fin 16384) (j : Fin 1024) :
    val_main_v6 (F := Ideal) x0 x1 (ix2 i j) = ∑ k : Fin 1024, x0 (ix2 i k) * x1 (ix2 j k) := by
  pointwise [val_main_v6, val_main_v4]

/-- A grid point's product at a column is the reference's product at the point's row and that column. -/
theorem product_eq (c : Dev nD) (t : Fin cfg0.N) (i : Fin 512) (j : Fin 1024) (r : Fin 16384) (hr : r.val = (grid0.coords t 1).val * 512 + i.val) :
    k0_pay1 (iblk m c 0 t) (iblk m c 1 t) (ix2 i j)
      = Cert.DxOutRefIdeal.Read.val_main_v6 (F := Ideal) (m ((c : Thread nD τ).loc main_arg0)) (m ((c : Thread nD τ).loc main_arg1)) (ix2 r j) := by
  refine (product _ _ i j).trans (Eq.trans ?_ (reference_at _ _ r j).symm)
  refine Finset.sum_congr rfl fun k _ => congrArg₂ (· * ·) ?_ ?_
  · blk_ext [iblk, V, idx t, hr]
  · blk_simp [iblk, idx t]
    refine (congrArg (V m c _) (?_ : _ = ix2 k j)).trans (V_weights m c k j)
    blk_ext [idx t]

theorem point_conv (a : Vec Ideal S512x1024 .f32) (u : Vec Ideal S1024x1024 .bf16) (i : Fin 512) (j : Fin 256) :
    out0_2 a u (ix2 i j) = k0_pay1 a u (ix2 i ⟨j.val, by omega⟩) := by
  frame_out
  pointwise [k0_pay2]

open Cert.DxOutRefIdeal.Read in
theorem reference_conv (x0 : S16384x1024.Idx → EReal) (x1 : S1024x1024.Idx → EReal) (i : Fin 16384) (j : Fin 256) :
    val_main_v7 (F := Ideal) x0 x1 (ix2 i j) = val_main_v6 (F := Ideal) x0 x1 (ix2 i ⟨j.val, by omega⟩) := by
  pointwise [val_main_v7]

theorem array_conv (c : Dev nD) : (dats m 0 c).arrAt 2 cfg0.N
    = Cert.DxOutRefIdeal.Read.val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have h1 : (grid0.coords t 1).val < 32 := (grid0.coords t 1).isLt
  have hy : (y 0).val < 512 := (y 0).isLt
  refine ((congrArg _ (by idx_ext : y = ix2 (y 0) (y 1))).trans (point_conv _ _ (y 0) (y 1))).trans
    ((product_eq m c t (y 0) _ ⟨(grid0.coords t 1).val * 512 + (y 0).val, by omega⟩ rfl).trans
      ((reference_conv _ _ _ (y 1)).symm.trans (congrArg _ ?_)))
  blk_ext [idx t]

theorem point_attention (a : Vec Ideal S512x1024 .f32) (u : Vec Ideal S1024x1024 .bf16) (i : Fin 512) (j : Fin 512) :
    out0_3 a u (ix2 i j) = k0_pay1 a u (ix2 i ⟨256 + j.val, by omega⟩) := by
  frame_out
  pointwise [k0_pay3]

open Cert.DxOutRefIdeal.Read in
theorem reference_attention (x0 : S16384x1024.Idx → EReal) (x1 : S1024x1024.Idx → EReal) (i : Fin 16384) (j : Fin 512) :
    val_main_v8 (F := Ideal) x0 x1 (ix2 i j) = val_main_v6 (F := Ideal) x0 x1 (ix2 i ⟨256 + j.val, by omega⟩) := by
  pointwise [val_main_v8]

theorem array_attention (c : Dev nD) : (dats m 0 c).arrAt 3 cfg0.N
    = Cert.DxOutRefIdeal.Read.val_main_v8 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  have h1 : (grid0.coords t 1).val < 32 := (grid0.coords t 1).isLt
  have hy : (y 0).val < 512 := (y 0).isLt
  refine ((congrArg _ (by idx_ext : y = ix2 (y 0) (y 1))).trans (point_attention _ _ (y 0) (y 1))).trans
    ((product_eq m c t (y 0) _ ⟨(grid0.coords t 1).val * 512 + (y 0).val, by omega⟩ rfl).trans
      ((reference_attention _ _ _ (y 1)).symm.trans (congrArg _ ?_)))
  blk_ext [idx t]

theorem point_memory (a : Vec Ideal S512x1024 .f32) (u : Vec Ideal S1024x1024 .bf16) (i : Fin 512) (j : Fin 256) :
    out0_4 a u (ix2 i j) = k0_pay1 a u (ix2 i ⟨768 + j.val, by omega⟩) := by
  frame_out
  pointwise [k0_pay4]

open Cert.DxOutRefIdeal.Read in
theorem reference_memory (x0 : S16384x1024.Idx → EReal) (x1 : S1024x1024.Idx → EReal) (i : Fin 16384) (j : Fin 256) :
    val_main_v9 (F := Ideal) x0 x1 (ix2 i j) = val_main_v6 (F := Ideal) x0 x1 (ix2 i ⟨768 + j.val, by omega⟩) := by
  pointwise [val_main_v9]

theorem array_memory (c : Dev nD) : (dats m 0 c).arrAt 4 cfg0.N
    = Cert.DxOutRefIdeal.Read.val_main_v9 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  have h1 : (grid0.coords t 1).val < 32 := (grid0.coords t 1).isLt
  have hy : (y 0).val < 512 := (y 0).isLt
  refine ((congrArg _ (by idx_ext : y = ix2 (y 0) (y 1))).trans (point_memory _ _ (y 0) (y 1))).trans
    ((product_eq m c t (y 0) _ ⟨(grid0.coords t 1).val * 512 + (y 0).val, by omega⟩ rfl).trans
      ((reference_memory _ _ _ (y 1)).symm.trans (congrArg _ ?_)))
  blk_ext [idx t]

end Cert.DxOutIdeal.Point

end
-- ==== Proof.FfnUp.lean ====
/- The feed-forward block's up projection, index by index, as the reference's value of the same arguments. -/
module

public import Idealize.ShloMosaic.Lib.Pipeline.ValueKit
public import Idealize.ShloMosaic.Lib.Claim
public import proofs.«01_k».proof.Proof.Gen.FfnUpIdeal.Value
public import proofs.«01_k».proof.Proof.Gen.FfnUpRefIdeal.Run
public import proofs.«01_k».proof.Proof.Gen.FfnUpRefIdeal.Read

@[expose] public section

set_option maxRecDepth 16384

noncomputable section

namespace Cert.FfnUpIdeal.Point

open Idealize.ShloMosaic Idealize.ShloMosaic.TcCoe Idealize.ShloMosaic.Tactic Idealize.SL.Sem
open Cert.FfnUpIdeal Cert.FfnUpIdeal.Gen

variable (m : (ℓ : Loc nD τ sig) → Buf (Elt Ideal) ℓ)

theorem idx : ∀ t : Fin cfg0.N, win0_0.index t = ![(grid0.coords t 1).val, 0] ∧ win0_1.index t = ![0, (grid0.coords t 0).val]
    ∧ win0_2.index t = ![0, (grid0.coords t 0).val] ∧ win0_3.index t = ![(grid0.coords t 1).val, (grid0.coords t 0).val] :=
  (by decide +kernel : ∀ t : Fin grid0.N, _)

theorem point (a : Vec Ideal S512x1024 .f32) (u : Vec Ideal S1024x2816 .bf16) (b : Vec Ideal S1x2816 .f32) (i : Fin 512) (j : Fin 2816) :
    out0_3 a u b (ix2 i j) = ((∑ k : Fin 1024, a (ix2 i k) * u (ix2 k j)) + b (ix2 0 j) : EReal) := by
  frame_out
  pointwise [k0_pay1]

theorem V_bias (c : Dev nD) (y : Fin 5632) : V m c main_v0 (ix2 0 y)
    = m ((c : Thread nD τ).loc main_arg2) (ix1 y) := by
  unfold V
  simp only [hostOps0, List.flatten_cons, List.flatten_nil, List.cons_append, List.nil_append, List.append_nil]
  entry_read
  pointwise

open Cert.FfnUpRefIdeal.Read in
theorem reference_at (x0 : S16384x1024.Idx → EReal) (x1 : S1024x5632.Idx → EReal) (x2 : S5632.Idx → EReal) (i : Fin 16384) (j : Fin 5632) :
    val_main_v4 (F := Ideal) x0 x1 x2 (ix2 i j) = (∑ k : Fin 1024, x0 (ix2 i k) * x1 (ix2 k j)) + x2 (ix1 j) := by
  pointwise [val_main_v4, val_main_v3, val_main_v2, val_main_v1, val_main_v0]

theorem array (c : Dev nD) : (dats m 0 c).arrAt 3 cfg0.N
    = Cert.FfnUpRefIdeal.Read.val_main_v4 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  have h0 : (grid0.coords t 0).val < 2 := (grid0.coords t 0).isLt
  have h1 : (grid0.coords t 1).val < 32 := (grid0.coords t 1).isLt
  have hy : (y 0).val < 512 := (y 0).isLt
  have hz : (y 1).val < 2816 := (y 1).isLt
  refine ((congrArg _ (by idx_ext : y = ix2 (y 0) (y 1))).trans (point _ _ _ (y 0) (y 1))).trans
    (Eq.trans ?_ ((reference_at _ _ _ ⟨(grid0.coords t 1).val * 512 + (y 0).val, by omega⟩
      ⟨(grid0.coords t 0).val * 2816 + (y 1).val, by omega⟩).symm.trans (congrArg _ ?_)))
  · refine congrArg₂ (· + ·) (Finset.sum_congr rfl fun k _ => congrArg₂ (· * ·) ?_ ?_) ?_
    · blk_ext [iblk, V, idx t]
    · blk_ext [iblk, V, idx t]
    · blk_simp [iblk, idx t]
      refine (congrArg (V m c _) (?_ : _ = ix2 0 ⟨(grid0.coords t 0).val * 2816 + (y 1).val, by omega⟩)).trans (V_bias m c _)
      blk_ext [idx t]
  · blk_ext [idx t]

end Cert.FfnUpIdeal.Point

end
-- ==== Proof.Norm.lean ====
/- The layer norm of one row of 1024 values: its mean, its scale and the row it normalises to. -/
module

public import Idealize.ShloMosaic.Lib.Pipeline.ValueKit

@[expose] public section

noncomputable section

namespace Cert.Norm

open Idealize.ShloMosaic

/-- The mean of a row. -/
def mean (h : Fin 1024 → EReal) : EReal := Ideal.div (∑ k, h k) (Ideal.ofBits .f32 0x44800000#32)

/-- A value of a row less the row's mean. -/
def centred (h : Fin 1024 → EReal) (j : Fin 1024) : EReal := h j - mean h

/-- The reciprocal root of a row's variance. -/
def scale (h : Fin 1024 → EReal) : EReal :=
  Ideal.rsqrt (Ideal.div (∑ k, centred h k * centred h k) (Ideal.ofBits .f32 0x44800000#32) + Ideal.ofBits .f32 0x3727C5AC#32)

/-- The normalised row. -/
def unit (h : Fin 1024 → EReal) (j : Fin 1024) : EReal := centred h j * scale h

end Cert.Norm

end
-- ==== Proof.FfnDown.lean ====
/- The feed-forward block's down projection, the residual and the layer norm, index by index, as the reference's value of the same arguments. -/
module

public import Idealize.ShloMosaic.Lib.Pipeline.ValueKit
public import Idealize.ShloMosaic.Lib.Claim
public import proofs.«01_k».proof.Proof.Norm
public import proofs.«01_k».proof.Proof.Gen.FfnDownIdeal.Value
public import proofs.«01_k».proof.Proof.Gen.FfnDownRefIdeal.Run
public import proofs.«01_k».proof.Proof.Gen.FfnDownRefIdeal.Read

@[expose] public section

set_option maxRecDepth 16384

noncomputable section

namespace Cert.FfnDownIdeal.Point

open Idealize.ShloMosaic Idealize.ShloMosaic.TcCoe Idealize.ShloMosaic.Tactic Idealize.SL.Sem
open Cert.FfnDownIdeal Cert.FfnDownIdeal.Gen

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0]
    ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, _)

theorem point_lt (t : Fin cfg0.N) : t.val < 32 := Nat.lt_of_lt_of_eq t.isLt (by decide +kernel : cfg0.N = 32)

/-- A row before the layer norm: the scaled residual, the product and the bias. -/
def row (a : S512x2816.Idx → EReal) (u : S2816x1024.Idx → EReal) (d : S1x1024.Idx → EReal) (z : S512x1024.Idx → EReal) (i : Fin 512) (j : Fin 1024) : EReal :=
  Ideal.ofBits .f32 0x3FB504F3#32 * z (ix2 i j) + ((∑ k : Fin 2816, a (ix2 i k) * u (ix2 k j)) + d (ix2 0 j))

theorem V_bias (c : Dev nD) (j : Fin 1024) : V m c main_v0 (ix2 0 j)
    = m ((c : Thread nD τ).loc main_arg2) (ix1 j) := by
  unfold V
  simp only [hostOps0, List.flatten_cons, List.flatten_nil, List.cons_append, List.nil_append, List.append_nil]
  entry_read
  pointwise

theorem V_g (c : Dev nD) (j : Fin 1024) : V m c main_v1 (ix2 0 j)
    = m ((c : Thread nD τ).loc main_arg4) (ix1 j) := by
  unfold V
  simp only [hostOps0, List.flatten_cons, List.flatten_nil, List.cons_append, List.nil_append, List.append_nil]
  entry_read
  pointwise

theorem V_b (c : Dev nD) (j : Fin 1024) : V m c main_v2 (ix2 0 j)
    = m ((c : Thread nD τ).loc main_arg5) (ix1 j) := by
  unfold V
  simp only [hostOps0, List.flatten_cons, List.flatten_nil, List.cons_append, List.nil_append, List.append_nil]
  entry_read
  pointwise

open Cert.FfnDownRefIdeal.Read in
theorem reference_row (x0 : S16384x2816.Idx → EReal) (x1 : S2816x1024.Idx → EReal) (x2 : S1024.Idx → EReal) (x3 : S16384x1024.Idx → EReal) (i : Fin 16384) (j : Fin 1024) :
    val_main_v8 (F := Ideal) x0 x1 x2 x3 (ix2 i j)
      = Ideal.ofBits .f32 0x3FB504F3#32 * x3 (ix2 i j) + ((∑ k : Fin 2816, x0 (ix2 i k) * x1 (ix2 k j)) + x2 (ix1 j)) := by
  pointwise [val_main_v8, val_main_v7, val_main_v6, val_main_v5, val_main_v4, val_main_v3, val_main_v2, val_main_v1, val_main_v0, val_main_cst]

theorem centred_at (a : Vec Ideal S512x2816 .bf16) (u : Vec Ideal S2816x1024 .bf16) (d : Vec Ideal S1x1024 .f32) (z : Vec Ideal S512x1024 .f32) (i : Fin 512) (j : Fin 1024) :
    k0_pay1 a u d z (ix2 i j) = Norm.centred (row a u d z i) j := by
  unfold Norm.centred Norm.mean row
  pointwise [k0_pay1]

theorem point_out (a : Vec Ideal S512x2816 .bf16) (u : Vec Ideal S2816x1024 .bf16) (d : Vec Ideal S1x1024 .f32) (z : Vec Ideal S512x1024 .f32) (g b : Vec Ideal S1x1024 .f32) (i : Fin 512) (j : Fin 1024) :
    out0_6 a u d z g b (ix2 i j) = Norm.unit (row a u d z i) j * g (ix2 0 j) + b (ix2 0 j) := by
  unfold Norm.unit Norm.scale
  frame_out
  pointwise [k0_pay2, k0_pay3, k0_pay4]
  simp only [centred_at]

theorem point_unit (a : Vec Ideal S512x2816 .bf16) (u : Vec Ideal S2816x1024 .bf16) (d : Vec Ideal S1x1024 .f32) (z : Vec Ideal S512x1024 .f32) (g b : Vec Ideal S1x1024 .f32) (i : Fin 512) (j : Fin 1024) :
    out0_7 a u d z g b (ix2 i j) = Norm.unit (row a u d z i) j := by
  unfold Norm.unit Norm.scale
  frame_out
  pointwise [k0_pay2, k0_pay3, k0_pay4]
  simp only [centred_at]

theorem point_scale (a : Vec Ideal S512x2816 .bf16) (u : Vec Ideal S2816x1024 .bf16) (d : Vec Ideal S1x1024 .f32) (z : Vec Ideal S512x1024 .f32) (g b : Vec Ideal S1x1024 .f32) (i : Fin 512) (j : Fin 1) :
    out0_8 a u d z g b (ix2 i j) = Norm.scale (row a u d z i) := by
  unfold Norm.scale
  frame_out
  pointwise [k0_pay2, k0_pay3, k0_pay4]
  simp only [centred_at]

open Cert.FfnDownRefIdeal.Read in
theorem reference_scale (x0 : S16384x2816.Idx → EReal) (x1 : S2816x1024.Idx → EReal) (x2 : S1024.Idx → EReal) (x3 : S16384x1024.Idx → EReal) (i : Fin 16384) (j : Fin 1) :
    val_main_v22 (F := Ideal) x0 x1 x2 x3 (ix2 i j) = Norm.scale fun k => val_main_v8 (F := Ideal) x0 x1 x2 x3 (ix2 i k) := by
  unfold Norm.scale Norm.centred Norm.mean
  pointwise [val_main_v22, val_main_v21, val_main_v20, val_main_v19, val_main_v18, val_main_v17, val_main_v16, val_main_v15, val_main_v14, val_main_v13, val_main_v12, val_main_v11, val_main_v10, val_main_v9, val_main_cst_0, val_main_cst_1, val_main_cst_2, val_main_cst_3, val_main_cst_4]

open Cert.FfnDownRefIdeal.Read in
theorem reference_unit (x0 : S16384x2816.Idx → EReal) (x1 : S2816x1024.Idx → EReal) (x2 : S1024.Idx → EReal) (x3 : S16384x1024.Idx → EReal) (i : Fin 16384) (j : Fin 1024) :
    val_main_v26 (F := Ideal) x0 x1 x2 x3 (ix2 i j) = Norm.unit (fun k => val_main_v8 (F := Ideal) x0 x1 x2 x3 (ix2 i k)) j := by
  unfold Norm.unit Norm.scale Norm.centred Norm.mean
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst_0, val_main_cst_1, val_main_cst_2, val_main_cst_3, val_main_cst_4]

open Cert.FfnDownRefIdeal.Read in
theorem reference_out (x0 : S16384x2816.Idx → EReal) (x1 : S2816x1024.Idx → EReal) (x2 : S1024.Idx → EReal) (x3 : S16384x1024.Idx → EReal) (x4 x5 : S1024.Idx → EReal) (i : Fin 16384) (j : Fin 1024) :
    val_main_v32 (F := Ideal) x0 x1 x2 x3 x4 x5 (ix2 i j)
      = val_main_v26 (F := Ideal) x0 x1 x2 x3 (ix2 i j) * x4 (ix1 j) + x5 (ix1 j) := by
  pointwise [val_main_v32, val_main_v31, val_main_v30, val_main_v29, val_main_v28, val_main_v27]

/-- A grid point's row is the reference's row of the whole array. -/
theorem row_block (c : Dev nD) (t : Fin cfg0.N) (i : Fin 512) (r : Fin 16384) (hr : r.val = t.val * 512 + i.val) :
    row (iblk m c 0 t) (iblk m c 1 t) (iblk m c 2 t) (iblk m c 3 t) i = fun k => Cert.FfnDownRefIdeal.Read.val_main_v8 (F := Ideal) (m ((c : Thread nD τ).loc main_arg0)) (m ((c : Thread nD τ).loc main_arg1)) (m ((c : Thread nD τ).loc main_arg2)) (m ((c : Thread nD τ).loc main_arg3)) (ix2 r k) := by
  funext j
  refine Eq.trans ?_ (reference_row _ _ _ _ r j).symm
  unfold row
  refine congrArg₂ (· + ·) (congrArg (_ * ·) ?_) (congrArg₂ (· + ·) (Finset.sum_congr rfl fun k _ => congrArg₂ (· * ·) ?_ ?_) ?_)
  · blk_ext [iblk, V, idx t, hr]
  · blk_ext [iblk, V, idx t, hr]
  · blk_ext [iblk, V, idx t]
  · blk_simp [iblk, idx t]
    refine (congrArg (V m c _) (?_ : _ = ix2 0 j)).trans (V_bias m c j)
    blk_ext [idx t]

theorem array_out (c : Dev nD) : (dats m 0 c).arrAt 6 cfg0.N
    = Cert.FfnDownRefIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  have ht := point_lt t
  have hy : (y 0).val < 512 := (y 0).isLt
  have e := row_block m c t (y 0) ⟨t.val * 512 + (y 0).val, by omega⟩ rfl
  refine ((congrArg _ (by idx_ext : y = ix2 (y 0) (y 1))).trans (point_out _ _ _ _ _ _ (y 0) (y 1))).trans ?_
  refine Eq.trans ?_ ((reference_out _ _ _ _ _ _ ⟨t.val * 512 + (y 0).val, by omega⟩ (y 1)).symm.trans (congrArg _ (by blk_ext [idx t])))
  refine congrArg₂ (· + ·) (congrArg₂ (· * ·) ((congrArg (Norm.unit · (y 1)) e).trans (reference_unit _ _ _ _ _ (y 1)).symm) ?_) ?_
  · blk_simp [iblk, idx t]
    refine (congrArg (V m c _) (?_ : _ = ix2 0 (y 1))).trans (V_g m c (y 1))
    blk_ext [idx t]
  · blk_simp [iblk, idx t]
    refine (congrArg (V m c _) (?_ : _ = ix2 0 (y 1))).trans (V_b m c (y 1))
    blk_ext [idx t]

theorem array_unit (c : Dev nD) : (dats m 0 c).arrAt 7 cfg0.N
    = Cert.FfnDownRefIdeal.Read.val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  have ht := point_lt t
  have hy : (y 0).val < 512 := (y 0).isLt
  have e := row_block m c t (y 0) ⟨t.val * 512 + (y 0).val, by omega⟩ rfl
  refine ((congrArg _ (by idx_ext : y = ix2 (y 0) (y 1))).trans (point_unit _ _ _ _ _ _ (y 0) (y 1))).trans ?_
  refine (congrArg (Norm.unit · (y 1)) e).trans ((reference_unit _ _ _ _ _ (y 1)).symm.trans (congrArg _ (by blk_ext [idx t])))

theorem array_scale (c : Dev nD) : (dats m 0 c).arrAt 8 cfg0.N
    = Cert.FfnDownRefIdeal.Read.val_main_v22 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  have ht := point_lt t
  have hy : (y 0).val < 512 := (y 0).isLt
  have e := row_block m c t (y 0) ⟨t.val * 512 + (y 0).val, by omega⟩ rfl
  refine ((congrArg _ (by idx_ext : y = ix2 (y 0) (y 1))).trans (point_scale _ _ _ _ _ _ (y 0) (y 1))).trans ?_
  refine (congrArg Norm.scale e).trans ((reference_scale _ _ _ _ _ (y 1)).symm.trans (congrArg _ (by blk_ext [idx t])))

end Cert.FfnDownIdeal.Point

end
-- ==== Proof.InProj.lean ====
/- The input projection, with the query's scale applied to the weights and the bias, index by index, as the reference's value of the same arguments. -/
module

public import Idealize.ShloMosaic.Lib.Pipeline.ValueKit
public import Idealize.ShloMosaic.Lib.Claim
public import proofs.«01_k».proof.Proof.Gen.InProjIdeal.Value
public import proofs.«01_k».proof.Proof.Gen.InProjRefIdeal.Run
public import proofs.«01_k».proof.Proof.Gen.InProjRefIdeal.Read

@[expose] public section

set_option maxRecDepth 16384

noncomputable section

namespace Cert.InProjIdeal.Point

open Idealize.ShloMosaic Idealize.ShloMosaic.TcCoe Idealize.ShloMosaic.Tactic Idealize.SL.Sem
open Cert.InProjIdeal Cert.InProjIdeal.Gen

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

theorem point_lt (t : Fin cfg0.N) : t.val < 32 := Nat.lt_of_lt_of_eq t.isLt (by decide +kernel : cfg0.N = 32)

/-- The scale of the queries: one eighth, the same number in both formats. -/
theorem scale_f32 : Ideal.ofBits .f32 0x3E000000#32 = ((1 / 8 : ℝ) : EReal) := by
  simp [Ideal.ofBits, Ideal.ieee, -EReal.coe_mul]
  norm_num

theorem scale_bf16 : Ideal.ofBits .bf16 0x3E00#16 = ((1 / 8 : ℝ) : EReal) := by
  simp [Ideal.ofBits, Ideal.ieee, -EReal.coe_mul]
  norm_num

/-- A product with a scaled row of weights and a scaled bias is the scaled result: a nonnegative real distributes. -/
theorem scale_out (s : ℝ) (hs : 0 ≤ s) (a w : Fin 1024 → EReal) (b : EReal) :
    (∑ k, a k * (w k * (s : EReal))) + b * (s : EReal) = ((∑ k, a k * w k) + b) * (s : EReal) := by
  have hd : ∀ x y : EReal, (x + y) * (s : EReal) = x * s + y * s := fun x y => by
    rw [mul_comm, EReal.left_distrib_of_nonneg_of_ne_top (EReal.coe_nonneg.mpr hs) (EReal.coe_ne_top s), mul_comm x, mul_comm y]
  let h : EReal →+ EReal := ⟨⟨fun x => x * (s : EReal), zero_mul _⟩, hd⟩
  rw [hd]
  refine congrArg (· + _) (Eq.trans ?_ (map_sum h (fun k => a k * w k) Finset.univ).symm)
  exact Finset.sum_congr rfl fun k _ => (mul_assoc _ _ _).symm

theorem product (a : Vec Ideal S512x1024 .f32) (u : Vec Ideal S1024x2560 .bf16) (d : Vec Ideal S1x2560 .f32) (i : Fin 512) (j : Fin 2560) :
    k0_pay1 a u d (ix2 i j) = ((∑ k : Fin 1024, a (ix2 i k) * u (ix2 k j)) + d (ix2 0 j) : EReal) := by
  pointwise [k0_pay1]

/-- The weights and the bias. -/
def W (c : Dev nD) : S1024x2560.Idx → EReal := m ((c : Thread nD τ).loc main_arg1)
def B (c : Dev nD) : S2560.Idx → EReal := m ((c : Thread nD τ).loc main_arg2)

theorem weights (c : Dev nD) : V m c main_v5
    = (concatenate S1024x2560 1 [⟨S1024x512, (extractStridedSlice S1024x512 ![0, 0] (m ((c : Thread nD τ).loc main_arg1)) slices_S1024x2560_S1024x512_0_0 : FVec Ideal S1024x512 .bf16)⟩,
      ⟨S1024x512, (mulf (extractStridedSlice S1024x512 ![0, 512] (m ((c : Thread nD τ).loc main_arg1)) slices_S1024x2560_S1024x512_0_512)
        (broadcastInDim S1024x512 ![] bcast_S_S1024x512 (constant S_ .bf16 0x3E00#16)) : FVec Ideal S1024x512 .bf16)⟩,
      ⟨S1024x1536, (extractStridedSlice S1024x1536 ![0, 1024] (m ((c : Thread nD τ).loc main_arg1)) slices_S1024x2560_S1024x1536_0_1024 : FVec Ideal S1024x1536 .bf16)⟩]
      concatenates_S1024x512_S1024x512_S1024x1536_S1024x2560_d1 : FVec Ideal S1024x2560 .bf16) := rfl

theorem bias (c : Dev nD) : V m c main_v12
    = (shapeCast S1x2560 (concatenate S2560 0 [⟨S512, (extractStridedSlice S512 ![0] (m ((c : Thread nD τ).loc main_arg2)) slices_S2560_S512_0 : FVec Ideal S512 .f32)⟩,
      ⟨S512, (mulf (extractStridedSlice S512 ![512] (m ((c : Thread nD τ).loc main_arg2)) slices_S2560_S512_512)
        (broadcastInDim S512 ![] bcast_S_S512 (constant S_ .f32 0x3E000000#32)) : FVec Ideal S512 .f32)⟩,
      ⟨S1536, (extractStridedSlice S1536 ![1024] (m ((c : Thread nD τ).loc main_arg2)) slices_S2560_S1536_1024 : FVec Ideal S1536 .f32)⟩]
      concatenates_S512_S512_S1536_S2560_d0) shapeCasts_S2560_S1x2560 : FVec Ideal S1x2560 .f32) := rfl

theorem W_left (c : Dev nD) (k : Fin 1024) (j : Fin 512) : V m c main_v5 (ix2 k ⟨j.val, by omega⟩)
    = W m c (ix2 k ⟨j.val, by omega⟩) := by
  rw [weights]
  pointwise [W]

theorem B_left (c : Dev nD) (j : Fin 512) : V m c main_v12 (ix2 0 ⟨j.val, by omega⟩)
    = B m c (ix1 ⟨j.val, by omega⟩) := by
  rw [bias]
  pointwise [B]

theorem W_query (c : Dev nD) (k : Fin 1024) (j : Fin 512) : V m c main_v5 (ix2 k ⟨512 + j.val, by omega⟩)
    = ((W m c (ix2 k ⟨512 + j.val, by omega⟩) : EReal) * Ideal.ofBits .bf16 0x3E00#16 : EReal) := by
  rw [weights]
  pointwise [W]

theorem B_query (c : Dev nD) (j : Fin 512) : V m c main_v12 (ix2 0 ⟨512 + j.val, by omega⟩)
    = ((B m c (ix1 ⟨512 + j.val, by omega⟩) : EReal) * Ideal.ofBits .f32 0x3E000000#32 : EReal) := by
  rw [bias]
  pointwise [B]

theorem W_right (c : Dev nD) (k : Fin 1024) (j : Fin 1536) : V m c main_v5 (ix2 k ⟨1024 + j.val, by omega⟩)
    = W m c (ix2 k ⟨1024 + j.val, by omega⟩) := by
  rw [weights]
  pointwise [W]
  split_ifs <;> first | omega | exact congrArg _ (by idx_ext)

theorem B_right (c : Dev nD) (j : Fin 1536) : V m c main_v12 (ix2 0 ⟨1024 + j.val, by omega⟩)
    = B m c (ix1 ⟨1024 + j.val, by omega⟩) := by
  rw [bias]
  pointwise [B]
  split_ifs <;> first | omega | exact congrArg _ (by idx_ext)

open Cert.InProjRefIdeal.Read in
theorem reference_at (x0 : S16384x1024.Idx → EReal) (x1 : S1024x2560.Idx → EReal) (x2 : S2560.Idx → EReal) (i : Fin 16384) (j : Fin 2560) :
    val_main_v4 (F := Ideal) x0 x1 x2 (ix2 i j) = (∑ k : Fin 1024, x0 (ix2 i k) * x1 (ix2 k j)) + x2 (ix1 j) := by
  pointwise [val_main_v4, val_main_v3, val_main_v2, val_main_v1, val_main_v0]

/-- Where the weights and the bias are the arguments' own, a grid point's column is the reference's. -/
theorem plain (c : Dev nD) (t : Fin cfg0.N) (i : Fin 512) (j : Fin 2560) (r : Fin 16384) (hr : r.val = t.val * 512 + i.val)
    (hw : ∀ k : Fin 1024, V m c main_v5 (ix2 k j) = W m c (ix2 k j))
    (hb : V m c main_v12 (ix2 0 j) = B m c (ix1 j)) :
    k0_pay1 (iblk m c 0 t) (iblk m c 1 t) (iblk m c 2 t) (ix2 i j)
      = Cert.InProjRefIdeal.Read.val_main_v4 (F := Ideal) (m ((c : Thread nD τ).loc main_arg0)) (m ((c : Thread nD τ).loc main_arg1)) (m ((c : Thread nD τ).loc main_arg2)) (ix2 r j) := by
  refine (product _ _ _ i j).trans (Eq.trans ?_ (reference_at _ _ _ r j).symm)
  refine congrArg₂ (· + ·) (Finset.sum_congr rfl fun k _ => congrArg₂ (· * ·) ?_ ?_) ?_
  · blk_ext [iblk, V, idx t, hr]
  · blk_simp [iblk, idx t]
    refine (congrArg (V m c _) (?_ : _ = ix2 k j)).trans (hw k)
    blk_ext [idx t]
  · blk_simp [iblk, idx t]
    refine (congrArg (V m c _) (?_ : _ = ix2 0 j)).trans hb
    blk_ext [idx t]

/-- Where they are scaled, it is the reference's column scaled. -/
theorem scaled (c : Dev nD) (t : Fin cfg0.N) (i : Fin 512) (j : Fin 2560) (r : Fin 16384) (hr : r.val = t.val * 512 + i.val)
    (hw : ∀ k : Fin 1024, V m c main_v5 (ix2 k j)
      = ((W m c (ix2 k j) : EReal) * Ideal.ofBits .bf16 0x3E00#16 : EReal))
    (hb : V m c main_v12 (ix2 0 j) = ((B m c (ix1 j) : EReal) * Ideal.ofBits .f32 0x3E000000#32 : EReal)) :
    k0_pay1 (iblk m c 0 t) (iblk m c 1 t) (iblk m c 2 t) (ix2 i j)
      = (Cert.InProjRefIdeal.Read.val_main_v4 (F := Ideal) (m ((c : Thread nD τ).loc main_arg0)) (m ((c : Thread nD τ).loc main_arg1)) (m ((c : Thread nD τ).loc main_arg2)) (ix2 r j)
        * Ideal.ofBits .f32 0x3E000000#32 : EReal) := by
  refine (product _ _ _ i j).trans (Eq.trans ?_ (congrArg (fun z : EReal => z * Ideal.ofBits .f32 0x3E000000#32) (reference_at _ _ _ r j)).symm)
  refine Eq.trans ?_ ((scale_out (1 / 8) (by norm_num) _ _ _).trans (congrArg₂ (fun x z : EReal => x * z) rfl scale_f32.symm))
  refine congrArg₂ (· + ·) (Finset.sum_congr rfl fun k _ => congrArg₂ (· * ·) ?_ ?_) ?_
  · blk_ext [iblk, V, idx t, hr]
  · refine Eq.trans ?_ ((hw k).trans (congrArg₂ (fun x z : EReal => x * z) rfl scale_bf16))
    blk_simp [iblk, idx t]
    refine congrArg (V m c _) (?_ : _ = ix2 k j)
    blk_ext [idx t]
  · refine Eq.trans ?_ (hb.trans (congrArg₂ (fun x z : EReal => x * z) rfl scale_f32))
    blk_simp [iblk, idx t]
    refine congrArg (V m c _) (?_ : _ = ix2 0 j)
    blk_ext [idx t]

theorem point_left (a : Vec Ideal S512x1024 .f32) (u : Vec Ideal S1024x2560 .bf16) (d : Vec Ideal S1x2560 .f32) (i : Fin 512) (j : Fin 512) :
    out0_3 a u d (ix2 i j) = k0_pay1 a u d (ix2 i ⟨j.val, by omega⟩) := by
  frame_out
  pointwise [k0_pay2]

open Cert.InProjRefIdeal.Read in
theorem reference_left (x0 : S16384x1024.Idx → EReal) (x1 : S1024x2560.Idx → EReal) (x2 : S2560.Idx → EReal) (i : Fin 16384) (j : Fin 512) :
    val_main_v5 (F := Ideal) x0 x1 x2 (ix2 i j) = val_main_v4 (F := Ideal) x0 x1 x2 (ix2 i ⟨j.val, by omega⟩) := by
  pointwise [val_main_v5]

theorem array_left (c : Dev nD) : (dats m 0 c).arrAt 3 cfg0.N
    = Cert.InProjRefIdeal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have ht := point_lt t
  have hy : (y 0).val < 512 := (y 0).isLt
  have hz : (y 1).val < 512 := (y 1).isLt
  refine ((congrArg _ (by idx_ext : y = ix2 (y 0) (y 1))).trans (point_left _ _ _ (y 0) (y 1))).trans
    ((plain m c t (y 0) ⟨(y 1).val, by omega⟩ ⟨t.val * 512 + (y 0).val, by omega⟩ rfl
        (fun k => W_left m c k (y 1)) (B_left m c (y 1))).trans
      ((reference_left _ _ _ _ (y 1)).symm.trans (congrArg _ (by blk_ext [idx t]))))

theorem W_last (c : Dev nD) (k : Fin 1024) (j : Fin 512) : V m c main_v5 (ix2 k ⟨2048 + j.val, by omega⟩)
    = W m c (ix2 k ⟨2048 + j.val, by omega⟩) := by
  have e : (⟨2048 + j.val, by omega⟩ : Fin 2560) = ⟨1024 + (1024 + j.val), by omega⟩ := Fin.ext (by dsimp only; omega)
  rw [e]
  exact W_right m c k ⟨1024 + j.val, by omega⟩

theorem B_last (c : Dev nD) (j : Fin 512) : V m c main_v12 (ix2 0 ⟨2048 + j.val, by omega⟩)
    = B m c (ix1 ⟨2048 + j.val, by omega⟩) := by
  have e : (⟨2048 + j.val, by omega⟩ : Fin 2560) = ⟨1024 + (1024 + j.val), by omega⟩ := Fin.ext (by dsimp only; omega)
  rw [e]
  exact B_right m c ⟨1024 + j.val, by omega⟩

theorem point_right (a : Vec Ideal S512x1024 .f32) (u : Vec Ideal S1024x2560 .bf16) (d : Vec Ideal S1x2560 .f32) (i : Fin 512) (j : Fin 512) :
    out0_5 a u d (ix2 i j) = k0_pay1 a u d (ix2 i ⟨2048 + j.val, by omega⟩) := by
  frame_out
  pointwise [k0_pay4]

open Cert.InProjRefIdeal.Read in
theorem reference_right (x0 : S16384x1024.Idx → EReal) (x1 : S1024x2560.Idx → EReal) (x2 : S2560.Idx → EReal) (i : Fin 16384) (j : Fin 512) :
    val_main_v9 (F := Ideal) x0 x1 x2 (ix2 i j) = val_main_v4 (F := Ideal) x0 x1 x2 (ix2 i ⟨2048 + j.val, by omega⟩) := by
  pointwise [val_main_v9]

theorem array_right (c : Dev nD) : (dats m 0 c).arrAt 5 cfg0.N
    = Cert.InProjRefIdeal.Read.val_main_v9 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  have ht := point_lt t
  have hy : (y 0).val < 512 := (y 0).isLt
  have hz : (y 1).val < 512 := (y 1).isLt
  refine ((congrArg _ (by idx_ext : y = ix2 (y 0) (y 1))).trans (point_right _ _ _ (y 0) (y 1))).trans
    ((plain m c t (y 0) ⟨2048 + (y 1).val, by omega⟩ ⟨t.val * 512 + (y 0).val, by omega⟩ rfl
        (fun k => W_last m c k (y 1)) (B_last m c (y 1))).trans
      ((reference_right _ _ _ _ (y 1)).symm.trans (congrArg _ (by blk_ext [idx t]))))

theorem point_middle (a : Vec Ideal S512x1024 .f32) (u : Vec Ideal S1024x2560 .bf16) (d : Vec Ideal S1x2560 .f32) (i : Fin 512) (j : Fin 1536) :
    out0_4 a u d (ix2 i j) = k0_pay1 a u d (ix2 i ⟨512 + j.val, by omega⟩) := by
  frame_out
  pointwise [k0_pay3]

open Cert.InProjRefIdeal.Read in
theorem reference_query (x0 : S16384x1024.Idx → EReal) (x1 : S1024x2560.Idx → EReal) (x2 : S2560.Idx → EReal) (i : Fin 16384) (j : Fin 1536) (hj : j.val < 512) :
    val_main_v12 (F := Ideal) x0 x1 x2 (ix2 i j)
      = (val_main_v4 (F := Ideal) x0 x1 x2 (ix2 i ⟨512 + j.val, by omega⟩) * Ideal.ofBits .f32 0x3E000000#32 : EReal) := by
  pointwise [val_main_v12, val_main_v11, val_main_v10, val_main_v8, val_main_v7, val_main_v6, val_main_cst]
  rw [dif_pos hj]

open Cert.InProjRefIdeal.Read in
theorem reference_rest (x0 : S16384x1024.Idx → EReal) (x1 : S1024x2560.Idx → EReal) (x2 : S2560.Idx → EReal) (i : Fin 16384) (j : Fin 1536) (hj : ¬j.val < 512) :
    val_main_v12 (F := Ideal) x0 x1 x2 (ix2 i j) = val_main_v4 (F := Ideal) x0 x1 x2 (ix2 i ⟨512 + j.val, by omega⟩) := by
  pointwise [val_main_v12, val_main_v11, val_main_v10, val_main_v8, val_main_v7, val_main_v6, val_main_cst]
  rw [dif_neg hj]
  have h := j.isLt
  split_ifs <;> first | omega | exact congrArg _ (by idx_ext)

theorem array_middle (c : Dev nD) : (dats m 0 c).arrAt 4 cfg0.N
    = Cert.InProjRefIdeal.Read.val_main_v12 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  have ht := point_lt t
  have hy : (y 0).val < 512 := (y 0).isLt
  have hz : (y 1).val < 1536 := (y 1).isLt
  refine ((congrArg _ (by idx_ext : y = ix2 (y 0) (y 1))).trans (point_middle _ _ _ (y 0) (y 1))).trans ?_
  by_cases hj : (y 1).val < 512
  · exact (scaled m c t (y 0) ⟨512 + (y 1).val, by omega⟩ ⟨t.val * 512 + (y 0).val, by omega⟩ rfl
      (fun k => W_query m c k ⟨(y 1).val, hj⟩) (B_query m c ⟨(y 1).val, hj⟩)).trans
      ((reference_query _ _ _ _ (y 1) hj).symm.trans (congrArg _ (by blk_ext [idx t])))
  · have e : (⟨512 + (y 1).val, by omega⟩ : Fin 2560) = ⟨1024 + ((y 1).val - 512), by omega⟩ := Fin.ext (by dsimp only; omega)
    exact (plain m c t (y 0) ⟨512 + (y 1).val, by omega⟩ ⟨t.val * 512 + (y 0).val, by omega⟩ rfl
      (fun k => by rw [e]; exact W_right m c k ⟨(y 1).val - 512, by omega⟩) (by rw [e]; exact B_right m c ⟨(y 1).val - 512, by omega⟩)).trans
      ((reference_rest _ _ _ _ (y 1) hj).symm.trans (congrArg _ (by blk_ext [idx t])))

end Cert.InProjIdeal.Point

end
-- ==== Proof.OutProj.lean ====
/- The output projection of the three branches, the residual and the layer norm, index by index, as the reference's value of the same arguments. -/
module

public import Idealize.ShloMosaic.Lib.Pipeline.ValueKit
public import Idealize.ShloMosaic.Lib.Claim
public import proofs.«01_k».proof.Proof.Norm
public import proofs.«01_k».proof.Proof.Gen.OutProjIdeal.Value
public import proofs.«01_k».proof.Proof.Gen.OutProjRefIdeal.Run
public import proofs.«01_k».proof.Proof.Gen.OutProjRefIdeal.Read

@[expose] public section

set_option maxRecDepth 16384

noncomputable section

namespace Cert.OutProjIdeal.Point

open Idealize.ShloMosaic Idealize.ShloMosaic.TcCoe Idealize.ShloMosaic.Tactic Idealize.SL.Sem
open Cert.OutProjIdeal Cert.OutProjIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![t.val, 0]
    ∧ win0_8.index t = ![0, 0] ∧ win0_9.index t = ![0, 0]
    ∧ win0_10.index t = ![t.val, 0] ∧ win0_11.index t = ![t.val, 0] ∧ win0_12.index t = ![t.val, 0] :=
  (by decide +kernel : ∀ t : Fin grid0.N, _)

theorem point_lt (t : Fin cfg0.N) : t.val < 32 := Nat.lt_of_lt_of_eq t.isLt (by decide +kernel : cfg0.N = 32)

/-- A row before the layer norm: the scaled residual, the three products and the bias. -/
def row (p : S512x256.Idx → EReal) (q : S512x512.Idx → EReal) (r : S512x256.Idx → EReal)
    (u : S256x1024.Idx → EReal) (v : S512x1024.Idx → EReal) (w : S256x1024.Idx → EReal)
    (d : S1x1024.Idx → EReal) (z : S512x1024.Idx → EReal) (i : Fin 512) (j : Fin 1024) : EReal :=
  Ideal.ofBits .f32 0x3FB504F3#32 * z (ix2 i j)
    + ((∑ k : Fin 256, p (ix2 i k) * u (ix2 k j)) + (∑ k : Fin 512, q (ix2 i k) * v (ix2 k j)) + (∑ k : Fin 256, r (ix2 i k) * w (ix2 k j)) + d (ix2 0 j))

theorem V_0 (c : Dev nD) (x : Fin 256) (y : Fin 1024) : V m c main_v0 (ix2 x y)
    = m ((c : Thread nD τ).loc main_arg3) (ix2 ⟨x.val, by omega⟩ y) := by
  unfold V
  simp only [hostOps0, List.flatten_cons, List.flatten_nil, List.cons_append, List.nil_append, List.append_nil]
  entry_read
  pointwise

theorem V_1 (c : Dev nD) (x : Fin 512) (y : Fin 1024) : V m c main_v1 (ix2 x y)
    = m ((c : Thread nD τ).loc main_arg3) (ix2 ⟨256 + x.val, by omega⟩ y) := by
  unfold V
  simp only [hostOps0, List.flatten_cons, List.flatten_nil, List.cons_append, List.nil_append, List.append_nil]
  entry_read
  pointwise

theorem V_2 (c : Dev nD) (x : Fin 256) (y : Fin 1024) : V m c main_v2 (ix2 x y)
    = m ((c : Thread nD τ).loc main_arg3) (ix2 ⟨768 + x.val, by omega⟩ y) := by
  unfold V
  simp only [hostOps0, List.flatten_cons, List.flatten_nil, List.cons_append, List.nil_append, List.append_nil]
  entry_read
  pointwise

theorem V_bias (c : Dev nD) (j : Fin 1024) : V m c main_v3 (ix2 0 j)
    = m ((c : Thread nD τ).loc main_arg4) (ix1 j) := by
  unfold V
  simp only [hostOps0, List.flatten_cons, List.flatten_nil, List.cons_append, List.nil_append, List.append_nil]
  entry_read
  pointwise

theorem V_g (c : Dev nD) (j : Fin 1024) : V m c main_v4 (ix2 0 j)
    = m ((c : Thread nD τ).loc main_arg6) (ix1 j) := by
  unfold V
  simp only [hostOps0, List.flatten_cons, List.flatten_nil, List.cons_append, List.nil_append, List.append_nil]
  entry_read
  pointwise

theorem V_b (c : Dev nD) (j : Fin 1024) : V m c main_v5 (ix2 0 j)
    = m ((c : Thread nD τ).loc main_arg7) (ix1 j) := by
  unfold V
  simp only [hostOps0, List.flatten_cons, List.flatten_nil, List.cons_append, List.nil_append, List.append_nil]
  entry_read
  pointwise

/-- A sum over 1024 terms, in runs of 256, 512 and 256. -/
theorem sum_three (f : Fin 1024 → EReal) : ∑ k, f k
    = (∑ k : Fin 256, f ⟨k.val, by omega⟩) + (∑ k : Fin 512, f ⟨256 + k.val, by omega⟩) + (∑ k : Fin 256, f ⟨768 + k.val, by omega⟩) :=
  (Fin.sum_univ_add (a := 768) (b := 256) f).trans (congrArg (· + _) (Fin.sum_univ_add (a := 256) (b := 512) _))

open Cert.OutProjRefIdeal.Read in
theorem reference_row (x0 : S16384x256.Idx → EReal) (x1 : S16384x512.Idx → EReal) (x2 : S16384x256.Idx → EReal) (x3 : S1024x1024.Idx → EReal) (x4 : S1024.Idx → EReal)
    (x5 : S16384x1024.Idx → EReal) (i : Fin 16384) (j : Fin 1024) :
    val_main_v10 (F := Ideal) x0 x1 x2 x3 x4 x5 (ix2 i j)
      = Ideal.ofBits .f32 0x3FB504F3#32 * x5 (ix2 i j)
        + ((∑ k : Fin 256, x0 (ix2 i k) * x3 (ix2 ⟨k.val, by omega⟩ j)) + (∑ k : Fin 512, x1 (ix2 i k) * x3 (ix2 ⟨256 + k.val, by omega⟩ j))
          + (∑ k : Fin 256, x2 (ix2 i k) * x3 (ix2 ⟨768 + k.val, by omega⟩ j)) + x4 (ix1 j)) := by
  pointwise [val_main_v10, val_main_v9, val_main_v8, val_main_v7, val_main_v6, val_main_v5, val_main_v4, val_main_v3, val_main_v2, val_main_v1,
    val_main_v0, val_main_cst]
  refine congrArg (_ + ·) (congrArg (· + _) ((sum_three _).trans ?_))
  refine congrArg₂ (· + ·) (congrArg₂ (· + ·) ?_ ?_) ?_ <;>
    refine Finset.sum_congr rfl fun k _ => congrArg (· * _) ?_
  all_goals
    have hk := k.isLt
    dsimp only
    split_ifs <;> first | omega | exact congrArg _ (by idx_ext)

theorem centred_at (p : Vec Ideal S512x256 .bf16) (q : Vec Ideal S512x512 .f32) (r : Vec Ideal S512x256 .bf16) (u : Vec Ideal S256x1024 .bf16)
    (v : Vec Ideal S512x1024 .bf16) (w : Vec Ideal S256x1024 .bf16) (d : Vec Ideal S1x1024 .f32) (z : Vec Ideal S512x1024 .f32) (i : Fin 512) (j : Fin 1024) :
    k0_pay4 p u q v r w d z (ix2 i j) = Norm.centred (row p q r u v w d z i) j := by
  unfold Norm.centred Norm.mean row
  pointwise [k0_pay4]

theorem point_out (p : Vec Ideal S512x256 .bf16) (q : Vec Ideal S512x512 .f32) (r : Vec Ideal S512x256 .bf16) (u : Vec Ideal S256x1024 .bf16)
    (v : Vec Ideal S512x1024 .bf16) (w : Vec Ideal S256x1024 .bf16) (d : Vec Ideal S1x1024 .f32) (z : Vec Ideal S512x1024 .f32) (g b : Vec Ideal S1x1024 .f32) (i : Fin 512) (j : Fin 1024) :
    out0_10 p q r u v w d z g b (ix2 i j) = Norm.unit (row p q r u v w d z i) j * g (ix2 0 j) + b (ix2 0 j) := by
  unfold Norm.unit Norm.scale
  unfold_out out0_10
  frame_out
  pointwise [k0_pay1, k0_pay2, k0_pay3, k0_pay5]
  simp only [centred_at]

theorem point_unit (p : Vec Ideal S512x256 .bf16) (q : Vec Ideal S512x512 .f32) (r : Vec Ideal S512x256 .bf16) (u : Vec Ideal S256x1024 .bf16)
    (v : Vec Ideal S512x1024 .bf16) (w : Vec Ideal S256x1024 .bf16) (d : Vec Ideal S1x1024 .f32) (z : Vec Ideal S512x1024 .f32) (g b : Vec Ideal S1x1024 .f32) (i : Fin 512) (j : Fin 1024) :
    out0_11 p q r u v w d z g b (ix2 i j) = Norm.unit (row p q r u v w d z i) j := by
  unfold Norm.unit Norm.scale
  unfold_out out0_11
  frame_out
  pointwise [k0_pay1, k0_pay2, k0_pay3, k0_pay5]
  simp only [centred_at]

theorem point_scale (p : Vec Ideal S512x256 .bf16) (q : Vec Ideal S512x512 .f32) (r : Vec Ideal S512x256 .bf16) (u : Vec Ideal S256x1024 .bf16)
    (v : Vec Ideal S512x1024 .bf16) (w : Vec Ideal S256x1024 .bf16) (d : Vec Ideal S1x1024 .f32) (z : Vec Ideal S512x1024 .f32) (g b : Vec Ideal S1x1024 .f32) (i : Fin 512) (j : Fin 1) :
    out0_12 p q r u v w d z g b (ix2 i j) = Norm.scale (row p q r u v w d z i) := by
  unfold Norm.scale
  unfold_out out0_12
  frame_out
  pointwise [k0_pay1, k0_pay2, k0_pay3, k0_pay5]
  simp only [centred_at]

open Cert.OutProjRefIdeal.Read in
theorem reference_scale (x0 : S16384x256.Idx → EReal) (x1 : S16384x512.Idx → EReal) (x2 : S16384x256.Idx → EReal) (x3 : S1024x1024.Idx → EReal) (x4 : S1024.Idx → EReal)
    (x5 : S16384x1024.Idx → EReal) (i : Fin 16384) (j : Fin 1) :
    val_main_v24 (F := Ideal) x0 x1 x2 x3 x4 x5 (ix2 i j) = Norm.scale fun k => val_main_v10 (F := Ideal) x0 x1 x2 x3 x4 x5 (ix2 i k) := by
  unfold Norm.scale Norm.centred Norm.mean
  pointwise [val_main_v24, val_main_v23, val_main_v22, val_main_v21, val_main_v20, val_main_v19, val_main_v18, val_main_v17, val_main_v16, val_main_v15, val_main_v14, val_main_v13, val_main_v12, val_main_v11, val_main_cst_0, val_main_cst_1, val_main_cst_2, val_main_cst_3, val_main_cst_4]

open Cert.OutProjRefIdeal.Read in
theorem reference_unit (x0 : S16384x256.Idx → EReal) (x1 : S16384x512.Idx → EReal) (x2 : S16384x256.Idx → EReal) (x3 : S1024x1024.Idx → EReal) (x4 : S1024.Idx → EReal)
    (x5 : S16384x1024.Idx → EReal) (i : Fin 16384) (j : Fin 1024) :
    val_main_v28 (F := Ideal) x0 x1 x2 x3 x4 x5 (ix2 i j) = Norm.unit (fun k => val_main_v10 (F := Ideal) x0 x1 x2 x3 x4 x5 (ix2 i k)) j := by
  unfold Norm.unit Norm.scale Norm.centred Norm.mean
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_cst_0, val_main_cst_1, val_main_cst_2, val_main_cst_3, val_main_cst_4]

open Cert.OutProjRefIdeal.Read in
theorem reference_out (x0 : S16384x256.Idx → EReal) (x1 : S16384x512.Idx → EReal) (x2 : S16384x256.Idx → EReal) (x3 : S1024x1024.Idx → EReal) (x4 : S1024.Idx → EReal)
    (x5 : S16384x1024.Idx → EReal) (x6 x7 : S1024.Idx → EReal) (i : Fin 16384) (j : Fin 1024) :
    val_main_v34 (F := Ideal) x0 x1 x2 x3 x4 x5 x6 x7 (ix2 i j)
      = val_main_v28 (F := Ideal) x0 x1 x2 x3 x4 x5 (ix2 i j) * x6 (ix1 j) + x7 (ix1 j) := by
  pointwise [val_main_v34, val_main_v33, val_main_v32, val_main_v31, val_main_v30, val_main_v29]

/-- A grid point's row is the reference's row of the whole array. -/
theorem row_block (c : Dev nD) (t : Fin cfg0.N) (i : Fin 512) (r : Fin 16384) (hr : r.val = t.val * 512 + i.val) :
    row (iblk m c 0 t) (iblk m c 1 t) (iblk m c 2 t) (iblk m c 3 t) (iblk m c 4 t) (iblk m c 5 t) (iblk m c 6 t) (iblk m c 7 t) i = fun k => Cert.OutProjRefIdeal.Read.val_main_v10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r k) := by
  funext j
  refine Eq.trans ?_ (reference_row _ _ _ _ _ _ r j).symm
  unfold row
  refine congrArg₂ (· + ·) (congrArg (_ * ·) ?_) (congrArg₂ (· + ·) (congrArg₂ (· + ·) (congrArg₂ (· + ·)
    (Finset.sum_congr rfl fun k _ => congrArg₂ (· * ·) ?_ ?_) (Finset.sum_congr rfl fun k _ => congrArg₂ (· * ·) ?_ ?_))
    (Finset.sum_congr rfl fun k _ => congrArg₂ (· * ·) ?_ ?_)) ?_)
  · blk_ext [iblk, V, idx t, hr]
  · blk_ext [iblk, V, idx t, hr]
  · blk_simp [iblk, idx t]
    refine (congrArg (V m c _) (?_ : _ = ix2 k j)).trans (V_0 m c k j)
    blk_ext [idx t]
  · blk_ext [iblk, V, idx t, hr]
  · blk_simp [iblk, idx t]
    refine (congrArg (V m c _) (?_ : _ = ix2 k j)).trans (V_1 m c k j)
    blk_ext [idx t]
  · blk_ext [iblk, V, idx t, hr]
  · blk_simp [iblk, idx t]
    refine (congrArg (V m c _) (?_ : _ = ix2 k j)).trans (V_2 m c k j)
    blk_ext [idx t]
  · blk_simp [iblk, idx t]
    refine (congrArg (V m c _) (?_ : _ = ix2 0 j)).trans (V_bias m c j)
    blk_ext [idx t]

theorem array_out (c : Dev nD) : (dats m 0 c).arrAt 10 cfg0.N
    = Cert.OutProjRefIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t hf y => ?_
  blk_simp
  rw [after0_10]
  have ht := point_lt t
  have hy : (y 0).val < 512 := (y 0).isLt
  have e := row_block m c t (y 0) ⟨t.val * 512 + (y 0).val, by omega⟩ rfl
  refine ((congrArg _ (by idx_ext : y = ix2 (y 0) (y 1))).trans (point_out _ _ _ _ _ _ _ _ _ _ (y 0) (y 1))).trans ?_
  refine Eq.trans ?_ ((reference_out _ _ _ _ _ _ _ _ ⟨t.val * 512 + (y 0).val, by omega⟩ (y 1)).symm.trans (congrArg _ (by blk_ext [idx t])))
  refine congrArg₂ (· + ·) (congrArg₂ (· * ·) ((congrArg (Norm.unit · (y 1)) e).trans (reference_unit _ _ _ _ _ _ _ (y 1)).symm) ?_) ?_
  · blk_simp [iblk, idx t]
    refine (congrArg (V m c _) (?_ : _ = ix2 0 (y 1))).trans (V_g m c (y 1))
    blk_ext [idx t]
  · blk_simp [iblk, idx t]
    refine (congrArg (V m c _) (?_ : _ = ix2 0 (y 1))).trans (V_b m c (y 1))
    blk_ext [idx t]

theorem array_unit (c : Dev nD) : (dats m 0 c).arrAt 11 cfg0.N
    = Cert.OutProjRefIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t hf y => ?_
  blk_simp
  rw [after0_11]
  have ht := point_lt t
  have hy : (y 0).val < 512 := (y 0).isLt
  have e := row_block m c t (y 0) ⟨t.val * 512 + (y 0).val, by omega⟩ rfl
  refine ((congrArg _ (by idx_ext : y = ix2 (y 0) (y 1))).trans (point_unit _ _ _ _ _ _ _ _ _ _ (y 0) (y 1))).trans ?_
  refine (congrArg (Norm.unit · (y 1)) e).trans ((reference_unit _ _ _ _ _ _ _ (y 1)).symm.trans (congrArg _ (by blk_ext [idx t])))

theorem array_scale (c : Dev nD) : (dats m 0 c).arrAt 12 cfg0.N
    = Cert.OutProjRefIdeal.Read.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 12 _ (by decide +kernel) fun t hf y => ?_
  blk_simp
  rw [after0_12]
  have ht := point_lt t
  have hy : (y 0).val < 512 := (y 0).isLt
  have e := row_block m c t (y 0) ⟨t.val * 512 + (y 0).val, by omega⟩ rfl
  refine ((congrArg _ (by idx_ext : y = ix2 (y 0) (y 1))).trans (point_scale _ _ _ _ _ _ _ _ _ _ (y 0) (y 1))).trans ?_
  refine (congrArg Norm.scale e).trans ((reference_scale _ _ _ _ _ _ _ (y 1)).symm.trans (congrArg _ (by blk_ext [idx t])))

end Cert.OutProjIdeal.Point

end
-- ==== Proof.Products.lean ====
/- The calls that multiply, forward and backward: each program's results are its reference's. -/
module

public import proofs.«01_k».proof.Defs
public import proofs.«01_k».proof.Proof.DwUp
public import proofs.«01_k».proof.Proof.DxUp
public import proofs.«01_k».proof.Proof.DwDown
public import proofs.«01_k».proof.Proof.DxDown
public import proofs.«01_k».proof.Proof.DwIn
public import proofs.«01_k».proof.Proof.DxIn
public import proofs.«01_k».proof.Proof.DwOutAttn
public import proofs.«01_k».proof.Proof.DwOutConv
public import proofs.«01_k».proof.Proof.DxOut
public import proofs.«01_k».proof.Proof.FfnUp
public import proofs.«01_k».proof.Proof.FfnDown
public import proofs.«01_k».proof.Proof.InProj
public import proofs.«01_k».proof.Proof.OutProj
public import Idealize.ShloMosaic.Adequacy
public import Idealize.ShloMosaic.Init

@[expose] public section

noncomputable section

namespace Cert.Proof

open Idealize.ShloMosaic Idealize.SL.Sem

open Cert.DwUpRefIdeal.Read Cert.DwUpIdeal.Point in
theorem dwUp : Cert.algebraic_DwUpIdeal_DwUpRefIdeal (hDwUpIdeal := Cert.DwUpIdeal.Gen.facts) (hDwUpRefIdeal := Cert.DwUpRefIdeal.Gen.facts) := by
  intro m g m' g' _ hagree
  refine ⟨_, (θ_run Cert.DwUpIdeal.defs _ _).mono (fun r h c => h c) (Cert.DwUpIdeal.Value.run_blocks m g),
    (θ_run Cert.DwUpRefIdeal.defs _ _).mono (fun r h c => ?_) (Cert.DwUpRefIdeal.Value.run m' g')⟩
  obtain ⟨a0, a1⟩ := hagree c
  obtain ⟨r0, rest⟩ := h c
  refine ⟨r0.trans ?_, rest⟩
  · exact (val_main_v4_eq _ _).trans ((congr (congrArg (val_main_v4 (F := Ideal)) a0) a1).trans (array m c).symm)

open Cert.DxUpRefIdeal.Read Cert.DxUpIdeal.Point in
theorem dxUp : Cert.algebraic_DxUpIdeal_DxUpRefIdeal (hDxUpIdeal := Cert.DxUpIdeal.Gen.facts) (hDxUpRefIdeal := Cert.DxUpRefIdeal.Gen.facts) := by
  intro m g m' g' _ hagree
  refine ⟨_, (θ_run Cert.DxUpIdeal.defs _ _).mono (fun r h c => h c) (Cert.DxUpIdeal.Value.run_blocks m g),
    (θ_run Cert.DxUpRefIdeal.defs _ _).mono (fun r h c => ?_) (Cert.DxUpRefIdeal.Value.run m' g')⟩
  obtain ⟨a0, a1, a2, a3⟩ := hagree c
  obtain ⟨r0, rest⟩ := h c
  refine ⟨r0.trans ?_, rest⟩
  · exact (val_main_v13_eq _ _ _ _).trans ((congr (congr (congr (congrArg (val_main_v13 (F := Ideal)) a0) a1) a2) a3).trans (array m c).symm)

open Cert.DwDownRefIdeal.Read Cert.DwDownIdeal.Point in
theorem dwDown : Cert.algebraic_DwDownIdeal_DwDownRefIdeal (hDwDownIdeal := Cert.DwDownIdeal.Gen.facts) (hDwDownRefIdeal := Cert.DwDownRefIdeal.Gen.facts) := by
  intro m g m' g' _ hagree
  refine ⟨_, (θ_run Cert.DwDownIdeal.defs _ _).mono (fun r h c => h c) (Cert.DwDownIdeal.Value.run_blocks m g),
    (θ_run Cert.DwDownRefIdeal.defs _ _).mono (fun r h c => ?_) (Cert.DwDownRefIdeal.Value.run m' g')⟩
  obtain ⟨a0, a1⟩ := hagree c
  obtain ⟨r0, rest⟩ := h c
  refine ⟨r0.trans ?_, rest⟩
  · exact (val_main_v4_eq _ _).trans ((congr (congrArg (val_main_v4 (F := Ideal)) a0) a1).trans (array m c).symm)

open Cert.DxDownRefIdeal.Read Cert.DxDownIdeal.Point in
theorem dxDown : Cert.algebraic_DxDownIdeal_DxDownRefIdeal (hDxDownIdeal := Cert.DxDownIdeal.Gen.facts) (hDxDownRefIdeal := Cert.DxDownRefIdeal.Gen.facts) := by
  intro m g m' g' _ hagree
  refine ⟨_, (θ_run Cert.DxDownIdeal.defs _ _).mono (fun r h c => h c) (Cert.DxDownIdeal.Value.run_blocks m g),
    (θ_run Cert.DxDownRefIdeal.defs _ _).mono (fun r h c => ?_) (Cert.DxDownRefIdeal.Value.run m' g')⟩
  obtain ⟨a0, a1⟩ := hagree c
  obtain ⟨r0, rest⟩ := h c
  refine ⟨r0.trans ?_, rest⟩
  · exact (val_main_v3_eq _ _).trans ((congr (congrArg (val_main_v3 (F := Ideal)) a0) a1).trans (array m c).symm)

set_option maxHeartbeats 1600000 in
open Cert.DwInRefIdeal.Read Cert.DwInIdeal.Point in
theorem dwIn : Cert.algebraic_DwInIdeal_DwInRefIdeal (hDwInIdeal := Cert.DwInIdeal.Gen.facts) (hDwInRefIdeal := Cert.DwInRefIdeal.Gen.facts) := by
  intro m g m' g' _ hagree
  refine ⟨fun c => (Cert.DwInIdeal.Gen.dats m 0 c).arrAt 6 Cert.DwInIdeal.cfg0.N, fun c => (Cert.DwInIdeal.Gen.dats m 0 c).arrAt 8 Cert.DwInIdeal.cfg0.N, fun c => (Cert.DwInIdeal.Gen.dats m 0 c).arrAt 10 Cert.DwInIdeal.cfg0.N, fun c => (Cert.DwInIdeal.Gen.dats m 0 c).arrAt 12 Cert.DwInIdeal.cfg0.N, fun c => (Cert.DwInIdeal.Gen.dats m 0 c).arrAt 14 Cert.DwInIdeal.cfg0.N, fun c => (Cert.DwInIdeal.Gen.dats m 0 c).arrAt 7 Cert.DwInIdeal.cfg0.N, fun c => (Cert.DwInIdeal.Gen.dats m 0 c).arrAt 9 Cert.DwInIdeal.cfg0.N, fun c => (Cert.DwInIdeal.Gen.dats m 0 c).arrAt 11 Cert.DwInIdeal.cfg0.N, fun c => (Cert.DwInIdeal.Gen.dats m 0 c).arrAt 13 Cert.DwInIdeal.cfg0.N, fun c => (Cert.DwInIdeal.Gen.dats m 0 c).arrAt 15 Cert.DwInIdeal.cfg0.N, (θ_run Cert.DwInIdeal.defs _ _).mono (fun r h c => ?_) (Cert.DwInIdeal.Value.run_blocks m g),
    (θ_run Cert.DwInRefIdeal.defs _ _).mono (fun r h c => ?_) (Cert.DwInRefIdeal.Value.run m' g')⟩
  · obtain ⟨r0, r1, r2, r3, r4, r5, r6, r7, r8, r9, rest⟩ := h c
    exact ⟨r0, r2, r4, r6, r8, r1, r3, r5, r7, r9, rest⟩
  obtain ⟨a0, a1, a2, a3, a4, a5⟩ := hagree c
  obtain ⟨r0, r1, r2, r3, r4, r5, r6, r7, r8, r9, rest⟩ := h c
  refine ⟨r0.trans ?_, r1.trans ?_, r2.trans ?_, r3.trans ?_, r4.trans ?_, r5.trans ?_, r6.trans ?_, r7.trans ?_, r8.trans ?_, r9.trans ?_, rest⟩
  · exact (val_main_v20_eq _ _ _ _ _ _).trans ((congr (congr (congr (congr (congr (congrArg (val_main_v20 (F := Ideal)) a0) a1) a2) a3) a4) a5).trans (array_w0 m c).symm)
  · exact (val_main_v21_eq _ _ _ _ _ _).trans ((congr (congr (congr (congr (congr (congrArg (val_main_v21 (F := Ideal)) a0) a1) a2) a3) a4) a5).trans (array_w1 m c).symm)
  · exact (val_main_v22_eq _ _ _ _ _ _).trans ((congr (congr (congr (congr (congr (congrArg (val_main_v22 (F := Ideal)) a0) a1) a2) a3) a4) a5).trans (array_w2 m c).symm)
  · exact (val_main_v23_eq _ _ _ _ _ _).trans ((congr (congr (congr (congr (congr (congrArg (val_main_v23 (F := Ideal)) a0) a1) a2) a3) a4) a5).trans (array_w3 m c).symm)
  · exact (val_main_v24_eq _ _ _ _ _ _).trans ((congr (congr (congr (congr (congr (congrArg (val_main_v24 (F := Ideal)) a0) a1) a2) a3) a4) a5).trans (array_w4 m c).symm)
  · exact (val_main_v25_eq _ _ _ _ _).trans ((congr (congr (congr (congr (congrArg (val_main_v25 (F := Ideal)) a1) a2) a3) a4) a5).trans (array_c0 m c).symm)
  · exact (val_main_v26_eq _ _ _ _ _).trans ((congr (congr (congr (congr (congrArg (val_main_v26 (F := Ideal)) a1) a2) a3) a4) a5).trans (array_c1 m c).symm)
  · exact (val_main_v27_eq _ _ _ _ _).trans ((congr (congr (congr (congr (congrArg (val_main_v27 (F := Ideal)) a1) a2) a3) a4) a5).trans (array_c2 m c).symm)
  · exact (val_main_v28_eq _ _ _ _ _).trans ((congr (congr (congr (congr (congrArg (val_main_v28 (F := Ideal)) a1) a2) a3) a4) a5).trans (array_c3 m c).symm)
  · exact (val_main_v29_eq _ _ _ _ _).trans ((congr (congr (congr (congr (congrArg (val_main_v29 (F := Ideal)) a1) a2) a3) a4) a5).trans (array_c4 m c).symm)

open Cert.DxInRefIdeal.Read Cert.DxInIdeal.Point in
theorem dxIn : Cert.algebraic_DxInIdeal_DxInRefIdeal (hDxInIdeal := Cert.DxInIdeal.Gen.facts) (hDxInRefIdeal := Cert.DxInRefIdeal.Gen.facts) := by
  intro m g m' g' _ hagree
  refine ⟨_, (θ_run Cert.DxInIdeal.defs _ _).mono (fun r h c => h c) (Cert.DxInIdeal.Value.run_blocks m g),
    (θ_run Cert.DxInRefIdeal.defs _ _).mono (fun r h c => ?_) (Cert.DxInRefIdeal.Value.run m' g')⟩
  obtain ⟨a0, a1, a2, a3, a4, a5, a6⟩ := hagree c
  obtain ⟨r0, rest⟩ := h c
  refine ⟨r0.trans ?_, rest⟩
  · exact (val_main_v19_eq _ _ _ _ _ _ _).trans ((congr (congr (congr (congr (congr (congr (congrArg (val_main_v19 (F := Ideal)) a0) a1) a2) a3) a4) a5) a6).trans (array m c).symm)

open Cert.DwOutAttnRefIdeal.Read Cert.DwOutAttnIdeal.Point in
theorem dwOutAttn : Cert.algebraic_DwOutAttnIdeal_DwOutAttnRefIdeal (hDwOutAttnIdeal := Cert.DwOutAttnIdeal.Gen.facts) (hDwOutAttnRefIdeal := Cert.DwOutAttnRefIdeal.Gen.facts) := by
  intro m g m' g' _ hagree
  refine ⟨_, (θ_run Cert.DwOutAttnIdeal.defs _ _).mono (fun r h c => h c) (Cert.DwOutAttnIdeal.Value.run_blocks m g),
    (θ_run Cert.DwOutAttnRefIdeal.defs _ _).mono (fun r h c => ?_) (Cert.DwOutAttnRefIdeal.Value.run m' g')⟩
  obtain ⟨a0, a1⟩ := hagree c
  obtain ⟨r0, rest⟩ := h c
  refine ⟨r0.trans ?_, rest⟩
  · exact (val_main_v3_eq _ _).trans ((congr (congrArg (val_main_v3 (F := Ideal)) a0) a1).trans (array m c).symm)

open Cert.DwOutConvRefIdeal.Read Cert.DwOutConvIdeal.Point in
theorem dwOutConv : Cert.algebraic_DwOutConvIdeal_DwOutConvRefIdeal (hDwOutConvIdeal := Cert.DwOutConvIdeal.Gen.facts) (hDwOutConvRefIdeal := Cert.DwOutConvRefIdeal.Gen.facts) := by
  intro m g m' g' _ hagree
  refine ⟨_, (θ_run Cert.DwOutConvIdeal.defs _ _).mono (fun r h c => h c) (Cert.DwOutConvIdeal.Value.run_blocks m g),
    (θ_run Cert.DwOutConvRefIdeal.defs _ _).mono (fun r h c => ?_) (Cert.DwOutConvRefIdeal.Value.run m' g')⟩
  obtain ⟨a0, a1⟩ := hagree c
  obtain ⟨r0, rest⟩ := h c
  refine ⟨r0.trans ?_, rest⟩
  · exact (val_main_v4_eq _ _).trans ((congr (congrArg (val_main_v4 (F := Ideal)) a0) a1).trans (array m c).symm)

open Cert.DxOutRefIdeal.Read Cert.DxOutIdeal.Point in
theorem dxOut : Cert.algebraic_DxOutIdeal_DxOutRefIdeal (hDxOutIdeal := Cert.DxOutIdeal.Gen.facts) (hDxOutRefIdeal := Cert.DxOutRefIdeal.Gen.facts) := by
  intro m g m' g' _ hagree
  refine ⟨_, _, _, (θ_run Cert.DxOutIdeal.defs _ _).mono (fun r h c => h c) (Cert.DxOutIdeal.Value.run_blocks m g),
    (θ_run Cert.DxOutRefIdeal.defs _ _).mono (fun r h c => ?_) (Cert.DxOutRefIdeal.Value.run m' g')⟩
  obtain ⟨a0, a1⟩ := hagree c
  obtain ⟨r0, r1, r2, rest⟩ := h c
  refine ⟨r0.trans ?_, r1.trans ?_, r2.trans ?_, rest⟩
  · exact (val_main_v7_eq _ _).trans ((congr (congrArg (val_main_v7 (F := Ideal)) a0) a1).trans (array_conv m c).symm)
  · exact (val_main_v8_eq _ _).trans ((congr (congrArg (val_main_v8 (F := Ideal)) a0) a1).trans (array_attention m c).symm)
  · exact (val_main_v9_eq _ _).trans ((congr (congrArg (val_main_v9 (F := Ideal)) a0) a1).trans (array_memory m c).symm)

open Cert.FfnUpRefIdeal.Read Cert.FfnUpIdeal.Point in
theorem ffnUp : Cert.algebraic_FfnUpIdeal_FfnUpRefIdeal (hFfnUpIdeal := Cert.FfnUpIdeal.Gen.facts) (hFfnUpRefIdeal := Cert.FfnUpRefIdeal.Gen.facts) := by
  intro m g m' g' _ hagree
  refine ⟨_, (θ_run Cert.FfnUpIdeal.defs _ _).mono (fun r h c => h c) (Cert.FfnUpIdeal.Value.run_blocks m g),
    (θ_run Cert.FfnUpRefIdeal.defs _ _).mono (fun r h c => ?_) (Cert.FfnUpRefIdeal.Value.run m' g')⟩
  obtain ⟨a0, a1, a2⟩ := hagree c
  obtain ⟨r0, rest⟩ := h c
  refine ⟨r0.trans ?_, rest⟩
  · exact (val_main_v4_eq _ _ _).trans ((congr (congr (congrArg (val_main_v4 (F := Ideal)) a0) a1) a2).trans (array m c).symm)

open Cert.FfnDownRefIdeal.Read Cert.FfnDownIdeal.Point in
theorem ffnDown : Cert.algebraic_FfnDownIdeal_FfnDownRefIdeal (hFfnDownIdeal := Cert.FfnDownIdeal.Gen.facts) (hFfnDownRefIdeal := Cert.FfnDownRefIdeal.Gen.facts) := by
  intro m g m' g' _ hagree
  refine ⟨_, _, _, (θ_run Cert.FfnDownIdeal.defs _ _).mono (fun r h c => h c) (Cert.FfnDownIdeal.Value.run_blocks m g),
    (θ_run Cert.FfnDownRefIdeal.defs _ _).mono (fun r h c => ?_) (Cert.FfnDownRefIdeal.Value.run m' g')⟩
  obtain ⟨a0, a1, a2, a3, a4, a5⟩ := hagree c
  obtain ⟨r0, r1, r2, rest⟩ := h c
  refine ⟨r0.trans ?_, r1.trans ?_, r2.trans ?_, rest⟩
  · exact (val_main_v32_eq m' c).trans ((congr (congr (congr (congr (congr (congrArg (val_main_v32 (F := Ideal)) a0) a1) a2) a3) a4) a5).trans (array_out m c).symm)
  · exact (val_main_v26_eq m' c).trans ((congr (congr (congr (congrArg (val_main_v26 (F := Ideal)) a0) a1) a2) a3).trans (array_unit m c).symm)
  · exact (val_main_v22_eq _ _ _ _).trans ((congr (congr (congr (congrArg (val_main_v22 (F := Ideal)) a0) a1) a2) a3).trans (array_scale m c).symm)

open Cert.InProjRefIdeal.Read Cert.InProjIdeal.Point in
theorem inProj : Cert.algebraic_InProjIdeal_InProjRefIdeal (hInProjIdeal := Cert.InProjIdeal.Gen.facts) (hInProjRefIdeal := Cert.InProjRefIdeal.Gen.facts) := by
  intro m g m' g' _ hagree
  refine ⟨_, _, _, (θ_run Cert.InProjIdeal.defs _ _).mono (fun r h c => h c) (Cert.InProjIdeal.Value.run_blocks m g),
    (θ_run Cert.InProjRefIdeal.defs _ _).mono (fun r h c => ?_) (Cert.InProjRefIdeal.Value.run m' g')⟩
  obtain ⟨a0, a1, a2⟩ := hagree c
  obtain ⟨r0, r1, r2, rest⟩ := h c
  refine ⟨r0.trans ?_, r1.trans ?_, r2.trans ?_, rest⟩
  · exact (val_main_v5_eq _ _ _).trans ((congr (congr (congrArg (val_main_v5 (F := Ideal)) a0) a1) a2).trans (array_left m c).symm)
  · exact (val_main_v12_eq _ _ _).trans ((congr (congr (congrArg (val_main_v12 (F := Ideal)) a0) a1) a2).trans (array_middle m c).symm)
  · exact (val_main_v9_eq _ _ _).trans ((congr (congr (congrArg (val_main_v9 (F := Ideal)) a0) a1) a2).trans (array_right m c).symm)

open Cert.OutProjRefIdeal.Read Cert.OutProjIdeal.Point in
theorem outProj : Cert.algebraic_OutProjIdeal_OutProjRefIdeal (hOutProjIdeal := Cert.OutProjIdeal.Gen.facts) (hOutProjRefIdeal := Cert.OutProjRefIdeal.Gen.facts) := by
  intro m g m' g' _ hagree
  refine ⟨_, _, _, (θ_run Cert.OutProjIdeal.defs _ _).mono (fun r h c => h c) (Cert.OutProjIdeal.Value.run_blocks m g),
    (θ_run Cert.OutProjRefIdeal.defs _ _).mono (fun r h c => ?_) (Cert.OutProjRefIdeal.Value.run m' g')⟩
  obtain ⟨a0, a1, a2, a3, a4, a5, a6, a7⟩ := hagree c
  obtain ⟨r0, r1, r2, rest⟩ := h c
  refine ⟨r0.trans ?_, r1.trans ?_, r2.trans ?_, rest⟩
  · exact (val_main_v34_eq m' c).trans ((congr (congr (congr (congr (congr (congr (congr (congrArg (val_main_v34 (F := Ideal)) a0) a1) a2) a3) a4) a5) a6) a7).trans (array_out m c).symm)
  · exact (val_main_v28_eq m' c).trans ((congr (congr (congr (congr (congr (congrArg (val_main_v28 (F := Ideal)) a0) a1) a2) a3) a4) a5).trans (array_unit m c).symm)
  · exact (val_main_v24_eq m' c).trans ((congr (congr (congr (congr (congr (congrArg (val_main_v24 (F := Ideal)) a0) a1) a2) a3) a4) a5).trans (array_scale m c).symm)

end Cert.Proof

end
-- ==== Proof.Update.lean ====
/- One step of the optimiser on one weight: the running means and the change of the weight, from the summed gradient. -/
module

public import Idealize.ShloMosaic.Lib.Pipeline.ValueKit

@[expose] public section

noncomputable section

namespace Cert.Update

open Idealize.ShloMosaic

/-- The running mean of the gradient. -/
def mean (m g : EReal) : EReal := Ideal.ofBits .f32 0x3F666666#32 * m + Ideal.ofBits .f32 0x3DCCCCCD#32 * g

/-- The running mean of the gradient's square. -/
def square (v g : EReal) : EReal := Ideal.ofBits .f32 0x3F7FBE77#32 * v + Ideal.ofBits .f32 0x3A83126F#32 * (g * g)

/-- The change of the weight: the corrected mean over the root of the corrected square, and the decay. -/
def change (w m v g : EReal) : EReal :=
  Ideal.ofBits .f32 0xBA83126F#32
    * (Ideal.div (Ideal.div (mean m g) (Ideal.ofBits .f32 0x3F26BD02#32))
        (Ideal.sqrt (Ideal.div (square v g) (Ideal.ofBits .f32 0x3C231ACC#32)) + Ideal.ofBits .f32 0x322BCC77#32)
      + Ideal.ofBits .f32 0x3C23D70A#32 * w)

end Cert.Update

end
-- ==== Proof.AdamIn.lean ====
/- The optimiser step of the sharded input projection, index by index, as the reference's value of the same arguments. -/
module

public import Idealize.ShloMosaic.Lib.Pipeline.ValueKit
public import Idealize.ShloMosaic.Lib.Claim
public import proofs.«01_k».proof.Proof.Update
public import proofs.«01_k».proof.Proof.Gen.AdamInIdeal.Value
public import proofs.«01_k».proof.Proof.Gen.AdamInRefIdeal.Run
public import proofs.«01_k».proof.Proof.Gen.AdamInRefIdeal.Read

@[expose] public section

set_option maxRecDepth 16384

noncomputable section

namespace Cert.AdamInIdeal.Point

open Idealize.ShloMosaic Idealize.ShloMosaic.TcCoe Idealize.ShloMosaic.Tactic Idealize.SL.Sem
open Cert.AdamInIdeal Cert.AdamInIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem point_lt (t : Fin cfg0.N) : t.val < 4 := Nat.lt_of_lt_of_eq t.isLt (by decide +kernel : cfg0.N = 4)

theorem V_0 (c : Dev nD) (i : Fin 2048) (j : Fin 320) : V m c main_v0 (ix2 i j)
    = m ((c : Thread nD τ).loc main_arg0) (ix3 ⟨i.val / 1024, by omega⟩ ⟨i.val % 1024, by omega⟩ j) := by
  unfold V
  simp only [hostOps0, List.flatten_cons, List.flatten_nil, List.cons_append, List.nil_append, List.append_nil]
  entry_read
  pointwise

theorem V_1 (c : Dev nD) (i : Fin 2048) (j : Fin 320) : V m c main_v1 (ix2 i j)
    = m ((c : Thread nD τ).loc main_arg1) (ix3 ⟨i.val / 1024, by omega⟩ ⟨i.val % 1024, by omega⟩ j) := by
  unfold V
  simp only [hostOps0, List.flatten_cons, List.flatten_nil, List.cons_append, List.nil_append, List.append_nil]
  entry_read
  pointwise

theorem V_2 (c : Dev nD) (i : Fin 2048) (j : Fin 320) : V m c main_v2 (ix2 i j)
    = m ((c : Thread nD τ).loc main_arg2) (ix3 ⟨i.val / 1024, by omega⟩ ⟨i.val % 1024, by omega⟩ j) := by
  unfold V
  simp only [hostOps0, List.flatten_cons, List.flatten_nil, List.cons_append, List.nil_append, List.append_nil]
  entry_read
  pointwise

theorem point_gradient (w mo v : Vec Ideal S512x320 .f32) (p : Vec Ideal S8x512x320 .bf16) (i : Fin 512) (j : Fin 320) :
    out0_4 w mo v p (ix2 i j) = ((∑ s : Fin 8, p (ix3 s i j)) : EReal) := by
  rw [Fin.sum_univ_eight]
  frame_out
  pointwise [k0_pay6, k0_pay4, k0_pay5]

open Cert.AdamInRefIdeal.Read in
theorem reference_gradient (x3 : S8x2048x320.Idx → EReal) (i : Fin 2048) (j : Fin 320) :
    val_main_v27 (F := Ideal) x3 (ix2 i j)
      = (∑ s : Fin 8, x3 (ix3 s i j)) := by
  pointwise [val_main_v27, val_main_v2, val_main_v1, val_main_v0, val_main_cst]

theorem array_gradient (c : Dev nD) : (dats m 0 c).arrAt 4 cfg0.N
    = Cert.AdamInRefIdeal.Read.val_main_v27 (F := Ideal) (m ((c : Thread nD τ).loc main_arg3)) := by
  refine (dats m 0 c).arrAt_eq_of_covers 4 _ (by decide +kernel) fun t hf y => ?_
  blk_simp
  rw [after0_4]
  have ht := point_lt t
  have hy : (y 0).val < 512 := (y 0).isLt
  refine ((congrArg _ (by idx_ext : y = ix2 (y 0) (y 1))).trans (point_gradient _ _ _ _ (y 0) (y 1))).trans
    (Eq.trans ?_ ((reference_gradient _ ⟨t.val * 512 + (y 0).val, by omega⟩ (y 1)).symm.trans (congrArg _ (by blk_ext [idx t]))))
  refine Finset.sum_congr rfl fun s _ => ?_
  blk_ext [iblk, V, idx t]

theorem point_change (w mo v : Vec Ideal S512x320 .f32) (p : Vec Ideal S8x512x320 .bf16) (i : Fin 512) (j : Fin 320) :
    out0_5 w mo v p (ix2 i j) = (Update.change (w (ix2 i j)) (mo (ix2 i j)) (v (ix2 i j)) (∑ s : Fin 8, p (ix3 s i j)) : EReal) := by
  unfold Update.change Update.mean Update.square
  rw [Fin.sum_univ_eight]
  frame_out
  pointwise [k0_pay1, k0_pay2, k0_pay3, k0_pay6, k0_pay7, k0_pay4, k0_pay5]

open Cert.AdamInRefIdeal.Read in
theorem reference_change (x0 x1 x2 : S2x1024x320.Idx → EReal) (x3 : S8x2048x320.Idx → EReal) (i : Fin 2048) (j : Fin 320) :
    val_main_v28 (F := Ideal) x0 x1 x2 x3 (ix2 i j)
      = Update.change (x0 (ix3 ⟨i.val / 1024, by omega⟩ ⟨i.val % 1024, by omega⟩ j)) (x1 (ix3 ⟨i.val / 1024, by omega⟩ ⟨i.val % 1024, by omega⟩ j)) (x2 (ix3 ⟨i.val / 1024, by omega⟩ ⟨i.val % 1024, by omega⟩ j))
        (∑ s : Fin 8, x3 (ix3 s i j)) := by
  unfold Update.change Update.mean Update.square
  pointwise [val_main_v28, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

theorem array_change (c : Dev nD) : (dats m 0 c).arrAt 5 cfg0.N
    = Cert.AdamInRefIdeal.Read.val_main_v28 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have ht := point_lt t
  have hy : (y 0).val < 512 := (y 0).isLt
  refine ((congrArg _ (by idx_ext : y = ix2 (y 0) (y 1))).trans (point_change _ _ _ _ (y 0) (y 1))).trans
    (Eq.trans ?_ ((reference_change _ _ _ _ ⟨t.val * 512 + (y 0).val, by omega⟩ (y 1)).symm.trans (congrArg _ (by blk_ext [idx t]))))
  refine congr (congr (congr (congrArg Update.change ?_) ?_) ?_) ?_
  · blk_simp [iblk, idx t]
    refine (congrArg (V m c _) (?_ : _ = ix2 (⟨t.val * 512 + (y 0).val, by omega⟩ : Fin 2048) (y 1))).trans (V_0 m c _ _)
    blk_ext [idx t]
  · blk_simp [iblk, idx t]
    refine (congrArg (V m c _) (?_ : _ = ix2 (⟨t.val * 512 + (y 0).val, by omega⟩ : Fin 2048) (y 1))).trans (V_1 m c _ _)
    blk_ext [idx t]
  · blk_simp [iblk, idx t]
    refine (congrArg (V m c _) (?_ : _ = ix2 (⟨t.val * 512 + (y 0).val, by omega⟩ : Fin 2048) (y 1))).trans (V_2 m c _ _)
    blk_ext [idx t]
  · refine Finset.sum_congr rfl fun s _ => ?_
    blk_ext [iblk, V, idx t]

theorem point_mean (w mo v : Vec Ideal S512x320 .f32) (p : Vec Ideal S8x512x320 .bf16) (i : Fin 512) (j : Fin 320) :
    out0_6 w mo v p (ix2 i j) = (Update.mean (mo (ix2 i j)) (∑ s : Fin 8, p (ix3 s i j)) : EReal) := by
  unfold Update.mean
  rw [Fin.sum_univ_eight]
  frame_out
  pointwise [k0_pay1, k0_pay6, k0_pay7, k0_pay4, k0_pay5]

open Cert.AdamInRefIdeal.Read in
theorem reference_mean (x1 : S2x1024x320.Idx → EReal) (x3 : S8x2048x320.Idx → EReal) (i : Fin 2048) (j : Fin 320) :
    val_main_v29 (F := Ideal) x1 x3 (ix2 i j)
      = Update.mean (x1 (ix3 ⟨i.val / 1024, by omega⟩ ⟨i.val % 1024, by omega⟩ j)) (∑ s : Fin 8, x3 (ix3 s i j)) := by
  unfold Update.mean
  pointwise [val_main_v29, val_main_v7, val_main_v6, val_main_v5, val_main_v4, val_main_v3, val_main_v2, val_main_v1, val_main_v0, val_main_cst, val_main_cst_0, val_main_cst_1]

theorem array_mean (c : Dev nD) : (dats m 0 c).arrAt 6 cfg0.N
    = Cert.AdamInRefIdeal.Read.val_main_v29 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  have ht := point_lt t
  have hy : (y 0).val < 512 := (y 0).isLt
  refine ((congrArg _ (by idx_ext : y = ix2 (y 0) (y 1))).trans (point_mean _ _ _ _ (y 0) (y 1))).trans
    (Eq.trans ?_ ((reference_mean _ _ ⟨t.val * 512 + (y 0).val, by omega⟩ (y 1)).symm.trans (congrArg _ (by blk_ext [idx t]))))
  refine congrArg₂ Update.mean ?_ ?_
  · blk_simp [iblk, idx t]
    refine (congrArg (V m c _) (?_ : _ = ix2 (⟨t.val * 512 + (y 0).val, by omega⟩ : Fin 2048) (y 1))).trans (V_1 m c _ _)
    blk_ext [idx t]
  · refine Finset.sum_congr rfl fun s _ => ?_
    blk_ext [iblk, V, idx t]

theorem point_square (w mo v : Vec Ideal S512x320 .f32) (p : Vec Ideal S8x512x320 .bf16) (i : Fin 512) (j : Fin 320) :
    out0_7 w mo v p (ix2 i j) = (Update.square (v (ix2 i j)) (∑ s : Fin 8, p (ix3 s i j)) : EReal) := by
  unfold Update.square
  rw [Fin.sum_univ_eight]
  frame_out
  pointwise [k0_pay2, k0_pay6, k0_pay4, k0_pay5]

open Cert.AdamInRefIdeal.Read in
theorem reference_square (x2 : S2x1024x320.Idx → EReal) (x3 : S8x2048x320.Idx → EReal) (i : Fin 2048) (j : Fin 320) :
    val_main_v30 (F := Ideal) x2 x3 (ix2 i j)
      = Update.square (x2 (ix3 ⟨i.val / 1024, by omega⟩ ⟨i.val % 1024, by omega⟩ j)) (∑ s : Fin 8, x3 (ix3 s i j)) := by
  unfold Update.square
  pointwise [val_main_v30, val_main_v13, val_main_v12, val_main_v11, val_main_v10, val_main_v9, val_main_v8, val_main_v2, val_main_v1, val_main_v0, val_main_cst, val_main_cst_2, val_main_cst_3]

theorem array_square (c : Dev nD) : (dats m 0 c).arrAt 7 cfg0.N
    = Cert.AdamInRefIdeal.Read.val_main_v30 (F := Ideal) (m ((c : Thread nD τ).loc main_arg2)) (m ((c : Thread nD τ).loc main_arg3)) := by
  refine (dats m 0 c).arrAt_eq_of_covers 7 _ (by decide +kernel) fun t hf y => ?_
  blk_simp
  rw [after0_7]
  have ht := point_lt t
  have hy : (y 0).val < 512 := (y 0).isLt
  refine ((congrArg _ (by idx_ext : y = ix2 (y 0) (y 1))).trans (point_square _ _ _ _ (y 0) (y 1))).trans
    (Eq.trans ?_ ((reference_square _ _ ⟨t.val * 512 + (y 0).val, by omega⟩ (y 1)).symm.trans (congrArg _ (by blk_ext [idx t]))))
  refine congrArg₂ Update.square ?_ ?_
  · blk_simp [iblk, idx t]
    refine (congrArg (V m c _) (?_ : _ = ix2 (⟨t.val * 512 + (y 0).val, by omega⟩ : Fin 2048) (y 1))).trans (V_2 m c _ _)
    blk_ext [idx t]
  · refine Finset.sum_congr rfl fun s _ => ?_
    blk_ext [iblk, V, idx t]

end Cert.AdamInIdeal.Point

end
-- ==== Proof.AdamOut.lean ====
/- The optimiser step of the sharded output projection, index by index, as the reference's value of the same arguments. -/
module

public import Idealize.ShloMosaic.Lib.Pipeline.ValueKit
public import Idealize.ShloMosaic.Lib.Claim
public import proofs.«01_k».proof.Proof.Update
public import proofs.«01_k».proof.Proof.Gen.AdamOutIdeal.Value
public import proofs.«01_k».proof.Proof.Gen.AdamOutRefIdeal.Run
public import proofs.«01_k».proof.Proof.Gen.AdamOutRefIdeal.Read

@[expose] public section

set_option maxRecDepth 16384

noncomputable section

namespace Cert.AdamOutIdeal.Point

open Idealize.ShloMosaic Idealize.ShloMosaic.TcCoe Idealize.ShloMosaic.Tactic Idealize.SL.Sem
open Cert.AdamOutIdeal Cert.AdamOutIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem point_lt (t : Fin cfg0.N) : t.val < 4 := Nat.lt_of_lt_of_eq t.isLt (by decide +kernel : cfg0.N = 4)

theorem V_0 (c : Dev nD) (i : Fin 256) (j : Fin 1024) : V m c main_v0 (ix2 i j)
    = m ((c : Thread nD τ).loc main_arg0) (ix3 ⟨i.val / 128, by omega⟩ ⟨i.val % 128, by omega⟩ j) := by
  unfold V
  simp only [hostOps0, List.flatten_cons, List.flatten_nil, List.cons_append, List.nil_append, List.append_nil]
  entry_read
  pointwise

theorem V_1 (c : Dev nD) (i : Fin 256) (j : Fin 1024) : V m c main_v1 (ix2 i j)
    = m ((c : Thread nD τ).loc main_arg1) (ix3 ⟨i.val / 128, by omega⟩ ⟨i.val % 128, by omega⟩ j) := by
  unfold V
  simp only [hostOps0, List.flatten_cons, List.flatten_nil, List.cons_append, List.nil_append, List.append_nil]
  entry_read
  pointwise

theorem V_2 (c : Dev nD) (i : Fin 256) (j : Fin 1024) : V m c main_v2 (ix2 i j)
    = m ((c : Thread nD τ).loc main_arg2) (ix3 ⟨i.val / 128, by omega⟩ ⟨i.val % 128, by omega⟩ j) := by
  unfold V
  simp only [hostOps0, List.flatten_cons, List.flatten_nil, List.cons_append, List.nil_append, List.append_nil]
  entry_read
  pointwise

theorem point_gradient (w mo v : Vec Ideal S64x1024 .f32) (p : Vec Ideal S8x64x1024 .bf16) (i : Fin 64) (j : Fin 1024) :
    out0_4 w mo v p (ix2 i j) = ((∑ s : Fin 8, p (ix3 s i j)) : EReal) := by
  rw [Fin.sum_univ_eight]
  frame_out
  pointwise [k0_pay6, k0_pay4, k0_pay5]

open Cert.AdamOutRefIdeal.Read in
theorem reference_gradient (x3 : S8x256x1024.Idx → EReal) (i : Fin 256) (j : Fin 1024) :
    val_main_v27 (F := Ideal) x3 (ix2 i j)
      = (∑ s : Fin 8, x3 (ix3 s i j)) := by
  pointwise [val_main_v27, val_main_v2, val_main_v1, val_main_v0, val_main_cst]

theorem array_gradient (c : Dev nD) : (dats m 0 c).arrAt 4 cfg0.N
    = Cert.AdamOutRefIdeal.Read.val_main_v27 (F := Ideal) (m ((c : Thread nD τ).loc main_arg3)) := by
  refine (dats m 0 c).arrAt_eq_of_covers 4 _ (by decide +kernel) fun t hf y => ?_
  blk_simp
  rw [after0_4]
  have ht := point_lt t
  have hy : (y 0).val < 64 := (y 0).isLt
  refine ((congrArg _ (by idx_ext : y = ix2 (y 0) (y 1))).trans (point_gradient _ _ _ _ (y 0) (y 1))).trans
    (Eq.trans ?_ ((reference_gradient _ ⟨t.val * 64 + (y 0).val, by omega⟩ (y 1)).symm.trans (congrArg _ (by blk_ext [idx t]))))
  refine Finset.sum_congr rfl fun s _ => ?_
  blk_ext [iblk, V, idx t]

theorem point_change (w mo v : Vec Ideal S64x1024 .f32) (p : Vec Ideal S8x64x1024 .bf16) (i : Fin 64) (j : Fin 1024) :
    out0_5 w mo v p (ix2 i j) = (Update.change (w (ix2 i j)) (mo (ix2 i j)) (v (ix2 i j)) (∑ s : Fin 8, p (ix3 s i j)) : EReal) := by
  unfold Update.change Update.mean Update.square
  rw [Fin.sum_univ_eight]
  frame_out
  pointwise [k0_pay1, k0_pay2, k0_pay3, k0_pay6, k0_pay7, k0_pay4, k0_pay5]

open Cert.AdamOutRefIdeal.Read in
theorem reference_change (x0 x1 x2 : S2x128x1024.Idx → EReal) (x3 : S8x256x1024.Idx → EReal) (i : Fin 256) (j : Fin 1024) :
    val_main_v28 (F := Ideal) x0 x1 x2 x3 (ix2 i j)
      = Update.change (x0 (ix3 ⟨i.val / 128, by omega⟩ ⟨i.val % 128, by omega⟩ j)) (x1 (ix3 ⟨i.val / 128, by omega⟩ ⟨i.val % 128, by omega⟩ j)) (x2 (ix3 ⟨i.val / 128, by omega⟩ ⟨i.val % 128, by omega⟩ j))
        (∑ s : Fin 8, x3 (ix3 s i j)) := by
  unfold Update.change Update.mean Update.square
  pointwise [val_main_v28, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

theorem array_change (c : Dev nD) : (dats m 0 c).arrAt 5 cfg0.N
    = Cert.AdamOutRefIdeal.Read.val_main_v28 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have ht := point_lt t
  have hy : (y 0).val < 64 := (y 0).isLt
  refine ((congrArg _ (by idx_ext : y = ix2 (y 0) (y 1))).trans (point_change _ _ _ _ (y 0) (y 1))).trans
    (Eq.trans ?_ ((reference_change _ _ _ _ ⟨t.val * 64 + (y 0).val, by omega⟩ (y 1)).symm.trans (congrArg _ (by blk_ext [idx t]))))
  refine congr (congr (congr (congrArg Update.change ?_) ?_) ?_) ?_
  · blk_simp [iblk, idx t]
    refine (congrArg (V m c _) (?_ : _ = ix2 (⟨t.val * 64 + (y 0).val, by omega⟩ : Fin 256) (y 1))).trans (V_0 m c _ _)
    blk_ext [idx t]
  · blk_simp [iblk, idx t]
    refine (congrArg (V m c _) (?_ : _ = ix2 (⟨t.val * 64 + (y 0).val, by omega⟩ : Fin 256) (y 1))).trans (V_1 m c _ _)
    blk_ext [idx t]
  · blk_simp [iblk, idx t]
    refine (congrArg (V m c _) (?_ : _ = ix2 (⟨t.val * 64 + (y 0).val, by omega⟩ : Fin 256) (y 1))).trans (V_2 m c _ _)
    blk_ext [idx t]
  · refine Finset.sum_congr rfl fun s _ => ?_
    blk_ext [iblk, V, idx t]

theorem point_mean (w mo v : Vec Ideal S64x1024 .f32) (p : Vec Ideal S8x64x1024 .bf16) (i : Fin 64) (j : Fin 1024) :
    out0_6 w mo v p (ix2 i j) = (Update.mean (mo (ix2 i j)) (∑ s : Fin 8, p (ix3 s i j)) : EReal) := by
  unfold Update.mean
  rw [Fin.sum_univ_eight]
  frame_out
  pointwise [k0_pay1, k0_pay6, k0_pay7, k0_pay4, k0_pay5]

open Cert.AdamOutRefIdeal.Read in
theorem reference_mean (x1 : S2x128x1024.Idx → EReal) (x3 : S8x256x1024.Idx → EReal) (i : Fin 256) (j : Fin 1024) :
    val_main_v29 (F := Ideal) x1 x3 (ix2 i j)
      = Update.mean (x1 (ix3 ⟨i.val / 128, by omega⟩ ⟨i.val % 128, by omega⟩ j)) (∑ s : Fin 8, x3 (ix3 s i j)) := by
  unfold Update.mean
  pointwise [val_main_v29, val_main_v7, val_main_v6, val_main_v5, val_main_v4, val_main_v3, val_main_v2, val_main_v1, val_main_v0, val_main_cst, val_main_cst_0, val_main_cst_1]

theorem array_mean (c : Dev nD) : (dats m 0 c).arrAt 6 cfg0.N
    = Cert.AdamOutRefIdeal.Read.val_main_v29 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  have ht := point_lt t
  have hy : (y 0).val < 64 := (y 0).isLt
  refine ((congrArg _ (by idx_ext : y = ix2 (y 0) (y 1))).trans (point_mean _ _ _ _ (y 0) (y 1))).trans
    (Eq.trans ?_ ((reference_mean _ _ ⟨t.val * 64 + (y 0).val, by omega⟩ (y 1)).symm.trans (congrArg _ (by blk_ext [idx t]))))
  refine congrArg₂ Update.mean ?_ ?_
  · blk_simp [iblk, idx t]
    refine (congrArg (V m c _) (?_ : _ = ix2 (⟨t.val * 64 + (y 0).val, by omega⟩ : Fin 256) (y 1))).trans (V_1 m c _ _)
    blk_ext [idx t]
  · refine Finset.sum_congr rfl fun s _ => ?_
    blk_ext [iblk, V, idx t]

theorem point_square (w mo v : Vec Ideal S64x1024 .f32) (p : Vec Ideal S8x64x1024 .bf16) (i : Fin 64) (j : Fin 1024) :
    out0_7 w mo v p (ix2 i j) = (Update.square (v (ix2 i j)) (∑ s : Fin 8, p (ix3 s i j)) : EReal) := by
  unfold Update.square
  rw [Fin.sum_univ_eight]
  frame_out
  pointwise [k0_pay2, k0_pay6, k0_pay4, k0_pay5]

open Cert.AdamOutRefIdeal.Read in
theorem reference_square (x2 : S2x128x1024.Idx → EReal) (x3 : S8x256x1024.Idx → EReal) (i : Fin 256) (j : Fin 1024) :
    val_main_v30 (F := Ideal) x2 x3 (ix2 i j)
      = Update.square (x2 (ix3 ⟨i.val / 128, by omega⟩ ⟨i.val % 128, by omega⟩ j)) (∑ s : Fin 8, x3 (ix3 s i j)) := by
  unfold Update.square
  pointwise [val_main_v30, val_main_v13, val_main_v12, val_main_v11, val_main_v10, val_main_v9, val_main_v8, val_main_v2, val_main_v1, val_main_v0, val_main_cst, val_main_cst_2, val_main_cst_3]

theorem array_square (c : Dev nD) : (dats m 0 c).arrAt 7 cfg0.N
    = Cert.AdamOutRefIdeal.Read.val_main_v30 (F := Ideal) (m ((c : Thread nD τ).loc main_arg2)) (m ((c : Thread nD τ).loc main_arg3)) := by
  refine (dats m 0 c).arrAt_eq_of_covers 7 _ (by decide +kernel) fun t hf y => ?_
  blk_simp
  rw [after0_7]
  have ht := point_lt t
  have hy : (y 0).val < 64 := (y 0).isLt
  refine ((congrArg _ (by idx_ext : y = ix2 (y 0) (y 1))).trans (point_square _ _ _ _ (y 0) (y 1))).trans
    (Eq.trans ?_ ((reference_square _ _ ⟨t.val * 64 + (y 0).val, by omega⟩ (y 1)).symm.trans (congrArg _ (by blk_ext [idx t]))))
  refine congrArg₂ Update.square ?_ ?_
  · blk_simp [iblk, idx t]
    refine (congrArg (V m c _) (?_ : _ = ix2 (⟨t.val * 64 + (y 0).val, by omega⟩ : Fin 256) (y 1))).trans (V_2 m c _ _)
    blk_ext [idx t]
  · refine Finset.sum_congr rfl fun s _ => ?_
    blk_ext [iblk, V, idx t]

end Cert.AdamOutIdeal.Point

end
-- ==== Proof.AdamUp.lean ====
/- The optimiser step of the sharded feed-forward up weights, index by index, as the reference's value of the same arguments. -/
module

public import Idealize.ShloMosaic.Lib.Pipeline.ValueKit
public import Idealize.ShloMosaic.Lib.Claim
public import proofs.«01_k».proof.Proof.Update
public import proofs.«01_k».proof.Proof.Gen.AdamUpIdeal.Value
public import proofs.«01_k».proof.Proof.Gen.AdamUpRefIdeal.Run
public import proofs.«01_k».proof.Proof.Gen.AdamUpRefIdeal.Read

@[expose] public section

set_option maxRecDepth 16384

noncomputable section

namespace Cert.AdamUpIdeal.Point

open Idealize.ShloMosaic Idealize.ShloMosaic.TcCoe Idealize.ShloMosaic.Tactic Idealize.SL.Sem
open Cert.AdamUpIdeal Cert.AdamUpIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem point_lt (t : Fin cfg0.N) : t.val < 4 := Nat.lt_of_lt_of_eq t.isLt (by decide +kernel : cfg0.N = 4)

theorem V_0 (c : Dev nD) (i : Fin 2048) (j : Fin 704) : V m c main_v0 (ix2 i j)
    = m ((c : Thread nD τ).loc main_arg0) (ix3 ⟨i.val / 1024, by omega⟩ ⟨i.val % 1024, by omega⟩ j) := by
  unfold V
  simp only [hostOps0, List.flatten_cons, List.flatten_nil, List.cons_append, List.nil_append, List.append_nil]
  entry_read
  pointwise

theorem V_1 (c : Dev nD) (i : Fin 2048) (j : Fin 704) : V m c main_v1 (ix2 i j)
    = m ((c : Thread nD τ).loc main_arg1) (ix3 ⟨i.val / 1024, by omega⟩ ⟨i.val % 1024, by omega⟩ j) := by
  unfold V
  simp only [hostOps0, List.flatten_cons, List.flatten_nil, List.cons_append, List.nil_append, List.append_nil]
  entry_read
  pointwise

theorem V_2 (c : Dev nD) (i : Fin 2048) (j : Fin 704) : V m c main_v2 (ix2 i j)
    = m ((c : Thread nD τ).loc main_arg2) (ix3 ⟨i.val / 1024, by omega⟩ ⟨i.val % 1024, by omega⟩ j) := by
  unfold V
  simp only [hostOps0, List.flatten_cons, List.flatten_nil, List.cons_append, List.nil_append, List.append_nil]
  entry_read
  pointwise

theorem point_gradient (w mo v : Vec Ideal S512x704 .f32) (p : Vec Ideal S8x512x704 .bf16) (i : Fin 512) (j : Fin 704) :
    out0_4 w mo v p (ix2 i j) = ((∑ s : Fin 8, p (ix3 s i j)) : EReal) := by
  rw [Fin.sum_univ_eight]
  frame_out
  pointwise [k0_pay6, k0_pay4, k0_pay5]

open Cert.AdamUpRefIdeal.Read in
theorem reference_gradient (x3 : S8x2048x704.Idx → EReal) (i : Fin 2048) (j : Fin 704) :
    val_main_v27 (F := Ideal) x3 (ix2 i j)
      = (∑ s : Fin 8, x3 (ix3 s i j)) := by
  pointwise [val_main_v27, val_main_v2, val_main_v1, val_main_v0, val_main_cst]

theorem array_gradient (c : Dev nD) : (dats m 0 c).arrAt 4 cfg0.N
    = Cert.AdamUpRefIdeal.Read.val_main_v27 (F := Ideal) (m ((c : Thread nD τ).loc main_arg3)) := by
  refine (dats m 0 c).arrAt_eq_of_covers 4 _ (by decide +kernel) fun t hf y => ?_
  blk_simp
  rw [after0_4]
  have ht := point_lt t
  have hy : (y 0).val < 512 := (y 0).isLt
  refine ((congrArg _ (by idx_ext : y = ix2 (y 0) (y 1))).trans (point_gradient _ _ _ _ (y 0) (y 1))).trans
    (Eq.trans ?_ ((reference_gradient _ ⟨t.val * 512 + (y 0).val, by omega⟩ (y 1)).symm.trans (congrArg _ (by blk_ext [idx t]))))
  refine Finset.sum_congr rfl fun s _ => ?_
  blk_ext [iblk, V, idx t]

theorem point_change (w mo v : Vec Ideal S512x704 .f32) (p : Vec Ideal S8x512x704 .bf16) (i : Fin 512) (j : Fin 704) :
    out0_5 w mo v p (ix2 i j) = (Update.change (w (ix2 i j)) (mo (ix2 i j)) (v (ix2 i j)) (∑ s : Fin 8, p (ix3 s i j)) : EReal) := by
  unfold Update.change Update.mean Update.square
  rw [Fin.sum_univ_eight]
  frame_out
  pointwise [k0_pay1, k0_pay2, k0_pay3, k0_pay6, k0_pay7, k0_pay4, k0_pay5]

open Cert.AdamUpRefIdeal.Read in
theorem reference_change (x0 x1 x2 : S2x1024x704.Idx → EReal) (x3 : S8x2048x704.Idx → EReal) (i : Fin 2048) (j : Fin 704) :
    val_main_v28 (F := Ideal) x0 x1 x2 x3 (ix2 i j)
      = Update.change (x0 (ix3 ⟨i.val / 1024, by omega⟩ ⟨i.val % 1024, by omega⟩ j)) (x1 (ix3 ⟨i.val / 1024, by omega⟩ ⟨i.val % 1024, by omega⟩ j)) (x2 (ix3 ⟨i.val / 1024, by omega⟩ ⟨i.val % 1024, by omega⟩ j))
        (∑ s : Fin 8, x3 (ix3 s i j)) := by
  unfold Update.change Update.mean Update.square
  pointwise [val_main_v28, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

theorem array_change (c : Dev nD) : (dats m 0 c).arrAt 5 cfg0.N
    = Cert.AdamUpRefIdeal.Read.val_main_v28 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have ht := point_lt t
  have hy : (y 0).val < 512 := (y 0).isLt
  refine ((congrArg _ (by idx_ext : y = ix2 (y 0) (y 1))).trans (point_change _ _ _ _ (y 0) (y 1))).trans
    (Eq.trans ?_ ((reference_change _ _ _ _ ⟨t.val * 512 + (y 0).val, by omega⟩ (y 1)).symm.trans (congrArg _ (by blk_ext [idx t]))))
  refine congr (congr (congr (congrArg Update.change ?_) ?_) ?_) ?_
  · blk_simp [iblk, idx t]
    refine (congrArg (V m c _) (?_ : _ = ix2 (⟨t.val * 512 + (y 0).val, by omega⟩ : Fin 2048) (y 1))).trans (V_0 m c _ _)
    blk_ext [idx t]
  · blk_simp [iblk, idx t]
    refine (congrArg (V m c _) (?_ : _ = ix2 (⟨t.val * 512 + (y 0).val, by omega⟩ : Fin 2048) (y 1))).trans (V_1 m c _ _)
    blk_ext [idx t]
  · blk_simp [iblk, idx t]
    refine (congrArg (V m c _) (?_ : _ = ix2 (⟨t.val * 512 + (y 0).val, by omega⟩ : Fin 2048) (y 1))).trans (V_2 m c _ _)
    blk_ext [idx t]
  · refine Finset.sum_congr rfl fun s _ => ?_
    blk_ext [iblk, V, idx t]

theorem point_mean (w mo v : Vec Ideal S512x704 .f32) (p : Vec Ideal S8x512x704 .bf16) (i : Fin 512) (j : Fin 704) :
    out0_6 w mo v p (ix2 i j) = (Update.mean (mo (ix2 i j)) (∑ s : Fin 8, p (ix3 s i j)) : EReal) := by
  unfold Update.mean
  rw [Fin.sum_univ_eight]
  frame_out
  pointwise [k0_pay1, k0_pay6, k0_pay7, k0_pay4, k0_pay5]

open Cert.AdamUpRefIdeal.Read in
theorem reference_mean (x1 : S2x1024x704.Idx → EReal) (x3 : S8x2048x704.Idx → EReal) (i : Fin 2048) (j : Fin 704) :
    val_main_v29 (F := Ideal) x1 x3 (ix2 i j)
      = Update.mean (x1 (ix3 ⟨i.val / 1024, by omega⟩ ⟨i.val % 1024, by omega⟩ j)) (∑ s : Fin 8, x3 (ix3 s i j)) := by
  unfold Update.mean
  pointwise [val_main_v29, val_main_v7, val_main_v6, val_main_v5, val_main_v4, val_main_v3, val_main_v2, val_main_v1, val_main_v0, val_main_cst, val_main_cst_0, val_main_cst_1]

theorem array_mean (c : Dev nD) : (dats m 0 c).arrAt 6 cfg0.N
    = Cert.AdamUpRefIdeal.Read.val_main_v29 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  have ht := point_lt t
  have hy : (y 0).val < 512 := (y 0).isLt
  refine ((congrArg _ (by idx_ext : y = ix2 (y 0) (y 1))).trans (point_mean _ _ _ _ (y 0) (y 1))).trans
    (Eq.trans ?_ ((reference_mean _ _ ⟨t.val * 512 + (y 0).val, by omega⟩ (y 1)).symm.trans (congrArg _ (by blk_ext [idx t]))))
  refine congrArg₂ Update.mean ?_ ?_
  · blk_simp [iblk, idx t]
    refine (congrArg (V m c _) (?_ : _ = ix2 (⟨t.val * 512 + (y 0).val, by omega⟩ : Fin 2048) (y 1))).trans (V_1 m c _ _)
    blk_ext [idx t]
  · refine Finset.sum_congr rfl fun s _ => ?_
    blk_ext [iblk, V, idx t]

theorem point_square (w mo v : Vec Ideal S512x704 .f32) (p : Vec Ideal S8x512x704 .bf16) (i : Fin 512) (j : Fin 704) :
    out0_7 w mo v p (ix2 i j) = (Update.square (v (ix2 i j)) (∑ s : Fin 8, p (ix3 s i j)) : EReal) := by
  unfold Update.square
  rw [Fin.sum_univ_eight]
  frame_out
  pointwise [k0_pay2, k0_pay6, k0_pay4, k0_pay5]

open Cert.AdamUpRefIdeal.Read in
theorem reference_square (x2 : S2x1024x704.Idx → EReal) (x3 : S8x2048x704.Idx → EReal) (i : Fin 2048) (j : Fin 704) :
    val_main_v30 (F := Ideal) x2 x3 (ix2 i j)
      = Update.square (x2 (ix3 ⟨i.val / 1024, by omega⟩ ⟨i.val % 1024, by omega⟩ j)) (∑ s : Fin 8, x3 (ix3 s i j)) := by
  unfold Update.square
  pointwise [val_main_v30, val_main_v13, val_main_v12, val_main_v11, val_main_v10, val_main_v9, val_main_v8, val_main_v2, val_main_v1, val_main_v0, val_main_cst, val_main_cst_2, val_main_cst_3]

theorem array_square (c : Dev nD) : (dats m 0 c).arrAt 7 cfg0.N
    = Cert.AdamUpRefIdeal.Read.val_main_v30 (F := Ideal) (m ((c : Thread nD τ).loc main_arg2)) (m ((c : Thread nD τ).loc main_arg3)) := by
  refine (dats m 0 c).arrAt_eq_of_covers 7 _ (by decide +kernel) fun t hf y => ?_
  blk_simp
  rw [after0_7]
  have ht := point_lt t
  have hy : (y 0).val < 512 := (y 0).isLt
  refine ((congrArg _ (by idx_ext : y = ix2 (y 0) (y 1))).trans (point_square _ _ _ _ (y 0) (y 1))).trans
    (Eq.trans ?_ ((reference_square _ _ ⟨t.val * 512 + (y 0).val, by omega⟩ (y 1)).symm.trans (congrArg _ (by blk_ext [idx t]))))
  refine congrArg₂ Update.square ?_ ?_
  · blk_simp [iblk, idx t]
    refine (congrArg (V m c _) (?_ : _ = ix2 (⟨t.val * 512 + (y 0).val, by omega⟩ : Fin 2048) (y 1))).trans (V_2 m c _ _)
    blk_ext [idx t]
  · refine Finset.sum_congr rfl fun s _ => ?_
    blk_ext [iblk, V, idx t]

end Cert.AdamUpIdeal.Point

end
-- ==== Proof.AdamDown.lean ====
/- The optimiser step of the sharded feed-forward down weights, index by index, as the reference's value of the same arguments. -/
module

public import Idealize.ShloMosaic.Lib.Pipeline.ValueKit
public import Idealize.ShloMosaic.Lib.Claim
public import proofs.«01_k».proof.Proof.Update
public import proofs.«01_k».proof.Proof.Gen.AdamDownIdeal.Value
public import proofs.«01_k».proof.Proof.Gen.AdamDownRefIdeal.Run
public import proofs.«01_k».proof.Proof.Gen.AdamDownRefIdeal.Read

@[expose] public section

set_option maxRecDepth 16384

noncomputable section

namespace Cert.AdamDownIdeal.Point

open Idealize.ShloMosaic Idealize.ShloMosaic.TcCoe Idealize.ShloMosaic.Tactic Idealize.SL.Sem
open Cert.AdamDownIdeal Cert.AdamDownIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem point_lt (t : Fin cfg0.N) : t.val < 4 := Nat.lt_of_lt_of_eq t.isLt (by decide +kernel : cfg0.N = 4)

theorem V_0 (c : Dev nD) (i : Fin 704) (j : Fin 1024) : V m c main_v0 (ix2 i j)
    = m ((c : Thread nD τ).loc main_arg0) (ix3 ⟨i.val / 352, by omega⟩ ⟨i.val % 352, by omega⟩ j) := by
  unfold V
  simp only [hostOps0, List.flatten_cons, List.flatten_nil, List.cons_append, List.nil_append, List.append_nil]
  entry_read
  pointwise

theorem V_1 (c : Dev nD) (i : Fin 704) (j : Fin 1024) : V m c main_v1 (ix2 i j)
    = m ((c : Thread nD τ).loc main_arg1) (ix3 ⟨i.val / 352, by omega⟩ ⟨i.val % 352, by omega⟩ j) := by
  unfold V
  simp only [hostOps0, List.flatten_cons, List.flatten_nil, List.cons_append, List.nil_append, List.append_nil]
  entry_read
  pointwise

theorem V_2 (c : Dev nD) (i : Fin 704) (j : Fin 1024) : V m c main_v2 (ix2 i j)
    = m ((c : Thread nD τ).loc main_arg2) (ix3 ⟨i.val / 352, by omega⟩ ⟨i.val % 352, by omega⟩ j) := by
  unfold V
  simp only [hostOps0, List.flatten_cons, List.flatten_nil, List.cons_append, List.nil_append, List.append_nil]
  entry_read
  pointwise

theorem point_gradient (w mo v : Vec Ideal S176x1024 .f32) (p : Vec Ideal S8x176x1024 .bf16) (i : Fin 176) (j : Fin 1024) :
    out0_4 w mo v p (ix2 i j) = ((∑ s : Fin 8, p (ix3 s i j)) : EReal) := by
  rw [Fin.sum_univ_eight]
  frame_out
  pointwise [k0_pay6, k0_pay4, k0_pay5]

open Cert.AdamDownRefIdeal.Read in
theorem reference_gradient (x3 : S8x704x1024.Idx → EReal) (i : Fin 704) (j : Fin 1024) :
    val_main_v27 (F := Ideal) x3 (ix2 i j)
      = (∑ s : Fin 8, x3 (ix3 s i j)) := by
  pointwise [val_main_v27, val_main_v2, val_main_v1, val_main_v0, val_main_cst]

theorem array_gradient (c : Dev nD) : (dats m 0 c).arrAt 4 cfg0.N
    = Cert.AdamDownRefIdeal.Read.val_main_v27 (F := Ideal) (m ((c : Thread nD τ).loc main_arg3)) := by
  refine (dats m 0 c).arrAt_eq_of_covers 4 _ (by decide +kernel) fun t hf y => ?_
  blk_simp
  rw [after0_4]
  have ht := point_lt t
  have hy : (y 0).val < 176 := (y 0).isLt
  refine ((congrArg _ (by idx_ext : y = ix2 (y 0) (y 1))).trans (point_gradient _ _ _ _ (y 0) (y 1))).trans
    (Eq.trans ?_ ((reference_gradient _ ⟨t.val * 176 + (y 0).val, by omega⟩ (y 1)).symm.trans (congrArg _ (by blk_ext [idx t]))))
  refine Finset.sum_congr rfl fun s _ => ?_
  blk_ext [iblk, V, idx t]

theorem point_change (w mo v : Vec Ideal S176x1024 .f32) (p : Vec Ideal S8x176x1024 .bf16) (i : Fin 176) (j : Fin 1024) :
    out0_5 w mo v p (ix2 i j) = (Update.change (w (ix2 i j)) (mo (ix2 i j)) (v (ix2 i j)) (∑ s : Fin 8, p (ix3 s i j)) : EReal) := by
  unfold Update.change Update.mean Update.square
  rw [Fin.sum_univ_eight]
  frame_out
  pointwise [k0_pay1, k0_pay2, k0_pay3, k0_pay6, k0_pay7, k0_pay4, k0_pay5]

open Cert.AdamDownRefIdeal.Read in
theorem reference_change (x0 x1 x2 : S2x352x1024.Idx → EReal) (x3 : S8x704x1024.Idx → EReal) (i : Fin 704) (j : Fin 1024) :
    val_main_v28 (F := Ideal) x0 x1 x2 x3 (ix2 i j)
      = Update.change (x0 (ix3 ⟨i.val / 352, by omega⟩ ⟨i.val % 352, by omega⟩ j)) (x1 (ix3 ⟨i.val / 352, by omega⟩ ⟨i.val % 352, by omega⟩ j)) (x2 (ix3 ⟨i.val / 352, by omega⟩ ⟨i.val % 352, by omega⟩ j))
        (∑ s : Fin 8, x3 (ix3 s i j)) := by
  unfold Update.change Update.mean Update.square
  pointwise [val_main_v28, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

theorem array_change (c : Dev nD) : (dats m 0 c).arrAt 5 cfg0.N
    = Cert.AdamDownRefIdeal.Read.val_main_v28 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have ht := point_lt t
  have hy : (y 0).val < 176 := (y 0).isLt
  refine ((congrArg _ (by idx_ext : y = ix2 (y 0) (y 1))).trans (point_change _ _ _ _ (y 0) (y 1))).trans
    (Eq.trans ?_ ((reference_change _ _ _ _ ⟨t.val * 176 + (y 0).val, by omega⟩ (y 1)).symm.trans (congrArg _ (by blk_ext [idx t]))))
  refine congr (congr (congr (congrArg Update.change ?_) ?_) ?_) ?_
  · blk_simp [iblk, idx t]
    refine (congrArg (V m c _) (?_ : _ = ix2 (⟨t.val * 176 + (y 0).val, by omega⟩ : Fin 704) (y 1))).trans (V_0 m c _ _)
    blk_ext [idx t]
  · blk_simp [iblk, idx t]
    refine (congrArg (V m c _) (?_ : _ = ix2 (⟨t.val * 176 + (y 0).val, by omega⟩ : Fin 704) (y 1))).trans (V_1 m c _ _)
    blk_ext [idx t]
  · blk_simp [iblk, idx t]
    refine (congrArg (V m c _) (?_ : _ = ix2 (⟨t.val * 176 + (y 0).val, by omega⟩ : Fin 704) (y 1))).trans (V_2 m c _ _)
    blk_ext [idx t]
  · refine Finset.sum_congr rfl fun s _ => ?_
    blk_ext [iblk, V, idx t]

theorem point_mean (w mo v : Vec Ideal S176x1024 .f32) (p : Vec Ideal S8x176x1024 .bf16) (i : Fin 176) (j : Fin 1024) :
    out0_6 w mo v p (ix2 i j) = (Update.mean (mo (ix2 i j)) (∑ s : Fin 8, p (ix3 s i j)) : EReal) := by
  unfold Update.mean
  rw [Fin.sum_univ_eight]
  frame_out
  pointwise [k0_pay1, k0_pay6, k0_pay7, k0_pay4, k0_pay5]

open Cert.AdamDownRefIdeal.Read in
theorem reference_mean (x1 : S2x352x1024.Idx → EReal) (x3 : S8x704x1024.Idx → EReal) (i : Fin 704) (j : Fin 1024) :
    val_main_v29 (F := Ideal) x1 x3 (ix2 i j)
      = Update.mean (x1 (ix3 ⟨i.val / 352, by omega⟩ ⟨i.val % 352, by omega⟩ j)) (∑ s : Fin 8, x3 (ix3 s i j)) := by
  unfold Update.mean
  pointwise [val_main_v29, val_main_v7, val_main_v6, val_main_v5, val_main_v4, val_main_v3, val_main_v2, val_main_v1, val_main_v0, val_main_cst, val_main_cst_0, val_main_cst_1]

theorem array_mean (c : Dev nD) : (dats m 0 c).arrAt 6 cfg0.N
    = Cert.AdamDownRefIdeal.Read.val_main_v29 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  have ht := point_lt t
  have hy : (y 0).val < 176 := (y 0).isLt
  refine ((congrArg _ (by idx_ext : y = ix2 (y 0) (y 1))).trans (point_mean _ _ _ _ (y 0) (y 1))).trans
    (Eq.trans ?_ ((reference_mean _ _ ⟨t.val * 176 + (y 0).val, by omega⟩ (y 1)).symm.trans (congrArg _ (by blk_ext [idx t]))))
  refine congrArg₂ Update.mean ?_ ?_
  · blk_simp [iblk, idx t]
    refine (congrArg (V m c _) (?_ : _ = ix2 (⟨t.val * 176 + (y 0).val, by omega⟩ : Fin 704) (y 1))).trans (V_1 m c _ _)
    blk_ext [idx t]
  · refine Finset.sum_congr rfl fun s _ => ?_
    blk_ext [iblk, V, idx t]

theorem point_square (w mo v : Vec Ideal S176x1024 .f32) (p : Vec Ideal S8x176x1024 .bf16) (i : Fin 176) (j : Fin 1024) :
    out0_7 w mo v p (ix2 i j) = (Update.square (v (ix2 i j)) (∑ s : Fin 8, p (ix3 s i j)) : EReal) := by
  unfold Update.square
  rw [Fin.sum_univ_eight]
  frame_out
  pointwise [k0_pay2, k0_pay6, k0_pay4, k0_pay5]

open Cert.AdamDownRefIdeal.Read in
theorem reference_square (x2 : S2x352x1024.Idx → EReal) (x3 : S8x704x1024.Idx → EReal) (i : Fin 704) (j : Fin 1024) :
    val_main_v30 (F := Ideal) x2 x3 (ix2 i j)
      = Update.square (x2 (ix3 ⟨i.val / 352, by omega⟩ ⟨i.val % 352, by omega⟩ j)) (∑ s : Fin 8, x3 (ix3 s i j)) := by
  unfold Update.square
  pointwise [val_main_v30, val_main_v13, val_main_v12, val_main_v11, val_main_v10, val_main_v9, val_main_v8, val_main_v2, val_main_v1, val_main_v0, val_main_cst, val_main_cst_2, val_main_cst_3]

theorem array_square (c : Dev nD) : (dats m 0 c).arrAt 7 cfg0.N
    = Cert.AdamDownRefIdeal.Read.val_main_v30 (F := Ideal) (m ((c : Thread nD τ).loc main_arg2)) (m ((c : Thread nD τ).loc main_arg3)) := by
  refine (dats m 0 c).arrAt_eq_of_covers 7 _ (by decide +kernel) fun t hf y => ?_
  blk_simp
  rw [after0_7]
  have ht := point_lt t
  have hy : (y 0).val < 176 := (y 0).isLt
  refine ((congrArg _ (by idx_ext : y = ix2 (y 0) (y 1))).trans (point_square _ _ _ _ (y 0) (y 1))).trans
    (Eq.trans ?_ ((reference_square _ _ ⟨t.val * 176 + (y 0).val, by omega⟩ (y 1)).symm.trans (congrArg _ (by blk_ext [idx t]))))
  refine congrArg₂ Update.square ?_ ?_
  · blk_simp [iblk, idx t]
    refine (congrArg (V m c _) (?_ : _ = ix2 (⟨t.val * 176 + (y 0).val, by omega⟩ : Fin 704) (y 1))).trans (V_2 m c _ _)
    blk_ext [idx t]
  · refine Finset.sum_congr rfl fun s _ => ?_
    blk_ext [iblk, V, idx t]

end Cert.AdamDownIdeal.Point

end
-- ==== Proof.AdamConv.lean ====
/- The optimiser step of the sharded convolution weights, index by index, as the reference's value of the same arguments. -/
module

public import Idealize.ShloMosaic.Lib.Pipeline.ValueKit
public import Idealize.ShloMosaic.Lib.Claim
public import proofs.«01_k».proof.Proof.Update
public import proofs.«01_k».proof.Proof.Gen.AdamConvIdeal.Value
public import proofs.«01_k».proof.Proof.Gen.AdamConvRefIdeal.Run
public import proofs.«01_k».proof.Proof.Gen.AdamConvRefIdeal.Read

@[expose] public section

set_option maxRecDepth 16384

noncomputable section

namespace Cert.AdamConvIdeal.Point

open Idealize.ShloMosaic Idealize.ShloMosaic.TcCoe Idealize.ShloMosaic.Tactic Idealize.SL.Sem
open Cert.AdamConvIdeal Cert.AdamConvIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem point_lt (t : Fin cfg0.N) : t.val < 1 := Nat.lt_of_lt_of_eq t.isLt (by decide +kernel : cfg0.N = 1)

theorem V_0 (c : Dev nD) (i : Fin 62) (j : Fin 32) : V m c main_v0 (ix2 i j)
    = m ((c : Thread nD τ).loc main_arg0) (ix3 ⟨i.val / 31, by omega⟩ ⟨i.val % 31, by omega⟩ j) := by
  unfold V
  simp only [hostOps0, List.flatten_cons, List.flatten_nil, List.cons_append, List.nil_append, List.append_nil]
  entry_read
  pointwise

theorem V_1 (c : Dev nD) (i : Fin 62) (j : Fin 32) : V m c main_v1 (ix2 i j)
    = m ((c : Thread nD τ).loc main_arg1) (ix3 ⟨i.val / 31, by omega⟩ ⟨i.val % 31, by omega⟩ j) := by
  unfold V
  simp only [hostOps0, List.flatten_cons, List.flatten_nil, List.cons_append, List.nil_append, List.append_nil]
  entry_read
  pointwise

theorem V_2 (c : Dev nD) (i : Fin 62) (j : Fin 32) : V m c main_v2 (ix2 i j)
    = m ((c : Thread nD τ).loc main_arg2) (ix3 ⟨i.val / 31, by omega⟩ ⟨i.val % 31, by omega⟩ j) := by
  unfold V
  simp only [hostOps0, List.flatten_cons, List.flatten_nil, List.cons_append, List.nil_append, List.append_nil]
  entry_read
  pointwise

theorem point_gradient (w mo v : Vec Ideal S62x32 .f32) (p : Vec Ideal S8x62x32 .bf16) (i : Fin 62) (j : Fin 32) :
    out0_4 w mo v p (ix2 i j) = ((∑ s : Fin 8, p (ix3 s i j)) : EReal) := by
  rw [Fin.sum_univ_eight]
  frame_out
  pointwise [k0_pay6, k0_pay4, k0_pay5]

open Cert.AdamConvRefIdeal.Read in
theorem reference_gradient (x3 : S8x62x32.Idx → EReal) (i : Fin 62) (j : Fin 32) :
    val_main_v27 (F := Ideal) x3 (ix2 i j)
      = (∑ s : Fin 8, x3 (ix3 s i j)) := by
  pointwise [val_main_v27, val_main_v2, val_main_v1, val_main_v0, val_main_cst]

theorem array_gradient (c : Dev nD) : (dats m 0 c).arrAt 4 cfg0.N
    = Cert.AdamConvRefIdeal.Read.val_main_v27 (F := Ideal) (m ((c : Thread nD τ).loc main_arg3)) := by
  refine (dats m 0 c).arrAt_eq_of_covers 4 _ (by decide +kernel) fun t hf y => ?_
  blk_simp
  rw [after0_4]
  have ht := point_lt t
  have hy : (y 0).val < 62 := (y 0).isLt
  refine ((congrArg _ (by idx_ext : y = ix2 (y 0) (y 1))).trans (point_gradient _ _ _ _ (y 0) (y 1))).trans
    (Eq.trans ?_ ((reference_gradient _ ⟨t.val * 62 + (y 0).val, by omega⟩ (y 1)).symm.trans (congrArg _ (by blk_ext [idx t]))))
  refine Finset.sum_congr rfl fun s _ => ?_
  blk_ext [iblk, V, idx t]

theorem point_change (w mo v : Vec Ideal S62x32 .f32) (p : Vec Ideal S8x62x32 .bf16) (i : Fin 62) (j : Fin 32) :
    out0_5 w mo v p (ix2 i j) = (Update.change (w (ix2 i j)) (mo (ix2 i j)) (v (ix2 i j)) (∑ s : Fin 8, p (ix3 s i j)) : EReal) := by
  unfold Update.change Update.mean Update.square
  rw [Fin.sum_univ_eight]
  frame_out
  pointwise [k0_pay1, k0_pay2, k0_pay3, k0_pay6, k0_pay7, k0_pay4, k0_pay5]

open Cert.AdamConvRefIdeal.Read in
theorem reference_change (x0 x1 x2 : S2x31x32.Idx → EReal) (x3 : S8x62x32.Idx → EReal) (i : Fin 62) (j : Fin 32) :
    val_main_v28 (F := Ideal) x0 x1 x2 x3 (ix2 i j)
      = Update.change (x0 (ix3 ⟨i.val / 31, by omega⟩ ⟨i.val % 31, by omega⟩ j)) (x1 (ix3 ⟨i.val / 31, by omega⟩ ⟨i.val % 31, by omega⟩ j)) (x2 (ix3 ⟨i.val / 31, by omega⟩ ⟨i.val % 31, by omega⟩ j))
        (∑ s : Fin 8, x3 (ix3 s i j)) := by
  unfold Update.change Update.mean Update.square
  pointwise [val_main_v28, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

theorem array_change (c : Dev nD) : (dats m 0 c).arrAt 5 cfg0.N
    = Cert.AdamConvRefIdeal.Read.val_main_v28 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have ht := point_lt t
  have hy : (y 0).val < 62 := (y 0).isLt
  refine ((congrArg _ (by idx_ext : y = ix2 (y 0) (y 1))).trans (point_change _ _ _ _ (y 0) (y 1))).trans
    (Eq.trans ?_ ((reference_change _ _ _ _ ⟨t.val * 62 + (y 0).val, by omega⟩ (y 1)).symm.trans (congrArg _ (by blk_ext [idx t]))))
  refine congr (congr (congr (congrArg Update.change ?_) ?_) ?_) ?_
  · blk_simp [iblk, idx t]
    refine (congrArg (V m c _) (?_ : _ = ix2 (⟨(y 0).val, by omega⟩ : Fin 62) (y 1))).trans (V_0 m c _ _)
    blk_ext [idx t]
  · blk_simp [iblk, idx t]
    refine (congrArg (V m c _) (?_ : _ = ix2 (⟨(y 0).val, by omega⟩ : Fin 62) (y 1))).trans (V_1 m c _ _)
    blk_ext [idx t]
  · blk_simp [iblk, idx t]
    refine (congrArg (V m c _) (?_ : _ = ix2 (⟨(y 0).val, by omega⟩ : Fin 62) (y 1))).trans (V_2 m c _ _)
    blk_ext [idx t]
  · refine Finset.sum_congr rfl fun s _ => ?_
    blk_ext [iblk, V, idx t]

theorem point_mean (w mo v : Vec Ideal S62x32 .f32) (p : Vec Ideal S8x62x32 .bf16) (i : Fin 62) (j : Fin 32) :
    out0_6 w mo v p (ix2 i j) = (Update.mean (mo (ix2 i j)) (∑ s : Fin 8, p (ix3 s i j)) : EReal) := by
  unfold Update.mean
  rw [Fin.sum_univ_eight]
  frame_out
  pointwise [k0_pay1, k0_pay6, k0_pay7, k0_pay4, k0_pay5]

open Cert.AdamConvRefIdeal.Read in
theorem reference_mean (x1 : S2x31x32.Idx → EReal) (x3 : S8x62x32.Idx → EReal) (i : Fin 62) (j : Fin 32) :
    val_main_v29 (F := Ideal) x1 x3 (ix2 i j)
      = Update.mean (x1 (ix3 ⟨i.val / 31, by omega⟩ ⟨i.val % 31, by omega⟩ j)) (∑ s : Fin 8, x3 (ix3 s i j)) := by
  unfold Update.mean
  pointwise [val_main_v29, val_main_v7, val_main_v6, val_main_v5, val_main_v4, val_main_v3, val_main_v2, val_main_v1, val_main_v0, val_main_cst, val_main_cst_0, val_main_cst_1]

theorem array_mean (c : Dev nD) : (dats m 0 c).arrAt 6 cfg0.N
    = Cert.AdamConvRefIdeal.Read.val_main_v29 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  have ht := point_lt t
  have hy : (y 0).val < 62 := (y 0).isLt
  refine ((congrArg _ (by idx_ext : y = ix2 (y 0) (y 1))).trans (point_mean _ _ _ _ (y 0) (y 1))).trans
    (Eq.trans ?_ ((reference_mean _ _ ⟨t.val * 62 + (y 0).val, by omega⟩ (y 1)).symm.trans (congrArg _ (by blk_ext [idx t]))))
  refine congrArg₂ Update.mean ?_ ?_
  · blk_simp [iblk, idx t]
    refine (congrArg (V m c _) (?_ : _ = ix2 (⟨(y 0).val, by omega⟩ : Fin 62) (y 1))).trans (V_1 m c _ _)
    blk_ext [idx t]
  · refine Finset.sum_congr rfl fun s _ => ?_
    blk_ext [iblk, V, idx t]

theorem point_square (w mo v : Vec Ideal S62x32 .f32) (p : Vec Ideal S8x62x32 .bf16) (i : Fin 62) (j : Fin 32) :
    out0_7 w mo v p (ix2 i j) = (Update.square (v (ix2 i j)) (∑ s : Fin 8, p (ix3 s i j)) : EReal) := by
  unfold Update.square
  rw [Fin.sum_univ_eight]
  frame_out
  pointwise [k0_pay2, k0_pay6, k0_pay4, k0_pay5]

open Cert.AdamConvRefIdeal.Read in
theorem reference_square (x2 : S2x31x32.Idx → EReal) (x3 : S8x62x32.Idx → EReal) (i : Fin 62) (j : Fin 32) :
    val_main_v30 (F := Ideal) x2 x3 (ix2 i j)
      = Update.square (x2 (ix3 ⟨i.val / 31, by omega⟩ ⟨i.val % 31, by omega⟩ j)) (∑ s : Fin 8, x3 (ix3 s i j)) := by
  unfold Update.square
  pointwise [val_main_v30, val_main_v13, val_main_v12, val_main_v11, val_main_v10, val_main_v9, val_main_v8, val_main_v2, val_main_v1, val_main_v0, val_main_cst, val_main_cst_2, val_main_cst_3]

theorem array_square (c : Dev nD) : (dats m 0 c).arrAt 7 cfg0.N
    = Cert.AdamConvRefIdeal.Read.val_main_v30 (F := Ideal) (m ((c : Thread nD τ).loc main_arg2)) (m ((c : Thread nD τ).loc main_arg3)) := by
  refine (dats m 0 c).arrAt_eq_of_covers 7 _ (by decide +kernel) fun t hf y => ?_
  blk_simp
  rw [after0_7]
  have ht := point_lt t
  have hy : (y 0).val < 62 := (y 0).isLt
  refine ((congrArg _ (by idx_ext : y = ix2 (y 0) (y 1))).trans (point_square _ _ _ _ (y 0) (y 1))).trans
    (Eq.trans ?_ ((reference_square _ _ ⟨t.val * 62 + (y 0).val, by omega⟩ (y 1)).symm.trans (congrArg _ (by blk_ext [idx t]))))
  refine congrArg₂ Update.square ?_ ?_
  · blk_simp [iblk, idx t]
    refine (congrArg (V m c _) (?_ : _ = ix2 (⟨(y 0).val, by omega⟩ : Fin 62) (y 1))).trans (V_2 m c _ _)
    blk_ext [idx t]
  · refine Finset.sum_congr rfl fun s _ => ?_
    blk_ext [iblk, V, idx t]

end Cert.AdamConvIdeal.Point

end
-- ==== Proof.AdamFfn.lean ====
/- The optimiser step of the sharded feed-forward convolution weights, index by index, as the reference's value of the same arguments. -/
module

public import Idealize.ShloMosaic.Lib.Pipeline.ValueKit
public import Idealize.ShloMosaic.Lib.Claim
public import proofs.«01_k».proof.Proof.Update
public import proofs.«01_k».proof.Proof.Gen.AdamFfnIdeal.Value
public import proofs.«01_k».proof.Proof.Gen.AdamFfnRefIdeal.Run
public import proofs.«01_k».proof.Proof.Gen.AdamFfnRefIdeal.Read

@[expose] public section

set_option maxRecDepth 16384

noncomputable section

namespace Cert.AdamFfnIdeal.Point

open Idealize.ShloMosaic Idealize.ShloMosaic.TcCoe Idealize.ShloMosaic.Tactic Idealize.SL.Sem
open Cert.AdamFfnIdeal Cert.AdamFfnIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem point_lt (t : Fin cfg0.N) : t.val < 1 := Nat.lt_of_lt_of_eq t.isLt (by decide +kernel : cfg0.N = 1)

theorem V_0 (c : Dev nD) (i : Fin 6) (j : Fin 704) : V m c main_v0 (ix2 i j)
    = m ((c : Thread nD τ).loc main_arg0) (ix3 ⟨i.val / 3, by omega⟩ ⟨i.val % 3, by omega⟩ j) := by
  unfold V
  simp only [hostOps0, List.flatten_cons, List.flatten_nil, List.cons_append, List.nil_append, List.append_nil]
  entry_read
  pointwise

theorem V_1 (c : Dev nD) (i : Fin 6) (j : Fin 704) : V m c main_v1 (ix2 i j)
    = m ((c : Thread nD τ).loc main_arg1) (ix3 ⟨i.val / 3, by omega⟩ ⟨i.val % 3, by omega⟩ j) := by
  unfold V
  simp only [hostOps0, List.flatten_cons, List.flatten_nil, List.cons_append, List.nil_append, List.append_nil]
  entry_read
  pointwise

theorem V_2 (c : Dev nD) (i : Fin 6) (j : Fin 704) : V m c main_v2 (ix2 i j)
    = m ((c : Thread nD τ).loc main_arg2) (ix3 ⟨i.val / 3, by omega⟩ ⟨i.val % 3, by omega⟩ j) := by
  unfold V
  simp only [hostOps0, List.flatten_cons, List.flatten_nil, List.cons_append, List.nil_append, List.append_nil]
  entry_read
  pointwise

theorem point_gradient (w mo v : Vec Ideal S6x704 .f32) (p : Vec Ideal S8x6x704 .bf16) (i : Fin 6) (j : Fin 704) :
    out0_4 w mo v p (ix2 i j) = ((∑ s : Fin 8, p (ix3 s i j)) : EReal) := by
  rw [Fin.sum_univ_eight]
  frame_out
  pointwise [k0_pay6, k0_pay4, k0_pay5]

open Cert.AdamFfnRefIdeal.Read in
theorem reference_gradient (x3 : S8x6x704.Idx → EReal) (i : Fin 6) (j : Fin 704) :
    val_main_v27 (F := Ideal) x3 (ix2 i j)
      = (∑ s : Fin 8, x3 (ix3 s i j)) := by
  pointwise [val_main_v27, val_main_v2, val_main_v1, val_main_v0, val_main_cst]

theorem array_gradient (c : Dev nD) : (dats m 0 c).arrAt 4 cfg0.N
    = Cert.AdamFfnRefIdeal.Read.val_main_v27 (F := Ideal) (m ((c : Thread nD τ).loc main_arg3)) := by
  refine (dats m 0 c).arrAt_eq_of_covers 4 _ (by decide +kernel) fun t hf y => ?_
  blk_simp
  rw [after0_4]
  have ht := point_lt t
  have hy : (y 0).val < 6 := (y 0).isLt
  refine ((congrArg _ (by idx_ext : y = ix2 (y 0) (y 1))).trans (point_gradient _ _ _ _ (y 0) (y 1))).trans
    (Eq.trans ?_ ((reference_gradient _ ⟨t.val * 6 + (y 0).val, by omega⟩ (y 1)).symm.trans (congrArg _ (by blk_ext [idx t]))))
  refine Finset.sum_congr rfl fun s _ => ?_
  blk_ext [iblk, V, idx t]

theorem point_change (w mo v : Vec Ideal S6x704 .f32) (p : Vec Ideal S8x6x704 .bf16) (i : Fin 6) (j : Fin 704) :
    out0_5 w mo v p (ix2 i j) = (Update.change (w (ix2 i j)) (mo (ix2 i j)) (v (ix2 i j)) (∑ s : Fin 8, p (ix3 s i j)) : EReal) := by
  unfold Update.change Update.mean Update.square
  rw [Fin.sum_univ_eight]
  frame_out
  pointwise [k0_pay1, k0_pay2, k0_pay3, k0_pay6, k0_pay7, k0_pay4, k0_pay5]

open Cert.AdamFfnRefIdeal.Read in
theorem reference_change (x0 x1 x2 : S2x3x704.Idx → EReal) (x3 : S8x6x704.Idx → EReal) (i : Fin 6) (j : Fin 704) :
    val_main_v28 (F := Ideal) x0 x1 x2 x3 (ix2 i j)
      = Update.change (x0 (ix3 ⟨i.val / 3, by omega⟩ ⟨i.val % 3, by omega⟩ j)) (x1 (ix3 ⟨i.val / 3, by omega⟩ ⟨i.val % 3, by omega⟩ j)) (x2 (ix3 ⟨i.val / 3, by omega⟩ ⟨i.val % 3, by omega⟩ j))
        (∑ s : Fin 8, x3 (ix3 s i j)) := by
  unfold Update.change Update.mean Update.square
  pointwise [val_main_v28, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

theorem array_change (c : Dev nD) : (dats m 0 c).arrAt 5 cfg0.N
    = Cert.AdamFfnRefIdeal.Read.val_main_v28 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have ht := point_lt t
  have hy : (y 0).val < 6 := (y 0).isLt
  refine ((congrArg _ (by idx_ext : y = ix2 (y 0) (y 1))).trans (point_change _ _ _ _ (y 0) (y 1))).trans
    (Eq.trans ?_ ((reference_change _ _ _ _ ⟨t.val * 6 + (y 0).val, by omega⟩ (y 1)).symm.trans (congrArg _ (by blk_ext [idx t]))))
  refine congr (congr (congr (congrArg Update.change ?_) ?_) ?_) ?_
  · blk_simp [iblk, idx t]
    refine (congrArg (V m c _) (?_ : _ = ix2 (⟨(y 0).val, by omega⟩ : Fin 6) (y 1))).trans (V_0 m c _ _)
    blk_ext [idx t]
  · blk_simp [iblk, idx t]
    refine (congrArg (V m c _) (?_ : _ = ix2 (⟨(y 0).val, by omega⟩ : Fin 6) (y 1))).trans (V_1 m c _ _)
    blk_ext [idx t]
  · blk_simp [iblk, idx t]
    refine (congrArg (V m c _) (?_ : _ = ix2 (⟨(y 0).val, by omega⟩ : Fin 6) (y 1))).trans (V_2 m c _ _)
    blk_ext [idx t]
  · refine Finset.sum_congr rfl fun s _ => ?_
    blk_ext [iblk, V, idx t]

theorem point_mean (w mo v : Vec Ideal S6x704 .f32) (p : Vec Ideal S8x6x704 .bf16) (i : Fin 6) (j : Fin 704) :
    out0_6 w mo v p (ix2 i j) = (Update.mean (mo (ix2 i j)) (∑ s : Fin 8, p (ix3 s i j)) : EReal) := by
  unfold Update.mean
  rw [Fin.sum_univ_eight]
  frame_out
  pointwise [k0_pay1, k0_pay6, k0_pay7, k0_pay4, k0_pay5]

open Cert.AdamFfnRefIdeal.Read in
theorem reference_mean (x1 : S2x3x704.Idx → EReal) (x3 : S8x6x704.Idx → EReal) (i : Fin 6) (j : Fin 704) :
    val_main_v29 (F := Ideal) x1 x3 (ix2 i j)
      = Update.mean (x1 (ix3 ⟨i.val / 3, by omega⟩ ⟨i.val % 3, by omega⟩ j)) (∑ s : Fin 8, x3 (ix3 s i j)) := by
  unfold Update.mean
  pointwise [val_main_v29, val_main_v7, val_main_v6, val_main_v5, val_main_v4, val_main_v3, val_main_v2, val_main_v1, val_main_v0, val_main_cst, val_main_cst_0, val_main_cst_1]

theorem array_mean (c : Dev nD) : (dats m 0 c).arrAt 6 cfg0.N
    = Cert.AdamFfnRefIdeal.Read.val_main_v29 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  have ht := point_lt t
  have hy : (y 0).val < 6 := (y 0).isLt
  refine ((congrArg _ (by idx_ext : y = ix2 (y 0) (y 1))).trans (point_mean _ _ _ _ (y 0) (y 1))).trans
    (Eq.trans ?_ ((reference_mean _ _ ⟨t.val * 6 + (y 0).val, by omega⟩ (y 1)).symm.trans (congrArg _ (by blk_ext [idx t]))))
  refine congrArg₂ Update.mean ?_ ?_
  · blk_simp [iblk, idx t]
    refine (congrArg (V m c _) (?_ : _ = ix2 (⟨(y 0).val, by omega⟩ : Fin 6) (y 1))).trans (V_1 m c _ _)
    blk_ext [idx t]
  · refine Finset.sum_congr rfl fun s _ => ?_
    blk_ext [iblk, V, idx t]

theorem point_square (w mo v : Vec Ideal S6x704 .f32) (p : Vec Ideal S8x6x704 .bf16) (i : Fin 6) (j : Fin 704) :
    out0_7 w mo v p (ix2 i j) = (Update.square (v (ix2 i j)) (∑ s : Fin 8, p (ix3 s i j)) : EReal) := by
  unfold Update.square
  rw [Fin.sum_univ_eight]
  frame_out
  pointwise [k0_pay2, k0_pay6, k0_pay4, k0_pay5]

open Cert.AdamFfnRefIdeal.Read in
theorem reference_square (x2 : S2x3x704.Idx → EReal) (x3 : S8x6x704.Idx → EReal) (i : Fin 6) (j : Fin 704) :
    val_main_v30 (F := Ideal) x2 x3 (ix2 i j)
      = Update.square (x2 (ix3 ⟨i.val / 3, by omega⟩ ⟨i.val % 3, by omega⟩ j)) (∑ s : Fin 8, x3 (ix3 s i j)) := by
  unfold Update.square
  pointwise [val_main_v30, val_main_v13, val_main_v12, val_main_v11, val_main_v10, val_main_v9, val_main_v8, val_main_v2, val_main_v1, val_main_v0, val_main_cst, val_main_cst_2, val_main_cst_3]

theorem array_square (c : Dev nD) : (dats m 0 c).arrAt 7 cfg0.N
    = Cert.AdamFfnRefIdeal.Read.val_main_v30 (F := Ideal) (m ((c : Thread nD τ).loc main_arg2)) (m ((c : Thread nD τ).loc main_arg3)) := by
  refine (dats m 0 c).arrAt_eq_of_covers 7 _ (by decide +kernel) fun t hf y => ?_
  blk_simp
  rw [after0_7]
  have ht := point_lt t
  have hy : (y 0).val < 6 := (y 0).isLt
  refine ((congrArg _ (by idx_ext : y = ix2 (y 0) (y 1))).trans (point_square _ _ _ _ (y 0) (y 1))).trans
    (Eq.trans ?_ ((reference_square _ _ ⟨t.val * 6 + (y 0).val, by omega⟩ (y 1)).symm.trans (congrArg _ (by blk_ext [idx t]))))
  refine congrArg₂ Update.square ?_ ?_
  · blk_simp [iblk, idx t]
    refine (congrArg (V m c _) (?_ : _ = ix2 (⟨(y 0).val, by omega⟩ : Fin 6) (y 1))).trans (V_2 m c _ _)
    blk_ext [idx t]
  · refine Finset.sum_congr rfl fun s _ => ?_
    blk_ext [iblk, V, idx t]

end Cert.AdamFfnIdeal.Point

end
-- ==== Proof.AdamSmall.lean ====
/- The optimiser step of the small weights, packed row under row, index by index, as the reference's value of the same arguments. -/
module

public import Idealize.ShloMosaic.Lib.Pipeline.ValueKit
public import Idealize.ShloMosaic.Lib.Claim
public import Idealize.ShloMosaic.Lib.StableHlo.RunRead
public import proofs.«01_k».proof.Proof.Update
public import proofs.«01_k».proof.Proof.Gen.AdamSmallIdeal.Value
public import proofs.«01_k».proof.Proof.Gen.AdamSmallRefIdeal.Run
public import proofs.«01_k».proof.Proof.Gen.AdamSmallRefIdeal.Read

@[expose] public section

set_option maxRecDepth 16384

noncomputable section

namespace Cert.AdamSmallIdeal.Point

open Idealize.ShloMosaic Idealize.ShloMosaic.TcCoe Idealize.ShloMosaic.Tactic Idealize.SL.Sem
open Cert.AdamSmallIdeal Cert.AdamSmallIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem point_lt (t : Fin cfg0.N) : t.val < 1 := Nat.lt_of_lt_of_eq t.isLt (by decide +kernel : cfg0.N = 1)

/-- The weights, packed. -/
theorem V_0 (c : Dev nD) : V m c main_v37
    = Cert.AdamSmallRefIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  after_reads_simp
  try dsimp only [Matrix.cons_val]
  try after_reads_simp
  rfl

/-- The running means, packed. -/
theorem V_1 (c : Dev nD) : V m c main_v75
    = Cert.AdamSmallRefIdeal.Read.val_main_v75 (F := Ideal) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) := by
  after_reads_simp
  try dsimp only [Matrix.cons_val]
  try after_reads_simp
  rfl

/-- The running squares, packed. -/
theorem V_2 (c : Dev nD) : V m c main_v113
    = Cert.AdamSmallRefIdeal.Read.val_main_v113 (F := Ideal) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50)) := by
  after_reads_simp
  try dsimp only [Matrix.cons_val]
  try after_reads_simp
  rfl

theorem point_gradient (w mo v : Vec Ideal S1368x128 .f32) (p : Vec Ideal S8x1368x128 .f32) (i : Fin 1368) (j : Fin 128) :
    out0_4 w mo v p (ix2 i j) = ((∑ s : Fin 8, p (ix3 s i j)) : EReal) := by
  rw [Fin.sum_univ_eight]
  frame_out
  pointwise [k0_pay1, k0_pay2, k0_pay3, k0_pay4, k0_pay5, k0_pay6]

open Cert.AdamSmallRefIdeal.Read in
theorem reference_gradient (x51 : S8x1368x128.Idx → EReal) (i : Fin 1368) (j : Fin 128) :
    val_main_v114 (F := Ideal) x51 (ix2 i j)
      =  (∑ s : Fin 8, x51 (ix3 s i j)) := by
  pointwise [val_main_v114, val_main_cst_2]

theorem array_gradient (c : Dev nD) : (dats m 0 c).arrAt 4 cfg0.N
    = Cert.AdamSmallRefIdeal.Read.val_main_v114 (F := Ideal) (m ((c : Thread nD τ).loc main_arg51)) := by
  refine (dats m 0 c).arrAt_eq_of_covers 4 _ (by decide +kernel) fun t hf y => ?_
  blk_simp
  rw [after0_4]
  have ht := point_lt t
  have hy : (y 0).val < 1368 := (y 0).isLt
  refine ((congrArg _ (by idx_ext : y = ix2 (y 0) (y 1))).trans (point_gradient _ _ _ _ (y 0) (y 1))).trans
    (Eq.trans ?_ ((reference_gradient (m ((c : Thread nD τ).loc main_arg51)) ⟨t.val * 1368 + (y 0).val, by omega⟩ (y 1)).symm.trans (congrArg _ (by blk_ext [idx t]))))
  refine Finset.sum_congr rfl fun s _ => ?_
  blk_simp [iblk, idx t]
  refine (congrFun (V_main_arg51 m c) _).trans (congrArg _ ?_)
  blk_ext [idx t]

theorem point_change (w mo v : Vec Ideal S1368x128 .f32) (p : Vec Ideal S8x1368x128 .f32) (i : Fin 1368) (j : Fin 128) :
    out0_5 w mo v p (ix2 i j) = (Update.change (w (ix2 i j)) (mo (ix2 i j)) (v (ix2 i j)) (∑ s : Fin 8, p (ix3 s i j)) : EReal) := by
  unfold Update.change Update.mean Update.square
  rw [Fin.sum_univ_eight]
  frame_out
  pointwise [k0_pay1, k0_pay2, k0_pay3, k0_pay4, k0_pay5, k0_pay6]

open Cert.AdamSmallRefIdeal.Read in
theorem reference_change (x0 : S2x2560.Idx → EReal) (x1 : S2x256.Idx → EReal) (x2 : S2x256.Idx → EReal) (x3 : S2x256.Idx → EReal) (x4 : S32x8.Idx → EReal) (x5 : S2x256.Idx → EReal) (x6 : S2x256.Idx → EReal) (x7 : S2x4x128x128.Idx → EReal) (x8 : S2x4x128.Idx → EReal) (x9 : S2x1024.Idx → EReal) (x10 : S2x1024.Idx → EReal) (x11 : S2x1024.Idx → EReal) (x12 : S2x5632.Idx → EReal) (x13 : S2x5632.Idx → EReal) (x14 : S2x1024.Idx → EReal) (x15 : S2x1024.Idx → EReal) (x16 : S2x1024.Idx → EReal) (x17 : S2x2560.Idx → EReal) (x18 : S2x256.Idx → EReal) (x19 : S2x256.Idx → EReal) (x20 : S2x256.Idx → EReal) (x21 : S32x8.Idx → EReal) (x22 : S2x256.Idx → EReal) (x23 : S2x256.Idx → EReal) (x24 : S2x4x128x128.Idx → EReal) (x25 : S2x4x128.Idx → EReal) (x26 : S2x1024.Idx → EReal) (x27 : S2x1024.Idx → EReal) (x28 : S2x1024.Idx → EReal) (x29 : S2x5632.Idx → EReal) (x30 : S2x5632.Idx → EReal) (x31 : S2x1024.Idx → EReal) (x32 : S2x1024.Idx → EReal) (x33 : S2x1024.Idx → EReal) (x34 : S2x2560.Idx → EReal) (x35 : S2x256.Idx → EReal) (x36 : S2x256.Idx → EReal) (x37 : S2x256.Idx → EReal) (x38 : S32x8.Idx → EReal) (x39 : S2x256.Idx → EReal) (x40 : S2x256.Idx → EReal) (x41 : S2x4x128x128.Idx → EReal) (x42 : S2x4x128.Idx → EReal) (x43 : S2x1024.Idx → EReal) (x44 : S2x1024.Idx → EReal) (x45 : S2x1024.Idx → EReal) (x46 : S2x5632.Idx → EReal) (x47 : S2x5632.Idx → EReal) (x48 : S2x1024.Idx → EReal) (x49 : S2x1024.Idx → EReal) (x50 : S2x1024.Idx → EReal) (x51 : S8x1368x128.Idx → EReal) (i : Fin 1368) (j : Fin 128) :
    val_main_v138 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 (ix2 i j)
      = Update.change (val_main_v37 (F := Ideal) x0 x1 x2 x3 x4 x5 x6 x7 x8 x9 x10 x11 x12 x13 x14 x15 x16 (ix2 i j)) (val_main_v75 (F := Ideal) x17 x18 x19 x20 x21 x22 x23 x24 x25 x26 x27 x28 x29 x30 x31 x32 x33 (ix2 i j)) (val_main_v113 (F := Ideal) x34 x35 x36 x37 x38 x39 x40 x41 x42 x43 x44 x45 x46 x47 x48 x49 x50 (ix2 i j)) (∑ s : Fin 8, x51 (ix3 s i j)) := by
  unfold Update.change Update.mean Update.square
  pointwise [val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_cst_2, val_main_cst_3, val_main_cst_4, val_main_cst_5, val_main_cst_6, val_main_cst_7, val_main_cst_8, val_main_cst_9, val_main_cst_10, val_main_cst_11]

set_option maxHeartbeats 1600000 in
theorem array_change (c : Dev nD) : (dats m 0 c).arrAt 5 cfg0.N
    = Cert.AdamSmallRefIdeal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50)) (m ((c : Thread nD τ).loc main_arg51)) := by
  refine (dats m 0 c).arrAt_eq_of_covers 5 _ (by decide +kernel) fun t hf y => ?_
  blk_simp
  rw [after0_5]
  have ht := point_lt t
  have hy : (y 0).val < 1368 := (y 0).isLt
  refine ((congrArg _ (by idx_ext : y = ix2 (y 0) (y 1))).trans (point_change _ _ _ _ (y 0) (y 1))).trans
    (Eq.trans ?_ ((reference_change (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50)) (m ((c : Thread nD τ).loc main_arg51)) ⟨t.val * 1368 + (y 0).val, by omega⟩ (y 1)).symm.trans (congrArg _ (by blk_ext [idx t]))))
  refine congr (congr (congr (congrArg Update.change ?_) ?_) ?_) ?_
  · blk_simp [iblk, idx t]
    refine (congrArg (V m c _) (?_ : _ = ix2 (⟨(y 0).val, by omega⟩ : Fin 1368) (y 1))).trans ((congrFun (V_0 m c) _).trans (congrArg _ ?_))
    · blk_ext [idx t]
    · idx_ext
  · blk_simp [iblk, idx t]
    refine (congrArg (V m c _) (?_ : _ = ix2 (⟨(y 0).val, by omega⟩ : Fin 1368) (y 1))).trans ((congrFun (V_1 m c) _).trans (congrArg _ ?_))
    · blk_ext [idx t]
    · idx_ext
  · blk_simp [iblk, idx t]
    refine (congrArg (V m c _) (?_ : _ = ix2 (⟨(y 0).val, by omega⟩ : Fin 1368) (y 1))).trans ((congrFun (V_2 m c) _).trans (congrArg _ ?_))
    · blk_ext [idx t]
    · idx_ext
  · refine Finset.sum_congr rfl fun s _ => ?_
    blk_simp [iblk, idx t]
    refine (congrFun (V_main_arg51 m c) _).trans (congrArg _ ?_)
    blk_ext [idx t]

theorem point_mean (w mo v : Vec Ideal S1368x128 .f32) (p : Vec Ideal S8x1368x128 .f32) (i : Fin 1368) (j : Fin 128) :
    out0_6 w mo v p (ix2 i j) = (Update.mean (mo (ix2 i j)) (∑ s : Fin 8, p (ix3 s i j)) : EReal) := by
  unfold Update.mean
  rw [Fin.sum_univ_eight]
  frame_out
  pointwise [k0_pay1, k0_pay2, k0_pay3, k0_pay4, k0_pay5, k0_pay6]

open Cert.AdamSmallRefIdeal.Read in
theorem reference_mean (x17 : S2x2560.Idx → EReal) (x18 : S2x256.Idx → EReal) (x19 : S2x256.Idx → EReal) (x20 : S2x256.Idx → EReal) (x21 : S32x8.Idx → EReal) (x22 : S2x256.Idx → EReal) (x23 : S2x256.Idx → EReal) (x24 : S2x4x128x128.Idx → EReal) (x25 : S2x4x128.Idx → EReal) (x26 : S2x1024.Idx → EReal) (x27 : S2x1024.Idx → EReal) (x28 : S2x1024.Idx → EReal) (x29 : S2x5632.Idx → EReal) (x30 : S2x5632.Idx → EReal) (x31 : S2x1024.Idx → EReal) (x32 : S2x1024.Idx → EReal) (x33 : S2x1024.Idx → EReal) (x51 : S8x1368x128.Idx → EReal) (i : Fin 1368) (j : Fin 128) :
    val_main_v119 (F := Ideal) x17 x18 x19 x20 x21 x22 x23 x24 x25 x26 x27 x28 x29 x30 x31 x32 x33 x51 (ix2 i j)
      = Update.mean (val_main_v75 (F := Ideal) x17 x18 x19 x20 x21 x22 x23 x24 x25 x26 x27 x28 x29 x30 x31 x32 x33 (ix2 i j)) (∑ s : Fin 8, x51 (ix3 s i j)) := by
  unfold Update.mean
  pointwise [val_main_v119, val_main_v118, val_main_v117, val_main_v116, val_main_v115, val_main_v114, val_main_cst_2, val_main_cst_3, val_main_cst_4]

theorem array_mean (c : Dev nD) : (dats m 0 c).arrAt 6 cfg0.N
    = Cert.AdamSmallRefIdeal.Read.val_main_v119 (F := Ideal) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg51)) := by
  refine (dats m 0 c).arrAt_eq_of_covers 6 _ (by decide +kernel) fun t hf y => ?_
  blk_simp
  rw [after0_6]
  have ht := point_lt t
  have hy : (y 0).val < 1368 := (y 0).isLt
  refine ((congrArg _ (by idx_ext : y = ix2 (y 0) (y 1))).trans (point_mean _ _ _ _ (y 0) (y 1))).trans
    (Eq.trans ?_ ((reference_mean (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg51)) ⟨t.val * 1368 + (y 0).val, by omega⟩ (y 1)).symm.trans (congrArg _ (by blk_ext [idx t]))))
  refine congrArg₂ Update.mean ?_ ?_
  · blk_simp [iblk, idx t]
    refine (congrArg (V m c _) (?_ : _ = ix2 (⟨(y 0).val, by omega⟩ : Fin 1368) (y 1))).trans ((congrFun (V_1 m c) _).trans (congrArg _ ?_))
    · blk_ext [idx t]
    · idx_ext
  · refine Finset.sum_congr rfl fun s _ => ?_
    blk_simp [iblk, idx t]
    refine (congrFun (V_main_arg51 m c) _).trans (congrArg _ ?_)
    blk_ext [idx t]

theorem point_square (w mo v : Vec Ideal S1368x128 .f32) (p : Vec Ideal S8x1368x128 .f32) (i : Fin 1368) (j : Fin 128) :
    out0_7 w mo v p (ix2 i j) = (Update.square (v (ix2 i j)) (∑ s : Fin 8, p (ix3 s i j)) : EReal) := by
  unfold Update.square
  rw [Fin.sum_univ_eight]
  frame_out
  pointwise [k0_pay1, k0_pay2, k0_pay3, k0_pay4, k0_pay5, k0_pay6]

open Cert.AdamSmallRefIdeal.Read in
theorem reference_square (x34 : S2x2560.Idx → EReal) (x35 : S2x256.Idx → EReal) (x36 : S2x256.Idx → EReal) (x37 : S2x256.Idx → EReal) (x38 : S32x8.Idx → EReal) (x39 : S2x256.Idx → EReal) (x40 : S2x256.Idx → EReal) (x41 : S2x4x128x128.Idx → EReal) (x42 : S2x4x128.Idx → EReal) (x43 : S2x1024.Idx → EReal) (x44 : S2x1024.Idx → EReal) (x45 : S2x1024.Idx → EReal) (x46 : S2x5632.Idx → EReal) (x47 : S2x5632.Idx → EReal) (x48 : S2x1024.Idx → EReal) (x49 : S2x1024.Idx → EReal) (x50 : S2x1024.Idx → EReal) (x51 : S8x1368x128.Idx → EReal) (i : Fin 1368) (j : Fin 128) :
    val_main_v125 (F := Ideal) x34 x35 x36 x37 x38 x39 x40 x41 x42 x43 x44 x45 x46 x47 x48 x49 x50 x51 (ix2 i j)
      = Update.square (val_main_v113 (F := Ideal) x34 x35 x36 x37 x38 x39 x40 x41 x42 x43 x44 x45 x46 x47 x48 x49 x50 (ix2 i j)) (∑ s : Fin 8, x51 (ix3 s i j)) := by
  unfold Update.square
  pointwise [val_main_v125, val_main_v124, val_main_v123, val_main_v122, val_main_v121, val_main_v120, val_main_v114, val_main_cst_2, val_main_cst_5, val_main_cst_6]

theorem array_square (c : Dev nD) : (dats m 0 c).arrAt 7 cfg0.N
    = Cert.AdamSmallRefIdeal.Read.val_main_v125 (F := Ideal) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50)) (m ((c : Thread nD τ).loc main_arg51)) := by
  refine (dats m 0 c).arrAt_eq_of_covers 7 _ (by decide +kernel) fun t hf y => ?_
  blk_simp
  rw [after0_7]
  have ht := point_lt t
  have hy : (y 0).val < 1368 := (y 0).isLt
  refine ((congrArg _ (by idx_ext : y = ix2 (y 0) (y 1))).trans (point_square _ _ _ _ (y 0) (y 1))).trans
    (Eq.trans ?_ ((reference_square (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50)) (m ((c : Thread nD τ).loc main_arg51)) ⟨t.val * 1368 + (y 0).val, by omega⟩ (y 1)).symm.trans (congrArg _ (by blk_ext [idx t]))))
  refine congrArg₂ Update.square ?_ ?_
  · blk_simp [iblk, idx t]
    refine (congrArg (V m c _) (?_ : _ = ix2 (⟨(y 0).val, by omega⟩ : Fin 1368) (y 1))).trans ((congrFun (V_2 m c) _).trans (congrArg _ ?_))
    · blk_ext [idx t]
    · idx_ext
  · refine Finset.sum_congr rfl fun s _ => ?_
    blk_simp [iblk, idx t]
    refine (congrFun (V_main_arg51 m c) _).trans (congrArg _ ?_)
    blk_ext [idx t]

end Cert.AdamSmallIdeal.Point

end
-- ==== Proof.Updates.lean ====
/- The weights' updates: each program's results are its reference's. -/
module

public import proofs.«01_k».proof.Defs
public import proofs.«01_k».proof.Proof.AdamIn
public import proofs.«01_k».proof.Proof.AdamOut
public import proofs.«01_k».proof.Proof.AdamUp
public import proofs.«01_k».proof.Proof.AdamDown
public import proofs.«01_k».proof.Proof.AdamConv
public import proofs.«01_k».proof.Proof.AdamFfn
public import proofs.«01_k».proof.Proof.AdamSmall
public import Idealize.ShloMosaic.Adequacy
public import Idealize.ShloMosaic.Init

@[expose] public section

noncomputable section

namespace Cert.Proof

open Idealize.ShloMosaic Idealize.SL.Sem

open Cert.AdamInRefIdeal.Read Cert.AdamInIdeal.Point in
theorem adamIn : Cert.algebraic_AdamInIdeal_AdamInRefIdeal (hAdamInIdeal := Cert.AdamInIdeal.Gen.facts) (hAdamInRefIdeal := Cert.AdamInRefIdeal.Gen.facts) := by
  intro m g m' g' _ hagree
  refine ⟨_, _, _, _, (θ_run Cert.AdamInIdeal.defs _ _).mono (fun r h c => h c) (Cert.AdamInIdeal.Value.run_blocks m g),
    (θ_run Cert.AdamInRefIdeal.defs _ _).mono (fun r h c => ?_) (Cert.AdamInRefIdeal.Value.run m' g')⟩
  obtain ⟨a0, a1, a2, a3⟩ := hagree c
  obtain ⟨r0, r1, r2, r3, rest⟩ := h c
  refine ⟨r0.trans ?_, r1.trans ?_, r2.trans ?_, r3.trans ?_, rest⟩
  · exact (val_main_v27_eq _).trans ((congrArg (val_main_v27 (F := Ideal)) a3).trans (array_gradient m c).symm)
  · exact (val_main_v28_eq _ _ _ _).trans ((congr (congr (congr (congrArg (val_main_v28 (F := Ideal)) a0) a1) a2) a3).trans (array_change m c).symm)
  · exact (val_main_v29_eq _ _).trans ((congr (congrArg (val_main_v29 (F := Ideal)) a1) a3).trans (array_mean m c).symm)
  · exact (val_main_v30_eq _ _).trans ((congr (congrArg (val_main_v30 (F := Ideal)) a2) a3).trans (array_square m c).symm)

open Cert.AdamOutRefIdeal.Read Cert.AdamOutIdeal.Point in
theorem adamOut : Cert.algebraic_AdamOutIdeal_AdamOutRefIdeal (hAdamOutIdeal := Cert.AdamOutIdeal.Gen.facts) (hAdamOutRefIdeal := Cert.AdamOutRefIdeal.Gen.facts) := by
  intro m g m' g' _ hagree
  refine ⟨_, _, _, _, (θ_run Cert.AdamOutIdeal.defs _ _).mono (fun r h c => h c) (Cert.AdamOutIdeal.Value.run_blocks m g),
    (θ_run Cert.AdamOutRefIdeal.defs _ _).mono (fun r h c => ?_) (Cert.AdamOutRefIdeal.Value.run m' g')⟩
  obtain ⟨a0, a1, a2, a3⟩ := hagree c
  obtain ⟨r0, r1, r2, r3, rest⟩ := h c
  refine ⟨r0.trans ?_, r1.trans ?_, r2.trans ?_, r3.trans ?_, rest⟩
  · exact (val_main_v27_eq _).trans ((congrArg (val_main_v27 (F := Ideal)) a3).trans (array_gradient m c).symm)
  · exact (val_main_v28_eq _ _ _ _).trans ((congr (congr (congr (congrArg (val_main_v28 (F := Ideal)) a0) a1) a2) a3).trans (array_change m c).symm)
  · exact (val_main_v29_eq _ _).trans ((congr (congrArg (val_main_v29 (F := Ideal)) a1) a3).trans (array_mean m c).symm)
  · exact (val_main_v30_eq _ _).trans ((congr (congrArg (val_main_v30 (F := Ideal)) a2) a3).trans (array_square m c).symm)

open Cert.AdamUpRefIdeal.Read Cert.AdamUpIdeal.Point in
theorem adamUp : Cert.algebraic_AdamUpIdeal_AdamUpRefIdeal (hAdamUpIdeal := Cert.AdamUpIdeal.Gen.facts) (hAdamUpRefIdeal := Cert.AdamUpRefIdeal.Gen.facts) := by
  intro m g m' g' _ hagree
  refine ⟨_, _, _, _, (θ_run Cert.AdamUpIdeal.defs _ _).mono (fun r h c => h c) (Cert.AdamUpIdeal.Value.run_blocks m g),
    (θ_run Cert.AdamUpRefIdeal.defs _ _).mono (fun r h c => ?_) (Cert.AdamUpRefIdeal.Value.run m' g')⟩
  obtain ⟨a0, a1, a2, a3⟩ := hagree c
  obtain ⟨r0, r1, r2, r3, rest⟩ := h c
  refine ⟨r0.trans ?_, r1.trans ?_, r2.trans ?_, r3.trans ?_, rest⟩
  · exact (val_main_v27_eq _).trans ((congrArg (val_main_v27 (F := Ideal)) a3).trans (array_gradient m c).symm)
  · exact (val_main_v28_eq _ _ _ _).trans ((congr (congr (congr (congrArg (val_main_v28 (F := Ideal)) a0) a1) a2) a3).trans (array_change m c).symm)
  · exact (val_main_v29_eq _ _).trans ((congr (congrArg (val_main_v29 (F := Ideal)) a1) a3).trans (array_mean m c).symm)
  · exact (val_main_v30_eq _ _).trans ((congr (congrArg (val_main_v30 (F := Ideal)) a2) a3).trans (array_square m c).symm)

open Cert.AdamDownRefIdeal.Read Cert.AdamDownIdeal.Point in
theorem adamDown : Cert.algebraic_AdamDownIdeal_AdamDownRefIdeal (hAdamDownIdeal := Cert.AdamDownIdeal.Gen.facts) (hAdamDownRefIdeal := Cert.AdamDownRefIdeal.Gen.facts) := by
  intro m g m' g' _ hagree
  refine ⟨_, _, _, _, (θ_run Cert.AdamDownIdeal.defs _ _).mono (fun r h c => h c) (Cert.AdamDownIdeal.Value.run_blocks m g),
    (θ_run Cert.AdamDownRefIdeal.defs _ _).mono (fun r h c => ?_) (Cert.AdamDownRefIdeal.Value.run m' g')⟩
  obtain ⟨a0, a1, a2, a3⟩ := hagree c
  obtain ⟨r0, r1, r2, r3, rest⟩ := h c
  refine ⟨r0.trans ?_, r1.trans ?_, r2.trans ?_, r3.trans ?_, rest⟩
  · exact (val_main_v27_eq _).trans ((congrArg (val_main_v27 (F := Ideal)) a3).trans (array_gradient m c).symm)
  · exact (val_main_v28_eq _ _ _ _).trans ((congr (congr (congr (congrArg (val_main_v28 (F := Ideal)) a0) a1) a2) a3).trans (array_change m c).symm)
  · exact (val_main_v29_eq _ _).trans ((congr (congrArg (val_main_v29 (F := Ideal)) a1) a3).trans (array_mean m c).symm)
  · exact (val_main_v30_eq _ _).trans ((congr (congrArg (val_main_v30 (F := Ideal)) a2) a3).trans (array_square m c).symm)

open Cert.AdamConvRefIdeal.Read Cert.AdamConvIdeal.Point in
theorem adamConv : Cert.algebraic_AdamConvIdeal_AdamConvRefIdeal (hAdamConvIdeal := Cert.AdamConvIdeal.Gen.facts) (hAdamConvRefIdeal := Cert.AdamConvRefIdeal.Gen.facts) := by
  intro m g m' g' _ hagree
  refine ⟨_, _, _, _, (θ_run Cert.AdamConvIdeal.defs _ _).mono (fun r h c => h c) (Cert.AdamConvIdeal.Value.run_blocks m g),
    (θ_run Cert.AdamConvRefIdeal.defs _ _).mono (fun r h c => ?_) (Cert.AdamConvRefIdeal.Value.run m' g')⟩
  obtain ⟨a0, a1, a2, a3⟩ := hagree c
  obtain ⟨r0, r1, r2, r3, rest⟩ := h c
  refine ⟨r0.trans ?_, r1.trans ?_, r2.trans ?_, r3.trans ?_, rest⟩
  · exact (val_main_v27_eq _).trans ((congrArg (val_main_v27 (F := Ideal)) a3).trans (array_gradient m c).symm)
  · exact (val_main_v28_eq _ _ _ _).trans ((congr (congr (congr (congrArg (val_main_v28 (F := Ideal)) a0) a1) a2) a3).trans (array_change m c).symm)
  · exact (val_main_v29_eq _ _).trans ((congr (congrArg (val_main_v29 (F := Ideal)) a1) a3).trans (array_mean m c).symm)
  · exact (val_main_v30_eq _ _).trans ((congr (congrArg (val_main_v30 (F := Ideal)) a2) a3).trans (array_square m c).symm)

open Cert.AdamFfnRefIdeal.Read Cert.AdamFfnIdeal.Point in
theorem adamFfn : Cert.algebraic_AdamFfnIdeal_AdamFfnRefIdeal (hAdamFfnIdeal := Cert.AdamFfnIdeal.Gen.facts) (hAdamFfnRefIdeal := Cert.AdamFfnRefIdeal.Gen.facts) := by
  intro m g m' g' _ hagree
  refine ⟨_, _, _, _, (θ_run Cert.AdamFfnIdeal.defs _ _).mono (fun r h c => h c) (Cert.AdamFfnIdeal.Value.run_blocks m g),
    (θ_run Cert.AdamFfnRefIdeal.defs _ _).mono (fun r h c => ?_) (Cert.AdamFfnRefIdeal.Value.run m' g')⟩
  obtain ⟨a0, a1, a2, a3⟩ := hagree c
  obtain ⟨r0, r1, r2, r3, rest⟩ := h c
  refine ⟨r0.trans ?_, r1.trans ?_, r2.trans ?_, r3.trans ?_, rest⟩
  · exact (val_main_v27_eq _).trans ((congrArg (val_main_v27 (F := Ideal)) a3).trans (array_gradient m c).symm)
  · exact (val_main_v28_eq _ _ _ _).trans ((congr (congr (congr (congrArg (val_main_v28 (F := Ideal)) a0) a1) a2) a3).trans (array_change m c).symm)
  · exact (val_main_v29_eq _ _).trans ((congr (congrArg (val_main_v29 (F := Ideal)) a1) a3).trans (array_mean m c).symm)
  · exact (val_main_v30_eq _ _).trans ((congr (congrArg (val_main_v30 (F := Ideal)) a2) a3).trans (array_square m c).symm)

open Cert.AdamSmallRefIdeal.Read Cert.AdamSmallIdeal.Point in
theorem adamSmall : Cert.algebraic_AdamSmallIdeal_AdamSmallRefIdeal (hAdamSmallIdeal := Cert.AdamSmallIdeal.Gen.facts) (hAdamSmallRefIdeal := Cert.AdamSmallRefIdeal.Gen.facts) := by
  intro m g m' g' _ hagree
  refine ⟨_, _, _, _, (θ_run Cert.AdamSmallIdeal.defs _ _).mono (fun r h c => h c) (Cert.AdamSmallIdeal.Value.run_blocks m g),
    (θ_run Cert.AdamSmallRefIdeal.defs _ _).mono (fun r h c => ?_) (Cert.AdamSmallRefIdeal.Value.run m' g')⟩
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51⟩ := hagree c
  obtain ⟨r0, r1, r2, r3, rest⟩ := h c
  refine ⟨r0.trans ?_, r1.trans ?_, r2.trans ?_, r3.trans ?_, rest⟩
  · exact (val_main_v114_eq _).trans ((congrArg (val_main_v114 (F := Ideal)) a51).trans (array_gradient m c).symm)
  · exact (val_main_v138_eq m' c).trans ((congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congr (congrArg (val_main_v138 (F := Ideal)) a0) a1) a2) a3) a4) a5) a6) a7) a8) a9) a10) a11) a12) a13) a14) a15) a16) a17) a18) a19) a20) a21) a22) a23) a24) a25) a26) a27) a28) a29) a30) a31) a32) a33) a34) a35) a36) a37) a38) a39) a40) a41) a42) a43) a44) a45) a46) a47) a48) a49) a50) a51).trans (array_change m c).symm)
  · exact (val_main_v119_eq _ _ _ _ _ _ _ _ _ _ _ _ _ _ _ _ _ _).trans ((congr (congr (congr (congr (congr (congr (congr (congr (congr (congr (congr (congr (congr (congr (congr (congr (congr (congrArg (val_main_v119 (F := Ideal)) a17) a18) a19) a20) a21) a22) a23) a24) a25) a26) a27) a28) a29) a30) a31) a32) a33) a51).trans (array_mean m c).symm)
  · exact (val_main_v125_eq _ _ _ _ _ _ _ _ _ _ _ _ _ _ _ _ _ _).trans ((congr (congr (congr (congr (congr (congr (congr (congr (congr (congr (congr (congr (congr (congr (congr (congr (congr (congrArg (val_main_v125 (F := Ideal)) a34) a35) a36) a37) a38) a39) a40) a41) a42) a43) a44) a45) a46) a47) a48) a49) a50) a51).trans (array_square m c).symm)

end Cert.Proof

end
-- ==== Proof.lean ====
/- The certificate: the frames, the two masks' meaning, the gradient of the attention branch, the products and the updates. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Arrays
public import proofs.«01_k».proof.Proof.Gen.DwUp
public import proofs.«01_k».proof.Proof.Gen.DwUp.Skeleton
public import proofs.«01_k».proof.Proof.Gen.DwUp.Launch
public import proofs.«01_k».proof.Proof.Gen.DwUp.Points
public import proofs.«01_k».proof.Proof.Gen.DwUp.Frame
public import proofs.«01_k».proof.Proof.Gen.DwUpIdeal
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpIdeal.Value
public import proofs.«01_k».proof.Proof.Gen.DwUpRefIdeal
public import proofs.«01_k».proof.Proof.Gen.DwUpRefIdeal.Run
public import proofs.«01_k».proof.Proof.Gen.DwUpRefIdeal.Read
public import proofs.«01_k».proof.Proof.Gen.DxUp
public import proofs.«01_k».proof.Proof.Gen.DxUp.Skeleton
public import proofs.«01_k».proof.Proof.Gen.DxUp.Launch
public import proofs.«01_k».proof.Proof.Gen.DxUp.Points
public import proofs.«01_k».proof.Proof.Gen.DxUp.Frame
public import proofs.«01_k».proof.Proof.Gen.DxUpIdeal
public import proofs.«01_k».proof.Proof.Gen.DxUpIdeal.Skeleton
public import proofs.«01_k».proof.Proof.Gen.DxUpIdeal.Launch
public import proofs.«01_k».proof.Proof.Gen.DxUpIdeal.Points
public import proofs.«01_k».proof.Proof.Gen.DxUpIdeal.Frame
public import proofs.«01_k».proof.Proof.Gen.DxUpIdeal.Value
public import proofs.«01_k».proof.Proof.Gen.DxUpRefIdeal
public import proofs.«01_k».proof.Proof.Gen.DxUpRefIdeal.Run
public import proofs.«01_k».proof.Proof.Gen.DxUpRefIdeal.Read
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwDownRefIdeal.Read
public import proofs.«01_k».proof.Proof.Gen.DxDown
public import proofs.«01_k».proof.Proof.Gen.DxDown.Skeleton
public import proofs.«01_k».proof.Proof.Gen.DxDown.Launch
public import proofs.«01_k».proof.Proof.Gen.DxDown.Points
public import proofs.«01_k».proof.Proof.Gen.DxDown.Frame
public import proofs.«01_k».proof.Proof.Gen.DxDownIdeal
public import proofs.«01_k».proof.Proof.Gen.DxDownIdeal.Skeleton
public import proofs.«01_k».proof.Proof.Gen.DxDownIdeal.Launch
public import proofs.«01_k».proof.Proof.Gen.DxDownIdeal.Points
public import proofs.«01_k».proof.Proof.Gen.DxDownIdeal.Frame
public import proofs.«01_k».proof.Proof.Gen.DxDownIdeal.Value
public import proofs.«01_k».proof.Proof.Gen.DxDownRefIdeal
public import proofs.«01_k».proof.Proof.Gen.DxDownRefIdeal.Run
public import proofs.«01_k».proof.Proof.Gen.DxDownRefIdeal.Read
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Run
public import proofs.«01_k».proof.Proof.Gen.DwInRefIdeal.Read
public import proofs.«01_k».proof.Proof.Gen.DxIn
public import proofs.«01_k».proof.Proof.Gen.DxIn.Skeleton
public import proofs.«01_k».proof.Proof.Gen.DxIn.Launch
public import proofs.«01_k».proof.Proof.Gen.DxIn.Points
public import proofs.«01_k».proof.Proof.Gen.DxIn.Frame
public import proofs.«01_k».proof.Proof.Gen.DxInIdeal
public import proofs.«01_k».proof.Proof.Gen.DxInIdeal.Skeleton
public import proofs.«01_k».proof.Proof.Gen.DxInIdeal.Launch
public import proofs.«01_k».proof.Proof.Gen.DxInIdeal.Points
public import proofs.«01_k».proof.Proof.Gen.DxInIdeal.Frame
public import proofs.«01_k».proof.Proof.Gen.DxInIdeal.Value
public import proofs.«01_k».proof.Proof.Gen.DxInRefIdeal
public import proofs.«01_k».proof.Proof.Gen.DxInRefIdeal.Run
public import proofs.«01_k».proof.Proof.Gen.DxInRefIdeal.Read
public import proofs.«01_k».proof.Proof.Gen.DwOutAttn
public import proofs.«01_k».proof.Proof.Gen.DwOutAttn.Skeleton
public import proofs.«01_k».proof.Proof.Gen.DwOutAttn.Launch
public import proofs.«01_k».proof.Proof.Gen.DwOutAttn.Points
public import proofs.«01_k».proof.Proof.Gen.DwOutAttn.Frame
public import proofs.«01_k».proof.Proof.Gen.DwOutAttnIdeal
public import proofs.«01_k».proof.Proof.Gen.DwOutAttnIdeal.Skeleton
public import proofs.«01_k».proof.Proof.Gen.DwOutAttnIdeal.Launch
public import proofs.«01_k».proof.Proof.Gen.DwOutAttnIdeal.Points
public import proofs.«01_k».proof.Proof.Gen.DwOutAttnIdeal.Frame
public import proofs.«01_k».proof.Proof.Gen.DwOutAttnIdeal.Value
public import proofs.«01_k».proof.Proof.Gen.DwOutAttnRefIdeal
public import proofs.«01_k».proof.Proof.Gen.DwOutAttnRefIdeal.Run
public import proofs.«01_k».proof.Proof.Gen.DwOutAttnRefIdeal.Read
public import proofs.«01_k».proof.Proof.Gen.DwOutConv
public import proofs.«01_k».proof.Proof.Gen.DwOutConv.Skeleton
public import proofs.«01_k».proof.Proof.Gen.DwOutConv.Launch
public import proofs.«01_k».proof.Proof.Gen.DwOutConv.Points
public import proofs.«01_k».proof.Proof.Gen.DwOutConv.Frame
public import proofs.«01_k».proof.Proof.Gen.DwOutConvIdeal
public import proofs.«01_k».proof.Proof.Gen.DwOutConvIdeal.Skeleton
public import proofs.«01_k».proof.Proof.Gen.DwOutConvIdeal.Launch
public import proofs.«01_k».proof.Proof.Gen.DwOutConvIdeal.Points
public import proofs.«01_k».proof.Proof.Gen.DwOutConvIdeal.Frame
public import proofs.«01_k».proof.Proof.Gen.DwOutConvIdeal.Value
public import proofs.«01_k».proof.Proof.Gen.DwOutConvRefIdeal
public import proofs.«01_k».proof.Proof.Gen.DwOutConvRefIdeal.Run
public import proofs.«01_k».proof.Proof.Gen.DwOutConvRefIdeal.Read
public import proofs.«01_k».proof.Proof.Gen.DxOut
public import proofs.«01_k».proof.Proof.Gen.DxOut.Skeleton
public import proofs.«01_k».proof.Proof.Gen.DxOut.Launch
public import proofs.«01_k».proof.Proof.Gen.DxOut.Points
public import proofs.«01_k».proof.Proof.Gen.DxOut.Frame
public import proofs.«01_k».proof.Proof.Gen.DxOutIdeal
public import proofs.«01_k».proof.Proof.Gen.DxOutIdeal.Skeleton
public import proofs.«01_k».proof.Proof.Gen.DxOutIdeal.Launch
public import proofs.«01_k».proof.Proof.Gen.DxOutIdeal.Points
public import proofs.«01_k».proof.Proof.Gen.DxOutIdeal.Frame
public import proofs.«01_k».proof.Proof.Gen.DxOutIdeal.Value
public import proofs.«01_k».proof.Proof.Gen.DxOutRefIdeal
public import proofs.«01_k».proof.Proof.Gen.DxOutRefIdeal.Run
public import proofs.«01_k».proof.Proof.Gen.DxOutRefIdeal.Read
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamUpRefIdeal.Read
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.Gen.AdamConv
public import proofs.«01_k».proof.Proof.Gen.AdamConv.Skeleton
public import proofs.«01_k».proof.Proof.Gen.AdamConv.Launch
public import proofs.«01_k».proof.Proof.Gen.AdamConv.Points
public import proofs.«01_k».proof.Proof.Gen.AdamConv.Frame
public import proofs.«01_k».proof.Proof.Gen.AdamConvIdeal
public import proofs.«01_k».proof.Proof.Gen.AdamConvIdeal.Skeleton
public import proofs.«01_k».proof.Proof.Gen.AdamConvIdeal.Launch
public import proofs.«01_k».proof.Proof.Gen.AdamConvIdeal.Points
public import proofs.«01_k».proof.Proof.Gen.AdamConvIdeal.Frame
public import proofs.«01_k».proof.Proof.Gen.AdamConvIdeal.Value
public import proofs.«01_k».proof.Proof.Gen.AdamConvRefIdeal
public import proofs.«01_k».proof.Proof.Gen.AdamConvRefIdeal.Run
public import proofs.«01_k».proof.Proof.Gen.AdamConvRefIdeal.Read
public import proofs.«01_k».proof.Proof.Gen.AdamFfn
public import proofs.«01_k».proof.Proof.Gen.AdamFfn.Skeleton
public import proofs.«01_k».proof.Proof.Gen.AdamFfn.Launch
public import proofs.«01_k».proof.Proof.Gen.AdamFfn.Points
public import proofs.«01_k».proof.Proof.Gen.AdamFfn.Frame
public import proofs.«01_k».proof.Proof.Gen.AdamFfnIdeal
public import proofs.«01_k».proof.Proof.Gen.AdamFfnIdeal.Skeleton
public import proofs.«01_k».proof.Proof.Gen.AdamFfnIdeal.Launch
public import proofs.«01_k».proof.Proof.Gen.AdamFfnIdeal.Points
public import proofs.«01_k».proof.Proof.Gen.AdamFfnIdeal.Frame
public import proofs.«01_k».proof.Proof.Gen.AdamFfnIdeal.Value
public import proofs.«01_k».proof.Proof.Gen.AdamFfnRefIdeal
public import proofs.«01_k».proof.Proof.Gen.AdamFfnRefIdeal.Run
public import proofs.«01_k».proof.Proof.Gen.AdamFfnRefIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Products
public import proofs.«01_k».proof.Proof.Updates
public import Idealize.ShloMosaic.Adequacy
public import Idealize.ShloMosaic.Init

@[expose] public section

noncomputable section

namespace Cert.Proof

open Idealize.ShloMosaic Idealize.SL.Sem Cert.Kernel

theorem congr_four {A B C D R : Type} (f : A → B → C → D → R) {a a' : A} {b b' : B} {c c' : C} {d d' : D} (ha : a = a') (hb : b = b')
    (hc : c = c') (hd : d = d') : f a b c d = f a' b' c' d' := by
  rw [ha, hb, hc, hd]

theorem congr_five {A B C D E R : Type} (f : A → B → C → D → E → R) {a a' : A} {b b' : B} {c c' : C} {d d' : D} {e e' : E} (ha : a = a')
    (hb : b = b') (hc : c = c') (hd : d = d') (he : e = e') : f a b c d e = f a' b' c' d' e' := by
  rw [ha, hb, hc, hd, he]

open Cert.ReferenceIdeal.Read Cert.KernelIdeal.Point in
theorem attention : Cert.algebraic_KernelIdeal_ReferenceIdeal (hKernelIdeal := Cert.KernelIdeal.Gen.facts)
    (hReferenceIdeal := Cert.ReferenceIdeal.Gen.facts) := by
  intro m g m' g' _ hagree
  refine ⟨_, _, _, _, (θ_run Cert.KernelIdeal.defs _ _).mono (fun r h c => h c) (Cert.KernelIdeal.Value.run_blocks m g),
    (θ_run Cert.ReferenceIdeal.defs _ _).mono (fun r h c => ?_) (Cert.ReferenceIdeal.Value.run m' g')⟩
  obtain ⟨a0, a1, a2, a3, a4⟩ := hagree c
  obtain ⟨r0, r1, r2, r3, rest⟩ := h c
  refine ⟨r0.trans ?_, r1.trans ?_, r2.trans ?_, r3.trans ?_, rest⟩
  · exact (val_main_v91_eq m' c).trans ((congr_five (val_main_v91 (F := Ideal)) a0 a1 a2 a3 a4).trans (array_dq m c).symm)
  · exact (val_main_v92_eq m' c).trans ((congr_five (val_main_v92 (F := Ideal)) a0 a1 a2 a3 a4).trans (array_dk m c).symm)
  · exact (val_main_v93_eq m' c).trans ((congr_four (val_main_v93 (F := Ideal)) a0 a1 a2 a4).trans (array_dv m c).symm)
  · exact (val_main_v71_eq m' c).trans ((congr_five (val_main_v71 (F := Ideal)) a0 a1 a2 a3 a4).trans (array_db m c).symm)

theorem claim : Cert.Claim := ⟨Cert.Kernel.Gen.facts, Cert.KernelIdeal.Gen.facts, Cert.ReferenceIdeal.Gen.facts,
  Cert.DwUp.Gen.facts, Cert.DwUpIdeal.Gen.facts, Cert.DwUpRefIdeal.Gen.facts,
  Cert.DxUp.Gen.facts, Cert.DxUpIdeal.Gen.facts, Cert.DxUpRefIdeal.Gen.facts,
  Cert.DwDown.Gen.facts, Cert.DwDownIdeal.Gen.facts, Cert.DwDownRefIdeal.Gen.facts,
  Cert.DxDown.Gen.facts, Cert.DxDownIdeal.Gen.facts, Cert.DxDownRefIdeal.Gen.facts,
  Cert.DwIn.Gen.facts, Cert.DwInIdeal.Gen.facts, Cert.DwInRefIdeal.Gen.facts,
  Cert.DxIn.Gen.facts, Cert.DxInIdeal.Gen.facts, Cert.DxInRefIdeal.Gen.facts,
  Cert.DwOutAttn.Gen.facts, Cert.DwOutAttnIdeal.Gen.facts, Cert.DwOutAttnRefIdeal.Gen.facts,
  Cert.DwOutConv.Gen.facts, Cert.DwOutConvIdeal.Gen.facts, Cert.DwOutConvRefIdeal.Gen.facts,
  Cert.DxOut.Gen.facts, Cert.DxOutIdeal.Gen.facts, Cert.DxOutRefIdeal.Gen.facts,
  Cert.FfnUp.Gen.facts, Cert.FfnUpIdeal.Gen.facts, Cert.FfnUpRefIdeal.Gen.facts,
  Cert.FfnDown.Gen.facts, Cert.FfnDownIdeal.Gen.facts, Cert.FfnDownRefIdeal.Gen.facts,
  Cert.InProj.Gen.facts, Cert.InProjIdeal.Gen.facts, Cert.InProjRefIdeal.Gen.facts,
  Cert.OutProj.Gen.facts, Cert.OutProjIdeal.Gen.facts, Cert.OutProjRefIdeal.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  Cert.AdamConv.Gen.facts, Cert.AdamConvIdeal.Gen.facts, Cert.AdamConvRefIdeal.Gen.facts,
  Cert.AdamFfn.Gen.facts, Cert.AdamFfnIdeal.Gen.facts, Cert.AdamFfnRefIdeal.Gen.facts,
  Cert.AdamSmall.Gen.facts, Cert.AdamSmallIdeal.Gen.facts, Cert.AdamSmallRefIdeal.Gen.facts,
  fun m g _ => Cert.Kernel.Gen.frame m g,
  fun m g _ => Cert.KernelIdeal.Gen.frame m g,
  fun m g _ => (θ_run Cert.ReferenceIdeal.defs _ _).mono (fun r h => ⟨fun c => (h c).2.2.2.2, sem_eq_zero_of_no_sems (by decide) r.2⟩)
    (Cert.ReferenceIdeal.Value.run m g),
  fun m g _ => Cert.DwUp.Gen.frame m g,
  fun m g _ => Cert.DwUpIdeal.Gen.frame m g,
  fun m g _ => (θ_run Cert.DwUpRefIdeal.defs _ _).mono (fun r h => ⟨fun c => (h c).2, sem_eq_zero_of_no_sems (by decide) r.2⟩)
    (Cert.DwUpRefIdeal.Value.run m g),
  fun m g _ => Cert.DxUp.Gen.frame m g,
  fun m g _ => Cert.DxUpIdeal.Gen.frame m g,
  fun m g _ => (θ_run Cert.DxUpRefIdeal.defs _ _).mono (fun r h => ⟨fun c => (h c).2, sem_eq_zero_of_no_sems (by decide) r.2⟩)
    (Cert.DxUpRefIdeal.Value.run m g),
  fun m g _ => Cert.DwDown.Gen.frame m g,
  fun m g _ => Cert.DwDownIdeal.Gen.frame m g,
  fun m g _ => (θ_run Cert.DwDownRefIdeal.defs _ _).mono (fun r h => ⟨fun c => (h c).2, sem_eq_zero_of_no_sems (by decide) r.2⟩)
    (Cert.DwDownRefIdeal.Value.run m g),
  fun m g _ => Cert.DxDown.Gen.frame m g,
  fun m g _ => Cert.DxDownIdeal.Gen.frame m g,
  fun m g _ => (θ_run Cert.DxDownRefIdeal.defs _ _).mono (fun r h => ⟨fun c => (h c).2, sem_eq_zero_of_no_sems (by decide) r.2⟩)
    (Cert.DxDownRefIdeal.Value.run m g),
  fun m g _ => Cert.DwIn.Gen.frame m g,
  fun m g _ => Cert.DwInIdeal.Gen.frame m g,
  fun m g _ => (θ_run Cert.DwInRefIdeal.defs _ _).mono (fun r h => ⟨fun c => (h c).2.2.2.2.2.2.2.2.2.2, sem_eq_zero_of_no_sems (by decide) r.2⟩)
    (Cert.DwInRefIdeal.Value.run m g),
  fun m g _ => Cert.DxIn.Gen.frame m g,
  fun m g _ => Cert.DxInIdeal.Gen.frame m g,
  fun m g _ => (θ_run Cert.DxInRefIdeal.defs _ _).mono (fun r h => ⟨fun c => (h c).2, sem_eq_zero_of_no_sems (by decide) r.2⟩)
    (Cert.DxInRefIdeal.Value.run m g),
  fun m g _ => Cert.DwOutAttn.Gen.frame m g,
  fun m g _ => Cert.DwOutAttnIdeal.Gen.frame m g,
  fun m g _ => (θ_run Cert.DwOutAttnRefIdeal.defs _ _).mono (fun r h => ⟨fun c => (h c).2, sem_eq_zero_of_no_sems (by decide) r.2⟩)
    (Cert.DwOutAttnRefIdeal.Value.run m g),
  fun m g _ => Cert.DwOutConv.Gen.frame m g,
  fun m g _ => Cert.DwOutConvIdeal.Gen.frame m g,
  fun m g _ => (θ_run Cert.DwOutConvRefIdeal.defs _ _).mono (fun r h => ⟨fun c => (h c).2, sem_eq_zero_of_no_sems (by decide) r.2⟩)
    (Cert.DwOutConvRefIdeal.Value.run m g),
  fun m g _ => Cert.DxOut.Gen.frame m g,
  fun m g _ => Cert.DxOutIdeal.Gen.frame m g,
  fun m g _ => (θ_run Cert.DxOutRefIdeal.defs _ _).mono (fun r h => ⟨fun c => (h c).2.2.2, sem_eq_zero_of_no_sems (by decide) r.2⟩)
    (Cert.DxOutRefIdeal.Value.run m g),
  fun m g _ => Cert.FfnUp.Gen.frame m g,
  fun m g _ => Cert.FfnUpIdeal.Gen.frame m g,
  fun m g _ => (θ_run Cert.FfnUpRefIdeal.defs _ _).mono (fun r h => ⟨fun c => (h c).2, sem_eq_zero_of_no_sems (by decide) r.2⟩)
    (Cert.FfnUpRefIdeal.Value.run m g),
  fun m g _ => Cert.FfnDown.Gen.frame m g,
  fun m g _ => Cert.FfnDownIdeal.Gen.frame m g,
  fun m g _ => (θ_run Cert.FfnDownRefIdeal.defs _ _).mono (fun r h => ⟨fun c => (h c).2.2.2, sem_eq_zero_of_no_sems (by decide) r.2⟩)
    (Cert.FfnDownRefIdeal.Value.run m g),
  fun m g _ => Cert.InProj.Gen.frame m g,
  fun m g _ => Cert.InProjIdeal.Gen.frame m g,
  fun m g _ => (θ_run Cert.InProjRefIdeal.defs _ _).mono (fun r h => ⟨fun c => (h c).2.2.2, sem_eq_zero_of_no_sems (by decide) r.2⟩)
    (Cert.InProjRefIdeal.Value.run m g),
  fun m g _ => Cert.OutProj.Gen.frame m g,
  fun m g _ => Cert.OutProjIdeal.Gen.frame m g,
  fun m g _ => (θ_run Cert.OutProjRefIdeal.defs _ _).mono (fun r h => ⟨fun c => (h c).2.2.2, sem_eq_zero_of_no_sems (by decide) r.2⟩)
    (Cert.OutProjRefIdeal.Value.run m g),
  fun m g _ => Cert.AdamIn.Gen.frame m g,
  fun m g _ => Cert.AdamInIdeal.Gen.frame m g,
  fun m g _ => (θ_run Cert.AdamInRefIdeal.defs _ _).mono (fun r h => ⟨fun c => (h c).2.2.2.2, sem_eq_zero_of_no_sems (by decide) r.2⟩)
    (Cert.AdamInRefIdeal.Value.run m g),
  fun m g _ => Cert.AdamOut.Gen.frame m g,
  fun m g _ => Cert.AdamOutIdeal.Gen.frame m g,
  fun m g _ => (θ_run Cert.AdamOutRefIdeal.defs _ _).mono (fun r h => ⟨fun c => (h c).2.2.2.2, sem_eq_zero_of_no_sems (by decide) r.2⟩)
    (Cert.AdamOutRefIdeal.Value.run m g),
  fun m g _ => Cert.AdamUp.Gen.frame m g,
  fun m g _ => Cert.AdamUpIdeal.Gen.frame m g,
  fun m g _ => (θ_run Cert.AdamUpRefIdeal.defs _ _).mono (fun r h => ⟨fun c => (h c).2.2.2.2, sem_eq_zero_of_no_sems (by decide) r.2⟩)
    (Cert.AdamUpRefIdeal.Value.run m g),
  fun m g _ => Cert.AdamDown.Gen.frame m g,
  fun m g _ => Cert.AdamDownIdeal.Gen.frame m g,
  fun m g _ => (θ_run Cert.AdamDownRefIdeal.defs _ _).mono (fun r h => ⟨fun c => (h c).2.2.2.2, sem_eq_zero_of_no_sems (by decide) r.2⟩)
    (Cert.AdamDownRefIdeal.Value.run m g),
  fun m g _ => Cert.AdamConv.Gen.frame m g,
  fun m g _ => Cert.AdamConvIdeal.Gen.frame m g,
  fun m g _ => (θ_run Cert.AdamConvRefIdeal.defs _ _).mono (fun r h => ⟨fun c => (h c).2.2.2.2, sem_eq_zero_of_no_sems (by decide) r.2⟩)
    (Cert.AdamConvRefIdeal.Value.run m g),
  fun m g _ => Cert.AdamFfn.Gen.frame m g,
  fun m g _ => Cert.AdamFfnIdeal.Gen.frame m g,
  fun m g _ => (θ_run Cert.AdamFfnRefIdeal.defs _ _).mono (fun r h => ⟨fun c => (h c).2.2.2.2, sem_eq_zero_of_no_sems (by decide) r.2⟩)
    (Cert.AdamFfnRefIdeal.Value.run m g),
  fun m g _ => Cert.AdamSmall.Gen.frame m g,
  fun m g _ => Cert.AdamSmallIdeal.Gen.frame m g,
  fun m g _ => (θ_run Cert.AdamSmallRefIdeal.defs _ _).mono (fun r h => ⟨fun c => (h c).2.2.2.2, sem_eq_zero_of_no_sems (by decide) r.2⟩)
    (Cert.AdamSmallRefIdeal.Value.run m g),
  IdealRules.named_const.statement Cert.KernelIdeal.κ "mask" .f32 0xF149F2CA#32 ⊥ rfl,
  attention,
  trivial, dwUp,
  trivial, dxUp,
  trivial, dwDown,
  trivial, dxDown,
  trivial, dwIn,
  trivial, dxIn,
  trivial, dwOutAttn,
  trivial, dwOutConv,
  trivial, dxOut,
  trivial, ffnUp,
  trivial, ffnDown,
  trivial, inProj,
  trivial, outProj,
  trivial, adamIn,
  trivial, adamOut,
  trivial, adamUp,
  trivial, adamDown,
  trivial, adamConv,
  trivial, adamFfn,
  trivial, adamSmall⟩

end Cert.Proof

end
